-- ==== Defs.lean ====
def Pre_Kernel [hPre_codes_in_range : Cert.Pre_codes_in_range.Facts] (m : (ℓ : Loc Cert.Kernel.nD Cert.Kernel.τ Cert.Kernel.sig) → Buf (Elt Bits) ℓ) : Prop :=
  ∀ c : Dev Cert.Kernel.nD,
    (Cert.Pre_codes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_codes_in_range : Cert.Pre_codes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel) (hPre_codes_in_range := hPre_codes_in_range)
    ∧ quiescent_KernelIdeal (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal (hKernelIdeal := hKernelIdeal) (hReferenceIdeal := hReferenceIdeal) (hPre_codes_in_range := hPre_codes_in_range)
-- ==== Pre_codes_in_range.lean ====
abbrev S2x8192x128 : Shape := ⟨3, ![2, 8192, 128]⟩
abbrev S1024x128 : Shape := ⟨2, ![1024, 128]⟩
abbrev S8x256x32x32 : Shape := ⟨4, ![8, 256, 32, 32]⟩
abbrev S1024x256 : Shape := ⟨2, ![1024, 256]⟩
abbrev S8192x16 : Shape := ⟨2, ![8192, 16]⟩
abbrev S_ : Shape := ⟨0, ![]⟩
abbrev S8192x1 : Shape := ⟨2, ![8192, 1]⟩

class Facts : Prop where
  shapeCasts_S1024x128_S8192x16 : S1024x128.ShapeCasts S8192x16
  bcast_S_S1024x128 : S_.BroadcastsInDim S1024x128 (![] : Fin 0 → Fin S1024x128.rank)
  reducesTo_S1024x128_S_d0_1 : S1024x128.ReducesTo [0, 1] S_
  h_S_ : 0 < S_.numel
  slices_S8192x16_S8192x1_0_0 : S8192x16.Slices ![0, 0] S8192x1
  bcast_S8192x1_S8192x16_0_1 : S8192x1.BroadcastsInDim S8192x16 (![0, 1] : Fin 2 → Fin S8192x16.rank)
  reducesTo_S8192x16_S_d0_1 : S8192x16.ReducesTo [0, 1] S_

variable [Facts]

def fn {F : FTy → Type} [FloatOps F] (main_arg0 : FVec F S2x8192x128 .f32) (main_arg1 : IVec S1024x128 32) (main_arg2 : FVec F S8x256x32x32 .f32) (main_arg3 : FVec F S1024x256 .f32) : IVec S_ 1 :=
  let main_v0 : IVec S8192x16 32 := shapeCast S8192x16 main_arg1 shapeCasts_S1024x128_S8192x16
  let main_c : IVec S_ 32 := constantI S_ 32 0#32
  let main_v1 : IVec S1024x128 32 := broadcastInDim S1024x128 ![] bcast_S_S1024x128 main_c
  let main_v2 : IVec S1024x128 1 := cmpi .sge main_arg1 main_v1
  let main_c_0 : IVec S_ 32 := constantI S_ 32 65536#32
  let main_v3 : IVec S1024x128 32 := broadcastInDim S1024x128 ![] bcast_S_S1024x128 main_c_0
  let main_v4 : IVec S1024x128 1 := cmpi .slt main_arg1 main_v3
  let main_v5 : IVec S1024x128 1 := andi main_v2 main_v4
  let main_c_1 : IVec S_ 32 := constantI S_ 32 63#32
  let main_v6 : IVec S1024x128 32 := broadcastInDim S1024x128 ![] bcast_S_S1024x128 main_c_1
  let main_v7 : IVec S1024x128 32 := andi main_arg1 main_v6
  let main_c_2 : IVec S_ 32 := constantI S_ 32 0#32
  let main_v8 : IVec S1024x128 32 := broadcastInDim S1024x128 ![] bcast_S_S1024x128 main_c_2
  let main_v9 : IVec S1024x128 1 := cmpi .eq main_v7 main_v8
  let main_v10 : IVec S1024x128 1 := andi main_v5 main_v9
  let main_c_3 : IVec S_ 1 := constantI S_ 1 1#1
  let main_v11 : IVec S_ 1 := (fun x v => Host.reduce IntOp.andi x v reducesTo_S1024x128_S_d0_1 h_S_) main_v10 main_c_3
  let main_v12 : IVec S8192x1 32 := (extractStridedSlice S8192x1 ![0, 0] · slices_S8192x16_S8192x1_0_0) main_v0
  let main_v13 : IVec S8192x16 32 := broadcastInDim S8192x16 ![0, 1] bcast_S8192x1_S8192x16_0_1 main_v12
  let main_v14 : IVec S8192x16 1 := cmpi .eq main_v0 main_v13
  let main_c_4 : IVec S_ 1 := constantI S_ 1 1#1
  let main_v15 : IVec S_ 1 := (fun x v => Host.reduce IntOp.andi x v reducesTo_S8192x16_S_d0_1 h_S_) main_v14 main_c_4
  let main_v16 : IVec S_ 1 := andi main_v11 main_v15
  main_v16
-- ==== Kernel.lean ====
abbrev S2x8192x128 : Shape := ⟨3, ![2, 8192, 128]⟩
abbrev S1024x128 : Shape := ⟨2, ![1024, 128]⟩
abbrev S8x256x32x32 : Shape := ⟨4, ![8, 256, 32, 32]⟩
abbrev S1024x256 : Shape := ⟨2, ![1024, 256]⟩
abbrev S8x256x1024 : Shape := ⟨3, ![8, 256, 1024]⟩
abbrev S2097152 : Shape := ⟨1, ![2097152]⟩
abbrev S32768 : Shape := ⟨1, ![32768]⟩
abbrev S128x128 : Shape := ⟨2, ![128, 128]⟩
abbrev S65536 : Shape := ⟨1, ![65536]⟩
abbrev S1024 : Shape := ⟨1, ![1024]⟩
abbrev S_ : Shape := ⟨0, ![]⟩
abbrev S16 : Shape := ⟨1, ![16]⟩
abbrev S1x128x128 : Shape := ⟨3, ![1, 128, 128]⟩
abbrev S1x16 : Shape := ⟨2, ![1, 16]⟩
abbrev S16384x128 : Shape := ⟨2, ![16384, 128]⟩
abbrev S32x1024 : Shape := ⟨2, ![32, 1024]⟩
abbrev S8192x1024 : Shape := ⟨2, ![8192, 1024]⟩
abbrev S1x256x1024 : Shape := ⟨3, ![1, 256, 1024]⟩
abbrev S1024x1024 : Shape := ⟨2, ![1024, 1024]⟩
abbrev S1024x512 : Shape := ⟨2, ![1024, 512]⟩
abbrev S512x128 : Shape := ⟨2, ![512, 128]⟩
abbrev S512x64 : Shape := ⟨2, ![512, 64]⟩
abbrev S1024x64 : Shape := ⟨2, ![1024, 64]⟩
abbrev S32x1 : Shape := ⟨2, ![32, 1]⟩
abbrev S1024x1 : Shape := ⟨2, ![1024, 1]⟩
abbrev S256x1024 : Shape := ⟨2, ![256, 1024]⟩
abbrev S1x1024 : Shape := ⟨2, ![1, 1024]⟩

abbrev nBuf : Table → Nat
  | .hbm => 11
  | .local .tc .vmem => 11
  | .local .scVector .vmem => 5
  | _ => 0

abbrev bufTy : (tb : Table) → Fin (nBuf tb) → BufTy
  | .hbm, ⟨0, _⟩ => ⟨S2x8192x128, .f32⟩
  | .hbm, ⟨1, _⟩ => ⟨S1024x128, .i32⟩
  | .hbm, ⟨2, _⟩ => ⟨S8x256x32x32, .f32⟩
  | .hbm, ⟨3, _⟩ => ⟨S1024x256, .f32⟩
  | .hbm, ⟨4, _⟩ => ⟨S8x256x1024, .f32⟩
  | .hbm, ⟨5, _⟩ => ⟨S2097152, .f32⟩
  | .hbm, ⟨6, _⟩ => ⟨S32768, .f32⟩
  | .hbm, ⟨7, _⟩ => ⟨S16384x128, .f32⟩
  | .hbm, ⟨8, _⟩ => ⟨S32x1024, .f32⟩
  | .hbm, ⟨9, _⟩ => ⟨S8192x1024, .f32⟩
  | .hbm, ⟨10, _⟩ => ⟨S8x256x1024, .f32⟩
  | .local .tc .vmem, ⟨0, _⟩ => ⟨S1x256x1024, .f32⟩
  | .local .tc .vmem, ⟨1, _⟩ => ⟨S1x256x1024, .f32⟩
  | .local .tc .vmem, ⟨2, _⟩ => ⟨S1024x256, .f32⟩
  | .local .tc .vmem, ⟨3, _⟩ => ⟨S16384x128, .f32⟩
  | .local .tc .vmem, ⟨4, _⟩ => ⟨S32x1024, .f32⟩
  | .local .tc .vmem, ⟨5, _⟩ => ⟨S1024x1024, .f32⟩
  | .local .tc .vmem, ⟨6, _⟩ => ⟨S1024x1024, .f32⟩
  | .local .tc .vmem, ⟨7, _⟩ => ⟨S1x256x1024, .f32⟩
  | .local .tc .vmem, ⟨8, _⟩ => ⟨S1x256x1024, .f32⟩
  | .local .tc .vmem, ⟨9, _⟩ => ⟨S1024x256, .f32⟩
  | .local .tc .vmem, ⟨10, _⟩ => ⟨S1024x256, .f32⟩
  | .local .scVector .vmem, ⟨0, _⟩ => ⟨S128x128, .i32⟩
  | .local .scVector .vmem, ⟨1, _⟩ => ⟨S128x128, .f32⟩
  | .local .scVector .vmem, ⟨2, _⟩ => ⟨S128x128, .f32⟩
  | .local .scVector .vmem, ⟨3, _⟩ => ⟨S65536, .f32⟩
  | .local .scVector .vmem, ⟨4, _⟩ => ⟨S1024, .f32⟩
  | _, _ => ⟨S2x8192x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_arg0_scv : Ref sig .scVector := ⟨.hbm, 0, rfl⟩
abbrev main_arg1_scv : Ref sig .scVector := ⟨.hbm, 1, rfl⟩
abbrev main_v1_0_scv : Ref sig .scVector := ⟨.hbm, 5, rfl⟩
abbrev main_v1_1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc1_scratch1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c0_i32_8 : BitVec 32 := 0#32
  let v35 : BitVec 1 := Scalar.cmpi .sgt v20 c0_i32_8
  let v36 : BitVec 32 := Scalar.extui v35
  let c0_i32_9 : BitVec 32 := 0#32
  let v37 : BitVec 1 := Scalar.cmpi .slt v20 c0_i32_9
  let v38 : BitVec 32 := Scalar.extui v37
  let v39 : BitVec 32 := Scalar.subi v36 v38
  let c8_i32 : BitVec 32 := 8#32
  let c0_i32_10 : BitVec 32 := 0#32
  let v40 : BitVec 1 := Scalar.cmpi .sgt c8_i32 c0_i32_10
  let v41 : BitVec 32 := Scalar.extui v40
  let c0_i32_11 : BitVec 32 := 0#32
  let v42 : BitVec 1 := Scalar.cmpi .slt c8_i32 c0_i32_11
  let v43 : BitVec 32 := Scalar.extui v42
  let v44 : BitVec 32 := Scalar.subi v41 v43
  let v45 : BitVec 1 := Scalar.cmpi .ne v39 v44
  let v46 : BitVec 32 := Scalar.remsi v20 c8_i32
  let c0_i32_12 : BitVec 32 := 0#32
  let v47 : BitVec 1 := Scalar.cmpi .ne v46 c0_i32_12
  let v48 : BitVec 1 := Scalar.andi v45 v47
  let v34 : BitVec 32 := Scalar.divsi v20 c8_i32
  let c1_i32_13 : BitVec 32 := 1#32
  let v49 : BitVec 32 := Scalar.subi v34 c1_i32_13
  let v50 : BitVec 32 := Scalar.select v48 v49 v34
  v50
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c0_i32_8 : BitVec 32 := 0#32
  let v35 : BitVec 1 := Scalar.cmpi .sgt v20 c0_i32_8
  let v36 : BitVec 32 := Scalar.extui v35
  let c0_i32_9 : BitVec 32 := 0#32
  let v37 : BitVec 1 := Scalar.cmpi .slt v20 c0_i32_9
  let v38 : BitVec 32 := Scalar.extui v37
  let v39 : BitVec 32 := Scalar.subi v36 v38
  let c8_i32 : BitVec 32 := 8#32
  let c0_i32_10 : BitVec 32 := 0#32
  let v40 : BitVec 1 := Scalar.cmpi .sgt c8_i32 c0_i32_10
  let v41 : BitVec 32 := Scalar.extui v40
  let c0_i32_11 : BitVec 32 := 0#32
  let v42 : BitVec 1 := Scalar.cmpi .slt c8_i32 c0_i32_11
  let v43 : BitVec 32 := Scalar.extui v42
  let v44 : BitVec 32 := Scalar.subi v41 v43
  let v45 : BitVec 1 := Scalar.cmpi .ne v39 v44
  let v46 : BitVec 32 := Scalar.remsi v20 c8_i32
  let c0_i32_12 : BitVec 32 := 0#32
  let v47 : BitVec 1 := Scalar.cmpi .ne v46 c0_i32_12
  let v48 : BitVec 1 := Scalar.andi v45 v47
  let v34 : BitVec 32 := Scalar.divsi v20 c8_i32
  let c1_i32_13 : BitVec 32 := 1#32
  let v49 : BitVec 32 := Scalar.subi v34 c1_i32_13
  let v50 : BitVec 32 := Scalar.select v48 v49 v34
  let v51 : BitVec 32 := v50
  let c0_i32_14 : BitVec 32 := 0#32
  ![v51.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c0_i32_29 : BitVec 32 := 0#32
  let v82 : BitVec 32 := Scalar.addi v20 c0_i32_29
  v82
def k0_off2 (i : grid0.Coords) (c0_i32_29 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c0_i32_17 : BitVec 32 := 0#32
  let v55 : BitVec 1 := Scalar.cmpi .sgt v19 c0_i32_17
  let v56 : BitVec 32 := Scalar.extui v55
  let c0_i32_18 : BitVec 32 := 0#32
  let v57 : BitVec 1 := Scalar.cmpi .slt v19 c0_i32_18
  let v58 : BitVec 32 := Scalar.extui v57
  let v59 : BitVec 32 := Scalar.subi v56 v58
  let c2_i32_16 : BitVec 32 := 2#32
  let c0_i32_19 : BitVec 32 := 0#32
  let v60 : BitVec 1 := Scalar.cmpi .sgt c2_i32_16 c0_i32_19
  let v61 : BitVec 32 := Scalar.extui v60
  let c0_i32_20 : BitVec 32 := 0#32
  let v62 : BitVec 1 := Scalar.cmpi .slt c2_i32_16 c0_i32_20
  let v63 : BitVec 32 := Scalar.extui v62
  let v64 : BitVec 32 := Scalar.subi v61 v63
  let v65 : BitVec 1 := Scalar.cmpi .ne v59 v64
  let v66 : BitVec 32 := Scalar.remsi v19 c2_i32_16
  let c0_i32_21 : BitVec 32 := 0#32
  let v67 : BitVec 1 := Scalar.cmpi .ne v66 c0_i32_21
  let v68 : BitVec 1 := Scalar.andi v65 v67
  let v54 : BitVec 32 := Scalar.divsi v19 c2_i32_16
  let c1_i32_22 : BitVec 32 := 1#32
  let v69 : BitVec 32 := Scalar.subi v54 c1_i32_22
  let v70 : BitVec 32 := Scalar.select v68 v69 v54
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let v82 : BitVec 32 := Scalar.addi v20 c0_i32_29
  let v83 : BitVec 32 := v82
  let c0_i32_30 : BitVec 32 := 0#32
  ![v70.toNat, v83.toNat, 0]
@[reducible] def k0_t1_loop : Scf.Loop 32 :=
  let c0_i32_33 : BitVec 32 := 0#32
  let c256_i32 : BitVec 32 := 256#32
  let v88 : BitVec 32 := Scalar.addi c0_i32_33 c256_i32
  let c1_i32_34 : BitVec 32 := 1#32
  ⟨c0_i32_33, v88, c1_i32_34⟩
def k0_off3 (k0_t1 : Fin k0_t1_loop.trips) (c0_i32_124 : BitVec 32) : Fin 1 → Nat :=
  let c0_i32_33 : BitVec 32 := 0#32
  let c1_i32_34 : BitVec 32 := 1#32
  let arg14 : BitVec 32 := Scf.iv c0_i32_33 c1_i32_34 k0_t1
  let c256_i32_123 : BitVec 32 := 256#32
  let v193 : BitVec 32 := Scalar.muli arg14 c256_i32_123
  let v194 : BitVec 32 := Scalar.addi v193 c0_i32_124
  let v195 : Index := Scalar.indexCast v194
  ![v195.toNat]
@[reducible] def k0_t2_loop : Scf.Loop 32 :=
  let c0_i32_37 : BitVec 32 := 0#32
  let c64_i32_38 : BitVec 32 := 64#32
  let v90 : BitVec 32 := Scalar.addi c0_i32_37 c64_i32_38
  let c1_i32_39 : BitVec 32 := 1#32
  ⟨c0_i32_37, v90, c1_i32_39⟩
def k0_off4 (k0_t2 : Fin k0_t2_loop.trips) : Fin 1 → Nat :=
  let c0_i32_37 : BitVec 32 := 0#32
  let c1_i32_39 : BitVec 32 := 1#32
  let arg14 : BitVec 32 := Scf.iv c0_i32_37 c1_i32_39 k0_t2
  let c16_i32_123 : BitVec 32 := 16#32
  let v193 : BitVec 32 := Scalar.muli arg14 c16_i32_123
  let v194 : Index := Scalar.indexCast v193
  ![v194.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c128_i32 : BitVec 32 := 128#32
  let v98 : BitVec 32 := Scalar.addi v20 c128_i32
  v98
@[reducible] def k0_t3_loop : Scf.Loop 32 :=
  let c0_i32_48 : BitVec 32 := 0#32
  let c16_i32_49 : BitVec 32 := 16#32
  let v104 : BitVec 32 := Scalar.addi c0_i32_48 c16_i32_49
  let c1_i32_50 : BitVec 32 := 1#32
  ⟨c0_i32_48, v104, c1_i32_50⟩
def k0_off5 (k0_t3 : Fin k0_t3_loop.trips) : Fin 2 → Nat :=
  let c0_i32_123 : BitVec 32 := 0#32
  let c0_i32_48 : BitVec 32 := 0#32
  let c1_i32_50 : BitVec 32 := 1#32
  let arg14 : BitVec 32 := Scf.iv c0_i32_48 c1_i32_50 k0_t3
  let v193 : BitVec 32 := Scalar.addi c0_i32_123 arg14
  let v194 : Index := Scalar.indexCast v193
  let c0 : Index := 0#32
  ![v194.toNat, 0]
def k0_off6 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_124 : BitVec 32 := 8#32
  let v196 : BitVec 32 := Scalar.muli arg14 c8_i32_124
  let c0_i32_125 : BitVec 32 := 0#32
  let v197 : BitVec 32 := Scalar.addi v196 c0_i32_125
  let v199 : Index := Scalar.indexCast v197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_126 : BitVec 32 := 0#32
  let v198 : BitVec 32 := Scalar.addi v81 c0_i32_126
  let v200 : Index := Scalar.indexCast v198
  ![v199.toNat, v200.toNat]

def k0_chk1 (v202 : IVec S16 32) : Prop :=
  (∀ a x, ((![v202] : Fin 1 → IVec S16 32) a x).toNat < S65536.size a)
theorem k0_idx1_inb : ∀ (v202 : IVec S16 32) (k0_hw1 : k0_chk1 v202), ∀ a x, ((![v202] : Fin 1 → IVec S16 32) a x).toNat < S65536.size a := fun v202 k0_hw1 => k0_hw1
def k0_off7 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_127 : BitVec 32 := 8#32
  let v203 : BitVec 32 := Scalar.muli arg14 c8_i32_127
  let c0_i32_128 : BitVec 32 := 0#32
  let v204 : BitVec 32 := Scalar.addi v203 c0_i32_128
  let v206 : Index := Scalar.indexCast v204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_129 : BitVec 32 := 16#32
  let v205 : BitVec 32 := Scalar.addi v81 c16_i32_129
  let v207 : Index := Scalar.indexCast v205
  ![v206.toNat, v207.toNat]

def k0_chk2 (v209 : IVec S16 32) : Prop :=
  (∀ a x, ((![v209] : Fin 1 → IVec S16 32) a x).toNat < S65536.size a)
theorem k0_idx2_inb : ∀ (v209 : IVec S16 32) (k0_hw2 : k0_chk2 v209), ∀ a x, ((![v209] : Fin 1 → IVec S16 32) a x).toNat < S65536.size a := fun v209 k0_hw2 => k0_hw2
def k0_off8 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_130 : BitVec 32 := 8#32
  let v210 : BitVec 32 := Scalar.muli arg14 c8_i32_130
  let c0_i32_131 : BitVec 32 := 0#32
  let v211 : BitVec 32 := Scalar.addi v210 c0_i32_131
  let v213 : Index := Scalar.indexCast v211
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_132 : BitVec 32 := 32#32
  let v212 : BitVec 32 := Scalar.addi v81 c32_i32_132
  let v214 : Index := Scalar.indexCast v212
  ![v213.toNat, v214.toNat]

def k0_chk3 (v216 : IVec S16 32) : Prop :=
  (∀ a x, ((![v216] : Fin 1 → IVec S16 32) a x).toNat < S65536.size a)
theorem k0_idx3_inb : ∀ (v216 : IVec S16 32) (k0_hw3 : k0_chk3 v216), ∀ a x, ((![v216] : Fin 1 → IVec S16 32) a x).toNat < S65536.size a := fun v216 k0_hw3 => k0_hw3
def k0_off9 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_133 : BitVec 32 := 8#32
  let v217 : BitVec 32 := Scalar.muli arg14 c8_i32_133
  let c0_i32_134 : BitVec 32 := 0#32
  let v218 : BitVec 32 := Scalar.addi v217 c0_i32_134
  let v220 : Index := Scalar.indexCast v218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_135 : BitVec 32 := 48#32
  let v219 : BitVec 32 := Scalar.addi v81 c48_i32_135
  let v221 : Index := Scalar.indexCast v219
  ![v220.toNat, v221.toNat]

def k0_chk4 (v223 : IVec S16 32) : Prop :=
  (∀ a x, ((![v223] : Fin 1 → IVec S16 32) a x).toNat < S65536.size a)
theorem k0_idx4_inb : ∀ (v223 : IVec S16 32) (k0_hw4 : k0_chk4 v223), ∀ a x, ((![v223] : Fin 1 → IVec S16 32) a x).toNat < S65536.size a := fun v223 k0_hw4 => k0_hw4
def k0_off10 (k0_t3 : Fin k0_t3_loop.trips) : Fin 2 → Nat :=
  let c0_i32_136 : BitVec 32 := 0#32
  let c0_i32_48 : BitVec 32 := 0#32
  let c1_i32_50 : BitVec 32 := 1#32
  let arg14 : BitVec 32 := Scf.iv c0_i32_48 c1_i32_50 k0_t3
  let v224 : BitVec 32 := Scalar.addi c0_i32_136 arg14
  let v225 : Index := Scalar.indexCast v224
  let c16 : Index := 16#32
  ![v225.toNat, 16]
def k0_off11 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_137 : BitVec 32 := 8#32
  let v227 : BitVec 32 := Scalar.muli arg14 c8_i32_137
  let c1_i32_138 : BitVec 32 := 1#32
  let v228 : BitVec 32 := Scalar.addi v227 c1_i32_138
  let v230 : Index := Scalar.indexCast v228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_139 : BitVec 32 := 0#32
  let v229 : BitVec 32 := Scalar.addi v81 c0_i32_139
  let v231 : Index := Scalar.indexCast v229
  ![v230.toNat, v231.toNat]

def k0_chk5 (v233 : IVec S16 32) : Prop :=
  (∀ a x, ((![v233] : Fin 1 → IVec S16 32) a x).toNat < S65536.size a)
theorem k0_idx5_inb : ∀ (v233 : IVec S16 32) (k0_hw5 : k0_chk5 v233), ∀ a x, ((![v233] : Fin 1 → IVec S16 32) a x).toNat < S65536.size a := fun v233 k0_hw5 => k0_hw5
def k0_off12 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_140 : BitVec 32 := 8#32
  let v234 : BitVec 32 := Scalar.muli arg14 c8_i32_140
  let c1_i32_141 : BitVec 32 := 1#32
  let v235 : BitVec 32 := Scalar.addi v234 c1_i32_141
  let v237 : Index := Scalar.indexCast v235
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_142 : BitVec 32 := 16#32
  let v236 : BitVec 32 := Scalar.addi v81 c16_i32_142
  let v238 : Index := Scalar.indexCast v236
  ![v237.toNat, v238.toNat]

def k0_chk6 (v240 : IVec S16 32) : Prop :=
  (∀ a x, ((![v240] : Fin 1 → IVec S16 32) a x).toNat < S65536.size a)
theorem k0_idx6_inb : ∀ (v240 : IVec S16 32) (k0_hw6 : k0_chk6 v240), ∀ a x, ((![v240] : Fin 1 → IVec S16 32) a x).toNat < S65536.size a := fun v240 k0_hw6 => k0_hw6
def k0_off13 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_143 : BitVec 32 := 8#32
  let v241 : BitVec 32 := Scalar.muli arg14 c8_i32_143
  let c1_i32_144 : BitVec 32 := 1#32
  let v242 : BitVec 32 := Scalar.addi v241 c1_i32_144
  let v244 : Index := Scalar.indexCast v242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_145 : BitVec 32 := 32#32
  let v243 : BitVec 32 := Scalar.addi v81 c32_i32_145
  let v245 : Index := Scalar.indexCast v243
  ![v244.toNat, v245.toNat]

def k0_chk7 (v247 : IVec S16 32) : Prop :=
  (∀ a x, ((![v247] : Fin 1 → IVec S16 32) a x).toNat < S65536.size a)
theorem k0_idx7_inb : ∀ (v247 : IVec S16 32) (k0_hw7 : k0_chk7 v247), ∀ a x, ((![v247] : Fin 1 → IVec S16 32) a x).toNat < S65536.size a := fun v247 k0_hw7 => k0_hw7
def k0_off14 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_146 : BitVec 32 := 8#32
  let v248 : BitVec 32 := Scalar.muli arg14 c8_i32_146
  let c1_i32_147 : BitVec 32 := 1#32
  let v249 : BitVec 32 := Scalar.addi v248 c1_i32_147
  let v251 : Index := Scalar.indexCast v249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_148 : BitVec 32 := 48#32
  let v250 : BitVec 32 := Scalar.addi v81 c48_i32_148
  let v252 : Index := Scalar.indexCast v250
  ![v251.toNat, v252.toNat]

def k0_chk8 (v254 : IVec S16 32) : Prop :=
  (∀ a x, ((![v254] : Fin 1 → IVec S16 32) a x).toNat < S65536.size a)
theorem k0_idx8_inb : ∀ (v254 : IVec S16 32) (k0_hw8 : k0_chk8 v254), ∀ a x, ((![v254] : Fin 1 → IVec S16 32) a x).toNat < S65536.size a := fun v254 k0_hw8 => k0_hw8
def k0_off15 (k0_t3 : Fin k0_t3_loop.trips) : Fin 2 → Nat :=
  let c0_i32_149 : BitVec 32 := 0#32
  let c0_i32_48 : BitVec 32 := 0#32
  let c1_i32_50 : BitVec 32 := 1#32
  let arg14 : BitVec 32 := Scf.iv c0_i32_48 c1_i32_50 k0_t3
  let v255 : BitVec 32 := Scalar.addi c0_i32_149 arg14
  let v256 : Index := Scalar.indexCast v255
  let c32 : Index := 32#32
  ![v256.toNat, 32]
def k0_off16 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_150 : BitVec 32 := 8#32
  let v258 : BitVec 32 := Scalar.muli arg14 c8_i32_150
  let c2_i32_151 : BitVec 32 := 2#32
  let v259 : BitVec 32 := Scalar.addi v258 c2_i32_151
  let v261 : Index := Scalar.indexCast v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_152 : BitVec 32 := 0#32
  let v260 : BitVec 32 := Scalar.addi v81 c0_i32_152
  let v262 : Index := Scalar.indexCast v260
  ![v261.toNat, v262.toNat]

def k0_chk9 (v264 : IVec S16 32) : Prop :=
  (∀ a x, ((![v264] : Fin 1 → IVec S16 32) a x).toNat < S65536.size a)
theorem k0_idx9_inb : ∀ (v264 : IVec S16 32) (k0_hw9 : k0_chk9 v264), ∀ a x, ((![v264] : Fin 1 → IVec S16 32) a x).toNat < S65536.size a := fun v264 k0_hw9 => k0_hw9
def k0_off17 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_153 : BitVec 32 := 8#32
  let v265 : BitVec 32 := Scalar.muli arg14 c8_i32_153
  let c2_i32_154 : BitVec 32 := 2#32
  let v266 : BitVec 32 := Scalar.addi v265 c2_i32_154
  let v268 : Index := Scalar.indexCast v266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_155 : BitVec 32 := 16#32
  let v267 : BitVec 32 := Scalar.addi v81 c16_i32_155
  let v269 : Index := Scalar.indexCast v267
  ![v268.toNat, v269.toNat]

def k0_chk10 (v271 : IVec S16 32) : Prop :=
  (∀ a x, ((![v271] : Fin 1 → IVec S16 32) a x).toNat < S65536.size a)
theorem k0_idx10_inb : ∀ (v271 : IVec S16 32) (k0_hw10 : k0_chk10 v271), ∀ a x, ((![v271] : Fin 1 → IVec S16 32) a x).toNat < S65536.size a := fun v271 k0_hw10 => k0_hw10
def k0_off18 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_156 : BitVec 32 := 8#32
  let v272 : BitVec 32 := Scalar.muli arg14 c8_i32_156
  let c2_i32_157 : BitVec 32 := 2#32
  let v273 : BitVec 32 := Scalar.addi v272 c2_i32_157
  let v275 : Index := Scalar.indexCast v273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_158 : BitVec 32 := 32#32
  let v274 : BitVec 32 := Scalar.addi v81 c32_i32_158
  let v276 : Index := Scalar.indexCast v274
  ![v275.toNat, v276.toNat]

def k0_chk11 (v278 : IVec S16 32) : Prop :=
  (∀ a x, ((![v278] : Fin 1 → IVec S16 32) a x).toNat < S65536.size a)
theorem k0_idx11_inb : ∀ (v278 : IVec S16 32) (k0_hw11 : k0_chk11 v278), ∀ a x, ((![v278] : Fin 1 → IVec S16 32) a x).toNat < S65536.size a := fun v278 k0_hw11 => k0_hw11
def k0_off19 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_159 : BitVec 32 := 8#32
  let v279 : BitVec 32 := Scalar.muli arg14 c8_i32_159
  let c2_i32_160 : BitVec 32 := 2#32
  let v280 : BitVec 32 := Scalar.addi v279 c2_i32_160
  let v282 : Index := Scalar.indexCast v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_161 : BitVec 32 := 48#32
  let v281 : BitVec 32 := Scalar.addi v81 c48_i32_161
  let v283 : Index := Scalar.indexCast v281
  ![v282.toNat, v283.toNat]

def k0_chk12 (v285 : IVec S16 32) : Prop :=
  (∀ a x, ((![v285] : Fin 1 → IVec S16 32) a x).toNat < S65536.size a)
theorem k0_idx12_inb : ∀ (v285 : IVec S16 32) (k0_hw12 : k0_chk12 v285), ∀ a x, ((![v285] : Fin 1 → IVec S16 32) a x).toNat < S65536.size a := fun v285 k0_hw12 => k0_hw12
def k0_off20 (k0_t3 : Fin k0_t3_loop.trips) : Fin 2 → Nat :=
  let c0_i32_162 : BitVec 32 := 0#32
  let c0_i32_48 : BitVec 32 := 0#32
  let c1_i32_50 : BitVec 32 := 1#32
  let arg14 : BitVec 32 := Scf.iv c0_i32_48 c1_i32_50 k0_t3
  let v286 : BitVec 32 := Scalar.addi c0_i32_162 arg14
  let v287 : Index := Scalar.indexCast v286
  let c48 : Index := 48#32
  ![v287.toNat, 48]
def k0_off21 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_163 : BitVec 32 := 8#32
  let v289 : BitVec 32 := Scalar.muli arg14 c8_i32_163
  let c3_i32 : BitVec 32 := 3#32
  let v290 : BitVec 32 := Scalar.addi v289 c3_i32
  let v292 : Index := Scalar.indexCast v290
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_164 : BitVec 32 := 0#32
  let v291 : BitVec 32 := Scalar.addi v81 c0_i32_164
  let v293 : Index := Scalar.indexCast v291
  ![v292.toNat, v293.toNat]

def k0_chk13 (v295 : IVec S16 32) : Prop :=
  (∀ a x, ((![v295] : Fin 1 → IVec S16 32) a x).toNat < S65536.size a)
theorem k0_idx13_inb : ∀ (v295 : IVec S16 32) (k0_hw13 : k0_chk13 v295), ∀ a x, ((![v295] : Fin 1 → IVec S16 32) a x).toNat < S65536.size a := fun v295 k0_hw13 => k0_hw13
def k0_off22 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_165 : BitVec 32 := 8#32
  let v296 : BitVec 32 := Scalar.muli arg14 c8_i32_165
  let c3_i32_166 : BitVec 32 := 3#32
  let v297 : BitVec 32 := Scalar.addi v296 c3_i32_166
  let v299 : Index := Scalar.indexCast v297
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_167 : BitVec 32 := 16#32
  let v298 : BitVec 32 := Scalar.addi v81 c16_i32_167
  let v300 : Index := Scalar.indexCast v298
  ![v299.toNat, v300.toNat]

def k0_chk14 (v302 : IVec S16 32) : Prop :=
  (∀ a x, ((![v302] : Fin 1 → IVec S16 32) a x).toNat < S65536.size a)
theorem k0_idx14_inb : ∀ (v302 : IVec S16 32) (k0_hw14 : k0_chk14 v302), ∀ a x, ((![v302] : Fin 1 → IVec S16 32) a x).toNat < S65536.size a := fun v302 k0_hw14 => k0_hw14
def k0_off23 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_168 : BitVec 32 := 8#32
  let v303 : BitVec 32 := Scalar.muli arg14 c8_i32_168
  let c3_i32_169 : BitVec 32 := 3#32
  let v304 : BitVec 32 := Scalar.addi v303 c3_i32_169
  let v306 : Index := Scalar.indexCast v304
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_170 : BitVec 32 := 32#32
  let v305 : BitVec 32 := Scalar.addi v81 c32_i32_170
  let v307 : Index := Scalar.indexCast v305
  ![v306.toNat, v307.toNat]

def k0_chk15 (v309 : IVec S16 32) : Prop :=
  (∀ a x, ((![v309] : Fin 1 → IVec S16 32) a x).toNat < S65536.size a)
theorem k0_idx15_inb : ∀ (v309 : IVec S16 32) (k0_hw15 : k0_chk15 v309), ∀ a x, ((![v309] : Fin 1 → IVec S16 32) a x).toNat < S65536.size a := fun v309 k0_hw15 => k0_hw15
def k0_off24 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_171 : BitVec 32 := 8#32
  let v310 : BitVec 32 := Scalar.muli arg14 c8_i32_171
  let c3_i32_172 : BitVec 32 := 3#32
  let v311 : BitVec 32 := Scalar.addi v310 c3_i32_172
  let v313 : Index := Scalar.indexCast v311
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_173 : BitVec 32 := 48#32
  let v312 : BitVec 32 := Scalar.addi v81 c48_i32_173
  let v314 : Index := Scalar.indexCast v312
  ![v313.toNat, v314.toNat]

def k0_chk16 (v316 : IVec S16 32) : Prop :=
  (∀ a x, ((![v316] : Fin 1 → IVec S16 32) a x).toNat < S65536.size a)
theorem k0_idx16_inb : ∀ (v316 : IVec S16 32) (k0_hw16 : k0_chk16 v316), ∀ a x, ((![v316] : Fin 1 → IVec S16 32) a x).toNat < S65536.size a := fun v316 k0_hw16 => k0_hw16
def k0_off25 (k0_t3 : Fin k0_t3_loop.trips) : Fin 2 → Nat :=
  let c0_i32_174 : BitVec 32 := 0#32
  let c0_i32_48 : BitVec 32 := 0#32
  let c1_i32_50 : BitVec 32 := 1#32
  let arg14 : BitVec 32 := Scf.iv c0_i32_48 c1_i32_50 k0_t3
  let v317 : BitVec 32 := Scalar.addi c0_i32_174 arg14
  let v318 : Index := Scalar.indexCast v317
  let c64 : Index := 64#32
  ![v318.toNat, 64]
def k0_off26 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_175 : BitVec 32 := 8#32
  let v320 : BitVec 32 := Scalar.muli arg14 c8_i32_175
  let c4_i32_176 : BitVec 32 := 4#32
  let v321 : BitVec 32 := Scalar.addi v320 c4_i32_176
  let v323 : Index := Scalar.indexCast v321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_177 : BitVec 32 := 0#32
  let v322 : BitVec 32 := Scalar.addi v81 c0_i32_177
  let v324 : Index := Scalar.indexCast v322
  ![v323.toNat, v324.toNat]

def k0_chk17 (v326 : IVec S16 32) : Prop :=
  (∀ a x, ((![v326] : Fin 1 → IVec S16 32) a x).toNat < S65536.size a)
theorem k0_idx17_inb : ∀ (v326 : IVec S16 32) (k0_hw17 : k0_chk17 v326), ∀ a x, ((![v326] : Fin 1 → IVec S16 32) a x).toNat < S65536.size a := fun v326 k0_hw17 => k0_hw17
def k0_off27 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_178 : BitVec 32 := 8#32
  let v327 : BitVec 32 := Scalar.muli arg14 c8_i32_178
  let c4_i32_179 : BitVec 32 := 4#32
  let v328 : BitVec 32 := Scalar.addi v327 c4_i32_179
  let v330 : Index := Scalar.indexCast v328
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_180 : BitVec 32 := 16#32
  let v329 : BitVec 32 := Scalar.addi v81 c16_i32_180
  let v331 : Index := Scalar.indexCast v329
  ![v330.toNat, v331.toNat]

def k0_chk18 (v333 : IVec S16 32) : Prop :=
  (∀ a x, ((![v333] : Fin 1 → IVec S16 32) a x).toNat < S65536.size a)
theorem k0_idx18_inb : ∀ (v333 : IVec S16 32) (k0_hw18 : k0_chk18 v333), ∀ a x, ((![v333] : Fin 1 → IVec S16 32) a x).toNat < S65536.size a := fun v333 k0_hw18 => k0_hw18
def k0_off28 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_181 : BitVec 32 := 8#32
  let v334 : BitVec 32 := Scalar.muli arg14 c8_i32_181
  let c4_i32_182 : BitVec 32 := 4#32
  let v335 : BitVec 32 := Scalar.addi v334 c4_i32_182
  let v337 : Index := Scalar.indexCast v335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_183 : BitVec 32 := 32#32
  let v336 : BitVec 32 := Scalar.addi v81 c32_i32_183
  let v338 : Index := Scalar.indexCast v336
  ![v337.toNat, v338.toNat]

def k0_chk19 (v340 : IVec S16 32) : Prop :=
  (∀ a x, ((![v340] : Fin 1 → IVec S16 32) a x).toNat < S65536.size a)
theorem k0_idx19_inb : ∀ (v340 : IVec S16 32) (k0_hw19 : k0_chk19 v340), ∀ a x, ((![v340] : Fin 1 → IVec S16 32) a x).toNat < S65536.size a := fun v340 k0_hw19 => k0_hw19
def k0_off29 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_184 : BitVec 32 := 8#32
  let v341 : BitVec 32 := Scalar.muli arg14 c8_i32_184
  let c4_i32_185 : BitVec 32 := 4#32
  let v342 : BitVec 32 := Scalar.addi v341 c4_i32_185
  let v344 : Index := Scalar.indexCast v342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_186 : BitVec 32 := 48#32
  let v343 : BitVec 32 := Scalar.addi v81 c48_i32_186
  let v345 : Index := Scalar.indexCast v343
  ![v344.toNat, v345.toNat]

def k0_chk20 (v347 : IVec S16 32) : Prop :=
  (∀ a x, ((![v347] : Fin 1 → IVec S16 32) a x).toNat < S65536.size a)
theorem k0_idx20_inb : ∀ (v347 : IVec S16 32) (k0_hw20 : k0_chk20 v347), ∀ a x, ((![v347] : Fin 1 → IVec S16 32) a x).toNat < S65536.size a := fun v347 k0_hw20 => k0_hw20
def k0_off30 (k0_t3 : Fin k0_t3_loop.trips) : Fin 2 → Nat :=
  let c0_i32_187 : BitVec 32 := 0#32
  let c0_i32_48 : BitVec 32 := 0#32
  let c1_i32_50 : BitVec 32 := 1#32
  let arg14 : BitVec 32 := Scf.iv c0_i32_48 c1_i32_50 k0_t3
  let v348 : BitVec 32 := Scalar.addi c0_i32_187 arg14
  let v349 : Index := Scalar.indexCast v348
  let c80 : Index := 80#32
  ![v349.toNat, 80]
def k0_off31 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_188 : BitVec 32 := 8#32
  let v351 : BitVec 32 := Scalar.muli arg14 c8_i32_188
  let c5_i32 : BitVec 32 := 5#32
  let v352 : BitVec 32 := Scalar.addi v351 c5_i32
  let v354 : Index := Scalar.indexCast v352
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_189 : BitVec 32 := 0#32
  let v353 : BitVec 32 := Scalar.addi v81 c0_i32_189
  let v355 : Index := Scalar.indexCast v353
  ![v354.toNat, v355.toNat]

def k0_chk21 (v357 : IVec S16 32) : Prop :=
  (∀ a x, ((![v357] : Fin 1 → IVec S16 32) a x).toNat < S65536.size a)
theorem k0_idx21_inb : ∀ (v357 : IVec S16 32) (k0_hw21 : k0_chk21 v357), ∀ a x, ((![v357] : Fin 1 → IVec S16 32) a x).toNat < S65536.size a := fun v357 k0_hw21 => k0_hw21
def k0_off32 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_190 : BitVec 32 := 8#32
  let v358 : BitVec 32 := Scalar.muli arg14 c8_i32_190
  let c5_i32_191 : BitVec 32 := 5#32
  let v359 : BitVec 32 := Scalar.addi v358 c5_i32_191
  let v361 : Index := Scalar.indexCast v359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_192 : BitVec 32 := 16#32
  let v360 : BitVec 32 := Scalar.addi v81 c16_i32_192
  let v362 : Index := Scalar.indexCast v360
  ![v361.toNat, v362.toNat]

def k0_chk22 (v364 : IVec S16 32) : Prop :=
  (∀ a x, ((![v364] : Fin 1 → IVec S16 32) a x).toNat < S65536.size a)
theorem k0_idx22_inb : ∀ (v364 : IVec S16 32) (k0_hw22 : k0_chk22 v364), ∀ a x, ((![v364] : Fin 1 → IVec S16 32) a x).toNat < S65536.size a := fun v364 k0_hw22 => k0_hw22
def k0_off33 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_193 : BitVec 32 := 8#32
  let v365 : BitVec 32 := Scalar.muli arg14 c8_i32_193
  let c5_i32_194 : BitVec 32 := 5#32
  let v366 : BitVec 32 := Scalar.addi v365 c5_i32_194
  let v368 : Index := Scalar.indexCast v366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_195 : BitVec 32 := 32#32
  let v367 : BitVec 32 := Scalar.addi v81 c32_i32_195
  let v369 : Index := Scalar.indexCast v367
  ![v368.toNat, v369.toNat]

def k0_chk23 (v371 : IVec S16 32) : Prop :=
  (∀ a x, ((![v371] : Fin 1 → IVec S16 32) a x).toNat < S65536.size a)
theorem k0_idx23_inb : ∀ (v371 : IVec S16 32) (k0_hw23 : k0_chk23 v371), ∀ a x, ((![v371] : Fin 1 → IVec S16 32) a x).toNat < S65536.size a := fun v371 k0_hw23 => k0_hw23
def k0_off34 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_196 : BitVec 32 := 8#32
  let v372 : BitVec 32 := Scalar.muli arg14 c8_i32_196
  let c5_i32_197 : BitVec 32 := 5#32
  let v373 : BitVec 32 := Scalar.addi v372 c5_i32_197
  let v375 : Index := Scalar.indexCast v373
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_198 : BitVec 32 := 48#32
  let v374 : BitVec 32 := Scalar.addi v81 c48_i32_198
  let v376 : Index := Scalar.indexCast v374
  ![v375.toNat, v376.toNat]

def k0_chk24 (v378 : IVec S16 32) : Prop :=
  (∀ a x, ((![v378] : Fin 1 → IVec S16 32) a x).toNat < S65536.size a)
theorem k0_idx24_inb : ∀ (v378 : IVec S16 32) (k0_hw24 : k0_chk24 v378), ∀ a x, ((![v378] : Fin 1 → IVec S16 32) a x).toNat < S65536.size a := fun v378 k0_hw24 => k0_hw24
def k0_off35 (k0_t3 : Fin k0_t3_loop.trips) : Fin 2 → Nat :=
  let c0_i32_199 : BitVec 32 := 0#32
  let c0_i32_48 : BitVec 32 := 0#32
  let c1_i32_50 : BitVec 32 := 1#32
  let arg14 : BitVec 32 := Scf.iv c0_i32_48 c1_i32_50 k0_t3
  let v379 : BitVec 32 := Scalar.addi c0_i32_199 arg14
  let v380 : Index := Scalar.indexCast v379
  let c96 : Index := 96#32
  ![v380.toNat, 96]
def k0_off36 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_200 : BitVec 32 := 8#32
  let v382 : BitVec 32 := Scalar.muli arg14 c8_i32_200
  let c6_i32 : BitVec 32 := 6#32
  let v383 : BitVec 32 := Scalar.addi v382 c6_i32
  let v385 : Index := Scalar.indexCast v383
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_201 : BitVec 32 := 0#32
  let v384 : BitVec 32 := Scalar.addi v81 c0_i32_201
  let v386 : Index := Scalar.indexCast v384
  ![v385.toNat, v386.toNat]

def k0_chk25 (v388 : IVec S16 32) : Prop :=
  (∀ a x, ((![v388] : Fin 1 → IVec S16 32) a x).toNat < S65536.size a)
theorem k0_idx25_inb : ∀ (v388 : IVec S16 32) (k0_hw25 : k0_chk25 v388), ∀ a x, ((![v388] : Fin 1 → IVec S16 32) a x).toNat < S65536.size a := fun v388 k0_hw25 => k0_hw25
def k0_off37 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_202 : BitVec 32 := 8#32
  let v389 : BitVec 32 := Scalar.muli arg14 c8_i32_202
  let c6_i32_203 : BitVec 32 := 6#32
  let v390 : BitVec 32 := Scalar.addi v389 c6_i32_203
  let v392 : Index := Scalar.indexCast v390
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_204 : BitVec 32 := 16#32
  let v391 : BitVec 32 := Scalar.addi v81 c16_i32_204
  let v393 : Index := Scalar.indexCast v391
  ![v392.toNat, v393.toNat]

def k0_chk26 (v395 : IVec S16 32) : Prop :=
  (∀ a x, ((![v395] : Fin 1 → IVec S16 32) a x).toNat < S65536.size a)
theorem k0_idx26_inb : ∀ (v395 : IVec S16 32) (k0_hw26 : k0_chk26 v395), ∀ a x, ((![v395] : Fin 1 → IVec S16 32) a x).toNat < S65536.size a := fun v395 k0_hw26 => k0_hw26
def k0_off38 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_205 : BitVec 32 := 8#32
  let v396 : BitVec 32 := Scalar.muli arg14 c8_i32_205
  let c6_i32_206 : BitVec 32 := 6#32
  let v397 : BitVec 32 := Scalar.addi v396 c6_i32_206
  let v399 : Index := Scalar.indexCast v397
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_207 : BitVec 32 := 32#32
  let v398 : BitVec 32 := Scalar.addi v81 c32_i32_207
  let v400 : Index := Scalar.indexCast v398
  ![v399.toNat, v400.toNat]

def k0_chk27 (v402 : IVec S16 32) : Prop :=
  (∀ a x, ((![v402] : Fin 1 → IVec S16 32) a x).toNat < S65536.size a)
theorem k0_idx27_inb : ∀ (v402 : IVec S16 32) (k0_hw27 : k0_chk27 v402), ∀ a x, ((![v402] : Fin 1 → IVec S16 32) a x).toNat < S65536.size a := fun v402 k0_hw27 => k0_hw27
def k0_off39 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_208 : BitVec 32 := 8#32
  let v403 : BitVec 32 := Scalar.muli arg14 c8_i32_208
  let c6_i32_209 : BitVec 32 := 6#32
  let v404 : BitVec 32 := Scalar.addi v403 c6_i32_209
  let v406 : Index := Scalar.indexCast v404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_210 : BitVec 32 := 48#32
  let v405 : BitVec 32 := Scalar.addi v81 c48_i32_210
  let v407 : Index := Scalar.indexCast v405
  ![v406.toNat, v407.toNat]

def k0_chk28 (v409 : IVec S16 32) : Prop :=
  (∀ a x, ((![v409] : Fin 1 → IVec S16 32) a x).toNat < S65536.size a)
theorem k0_idx28_inb : ∀ (v409 : IVec S16 32) (k0_hw28 : k0_chk28 v409), ∀ a x, ((![v409] : Fin 1 → IVec S16 32) a x).toNat < S65536.size a := fun v409 k0_hw28 => k0_hw28
def k0_off40 (k0_t3 : Fin k0_t3_loop.trips) : Fin 2 → Nat :=
  let c0_i32_211 : BitVec 32 := 0#32
  let c0_i32_48 : BitVec 32 := 0#32
  let c1_i32_50 : BitVec 32 := 1#32
  let arg14 : BitVec 32 := Scf.iv c0_i32_48 c1_i32_50 k0_t3
  let v410 : BitVec 32 := Scalar.addi c0_i32_211 arg14
  let v411 : Index := Scalar.indexCast v410
  let c112 : Index := 112#32
  ![v411.toNat, 112]
def k0_off41 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_212 : BitVec 32 := 8#32
  let v413 : BitVec 32 := Scalar.muli arg14 c8_i32_212
  let c7_i32 : BitVec 32 := 7#32
  let v414 : BitVec 32 := Scalar.addi v413 c7_i32
  let v416 : Index := Scalar.indexCast v414
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_213 : BitVec 32 := 0#32
  let v415 : BitVec 32 := Scalar.addi v81 c0_i32_213
  let v417 : Index := Scalar.indexCast v415
  ![v416.toNat, v417.toNat]

def k0_chk29 (v419 : IVec S16 32) : Prop :=
  (∀ a x, ((![v419] : Fin 1 → IVec S16 32) a x).toNat < S65536.size a)
theorem k0_idx29_inb : ∀ (v419 : IVec S16 32) (k0_hw29 : k0_chk29 v419), ∀ a x, ((![v419] : Fin 1 → IVec S16 32) a x).toNat < S65536.size a := fun v419 k0_hw29 => k0_hw29
def k0_off42 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_214 : BitVec 32 := 8#32
  let v420 : BitVec 32 := Scalar.muli arg14 c8_i32_214
  let c7_i32_215 : BitVec 32 := 7#32
  let v421 : BitVec 32 := Scalar.addi v420 c7_i32_215
  let v423 : Index := Scalar.indexCast v421
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_216 : BitVec 32 := 16#32
  let v422 : BitVec 32 := Scalar.addi v81 c16_i32_216
  let v424 : Index := Scalar.indexCast v422
  ![v423.toNat, v424.toNat]

def k0_chk30 (v426 : IVec S16 32) : Prop :=
  (∀ a x, ((![v426] : Fin 1 → IVec S16 32) a x).toNat < S65536.size a)
theorem k0_idx30_inb : ∀ (v426 : IVec S16 32) (k0_hw30 : k0_chk30 v426), ∀ a x, ((![v426] : Fin 1 → IVec S16 32) a x).toNat < S65536.size a := fun v426 k0_hw30 => k0_hw30
def k0_off43 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_217 : BitVec 32 := 8#32
  let v427 : BitVec 32 := Scalar.muli arg14 c8_i32_217
  let c7_i32_218 : BitVec 32 := 7#32
  let v428 : BitVec 32 := Scalar.addi v427 c7_i32_218
  let v430 : Index := Scalar.indexCast v428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_219 : BitVec 32 := 32#32
  let v429 : BitVec 32 := Scalar.addi v81 c32_i32_219
  let v431 : Index := Scalar.indexCast v429
  ![v430.toNat, v431.toNat]

def k0_chk31 (v433 : IVec S16 32) : Prop :=
  (∀ a x, ((![v433] : Fin 1 → IVec S16 32) a x).toNat < S65536.size a)
theorem k0_idx31_inb : ∀ (v433 : IVec S16 32) (k0_hw31 : k0_chk31 v433), ∀ a x, ((![v433] : Fin 1 → IVec S16 32) a x).toNat < S65536.size a := fun v433 k0_hw31 => k0_hw31
def k0_off44 (i : grid0.Coords) (k0_t3 : Fin k0_t3_loop.trips) : Fin 2 → Nat :=
  let c0_i32_48 : BitVec 32 := 0#32
  let c1_i32_50 : BitVec 32 := 1#32
  let arg14 : BitVec 32 := Scf.iv c0_i32_48 c1_i32_50 k0_t3
  let c8_i32_220 : BitVec 32 := 8#32
  let v434 : BitVec 32 := Scalar.muli arg14 c8_i32_220
  let c7_i32_221 : BitVec 32 := 7#32
  let v435 : BitVec 32 := Scalar.addi v434 c7_i32_221
  let v437 : Index := Scalar.indexCast v435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_222 : BitVec 32 := 48#32
  let v436 : BitVec 32 := Scalar.addi v81 c48_i32_222
  let v438 : Index := Scalar.indexCast v436
  ![v437.toNat, v438.toNat]

def k0_chk32 (v440 : IVec S16 32) : Prop :=
  (∀ a x, ((![v440] : Fin 1 → IVec S16 32) a x).toNat < S65536.size a)
theorem k0_idx32_inb : ∀ (v440 : IVec S16 32) (k0_hw32 : k0_chk32 v440), ∀ a x, ((![v440] : Fin 1 → IVec S16 32) a x).toNat < S65536.size a := fun v440 k0_hw32 => k0_hw32
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c256_i32_54 : BitVec 32 := 256#32
  let v110 : BitVec 32 := Scalar.addi v20 c256_i32_54
  v110
@[reducible] def k0_t4_loop : Scf.Loop 32 :=
  let c0_i32_58 : BitVec 32 := 0#32
  let c16_i32_59 : BitVec 32 := 16#32
  let v116 : BitVec 32 := Scalar.addi c0_i32_58 c16_i32_59
  let c1_i32_60 : BitVec 32 := 1#32
  ⟨c0_i32_58, v116, c1_i32_60⟩
def k0_off45 (k0_t4 : Fin k0_t4_loop.trips) : Fin 2 → Nat :=
  let c16_i32_123 : BitVec 32 := 16#32
  let c0_i32_58 : BitVec 32 := 0#32
  let c1_i32_60 : BitVec 32 := 1#32
  let arg14 : BitVec 32 := Scf.iv c0_i32_58 c1_i32_60 k0_t4
  let v193 : BitVec 32 := Scalar.addi c16_i32_123 arg14
  let v194 : Index := Scalar.indexCast v193
  let c0 : Index := 0#32
  ![v194.toNat, 0]
def k0_off46 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_124 : BitVec 32 := 8#32
  let v196 : BitVec 32 := Scalar.muli arg14 c8_i32_124
  let c0_i32_125 : BitVec 32 := 0#32
  let v197 : BitVec 32 := Scalar.addi v196 c0_i32_125
  let v199 : Index := Scalar.indexCast v197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_126 : BitVec 32 := 0#32
  let v198 : BitVec 32 := Scalar.addi v81 c0_i32_126
  let v200 : Index := Scalar.indexCast v198
  ![v199.toNat, v200.toNat]

def k0_chk33 (v202 : IVec S16 32) : Prop :=
  (∀ a x, ((![v202] : Fin 1 → IVec S16 32) a x).toNat < S65536.size a)
theorem k0_idx33_inb : ∀ (v202 : IVec S16 32) (k0_hw33 : k0_chk33 v202), ∀ a x, ((![v202] : Fin 1 → IVec S16 32) a x).toNat < S65536.size a := fun v202 k0_hw33 => k0_hw33
def k0_off47 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_127 : BitVec 32 := 8#32
  let v203 : BitVec 32 := Scalar.muli arg14 c8_i32_127
  let c0_i32_128 : BitVec 32 := 0#32
  let v204 : BitVec 32 := Scalar.addi v203 c0_i32_128
  let v206 : Index := Scalar.indexCast v204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_129 : BitVec 32 := 16#32
  let v205 : BitVec 32 := Scalar.addi v81 c16_i32_129
  let v207 : Index := Scalar.indexCast v205
  ![v206.toNat, v207.toNat]

def k0_chk34 (v209 : IVec S16 32) : Prop :=
  (∀ a x, ((![v209] : Fin 1 → IVec S16 32) a x).toNat < S65536.size a)
theorem k0_idx34_inb : ∀ (v209 : IVec S16 32) (k0_hw34 : k0_chk34 v209), ∀ a x, ((![v209] : Fin 1 → IVec S16 32) a x).toNat < S65536.size a := fun v209 k0_hw34 => k0_hw34
def k0_off48 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_130 : BitVec 32 := 8#32
  let v210 : BitVec 32 := Scalar.muli arg14 c8_i32_130
  let c0_i32_131 : BitVec 32 := 0#32
  let v211 : BitVec 32 := Scalar.addi v210 c0_i32_131
  let v213 : Index := Scalar.indexCast v211
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_132 : BitVec 32 := 32#32
  let v212 : BitVec 32 := Scalar.addi v81 c32_i32_132
  let v214 : Index := Scalar.indexCast v212
  ![v213.toNat, v214.toNat]

def k0_chk35 (v216 : IVec S16 32) : Prop :=
  (∀ a x, ((![v216] : Fin 1 → IVec S16 32) a x).toNat < S65536.size a)
theorem k0_idx35_inb : ∀ (v216 : IVec S16 32) (k0_hw35 : k0_chk35 v216), ∀ a x, ((![v216] : Fin 1 → IVec S16 32) a x).toNat < S65536.size a := fun v216 k0_hw35 => k0_hw35
def k0_off49 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_133 : BitVec 32 := 8#32
  let v217 : BitVec 32 := Scalar.muli arg14 c8_i32_133
  let c0_i32_134 : BitVec 32 := 0#32
  let v218 : BitVec 32 := Scalar.addi v217 c0_i32_134
  let v220 : Index := Scalar.indexCast v218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_135 : BitVec 32 := 48#32
  let v219 : BitVec 32 := Scalar.addi v81 c48_i32_135
  let v221 : Index := Scalar.indexCast v219
  ![v220.toNat, v221.toNat]

def k0_chk36 (v223 : IVec S16 32) : Prop :=
  (∀ a x, ((![v223] : Fin 1 → IVec S16 32) a x).toNat < S65536.size a)
theorem k0_idx36_inb : ∀ (v223 : IVec S16 32) (k0_hw36 : k0_chk36 v223), ∀ a x, ((![v223] : Fin 1 → IVec S16 32) a x).toNat < S65536.size a := fun v223 k0_hw36 => k0_hw36
def k0_off50 (k0_t4 : Fin k0_t4_loop.trips) : Fin 2 → Nat :=
  let c16_i32_136 : BitVec 32 := 16#32
  let c0_i32_58 : BitVec 32 := 0#32
  let c1_i32_60 : BitVec 32 := 1#32
  let arg14 : BitVec 32 := Scf.iv c0_i32_58 c1_i32_60 k0_t4
  let v224 : BitVec 32 := Scalar.addi c16_i32_136 arg14
  let v225 : Index := Scalar.indexCast v224
  let c16 : Index := 16#32
  ![v225.toNat, 16]
def k0_off51 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_137 : BitVec 32 := 8#32
  let v227 : BitVec 32 := Scalar.muli arg14 c8_i32_137
  let c1_i32_138 : BitVec 32 := 1#32
  let v228 : BitVec 32 := Scalar.addi v227 c1_i32_138
  let v230 : Index := Scalar.indexCast v228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_139 : BitVec 32 := 0#32
  let v229 : BitVec 32 := Scalar.addi v81 c0_i32_139
  let v231 : Index := Scalar.indexCast v229
  ![v230.toNat, v231.toNat]

def k0_chk37 (v233 : IVec S16 32) : Prop :=
  (∀ a x, ((![v233] : Fin 1 → IVec S16 32) a x).toNat < S65536.size a)
theorem k0_idx37_inb : ∀ (v233 : IVec S16 32) (k0_hw37 : k0_chk37 v233), ∀ a x, ((![v233] : Fin 1 → IVec S16 32) a x).toNat < S65536.size a := fun v233 k0_hw37 => k0_hw37
def k0_off52 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_140 : BitVec 32 := 8#32
  let v234 : BitVec 32 := Scalar.muli arg14 c8_i32_140
  let c1_i32_141 : BitVec 32 := 1#32
  let v235 : BitVec 32 := Scalar.addi v234 c1_i32_141
  let v237 : Index := Scalar.indexCast v235
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_142 : BitVec 32 := 16#32
  let v236 : BitVec 32 := Scalar.addi v81 c16_i32_142
  let v238 : Index := Scalar.indexCast v236
  ![v237.toNat, v238.toNat]

def k0_chk38 (v240 : IVec S16 32) : Prop :=
  (∀ a x, ((![v240] : Fin 1 → IVec S16 32) a x).toNat < S65536.size a)
theorem k0_idx38_inb : ∀ (v240 : IVec S16 32) (k0_hw38 : k0_chk38 v240), ∀ a x, ((![v240] : Fin 1 → IVec S16 32) a x).toNat < S65536.size a := fun v240 k0_hw38 => k0_hw38
def k0_off53 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_143 : BitVec 32 := 8#32
  let v241 : BitVec 32 := Scalar.muli arg14 c8_i32_143
  let c1_i32_144 : BitVec 32 := 1#32
  let v242 : BitVec 32 := Scalar.addi v241 c1_i32_144
  let v244 : Index := Scalar.indexCast v242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_145 : BitVec 32 := 32#32
  let v243 : BitVec 32 := Scalar.addi v81 c32_i32_145
  let v245 : Index := Scalar.indexCast v243
  ![v244.toNat, v245.toNat]

def k0_chk39 (v247 : IVec S16 32) : Prop :=
  (∀ a x, ((![v247] : Fin 1 → IVec S16 32) a x).toNat < S65536.size a)
theorem k0_idx39_inb : ∀ (v247 : IVec S16 32) (k0_hw39 : k0_chk39 v247), ∀ a x, ((![v247] : Fin 1 → IVec S16 32) a x).toNat < S65536.size a := fun v247 k0_hw39 => k0_hw39
def k0_off54 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_146 : BitVec 32 := 8#32
  let v248 : BitVec 32 := Scalar.muli arg14 c8_i32_146
  let c1_i32_147 : BitVec 32 := 1#32
  let v249 : BitVec 32 := Scalar.addi v248 c1_i32_147
  let v251 : Index := Scalar.indexCast v249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_148 : BitVec 32 := 48#32
  let v250 : BitVec 32 := Scalar.addi v81 c48_i32_148
  let v252 : Index := Scalar.indexCast v250
  ![v251.toNat, v252.toNat]

def k0_chk40 (v254 : IVec S16 32) : Prop :=
  (∀ a x, ((![v254] : Fin 1 → IVec S16 32) a x).toNat < S65536.size a)
theorem k0_idx40_inb : ∀ (v254 : IVec S16 32) (k0_hw40 : k0_chk40 v254), ∀ a x, ((![v254] : Fin 1 → IVec S16 32) a x).toNat < S65536.size a := fun v254 k0_hw40 => k0_hw40
def k0_off55 (k0_t4 : Fin k0_t4_loop.trips) : Fin 2 → Nat :=
  let c16_i32_149 : BitVec 32 := 16#32
  let c0_i32_58 : BitVec 32 := 0#32
  let c1_i32_60 : BitVec 32 := 1#32
  let arg14 : BitVec 32 := Scf.iv c0_i32_58 c1_i32_60 k0_t4
  let v255 : BitVec 32 := Scalar.addi c16_i32_149 arg14
  let v256 : Index := Scalar.indexCast v255
  let c32 : Index := 32#32
  ![v256.toNat, 32]
def k0_off56 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_150 : BitVec 32 := 8#32
  let v258 : BitVec 32 := Scalar.muli arg14 c8_i32_150
  let c2_i32_151 : BitVec 32 := 2#32
  let v259 : BitVec 32 := Scalar.addi v258 c2_i32_151
  let v261 : Index := Scalar.indexCast v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_152 : BitVec 32 := 0#32
  let v260 : BitVec 32 := Scalar.addi v81 c0_i32_152
  let v262 : Index := Scalar.indexCast v260
  ![v261.toNat, v262.toNat]

def k0_chk41 (v264 : IVec S16 32) : Prop :=
  (∀ a x, ((![v264] : Fin 1 → IVec S16 32) a x).toNat < S65536.size a)
theorem k0_idx41_inb : ∀ (v264 : IVec S16 32) (k0_hw41 : k0_chk41 v264), ∀ a x, ((![v264] : Fin 1 → IVec S16 32) a x).toNat < S65536.size a := fun v264 k0_hw41 => k0_hw41
def k0_off57 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_153 : BitVec 32 := 8#32
  let v265 : BitVec 32 := Scalar.muli arg14 c8_i32_153
  let c2_i32_154 : BitVec 32 := 2#32
  let v266 : BitVec 32 := Scalar.addi v265 c2_i32_154
  let v268 : Index := Scalar.indexCast v266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_155 : BitVec 32 := 16#32
  let v267 : BitVec 32 := Scalar.addi v81 c16_i32_155
  let v269 : Index := Scalar.indexCast v267
  ![v268.toNat, v269.toNat]

def k0_chk42 (v271 : IVec S16 32) : Prop :=
  (∀ a x, ((![v271] : Fin 1 → IVec S16 32) a x).toNat < S65536.size a)
theorem k0_idx42_inb : ∀ (v271 : IVec S16 32) (k0_hw42 : k0_chk42 v271), ∀ a x, ((![v271] : Fin 1 → IVec S16 32) a x).toNat < S65536.size a := fun v271 k0_hw42 => k0_hw42
def k0_off58 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_156 : BitVec 32 := 8#32
  let v272 : BitVec 32 := Scalar.muli arg14 c8_i32_156
  let c2_i32_157 : BitVec 32 := 2#32
  let v273 : BitVec 32 := Scalar.addi v272 c2_i32_157
  let v275 : Index := Scalar.indexCast v273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_158 : BitVec 32 := 32#32
  let v274 : BitVec 32 := Scalar.addi v81 c32_i32_158
  let v276 : Index := Scalar.indexCast v274
  ![v275.toNat, v276.toNat]

def k0_chk43 (v278 : IVec S16 32) : Prop :=
  (∀ a x, ((![v278] : Fin 1 → IVec S16 32) a x).toNat < S65536.size a)
theorem k0_idx43_inb : ∀ (v278 : IVec S16 32) (k0_hw43 : k0_chk43 v278), ∀ a x, ((![v278] : Fin 1 → IVec S16 32) a x).toNat < S65536.size a := fun v278 k0_hw43 => k0_hw43
def k0_off59 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_159 : BitVec 32 := 8#32
  let v279 : BitVec 32 := Scalar.muli arg14 c8_i32_159
  let c2_i32_160 : BitVec 32 := 2#32
  let v280 : BitVec 32 := Scalar.addi v279 c2_i32_160
  let v282 : Index := Scalar.indexCast v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_161 : BitVec 32 := 48#32
  let v281 : BitVec 32 := Scalar.addi v81 c48_i32_161
  let v283 : Index := Scalar.indexCast v281
  ![v282.toNat, v283.toNat]

def k0_chk44 (v285 : IVec S16 32) : Prop :=
  (∀ a x, ((![v285] : Fin 1 → IVec S16 32) a x).toNat < S65536.size a)
theorem k0_idx44_inb : ∀ (v285 : IVec S16 32) (k0_hw44 : k0_chk44 v285), ∀ a x, ((![v285] : Fin 1 → IVec S16 32) a x).toNat < S65536.size a := fun v285 k0_hw44 => k0_hw44
def k0_off60 (k0_t4 : Fin k0_t4_loop.trips) : Fin 2 → Nat :=
  let c16_i32_162 : BitVec 32 := 16#32
  let c0_i32_58 : BitVec 32 := 0#32
  let c1_i32_60 : BitVec 32 := 1#32
  let arg14 : BitVec 32 := Scf.iv c0_i32_58 c1_i32_60 k0_t4
  let v286 : BitVec 32 := Scalar.addi c16_i32_162 arg14
  let v287 : Index := Scalar.indexCast v286
  let c48 : Index := 48#32
  ![v287.toNat, 48]
def k0_off61 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_163 : BitVec 32 := 8#32
  let v289 : BitVec 32 := Scalar.muli arg14 c8_i32_163
  let c3_i32 : BitVec 32 := 3#32
  let v290 : BitVec 32 := Scalar.addi v289 c3_i32
  let v292 : Index := Scalar.indexCast v290
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_164 : BitVec 32 := 0#32
  let v291 : BitVec 32 := Scalar.addi v81 c0_i32_164
  let v293 : Index := Scalar.indexCast v291
  ![v292.toNat, v293.toNat]

def k0_chk45 (v295 : IVec S16 32) : Prop :=
  (∀ a x, ((![v295] : Fin 1 → IVec S16 32) a x).toNat < S65536.size a)
theorem k0_idx45_inb : ∀ (v295 : IVec S16 32) (k0_hw45 : k0_chk45 v295), ∀ a x, ((![v295] : Fin 1 → IVec S16 32) a x).toNat < S65536.size a := fun v295 k0_hw45 => k0_hw45
def k0_off62 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_165 : BitVec 32 := 8#32
  let v296 : BitVec 32 := Scalar.muli arg14 c8_i32_165
  let c3_i32_166 : BitVec 32 := 3#32
  let v297 : BitVec 32 := Scalar.addi v296 c3_i32_166
  let v299 : Index := Scalar.indexCast v297
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_167 : BitVec 32 := 16#32
  let v298 : BitVec 32 := Scalar.addi v81 c16_i32_167
  let v300 : Index := Scalar.indexCast v298
  ![v299.toNat, v300.toNat]

def k0_chk46 (v302 : IVec S16 32) : Prop :=
  (∀ a x, ((![v302] : Fin 1 → IVec S16 32) a x).toNat < S65536.size a)
theorem k0_idx46_inb : ∀ (v302 : IVec S16 32) (k0_hw46 : k0_chk46 v302), ∀ a x, ((![v302] : Fin 1 → IVec S16 32) a x).toNat < S65536.size a := fun v302 k0_hw46 => k0_hw46
def k0_off63 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_168 : BitVec 32 := 8#32
  let v303 : BitVec 32 := Scalar.muli arg14 c8_i32_168
  let c3_i32_169 : BitVec 32 := 3#32
  let v304 : BitVec 32 := Scalar.addi v303 c3_i32_169
  let v306 : Index := Scalar.indexCast v304
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_170 : BitVec 32 := 32#32
  let v305 : BitVec 32 := Scalar.addi v81 c32_i32_170
  let v307 : Index := Scalar.indexCast v305
  ![v306.toNat, v307.toNat]

def k0_chk47 (v309 : IVec S16 32) : Prop :=
  (∀ a x, ((![v309] : Fin 1 → IVec S16 32) a x).toNat < S65536.size a)
theorem k0_idx47_inb : ∀ (v309 : IVec S16 32) (k0_hw47 : k0_chk47 v309), ∀ a x, ((![v309] : Fin 1 → IVec S16 32) a x).toNat < S65536.size a := fun v309 k0_hw47 => k0_hw47
def k0_off64 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_171 : BitVec 32 := 8#32
  let v310 : BitVec 32 := Scalar.muli arg14 c8_i32_171
  let c3_i32_172 : BitVec 32 := 3#32
  let v311 : BitVec 32 := Scalar.addi v310 c3_i32_172
  let v313 : Index := Scalar.indexCast v311
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_173 : BitVec 32 := 48#32
  let v312 : BitVec 32 := Scalar.addi v81 c48_i32_173
  let v314 : Index := Scalar.indexCast v312
  ![v313.toNat, v314.toNat]

def k0_chk48 (v316 : IVec S16 32) : Prop :=
  (∀ a x, ((![v316] : Fin 1 → IVec S16 32) a x).toNat < S65536.size a)
theorem k0_idx48_inb : ∀ (v316 : IVec S16 32) (k0_hw48 : k0_chk48 v316), ∀ a x, ((![v316] : Fin 1 → IVec S16 32) a x).toNat < S65536.size a := fun v316 k0_hw48 => k0_hw48
def k0_off65 (k0_t4 : Fin k0_t4_loop.trips) : Fin 2 → Nat :=
  let c16_i32_174 : BitVec 32 := 16#32
  let c0_i32_58 : BitVec 32 := 0#32
  let c1_i32_60 : BitVec 32 := 1#32
  let arg14 : BitVec 32 := Scf.iv c0_i32_58 c1_i32_60 k0_t4
  let v317 : BitVec 32 := Scalar.addi c16_i32_174 arg14
  let v318 : Index := Scalar.indexCast v317
  let c64 : Index := 64#32
  ![v318.toNat, 64]
def k0_off66 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_175 : BitVec 32 := 8#32
  let v320 : BitVec 32 := Scalar.muli arg14 c8_i32_175
  let c4_i32_176 : BitVec 32 := 4#32
  let v321 : BitVec 32 := Scalar.addi v320 c4_i32_176
  let v323 : Index := Scalar.indexCast v321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_177 : BitVec 32 := 0#32
  let v322 : BitVec 32 := Scalar.addi v81 c0_i32_177
  let v324 : Index := Scalar.indexCast v322
  ![v323.toNat, v324.toNat]

def k0_chk49 (v326 : IVec S16 32) : Prop :=
  (∀ a x, ((![v326] : Fin 1 → IVec S16 32) a x).toNat < S65536.size a)
theorem k0_idx49_inb : ∀ (v326 : IVec S16 32) (k0_hw49 : k0_chk49 v326), ∀ a x, ((![v326] : Fin 1 → IVec S16 32) a x).toNat < S65536.size a := fun v326 k0_hw49 => k0_hw49
def k0_off67 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_178 : BitVec 32 := 8#32
  let v327 : BitVec 32 := Scalar.muli arg14 c8_i32_178
  let c4_i32_179 : BitVec 32 := 4#32
  let v328 : BitVec 32 := Scalar.addi v327 c4_i32_179
  let v330 : Index := Scalar.indexCast v328
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_180 : BitVec 32 := 16#32
  let v329 : BitVec 32 := Scalar.addi v81 c16_i32_180
  let v331 : Index := Scalar.indexCast v329
  ![v330.toNat, v331.toNat]

def k0_chk50 (v333 : IVec S16 32) : Prop :=
  (∀ a x, ((![v333] : Fin 1 → IVec S16 32) a x).toNat < S65536.size a)
theorem k0_idx50_inb : ∀ (v333 : IVec S16 32) (k0_hw50 : k0_chk50 v333), ∀ a x, ((![v333] : Fin 1 → IVec S16 32) a x).toNat < S65536.size a := fun v333 k0_hw50 => k0_hw50
def k0_off68 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_181 : BitVec 32 := 8#32
  let v334 : BitVec 32 := Scalar.muli arg14 c8_i32_181
  let c4_i32_182 : BitVec 32 := 4#32
  let v335 : BitVec 32 := Scalar.addi v334 c4_i32_182
  let v337 : Index := Scalar.indexCast v335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_183 : BitVec 32 := 32#32
  let v336 : BitVec 32 := Scalar.addi v81 c32_i32_183
  let v338 : Index := Scalar.indexCast v336
  ![v337.toNat, v338.toNat]

def k0_chk51 (v340 : IVec S16 32) : Prop :=
  (∀ a x, ((![v340] : Fin 1 → IVec S16 32) a x).toNat < S65536.size a)
theorem k0_idx51_inb : ∀ (v340 : IVec S16 32) (k0_hw51 : k0_chk51 v340), ∀ a x, ((![v340] : Fin 1 → IVec S16 32) a x).toNat < S65536.size a := fun v340 k0_hw51 => k0_hw51
def k0_off69 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_184 : BitVec 32 := 8#32
  let v341 : BitVec 32 := Scalar.muli arg14 c8_i32_184
  let c4_i32_185 : BitVec 32 := 4#32
  let v342 : BitVec 32 := Scalar.addi v341 c4_i32_185
  let v344 : Index := Scalar.indexCast v342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_186 : BitVec 32 := 48#32
  let v343 : BitVec 32 := Scalar.addi v81 c48_i32_186
  let v345 : Index := Scalar.indexCast v343
  ![v344.toNat, v345.toNat]

def k0_chk52 (v347 : IVec S16 32) : Prop :=
  (∀ a x, ((![v347] : Fin 1 → IVec S16 32) a x).toNat < S65536.size a)
theorem k0_idx52_inb : ∀ (v347 : IVec S16 32) (k0_hw52 : k0_chk52 v347), ∀ a x, ((![v347] : Fin 1 → IVec S16 32) a x).toNat < S65536.size a := fun v347 k0_hw52 => k0_hw52
def k0_off70 (k0_t4 : Fin k0_t4_loop.trips) : Fin 2 → Nat :=
  let c16_i32_187 : BitVec 32 := 16#32
  let c0_i32_58 : BitVec 32 := 0#32
  let c1_i32_60 : BitVec 32 := 1#32
  let arg14 : BitVec 32 := Scf.iv c0_i32_58 c1_i32_60 k0_t4
  let v348 : BitVec 32 := Scalar.addi c16_i32_187 arg14
  let v349 : Index := Scalar.indexCast v348
  let c80 : Index := 80#32
  ![v349.toNat, 80]
def k0_off71 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_188 : BitVec 32 := 8#32
  let v351 : BitVec 32 := Scalar.muli arg14 c8_i32_188
  let c5_i32 : BitVec 32 := 5#32
  let v352 : BitVec 32 := Scalar.addi v351 c5_i32
  let v354 : Index := Scalar.indexCast v352
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_189 : BitVec 32 := 0#32
  let v353 : BitVec 32 := Scalar.addi v81 c0_i32_189
  let v355 : Index := Scalar.indexCast v353
  ![v354.toNat, v355.toNat]

def k0_chk53 (v357 : IVec S16 32) : Prop :=
  (∀ a x, ((![v357] : Fin 1 → IVec S16 32) a x).toNat < S65536.size a)
theorem k0_idx53_inb : ∀ (v357 : IVec S16 32) (k0_hw53 : k0_chk53 v357), ∀ a x, ((![v357] : Fin 1 → IVec S16 32) a x).toNat < S65536.size a := fun v357 k0_hw53 => k0_hw53
def k0_off72 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_190 : BitVec 32 := 8#32
  let v358 : BitVec 32 := Scalar.muli arg14 c8_i32_190
  let c5_i32_191 : BitVec 32 := 5#32
  let v359 : BitVec 32 := Scalar.addi v358 c5_i32_191
  let v361 : Index := Scalar.indexCast v359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_192 : BitVec 32 := 16#32
  let v360 : BitVec 32 := Scalar.addi v81 c16_i32_192
  let v362 : Index := Scalar.indexCast v360
  ![v361.toNat, v362.toNat]

def k0_chk54 (v364 : IVec S16 32) : Prop :=
  (∀ a x, ((![v364] : Fin 1 → IVec S16 32) a x).toNat < S65536.size a)
theorem k0_idx54_inb : ∀ (v364 : IVec S16 32) (k0_hw54 : k0_chk54 v364), ∀ a x, ((![v364] : Fin 1 → IVec S16 32) a x).toNat < S65536.size a := fun v364 k0_hw54 => k0_hw54
def k0_off73 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_193 : BitVec 32 := 8#32
  let v365 : BitVec 32 := Scalar.muli arg14 c8_i32_193
  let c5_i32_194 : BitVec 32 := 5#32
  let v366 : BitVec 32 := Scalar.addi v365 c5_i32_194
  let v368 : Index := Scalar.indexCast v366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_195 : BitVec 32 := 32#32
  let v367 : BitVec 32 := Scalar.addi v81 c32_i32_195
  let v369 : Index := Scalar.indexCast v367
  ![v368.toNat, v369.toNat]

def k0_chk55 (v371 : IVec S16 32) : Prop :=
  (∀ a x, ((![v371] : Fin 1 → IVec S16 32) a x).toNat < S65536.size a)
theorem k0_idx55_inb : ∀ (v371 : IVec S16 32) (k0_hw55 : k0_chk55 v371), ∀ a x, ((![v371] : Fin 1 → IVec S16 32) a x).toNat < S65536.size a := fun v371 k0_hw55 => k0_hw55
def k0_off74 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_196 : BitVec 32 := 8#32
  let v372 : BitVec 32 := Scalar.muli arg14 c8_i32_196
  let c5_i32_197 : BitVec 32 := 5#32
  let v373 : BitVec 32 := Scalar.addi v372 c5_i32_197
  let v375 : Index := Scalar.indexCast v373
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_198 : BitVec 32 := 48#32
  let v374 : BitVec 32 := Scalar.addi v81 c48_i32_198
  let v376 : Index := Scalar.indexCast v374
  ![v375.toNat, v376.toNat]

def k0_chk56 (v378 : IVec S16 32) : Prop :=
  (∀ a x, ((![v378] : Fin 1 → IVec S16 32) a x).toNat < S65536.size a)
theorem k0_idx56_inb : ∀ (v378 : IVec S16 32) (k0_hw56 : k0_chk56 v378), ∀ a x, ((![v378] : Fin 1 → IVec S16 32) a x).toNat < S65536.size a := fun v378 k0_hw56 => k0_hw56
def k0_off75 (k0_t4 : Fin k0_t4_loop.trips) : Fin 2 → Nat :=
  let c16_i32_199 : BitVec 32 := 16#32
  let c0_i32_58 : BitVec 32 := 0#32
  let c1_i32_60 : BitVec 32 := 1#32
  let arg14 : BitVec 32 := Scf.iv c0_i32_58 c1_i32_60 k0_t4
  let v379 : BitVec 32 := Scalar.addi c16_i32_199 arg14
  let v380 : Index := Scalar.indexCast v379
  let c96 : Index := 96#32
  ![v380.toNat, 96]
def k0_off76 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_200 : BitVec 32 := 8#32
  let v382 : BitVec 32 := Scalar.muli arg14 c8_i32_200
  let c6_i32 : BitVec 32 := 6#32
  let v383 : BitVec 32 := Scalar.addi v382 c6_i32
  let v385 : Index := Scalar.indexCast v383
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_201 : BitVec 32 := 0#32
  let v384 : BitVec 32 := Scalar.addi v81 c0_i32_201
  let v386 : Index := Scalar.indexCast v384
  ![v385.toNat, v386.toNat]

def k0_chk57 (v388 : IVec S16 32) : Prop :=
  (∀ a x, ((![v388] : Fin 1 → IVec S16 32) a x).toNat < S65536.size a)
theorem k0_idx57_inb : ∀ (v388 : IVec S16 32) (k0_hw57 : k0_chk57 v388), ∀ a x, ((![v388] : Fin 1 → IVec S16 32) a x).toNat < S65536.size a := fun v388 k0_hw57 => k0_hw57
def k0_off77 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_202 : BitVec 32 := 8#32
  let v389 : BitVec 32 := Scalar.muli arg14 c8_i32_202
  let c6_i32_203 : BitVec 32 := 6#32
  let v390 : BitVec 32 := Scalar.addi v389 c6_i32_203
  let v392 : Index := Scalar.indexCast v390
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_204 : BitVec 32 := 16#32
  let v391 : BitVec 32 := Scalar.addi v81 c16_i32_204
  let v393 : Index := Scalar.indexCast v391
  ![v392.toNat, v393.toNat]

def k0_chk58 (v395 : IVec S16 32) : Prop :=
  (∀ a x, ((![v395] : Fin 1 → IVec S16 32) a x).toNat < S65536.size a)
theorem k0_idx58_inb : ∀ (v395 : IVec S16 32) (k0_hw58 : k0_chk58 v395), ∀ a x, ((![v395] : Fin 1 → IVec S16 32) a x).toNat < S65536.size a := fun v395 k0_hw58 => k0_hw58
def k0_off78 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_205 : BitVec 32 := 8#32
  let v396 : BitVec 32 := Scalar.muli arg14 c8_i32_205
  let c6_i32_206 : BitVec 32 := 6#32
  let v397 : BitVec 32 := Scalar.addi v396 c6_i32_206
  let v399 : Index := Scalar.indexCast v397
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_207 : BitVec 32 := 32#32
  let v398 : BitVec 32 := Scalar.addi v81 c32_i32_207
  let v400 : Index := Scalar.indexCast v398
  ![v399.toNat, v400.toNat]

def k0_chk59 (v402 : IVec S16 32) : Prop :=
  (∀ a x, ((![v402] : Fin 1 → IVec S16 32) a x).toNat < S65536.size a)
theorem k0_idx59_inb : ∀ (v402 : IVec S16 32) (k0_hw59 : k0_chk59 v402), ∀ a x, ((![v402] : Fin 1 → IVec S16 32) a x).toNat < S65536.size a := fun v402 k0_hw59 => k0_hw59
def k0_off79 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_208 : BitVec 32 := 8#32
  let v403 : BitVec 32 := Scalar.muli arg14 c8_i32_208
  let c6_i32_209 : BitVec 32 := 6#32
  let v404 : BitVec 32 := Scalar.addi v403 c6_i32_209
  let v406 : Index := Scalar.indexCast v404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_210 : BitVec 32 := 48#32
  let v405 : BitVec 32 := Scalar.addi v81 c48_i32_210
  let v407 : Index := Scalar.indexCast v405
  ![v406.toNat, v407.toNat]

def k0_chk60 (v409 : IVec S16 32) : Prop :=
  (∀ a x, ((![v409] : Fin 1 → IVec S16 32) a x).toNat < S65536.size a)
theorem k0_idx60_inb : ∀ (v409 : IVec S16 32) (k0_hw60 : k0_chk60 v409), ∀ a x, ((![v409] : Fin 1 → IVec S16 32) a x).toNat < S65536.size a := fun v409 k0_hw60 => k0_hw60
def k0_off80 (k0_t4 : Fin k0_t4_loop.trips) : Fin 2 → Nat :=
  let c16_i32_211 : BitVec 32 := 16#32
  let c0_i32_58 : BitVec 32 := 0#32
  let c1_i32_60 : BitVec 32 := 1#32
  let arg14 : BitVec 32 := Scf.iv c0_i32_58 c1_i32_60 k0_t4
  let v410 : BitVec 32 := Scalar.addi c16_i32_211 arg14
  let v411 : Index := Scalar.indexCast v410
  let c112 : Index := 112#32
  ![v411.toNat, 112]
def k0_off81 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_212 : BitVec 32 := 8#32
  let v413 : BitVec 32 := Scalar.muli arg14 c8_i32_212
  let c7_i32 : BitVec 32 := 7#32
  let v414 : BitVec 32 := Scalar.addi v413 c7_i32
  let v416 : Index := Scalar.indexCast v414
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_213 : BitVec 32 := 0#32
  let v415 : BitVec 32 := Scalar.addi v81 c0_i32_213
  let v417 : Index := Scalar.indexCast v415
  ![v416.toNat, v417.toNat]

def k0_chk61 (v419 : IVec S16 32) : Prop :=
  (∀ a x, ((![v419] : Fin 1 → IVec S16 32) a x).toNat < S65536.size a)
theorem k0_idx61_inb : ∀ (v419 : IVec S16 32) (k0_hw61 : k0_chk61 v419), ∀ a x, ((![v419] : Fin 1 → IVec S16 32) a x).toNat < S65536.size a := fun v419 k0_hw61 => k0_hw61
def k0_off82 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_214 : BitVec 32 := 8#32
  let v420 : BitVec 32 := Scalar.muli arg14 c8_i32_214
  let c7_i32_215 : BitVec 32 := 7#32
  let v421 : BitVec 32 := Scalar.addi v420 c7_i32_215
  let v423 : Index := Scalar.indexCast v421
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_216 : BitVec 32 := 16#32
  let v422 : BitVec 32 := Scalar.addi v81 c16_i32_216
  let v424 : Index := Scalar.indexCast v422
  ![v423.toNat, v424.toNat]

def k0_chk62 (v426 : IVec S16 32) : Prop :=
  (∀ a x, ((![v426] : Fin 1 → IVec S16 32) a x).toNat < S65536.size a)
theorem k0_idx62_inb : ∀ (v426 : IVec S16 32) (k0_hw62 : k0_chk62 v426), ∀ a x, ((![v426] : Fin 1 → IVec S16 32) a x).toNat < S65536.size a := fun v426 k0_hw62 => k0_hw62
def k0_off83 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_217 : BitVec 32 := 8#32
  let v427 : BitVec 32 := Scalar.muli arg14 c8_i32_217
  let c7_i32_218 : BitVec 32 := 7#32
  let v428 : BitVec 32 := Scalar.addi v427 c7_i32_218
  let v430 : Index := Scalar.indexCast v428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_219 : BitVec 32 := 32#32
  let v429 : BitVec 32 := Scalar.addi v81 c32_i32_219
  let v431 : Index := Scalar.indexCast v429
  ![v430.toNat, v431.toNat]

def k0_chk63 (v433 : IVec S16 32) : Prop :=
  (∀ a x, ((![v433] : Fin 1 → IVec S16 32) a x).toNat < S65536.size a)
theorem k0_idx63_inb : ∀ (v433 : IVec S16 32) (k0_hw63 : k0_chk63 v433), ∀ a x, ((![v433] : Fin 1 → IVec S16 32) a x).toNat < S65536.size a := fun v433 k0_hw63 => k0_hw63
def k0_off84 (i : grid0.Coords) (k0_t4 : Fin k0_t4_loop.trips) : Fin 2 → Nat :=
  let c0_i32_58 : BitVec 32 := 0#32
  let c1_i32_60 : BitVec 32 := 1#32
  let arg14 : BitVec 32 := Scf.iv c0_i32_58 c1_i32_60 k0_t4
  let c8_i32_220 : BitVec 32 := 8#32
  let v434 : BitVec 32 := Scalar.muli arg14 c8_i32_220
  let c7_i32_221 : BitVec 32 := 7#32
  let v435 : BitVec 32 := Scalar.addi v434 c7_i32_221
  let v437 : Index := Scalar.indexCast v435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_222 : BitVec 32 := 48#32
  let v436 : BitVec 32 := Scalar.addi v81 c48_i32_222
  let v438 : Index := Scalar.indexCast v436
  ![v437.toNat, v438.toNat]

def k0_chk64 (v440 : IVec S16 32) : Prop :=
  (∀ a x, ((![v440] : Fin 1 → IVec S16 32) a x).toNat < S65536.size a)
theorem k0_idx64_inb : ∀ (v440 : IVec S16 32) (k0_hw64 : k0_chk64 v440), ∀ a x, ((![v440] : Fin 1 → IVec S16 32) a x).toNat < S65536.size a := fun v440 k0_hw64 => k0_hw64
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c384_i32 : BitVec 32 := 384#32
  let v122 : BitVec 32 := Scalar.addi v20 c384_i32
  v122
@[reducible] def k0_t5_loop : Scf.Loop 32 :=
  let c0_i32_67 : BitVec 32 := 0#32
  let c16_i32_68 : BitVec 32 := 16#32
  let v128 : BitVec 32 := Scalar.addi c0_i32_67 c16_i32_68
  let c1_i32_69 : BitVec 32 := 1#32
  ⟨c0_i32_67, v128, c1_i32_69⟩
def k0_off85 (k0_t5 : Fin k0_t5_loop.trips) : Fin 2 → Nat :=
  let c32_i32_123 : BitVec 32 := 32#32
  let c0_i32_67 : BitVec 32 := 0#32
  let c1_i32_69 : BitVec 32 := 1#32
  let arg14 : BitVec 32 := Scf.iv c0_i32_67 c1_i32_69 k0_t5
  let v193 : BitVec 32 := Scalar.addi c32_i32_123 arg14
  let v194 : Index := Scalar.indexCast v193
  let c0 : Index := 0#32
  ![v194.toNat, 0]
def k0_off86 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_124 : BitVec 32 := 8#32
  let v196 : BitVec 32 := Scalar.muli arg14 c8_i32_124
  let c0_i32_125 : BitVec 32 := 0#32
  let v197 : BitVec 32 := Scalar.addi v196 c0_i32_125
  let v199 : Index := Scalar.indexCast v197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_126 : BitVec 32 := 0#32
  let v198 : BitVec 32 := Scalar.addi v81 c0_i32_126
  let v200 : Index := Scalar.indexCast v198
  ![v199.toNat, v200.toNat]

def k0_chk65 (v202 : IVec S16 32) : Prop :=
  (∀ a x, ((![v202] : Fin 1 → IVec S16 32) a x).toNat < S65536.size a)
theorem k0_idx65_inb : ∀ (v202 : IVec S16 32) (k0_hw65 : k0_chk65 v202), ∀ a x, ((![v202] : Fin 1 → IVec S16 32) a x).toNat < S65536.size a := fun v202 k0_hw65 => k0_hw65
def k0_off87 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_127 : BitVec 32 := 8#32
  let v203 : BitVec 32 := Scalar.muli arg14 c8_i32_127
  let c0_i32_128 : BitVec 32 := 0#32
  let v204 : BitVec 32 := Scalar.addi v203 c0_i32_128
  let v206 : Index := Scalar.indexCast v204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_129 : BitVec 32 := 16#32
  let v205 : BitVec 32 := Scalar.addi v81 c16_i32_129
  let v207 : Index := Scalar.indexCast v205
  ![v206.toNat, v207.toNat]

def k0_chk66 (v209 : IVec S16 32) : Prop :=
  (∀ a x, ((![v209] : Fin 1 → IVec S16 32) a x).toNat < S65536.size a)
theorem k0_idx66_inb : ∀ (v209 : IVec S16 32) (k0_hw66 : k0_chk66 v209), ∀ a x, ((![v209] : Fin 1 → IVec S16 32) a x).toNat < S65536.size a := fun v209 k0_hw66 => k0_hw66
def k0_off88 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_130 : BitVec 32 := 8#32
  let v210 : BitVec 32 := Scalar.muli arg14 c8_i32_130
  let c0_i32_131 : BitVec 32 := 0#32
  let v211 : BitVec 32 := Scalar.addi v210 c0_i32_131
  let v213 : Index := Scalar.indexCast v211
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_132 : BitVec 32 := 32#32
  let v212 : BitVec 32 := Scalar.addi v81 c32_i32_132
  let v214 : Index := Scalar.indexCast v212
  ![v213.toNat, v214.toNat]

def k0_chk67 (v216 : IVec S16 32) : Prop :=
  (∀ a x, ((![v216] : Fin 1 → IVec S16 32) a x).toNat < S65536.size a)
theorem k0_idx67_inb : ∀ (v216 : IVec S16 32) (k0_hw67 : k0_chk67 v216), ∀ a x, ((![v216] : Fin 1 → IVec S16 32) a x).toNat < S65536.size a := fun v216 k0_hw67 => k0_hw67
def k0_off89 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_133 : BitVec 32 := 8#32
  let v217 : BitVec 32 := Scalar.muli arg14 c8_i32_133
  let c0_i32_134 : BitVec 32 := 0#32
  let v218 : BitVec 32 := Scalar.addi v217 c0_i32_134
  let v220 : Index := Scalar.indexCast v218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_135 : BitVec 32 := 48#32
  let v219 : BitVec 32 := Scalar.addi v81 c48_i32_135
  let v221 : Index := Scalar.indexCast v219
  ![v220.toNat, v221.toNat]

def k0_chk68 (v223 : IVec S16 32) : Prop :=
  (∀ a x, ((![v223] : Fin 1 → IVec S16 32) a x).toNat < S65536.size a)
theorem k0_idx68_inb : ∀ (v223 : IVec S16 32) (k0_hw68 : k0_chk68 v223), ∀ a x, ((![v223] : Fin 1 → IVec S16 32) a x).toNat < S65536.size a := fun v223 k0_hw68 => k0_hw68
def k0_off90 (k0_t5 : Fin k0_t5_loop.trips) : Fin 2 → Nat :=
  let c32_i32_136 : BitVec 32 := 32#32
  let c0_i32_67 : BitVec 32 := 0#32
  let c1_i32_69 : BitVec 32 := 1#32
  let arg14 : BitVec 32 := Scf.iv c0_i32_67 c1_i32_69 k0_t5
  let v224 : BitVec 32 := Scalar.addi c32_i32_136 arg14
  let v225 : Index := Scalar.indexCast v224
  let c16 : Index := 16#32
  ![v225.toNat, 16]
def k0_off91 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_137 : BitVec 32 := 8#32
  let v227 : BitVec 32 := Scalar.muli arg14 c8_i32_137
  let c1_i32_138 : BitVec 32 := 1#32
  let v228 : BitVec 32 := Scalar.addi v227 c1_i32_138
  let v230 : Index := Scalar.indexCast v228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_139 : BitVec 32 := 0#32
  let v229 : BitVec 32 := Scalar.addi v81 c0_i32_139
  let v231 : Index := Scalar.indexCast v229
  ![v230.toNat, v231.toNat]

def k0_chk69 (v233 : IVec S16 32) : Prop :=
  (∀ a x, ((![v233] : Fin 1 → IVec S16 32) a x).toNat < S65536.size a)
theorem k0_idx69_inb : ∀ (v233 : IVec S16 32) (k0_hw69 : k0_chk69 v233), ∀ a x, ((![v233] : Fin 1 → IVec S16 32) a x).toNat < S65536.size a := fun v233 k0_hw69 => k0_hw69
def k0_off92 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_140 : BitVec 32 := 8#32
  let v234 : BitVec 32 := Scalar.muli arg14 c8_i32_140
  let c1_i32_141 : BitVec 32 := 1#32
  let v235 : BitVec 32 := Scalar.addi v234 c1_i32_141
  let v237 : Index := Scalar.indexCast v235
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_142 : BitVec 32 := 16#32
  let v236 : BitVec 32 := Scalar.addi v81 c16_i32_142
  let v238 : Index := Scalar.indexCast v236
  ![v237.toNat, v238.toNat]

def k0_chk70 (v240 : IVec S16 32) : Prop :=
  (∀ a x, ((![v240] : Fin 1 → IVec S16 32) a x).toNat < S65536.size a)
theorem k0_idx70_inb : ∀ (v240 : IVec S16 32) (k0_hw70 : k0_chk70 v240), ∀ a x, ((![v240] : Fin 1 → IVec S16 32) a x).toNat < S65536.size a := fun v240 k0_hw70 => k0_hw70
def k0_off93 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_143 : BitVec 32 := 8#32
  let v241 : BitVec 32 := Scalar.muli arg14 c8_i32_143
  let c1_i32_144 : BitVec 32 := 1#32
  let v242 : BitVec 32 := Scalar.addi v241 c1_i32_144
  let v244 : Index := Scalar.indexCast v242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_145 : BitVec 32 := 32#32
  let v243 : BitVec 32 := Scalar.addi v81 c32_i32_145
  let v245 : Index := Scalar.indexCast v243
  ![v244.toNat, v245.toNat]

def k0_chk71 (v247 : IVec S16 32) : Prop :=
  (∀ a x, ((![v247] : Fin 1 → IVec S16 32) a x).toNat < S65536.size a)
theorem k0_idx71_inb : ∀ (v247 : IVec S16 32) (k0_hw71 : k0_chk71 v247), ∀ a x, ((![v247] : Fin 1 → IVec S16 32) a x).toNat < S65536.size a := fun v247 k0_hw71 => k0_hw71
def k0_off94 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_146 : BitVec 32 := 8#32
  let v248 : BitVec 32 := Scalar.muli arg14 c8_i32_146
  let c1_i32_147 : BitVec 32 := 1#32
  let v249 : BitVec 32 := Scalar.addi v248 c1_i32_147
  let v251 : Index := Scalar.indexCast v249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_148 : BitVec 32 := 48#32
  let v250 : BitVec 32 := Scalar.addi v81 c48_i32_148
  let v252 : Index := Scalar.indexCast v250
  ![v251.toNat, v252.toNat]

def k0_chk72 (v254 : IVec S16 32) : Prop :=
  (∀ a x, ((![v254] : Fin 1 → IVec S16 32) a x).toNat < S65536.size a)
theorem k0_idx72_inb : ∀ (v254 : IVec S16 32) (k0_hw72 : k0_chk72 v254), ∀ a x, ((![v254] : Fin 1 → IVec S16 32) a x).toNat < S65536.size a := fun v254 k0_hw72 => k0_hw72
def k0_off95 (k0_t5 : Fin k0_t5_loop.trips) : Fin 2 → Nat :=
  let c32_i32_149 : BitVec 32 := 32#32
  let c0_i32_67 : BitVec 32 := 0#32
  let c1_i32_69 : BitVec 32 := 1#32
  let arg14 : BitVec 32 := Scf.iv c0_i32_67 c1_i32_69 k0_t5
  let v255 : BitVec 32 := Scalar.addi c32_i32_149 arg14
  let v256 : Index := Scalar.indexCast v255
  let c32 : Index := 32#32
  ![v256.toNat, 32]
def k0_off96 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_150 : BitVec 32 := 8#32
  let v258 : BitVec 32 := Scalar.muli arg14 c8_i32_150
  let c2_i32_151 : BitVec 32 := 2#32
  let v259 : BitVec 32 := Scalar.addi v258 c2_i32_151
  let v261 : Index := Scalar.indexCast v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_152 : BitVec 32 := 0#32
  let v260 : BitVec 32 := Scalar.addi v81 c0_i32_152
  let v262 : Index := Scalar.indexCast v260
  ![v261.toNat, v262.toNat]

def k0_chk73 (v264 : IVec S16 32) : Prop :=
  (∀ a x, ((![v264] : Fin 1 → IVec S16 32) a x).toNat < S65536.size a)
theorem k0_idx73_inb : ∀ (v264 : IVec S16 32) (k0_hw73 : k0_chk73 v264), ∀ a x, ((![v264] : Fin 1 → IVec S16 32) a x).toNat < S65536.size a := fun v264 k0_hw73 => k0_hw73
def k0_off97 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_153 : BitVec 32 := 8#32
  let v265 : BitVec 32 := Scalar.muli arg14 c8_i32_153
  let c2_i32_154 : BitVec 32 := 2#32
  let v266 : BitVec 32 := Scalar.addi v265 c2_i32_154
  let v268 : Index := Scalar.indexCast v266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_155 : BitVec 32 := 16#32
  let v267 : BitVec 32 := Scalar.addi v81 c16_i32_155
  let v269 : Index := Scalar.indexCast v267
  ![v268.toNat, v269.toNat]

def k0_chk74 (v271 : IVec S16 32) : Prop :=
  (∀ a x, ((![v271] : Fin 1 → IVec S16 32) a x).toNat < S65536.size a)
theorem k0_idx74_inb : ∀ (v271 : IVec S16 32) (k0_hw74 : k0_chk74 v271), ∀ a x, ((![v271] : Fin 1 → IVec S16 32) a x).toNat < S65536.size a := fun v271 k0_hw74 => k0_hw74
def k0_off98 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_156 : BitVec 32 := 8#32
  let v272 : BitVec 32 := Scalar.muli arg14 c8_i32_156
  let c2_i32_157 : BitVec 32 := 2#32
  let v273 : BitVec 32 := Scalar.addi v272 c2_i32_157
  let v275 : Index := Scalar.indexCast v273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_158 : BitVec 32 := 32#32
  let v274 : BitVec 32 := Scalar.addi v81 c32_i32_158
  let v276 : Index := Scalar.indexCast v274
  ![v275.toNat, v276.toNat]

def k0_chk75 (v278 : IVec S16 32) : Prop :=
  (∀ a x, ((![v278] : Fin 1 → IVec S16 32) a x).toNat < S65536.size a)
theorem k0_idx75_inb : ∀ (v278 : IVec S16 32) (k0_hw75 : k0_chk75 v278), ∀ a x, ((![v278] : Fin 1 → IVec S16 32) a x).toNat < S65536.size a := fun v278 k0_hw75 => k0_hw75
def k0_off99 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_159 : BitVec 32 := 8#32
  let v279 : BitVec 32 := Scalar.muli arg14 c8_i32_159
  let c2_i32_160 : BitVec 32 := 2#32
  let v280 : BitVec 32 := Scalar.addi v279 c2_i32_160
  let v282 : Index := Scalar.indexCast v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_161 : BitVec 32 := 48#32
  let v281 : BitVec 32 := Scalar.addi v81 c48_i32_161
  let v283 : Index := Scalar.indexCast v281
  ![v282.toNat, v283.toNat]

def k0_chk76 (v285 : IVec S16 32) : Prop :=
  (∀ a x, ((![v285] : Fin 1 → IVec S16 32) a x).toNat < S65536.size a)
theorem k0_idx76_inb : ∀ (v285 : IVec S16 32) (k0_hw76 : k0_chk76 v285), ∀ a x, ((![v285] : Fin 1 → IVec S16 32) a x).toNat < S65536.size a := fun v285 k0_hw76 => k0_hw76
def k0_off100 (k0_t5 : Fin k0_t5_loop.trips) : Fin 2 → Nat :=
  let c32_i32_162 : BitVec 32 := 32#32
  let c0_i32_67 : BitVec 32 := 0#32
  let c1_i32_69 : BitVec 32 := 1#32
  let arg14 : BitVec 32 := Scf.iv c0_i32_67 c1_i32_69 k0_t5
  let v286 : BitVec 32 := Scalar.addi c32_i32_162 arg14
  let v287 : Index := Scalar.indexCast v286
  let c48 : Index := 48#32
  ![v287.toNat, 48]
def k0_off101 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_163 : BitVec 32 := 8#32
  let v289 : BitVec 32 := Scalar.muli arg14 c8_i32_163
  let c3_i32 : BitVec 32 := 3#32
  let v290 : BitVec 32 := Scalar.addi v289 c3_i32
  let v292 : Index := Scalar.indexCast v290
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_164 : BitVec 32 := 0#32
  let v291 : BitVec 32 := Scalar.addi v81 c0_i32_164
  let v293 : Index := Scalar.indexCast v291
  ![v292.toNat, v293.toNat]

def k0_chk77 (v295 : IVec S16 32) : Prop :=
  (∀ a x, ((![v295] : Fin 1 → IVec S16 32) a x).toNat < S65536.size a)
theorem k0_idx77_inb : ∀ (v295 : IVec S16 32) (k0_hw77 : k0_chk77 v295), ∀ a x, ((![v295] : Fin 1 → IVec S16 32) a x).toNat < S65536.size a := fun v295 k0_hw77 => k0_hw77
def k0_off102 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_165 : BitVec 32 := 8#32
  let v296 : BitVec 32 := Scalar.muli arg14 c8_i32_165
  let c3_i32_166 : BitVec 32 := 3#32
  let v297 : BitVec 32 := Scalar.addi v296 c3_i32_166
  let v299 : Index := Scalar.indexCast v297
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_167 : BitVec 32 := 16#32
  let v298 : BitVec 32 := Scalar.addi v81 c16_i32_167
  let v300 : Index := Scalar.indexCast v298
  ![v299.toNat, v300.toNat]

def k0_chk78 (v302 : IVec S16 32) : Prop :=
  (∀ a x, ((![v302] : Fin 1 → IVec S16 32) a x).toNat < S65536.size a)
theorem k0_idx78_inb : ∀ (v302 : IVec S16 32) (k0_hw78 : k0_chk78 v302), ∀ a x, ((![v302] : Fin 1 → IVec S16 32) a x).toNat < S65536.size a := fun v302 k0_hw78 => k0_hw78
def k0_off103 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_168 : BitVec 32 := 8#32
  let v303 : BitVec 32 := Scalar.muli arg14 c8_i32_168
  let c3_i32_169 : BitVec 32 := 3#32
  let v304 : BitVec 32 := Scalar.addi v303 c3_i32_169
  let v306 : Index := Scalar.indexCast v304
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_170 : BitVec 32 := 32#32
  let v305 : BitVec 32 := Scalar.addi v81 c32_i32_170
  let v307 : Index := Scalar.indexCast v305
  ![v306.toNat, v307.toNat]

def k0_chk79 (v309 : IVec S16 32) : Prop :=
  (∀ a x, ((![v309] : Fin 1 → IVec S16 32) a x).toNat < S65536.size a)
theorem k0_idx79_inb : ∀ (v309 : IVec S16 32) (k0_hw79 : k0_chk79 v309), ∀ a x, ((![v309] : Fin 1 → IVec S16 32) a x).toNat < S65536.size a := fun v309 k0_hw79 => k0_hw79
def k0_off104 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_171 : BitVec 32 := 8#32
  let v310 : BitVec 32 := Scalar.muli arg14 c8_i32_171
  let c3_i32_172 : BitVec 32 := 3#32
  let v311 : BitVec 32 := Scalar.addi v310 c3_i32_172
  let v313 : Index := Scalar.indexCast v311
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_173 : BitVec 32 := 48#32
  let v312 : BitVec 32 := Scalar.addi v81 c48_i32_173
  let v314 : Index := Scalar.indexCast v312
  ![v313.toNat, v314.toNat]

def k0_chk80 (v316 : IVec S16 32) : Prop :=
  (∀ a x, ((![v316] : Fin 1 → IVec S16 32) a x).toNat < S65536.size a)
theorem k0_idx80_inb : ∀ (v316 : IVec S16 32) (k0_hw80 : k0_chk80 v316), ∀ a x, ((![v316] : Fin 1 → IVec S16 32) a x).toNat < S65536.size a := fun v316 k0_hw80 => k0_hw80
def k0_off105 (k0_t5 : Fin k0_t5_loop.trips) : Fin 2 → Nat :=
  let c32_i32_174 : BitVec 32 := 32#32
  let c0_i32_67 : BitVec 32 := 0#32
  let c1_i32_69 : BitVec 32 := 1#32
  let arg14 : BitVec 32 := Scf.iv c0_i32_67 c1_i32_69 k0_t5
  let v317 : BitVec 32 := Scalar.addi c32_i32_174 arg14
  let v318 : Index := Scalar.indexCast v317
  let c64 : Index := 64#32
  ![v318.toNat, 64]
def k0_off106 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_175 : BitVec 32 := 8#32
  let v320 : BitVec 32 := Scalar.muli arg14 c8_i32_175
  let c4_i32_176 : BitVec 32 := 4#32
  let v321 : BitVec 32 := Scalar.addi v320 c4_i32_176
  let v323 : Index := Scalar.indexCast v321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_177 : BitVec 32 := 0#32
  let v322 : BitVec 32 := Scalar.addi v81 c0_i32_177
  let v324 : Index := Scalar.indexCast v322
  ![v323.toNat, v324.toNat]

def k0_chk81 (v326 : IVec S16 32) : Prop :=
  (∀ a x, ((![v326] : Fin 1 → IVec S16 32) a x).toNat < S65536.size a)
theorem k0_idx81_inb : ∀ (v326 : IVec S16 32) (k0_hw81 : k0_chk81 v326), ∀ a x, ((![v326] : Fin 1 → IVec S16 32) a x).toNat < S65536.size a := fun v326 k0_hw81 => k0_hw81
def k0_off107 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_178 : BitVec 32 := 8#32
  let v327 : BitVec 32 := Scalar.muli arg14 c8_i32_178
  let c4_i32_179 : BitVec 32 := 4#32
  let v328 : BitVec 32 := Scalar.addi v327 c4_i32_179
  let v330 : Index := Scalar.indexCast v328
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_180 : BitVec 32 := 16#32
  let v329 : BitVec 32 := Scalar.addi v81 c16_i32_180
  let v331 : Index := Scalar.indexCast v329
  ![v330.toNat, v331.toNat]

def k0_chk82 (v333 : IVec S16 32) : Prop :=
  (∀ a x, ((![v333] : Fin 1 → IVec S16 32) a x).toNat < S65536.size a)
theorem k0_idx82_inb : ∀ (v333 : IVec S16 32) (k0_hw82 : k0_chk82 v333), ∀ a x, ((![v333] : Fin 1 → IVec S16 32) a x).toNat < S65536.size a := fun v333 k0_hw82 => k0_hw82
def k0_off108 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_181 : BitVec 32 := 8#32
  let v334 : BitVec 32 := Scalar.muli arg14 c8_i32_181
  let c4_i32_182 : BitVec 32 := 4#32
  let v335 : BitVec 32 := Scalar.addi v334 c4_i32_182
  let v337 : Index := Scalar.indexCast v335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_183 : BitVec 32 := 32#32
  let v336 : BitVec 32 := Scalar.addi v81 c32_i32_183
  let v338 : Index := Scalar.indexCast v336
  ![v337.toNat, v338.toNat]

def k0_chk83 (v340 : IVec S16 32) : Prop :=
  (∀ a x, ((![v340] : Fin 1 → IVec S16 32) a x).toNat < S65536.size a)
theorem k0_idx83_inb : ∀ (v340 : IVec S16 32) (k0_hw83 : k0_chk83 v340), ∀ a x, ((![v340] : Fin 1 → IVec S16 32) a x).toNat < S65536.size a := fun v340 k0_hw83 => k0_hw83
def k0_off109 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_184 : BitVec 32 := 8#32
  let v341 : BitVec 32 := Scalar.muli arg14 c8_i32_184
  let c4_i32_185 : BitVec 32 := 4#32
  let v342 : BitVec 32 := Scalar.addi v341 c4_i32_185
  let v344 : Index := Scalar.indexCast v342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_186 : BitVec 32 := 48#32
  let v343 : BitVec 32 := Scalar.addi v81 c48_i32_186
  let v345 : Index := Scalar.indexCast v343
  ![v344.toNat, v345.toNat]

def k0_chk84 (v347 : IVec S16 32) : Prop :=
  (∀ a x, ((![v347] : Fin 1 → IVec S16 32) a x).toNat < S65536.size a)
theorem k0_idx84_inb : ∀ (v347 : IVec S16 32) (k0_hw84 : k0_chk84 v347), ∀ a x, ((![v347] : Fin 1 → IVec S16 32) a x).toNat < S65536.size a := fun v347 k0_hw84 => k0_hw84
def k0_off110 (k0_t5 : Fin k0_t5_loop.trips) : Fin 2 → Nat :=
  let c32_i32_187 : BitVec 32 := 32#32
  let c0_i32_67 : BitVec 32 := 0#32
  let c1_i32_69 : BitVec 32 := 1#32
  let arg14 : BitVec 32 := Scf.iv c0_i32_67 c1_i32_69 k0_t5
  let v348 : BitVec 32 := Scalar.addi c32_i32_187 arg14
  let v349 : Index := Scalar.indexCast v348
  let c80 : Index := 80#32
  ![v349.toNat, 80]
def k0_off111 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_188 : BitVec 32 := 8#32
  let v351 : BitVec 32 := Scalar.muli arg14 c8_i32_188
  let c5_i32 : BitVec 32 := 5#32
  let v352 : BitVec 32 := Scalar.addi v351 c5_i32
  let v354 : Index := Scalar.indexCast v352
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_189 : BitVec 32 := 0#32
  let v353 : BitVec 32 := Scalar.addi v81 c0_i32_189
  let v355 : Index := Scalar.indexCast v353
  ![v354.toNat, v355.toNat]

def k0_chk85 (v357 : IVec S16 32) : Prop :=
  (∀ a x, ((![v357] : Fin 1 → IVec S16 32) a x).toNat < S65536.size a)
theorem k0_idx85_inb : ∀ (v357 : IVec S16 32) (k0_hw85 : k0_chk85 v357), ∀ a x, ((![v357] : Fin 1 → IVec S16 32) a x).toNat < S65536.size a := fun v357 k0_hw85 => k0_hw85
def k0_off112 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_190 : BitVec 32 := 8#32
  let v358 : BitVec 32 := Scalar.muli arg14 c8_i32_190
  let c5_i32_191 : BitVec 32 := 5#32
  let v359 : BitVec 32 := Scalar.addi v358 c5_i32_191
  let v361 : Index := Scalar.indexCast v359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_192 : BitVec 32 := 16#32
  let v360 : BitVec 32 := Scalar.addi v81 c16_i32_192
  let v362 : Index := Scalar.indexCast v360
  ![v361.toNat, v362.toNat]

def k0_chk86 (v364 : IVec S16 32) : Prop :=
  (∀ a x, ((![v364] : Fin 1 → IVec S16 32) a x).toNat < S65536.size a)
theorem k0_idx86_inb : ∀ (v364 : IVec S16 32) (k0_hw86 : k0_chk86 v364), ∀ a x, ((![v364] : Fin 1 → IVec S16 32) a x).toNat < S65536.size a := fun v364 k0_hw86 => k0_hw86
def k0_off113 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_193 : BitVec 32 := 8#32
  let v365 : BitVec 32 := Scalar.muli arg14 c8_i32_193
  let c5_i32_194 : BitVec 32 := 5#32
  let v366 : BitVec 32 := Scalar.addi v365 c5_i32_194
  let v368 : Index := Scalar.indexCast v366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_195 : BitVec 32 := 32#32
  let v367 : BitVec 32 := Scalar.addi v81 c32_i32_195
  let v369 : Index := Scalar.indexCast v367
  ![v368.toNat, v369.toNat]

def k0_chk87 (v371 : IVec S16 32) : Prop :=
  (∀ a x, ((![v371] : Fin 1 → IVec S16 32) a x).toNat < S65536.size a)
theorem k0_idx87_inb : ∀ (v371 : IVec S16 32) (k0_hw87 : k0_chk87 v371), ∀ a x, ((![v371] : Fin 1 → IVec S16 32) a x).toNat < S65536.size a := fun v371 k0_hw87 => k0_hw87
def k0_off114 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_196 : BitVec 32 := 8#32
  let v372 : BitVec 32 := Scalar.muli arg14 c8_i32_196
  let c5_i32_197 : BitVec 32 := 5#32
  let v373 : BitVec 32 := Scalar.addi v372 c5_i32_197
  let v375 : Index := Scalar.indexCast v373
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_198 : BitVec 32 := 48#32
  let v374 : BitVec 32 := Scalar.addi v81 c48_i32_198
  let v376 : Index := Scalar.indexCast v374
  ![v375.toNat, v376.toNat]

def k0_chk88 (v378 : IVec S16 32) : Prop :=
  (∀ a x, ((![v378] : Fin 1 → IVec S16 32) a x).toNat < S65536.size a)
theorem k0_idx88_inb : ∀ (v378 : IVec S16 32) (k0_hw88 : k0_chk88 v378), ∀ a x, ((![v378] : Fin 1 → IVec S16 32) a x).toNat < S65536.size a := fun v378 k0_hw88 => k0_hw88
def k0_off115 (k0_t5 : Fin k0_t5_loop.trips) : Fin 2 → Nat :=
  let c32_i32_199 : BitVec 32 := 32#32
  let c0_i32_67 : BitVec 32 := 0#32
  let c1_i32_69 : BitVec 32 := 1#32
  let arg14 : BitVec 32 := Scf.iv c0_i32_67 c1_i32_69 k0_t5
  let v379 : BitVec 32 := Scalar.addi c32_i32_199 arg14
  let v380 : Index := Scalar.indexCast v379
  let c96 : Index := 96#32
  ![v380.toNat, 96]
def k0_off116 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_200 : BitVec 32 := 8#32
  let v382 : BitVec 32 := Scalar.muli arg14 c8_i32_200
  let c6_i32 : BitVec 32 := 6#32
  let v383 : BitVec 32 := Scalar.addi v382 c6_i32
  let v385 : Index := Scalar.indexCast v383
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_201 : BitVec 32 := 0#32
  let v384 : BitVec 32 := Scalar.addi v81 c0_i32_201
  let v386 : Index := Scalar.indexCast v384
  ![v385.toNat, v386.toNat]

def k0_chk89 (v388 : IVec S16 32) : Prop :=
  (∀ a x, ((![v388] : Fin 1 → IVec S16 32) a x).toNat < S65536.size a)
theorem k0_idx89_inb : ∀ (v388 : IVec S16 32) (k0_hw89 : k0_chk89 v388), ∀ a x, ((![v388] : Fin 1 → IVec S16 32) a x).toNat < S65536.size a := fun v388 k0_hw89 => k0_hw89
def k0_off117 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_202 : BitVec 32 := 8#32
  let v389 : BitVec 32 := Scalar.muli arg14 c8_i32_202
  let c6_i32_203 : BitVec 32 := 6#32
  let v390 : BitVec 32 := Scalar.addi v389 c6_i32_203
  let v392 : Index := Scalar.indexCast v390
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_204 : BitVec 32 := 16#32
  let v391 : BitVec 32 := Scalar.addi v81 c16_i32_204
  let v393 : Index := Scalar.indexCast v391
  ![v392.toNat, v393.toNat]

def k0_chk90 (v395 : IVec S16 32) : Prop :=
  (∀ a x, ((![v395] : Fin 1 → IVec S16 32) a x).toNat < S65536.size a)
theorem k0_idx90_inb : ∀ (v395 : IVec S16 32) (k0_hw90 : k0_chk90 v395), ∀ a x, ((![v395] : Fin 1 → IVec S16 32) a x).toNat < S65536.size a := fun v395 k0_hw90 => k0_hw90
def k0_off118 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_205 : BitVec 32 := 8#32
  let v396 : BitVec 32 := Scalar.muli arg14 c8_i32_205
  let c6_i32_206 : BitVec 32 := 6#32
  let v397 : BitVec 32 := Scalar.addi v396 c6_i32_206
  let v399 : Index := Scalar.indexCast v397
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_207 : BitVec 32 := 32#32
  let v398 : BitVec 32 := Scalar.addi v81 c32_i32_207
  let v400 : Index := Scalar.indexCast v398
  ![v399.toNat, v400.toNat]

def k0_chk91 (v402 : IVec S16 32) : Prop :=
  (∀ a x, ((![v402] : Fin 1 → IVec S16 32) a x).toNat < S65536.size a)
theorem k0_idx91_inb : ∀ (v402 : IVec S16 32) (k0_hw91 : k0_chk91 v402), ∀ a x, ((![v402] : Fin 1 → IVec S16 32) a x).toNat < S65536.size a := fun v402 k0_hw91 => k0_hw91
def k0_off119 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_208 : BitVec 32 := 8#32
  let v403 : BitVec 32 := Scalar.muli arg14 c8_i32_208
  let c6_i32_209 : BitVec 32 := 6#32
  let v404 : BitVec 32 := Scalar.addi v403 c6_i32_209
  let v406 : Index := Scalar.indexCast v404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_210 : BitVec 32 := 48#32
  let v405 : BitVec 32 := Scalar.addi v81 c48_i32_210
  let v407 : Index := Scalar.indexCast v405
  ![v406.toNat, v407.toNat]

def k0_chk92 (v409 : IVec S16 32) : Prop :=
  (∀ a x, ((![v409] : Fin 1 → IVec S16 32) a x).toNat < S65536.size a)
theorem k0_idx92_inb : ∀ (v409 : IVec S16 32) (k0_hw92 : k0_chk92 v409), ∀ a x, ((![v409] : Fin 1 → IVec S16 32) a x).toNat < S65536.size a := fun v409 k0_hw92 => k0_hw92
def k0_off120 (k0_t5 : Fin k0_t5_loop.trips) : Fin 2 → Nat :=
  let c32_i32_211 : BitVec 32 := 32#32
  let c0_i32_67 : BitVec 32 := 0#32
  let c1_i32_69 : BitVec 32 := 1#32
  let arg14 : BitVec 32 := Scf.iv c0_i32_67 c1_i32_69 k0_t5
  let v410 : BitVec 32 := Scalar.addi c32_i32_211 arg14
  let v411 : Index := Scalar.indexCast v410
  let c112 : Index := 112#32
  ![v411.toNat, 112]
def k0_off121 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_212 : BitVec 32 := 8#32
  let v413 : BitVec 32 := Scalar.muli arg14 c8_i32_212
  let c7_i32 : BitVec 32 := 7#32
  let v414 : BitVec 32 := Scalar.addi v413 c7_i32
  let v416 : Index := Scalar.indexCast v414
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_213 : BitVec 32 := 0#32
  let v415 : BitVec 32 := Scalar.addi v81 c0_i32_213
  let v417 : Index := Scalar.indexCast v415
  ![v416.toNat, v417.toNat]

def k0_chk93 (v419 : IVec S16 32) : Prop :=
  (∀ a x, ((![v419] : Fin 1 → IVec S16 32) a x).toNat < S65536.size a)
theorem k0_idx93_inb : ∀ (v419 : IVec S16 32) (k0_hw93 : k0_chk93 v419), ∀ a x, ((![v419] : Fin 1 → IVec S16 32) a x).toNat < S65536.size a := fun v419 k0_hw93 => k0_hw93
def k0_off122 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_214 : BitVec 32 := 8#32
  let v420 : BitVec 32 := Scalar.muli arg14 c8_i32_214
  let c7_i32_215 : BitVec 32 := 7#32
  let v421 : BitVec 32 := Scalar.addi v420 c7_i32_215
  let v423 : Index := Scalar.indexCast v421
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_216 : BitVec 32 := 16#32
  let v422 : BitVec 32 := Scalar.addi v81 c16_i32_216
  let v424 : Index := Scalar.indexCast v422
  ![v423.toNat, v424.toNat]

def k0_chk94 (v426 : IVec S16 32) : Prop :=
  (∀ a x, ((![v426] : Fin 1 → IVec S16 32) a x).toNat < S65536.size a)
theorem k0_idx94_inb : ∀ (v426 : IVec S16 32) (k0_hw94 : k0_chk94 v426), ∀ a x, ((![v426] : Fin 1 → IVec S16 32) a x).toNat < S65536.size a := fun v426 k0_hw94 => k0_hw94
def k0_off123 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_217 : BitVec 32 := 8#32
  let v427 : BitVec 32 := Scalar.muli arg14 c8_i32_217
  let c7_i32_218 : BitVec 32 := 7#32
  let v428 : BitVec 32 := Scalar.addi v427 c7_i32_218
  let v430 : Index := Scalar.indexCast v428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_219 : BitVec 32 := 32#32
  let v429 : BitVec 32 := Scalar.addi v81 c32_i32_219
  let v431 : Index := Scalar.indexCast v429
  ![v430.toNat, v431.toNat]

def k0_chk95 (v433 : IVec S16 32) : Prop :=
  (∀ a x, ((![v433] : Fin 1 → IVec S16 32) a x).toNat < S65536.size a)
theorem k0_idx95_inb : ∀ (v433 : IVec S16 32) (k0_hw95 : k0_chk95 v433), ∀ a x, ((![v433] : Fin 1 → IVec S16 32) a x).toNat < S65536.size a := fun v433 k0_hw95 => k0_hw95
def k0_off124 (i : grid0.Coords) (k0_t5 : Fin k0_t5_loop.trips) : Fin 2 → Nat :=
  let c0_i32_67 : BitVec 32 := 0#32
  let c1_i32_69 : BitVec 32 := 1#32
  let arg14 : BitVec 32 := Scf.iv c0_i32_67 c1_i32_69 k0_t5
  let c8_i32_220 : BitVec 32 := 8#32
  let v434 : BitVec 32 := Scalar.muli arg14 c8_i32_220
  let c7_i32_221 : BitVec 32 := 7#32
  let v435 : BitVec 32 := Scalar.addi v434 c7_i32_221
  let v437 : Index := Scalar.indexCast v435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_222 : BitVec 32 := 48#32
  let v436 : BitVec 32 := Scalar.addi v81 c48_i32_222
  let v438 : Index := Scalar.indexCast v436
  ![v437.toNat, v438.toNat]

def k0_chk96 (v440 : IVec S16 32) : Prop :=
  (∀ a x, ((![v440] : Fin 1 → IVec S16 32) a x).toNat < S65536.size a)
theorem k0_idx96_inb : ∀ (v440 : IVec S16 32) (k0_hw96 : k0_chk96 v440), ∀ a x, ((![v440] : Fin 1 → IVec S16 32) a x).toNat < S65536.size a := fun v440 k0_hw96 => k0_hw96
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c512_i32 : BitVec 32 := 512#32
  let v134 : BitVec 32 := Scalar.addi v20 c512_i32
  v134
@[reducible] def k0_t6_loop : Scf.Loop 32 :=
  let c0_i32_76 : BitVec 32 := 0#32
  let c16_i32_77 : BitVec 32 := 16#32
  let v140 : BitVec 32 := Scalar.addi c0_i32_76 c16_i32_77
  let c1_i32_78 : BitVec 32 := 1#32
  ⟨c0_i32_76, v140, c1_i32_78⟩
def k0_off125 (k0_t6 : Fin k0_t6_loop.trips) : Fin 2 → Nat :=
  let c48_i32_123 : BitVec 32 := 48#32
  let c0_i32_76 : BitVec 32 := 0#32
  let c1_i32_78 : BitVec 32 := 1#32
  let arg14 : BitVec 32 := Scf.iv c0_i32_76 c1_i32_78 k0_t6
  let v193 : BitVec 32 := Scalar.addi c48_i32_123 arg14
  let v194 : Index := Scalar.indexCast v193
  let c0 : Index := 0#32
  ![v194.toNat, 0]
def k0_off126 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_124 : BitVec 32 := 8#32
  let v196 : BitVec 32 := Scalar.muli arg14 c8_i32_124
  let c0_i32_125 : BitVec 32 := 0#32
  let v197 : BitVec 32 := Scalar.addi v196 c0_i32_125
  let v199 : Index := Scalar.indexCast v197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_126 : BitVec 32 := 0#32
  let v198 : BitVec 32 := Scalar.addi v81 c0_i32_126
  let v200 : Index := Scalar.indexCast v198
  ![v199.toNat, v200.toNat]

def k0_chk97 (v202 : IVec S16 32) : Prop :=
  (∀ a x, ((![v202] : Fin 1 → IVec S16 32) a x).toNat < S65536.size a)
theorem k0_idx97_inb : ∀ (v202 : IVec S16 32) (k0_hw97 : k0_chk97 v202), ∀ a x, ((![v202] : Fin 1 → IVec S16 32) a x).toNat < S65536.size a := fun v202 k0_hw97 => k0_hw97
def k0_off127 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_127 : BitVec 32 := 8#32
  let v203 : BitVec 32 := Scalar.muli arg14 c8_i32_127
  let c0_i32_128 : BitVec 32 := 0#32
  let v204 : BitVec 32 := Scalar.addi v203 c0_i32_128
  let v206 : Index := Scalar.indexCast v204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_129 : BitVec 32 := 16#32
  let v205 : BitVec 32 := Scalar.addi v81 c16_i32_129
  let v207 : Index := Scalar.indexCast v205
  ![v206.toNat, v207.toNat]

def k0_chk98 (v209 : IVec S16 32) : Prop :=
  (∀ a x, ((![v209] : Fin 1 → IVec S16 32) a x).toNat < S65536.size a)
theorem k0_idx98_inb : ∀ (v209 : IVec S16 32) (k0_hw98 : k0_chk98 v209), ∀ a x, ((![v209] : Fin 1 → IVec S16 32) a x).toNat < S65536.size a := fun v209 k0_hw98 => k0_hw98
def k0_off128 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_130 : BitVec 32 := 8#32
  let v210 : BitVec 32 := Scalar.muli arg14 c8_i32_130
  let c0_i32_131 : BitVec 32 := 0#32
  let v211 : BitVec 32 := Scalar.addi v210 c0_i32_131
  let v213 : Index := Scalar.indexCast v211
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_132 : BitVec 32 := 32#32
  let v212 : BitVec 32 := Scalar.addi v81 c32_i32_132
  let v214 : Index := Scalar.indexCast v212
  ![v213.toNat, v214.toNat]

def k0_chk99 (v216 : IVec S16 32) : Prop :=
  (∀ a x, ((![v216] : Fin 1 → IVec S16 32) a x).toNat < S65536.size a)
theorem k0_idx99_inb : ∀ (v216 : IVec S16 32) (k0_hw99 : k0_chk99 v216), ∀ a x, ((![v216] : Fin 1 → IVec S16 32) a x).toNat < S65536.size a := fun v216 k0_hw99 => k0_hw99
def k0_off129 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_133 : BitVec 32 := 8#32
  let v217 : BitVec 32 := Scalar.muli arg14 c8_i32_133
  let c0_i32_134 : BitVec 32 := 0#32
  let v218 : BitVec 32 := Scalar.addi v217 c0_i32_134
  let v220 : Index := Scalar.indexCast v218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_135 : BitVec 32 := 48#32
  let v219 : BitVec 32 := Scalar.addi v81 c48_i32_135
  let v221 : Index := Scalar.indexCast v219
  ![v220.toNat, v221.toNat]

def k0_chk100 (v223 : IVec S16 32) : Prop :=
  (∀ a x, ((![v223] : Fin 1 → IVec S16 32) a x).toNat < S65536.size a)
theorem k0_idx100_inb : ∀ (v223 : IVec S16 32) (k0_hw100 : k0_chk100 v223), ∀ a x, ((![v223] : Fin 1 → IVec S16 32) a x).toNat < S65536.size a := fun v223 k0_hw100 => k0_hw100
def k0_off130 (k0_t6 : Fin k0_t6_loop.trips) : Fin 2 → Nat :=
  let c48_i32_136 : BitVec 32 := 48#32
  let c0_i32_76 : BitVec 32 := 0#32
  let c1_i32_78 : BitVec 32 := 1#32
  let arg14 : BitVec 32 := Scf.iv c0_i32_76 c1_i32_78 k0_t6
  let v224 : BitVec 32 := Scalar.addi c48_i32_136 arg14
  let v225 : Index := Scalar.indexCast v224
  let c16 : Index := 16#32
  ![v225.toNat, 16]
def k0_off131 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_137 : BitVec 32 := 8#32
  let v227 : BitVec 32 := Scalar.muli arg14 c8_i32_137
  let c1_i32_138 : BitVec 32 := 1#32
  let v228 : BitVec 32 := Scalar.addi v227 c1_i32_138
  let v230 : Index := Scalar.indexCast v228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_139 : BitVec 32 := 0#32
  let v229 : BitVec 32 := Scalar.addi v81 c0_i32_139
  let v231 : Index := Scalar.indexCast v229
  ![v230.toNat, v231.toNat]

def k0_chk101 (v233 : IVec S16 32) : Prop :=
  (∀ a x, ((![v233] : Fin 1 → IVec S16 32) a x).toNat < S65536.size a)
theorem k0_idx101_inb : ∀ (v233 : IVec S16 32) (k0_hw101 : k0_chk101 v233), ∀ a x, ((![v233] : Fin 1 → IVec S16 32) a x).toNat < S65536.size a := fun v233 k0_hw101 => k0_hw101
def k0_off132 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_140 : BitVec 32 := 8#32
  let v234 : BitVec 32 := Scalar.muli arg14 c8_i32_140
  let c1_i32_141 : BitVec 32 := 1#32
  let v235 : BitVec 32 := Scalar.addi v234 c1_i32_141
  let v237 : Index := Scalar.indexCast v235
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_142 : BitVec 32 := 16#32
  let v236 : BitVec 32 := Scalar.addi v81 c16_i32_142
  let v238 : Index := Scalar.indexCast v236
  ![v237.toNat, v238.toNat]

def k0_chk102 (v240 : IVec S16 32) : Prop :=
  (∀ a x, ((![v240] : Fin 1 → IVec S16 32) a x).toNat < S65536.size a)
theorem k0_idx102_inb : ∀ (v240 : IVec S16 32) (k0_hw102 : k0_chk102 v240), ∀ a x, ((![v240] : Fin 1 → IVec S16 32) a x).toNat < S65536.size a := fun v240 k0_hw102 => k0_hw102
def k0_off133 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_143 : BitVec 32 := 8#32
  let v241 : BitVec 32 := Scalar.muli arg14 c8_i32_143
  let c1_i32_144 : BitVec 32 := 1#32
  let v242 : BitVec 32 := Scalar.addi v241 c1_i32_144
  let v244 : Index := Scalar.indexCast v242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_145 : BitVec 32 := 32#32
  let v243 : BitVec 32 := Scalar.addi v81 c32_i32_145
  let v245 : Index := Scalar.indexCast v243
  ![v244.toNat, v245.toNat]

def k0_chk103 (v247 : IVec S16 32) : Prop :=
  (∀ a x, ((![v247] : Fin 1 → IVec S16 32) a x).toNat < S65536.size a)
theorem k0_idx103_inb : ∀ (v247 : IVec S16 32) (k0_hw103 : k0_chk103 v247), ∀ a x, ((![v247] : Fin 1 → IVec S16 32) a x).toNat < S65536.size a := fun v247 k0_hw103 => k0_hw103
def k0_off134 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_146 : BitVec 32 := 8#32
  let v248 : BitVec 32 := Scalar.muli arg14 c8_i32_146
  let c1_i32_147 : BitVec 32 := 1#32
  let v249 : BitVec 32 := Scalar.addi v248 c1_i32_147
  let v251 : Index := Scalar.indexCast v249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_148 : BitVec 32 := 48#32
  let v250 : BitVec 32 := Scalar.addi v81 c48_i32_148
  let v252 : Index := Scalar.indexCast v250
  ![v251.toNat, v252.toNat]

def k0_chk104 (v254 : IVec S16 32) : Prop :=
  (∀ a x, ((![v254] : Fin 1 → IVec S16 32) a x).toNat < S65536.size a)
theorem k0_idx104_inb : ∀ (v254 : IVec S16 32) (k0_hw104 : k0_chk104 v254), ∀ a x, ((![v254] : Fin 1 → IVec S16 32) a x).toNat < S65536.size a := fun v254 k0_hw104 => k0_hw104
def k0_off135 (k0_t6 : Fin k0_t6_loop.trips) : Fin 2 → Nat :=
  let c48_i32_149 : BitVec 32 := 48#32
  let c0_i32_76 : BitVec 32 := 0#32
  let c1_i32_78 : BitVec 32 := 1#32
  let arg14 : BitVec 32 := Scf.iv c0_i32_76 c1_i32_78 k0_t6
  let v255 : BitVec 32 := Scalar.addi c48_i32_149 arg14
  let v256 : Index := Scalar.indexCast v255
  let c32 : Index := 32#32
  ![v256.toNat, 32]
def k0_off136 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_150 : BitVec 32 := 8#32
  let v258 : BitVec 32 := Scalar.muli arg14 c8_i32_150
  let c2_i32_151 : BitVec 32 := 2#32
  let v259 : BitVec 32 := Scalar.addi v258 c2_i32_151
  let v261 : Index := Scalar.indexCast v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_152 : BitVec 32 := 0#32
  let v260 : BitVec 32 := Scalar.addi v81 c0_i32_152
  let v262 : Index := Scalar.indexCast v260
  ![v261.toNat, v262.toNat]

def k0_chk105 (v264 : IVec S16 32) : Prop :=
  (∀ a x, ((![v264] : Fin 1 → IVec S16 32) a x).toNat < S65536.size a)
theorem k0_idx105_inb : ∀ (v264 : IVec S16 32) (k0_hw105 : k0_chk105 v264), ∀ a x, ((![v264] : Fin 1 → IVec S16 32) a x).toNat < S65536.size a := fun v264 k0_hw105 => k0_hw105
def k0_off137 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_153 : BitVec 32 := 8#32
  let v265 : BitVec 32 := Scalar.muli arg14 c8_i32_153
  let c2_i32_154 : BitVec 32 := 2#32
  let v266 : BitVec 32 := Scalar.addi v265 c2_i32_154
  let v268 : Index := Scalar.indexCast v266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_155 : BitVec 32 := 16#32
  let v267 : BitVec 32 := Scalar.addi v81 c16_i32_155
  let v269 : Index := Scalar.indexCast v267
  ![v268.toNat, v269.toNat]

def k0_chk106 (v271 : IVec S16 32) : Prop :=
  (∀ a x, ((![v271] : Fin 1 → IVec S16 32) a x).toNat < S65536.size a)
theorem k0_idx106_inb : ∀ (v271 : IVec S16 32) (k0_hw106 : k0_chk106 v271), ∀ a x, ((![v271] : Fin 1 → IVec S16 32) a x).toNat < S65536.size a := fun v271 k0_hw106 => k0_hw106
def k0_off138 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_156 : BitVec 32 := 8#32
  let v272 : BitVec 32 := Scalar.muli arg14 c8_i32_156
  let c2_i32_157 : BitVec 32 := 2#32
  let v273 : BitVec 32 := Scalar.addi v272 c2_i32_157
  let v275 : Index := Scalar.indexCast v273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_158 : BitVec 32 := 32#32
  let v274 : BitVec 32 := Scalar.addi v81 c32_i32_158
  let v276 : Index := Scalar.indexCast v274
  ![v275.toNat, v276.toNat]

def k0_chk107 (v278 : IVec S16 32) : Prop :=
  (∀ a x, ((![v278] : Fin 1 → IVec S16 32) a x).toNat < S65536.size a)
theorem k0_idx107_inb : ∀ (v278 : IVec S16 32) (k0_hw107 : k0_chk107 v278), ∀ a x, ((![v278] : Fin 1 → IVec S16 32) a x).toNat < S65536.size a := fun v278 k0_hw107 => k0_hw107
def k0_off139 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_159 : BitVec 32 := 8#32
  let v279 : BitVec 32 := Scalar.muli arg14 c8_i32_159
  let c2_i32_160 : BitVec 32 := 2#32
  let v280 : BitVec 32 := Scalar.addi v279 c2_i32_160
  let v282 : Index := Scalar.indexCast v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_161 : BitVec 32 := 48#32
  let v281 : BitVec 32 := Scalar.addi v81 c48_i32_161
  let v283 : Index := Scalar.indexCast v281
  ![v282.toNat, v283.toNat]

def k0_chk108 (v285 : IVec S16 32) : Prop :=
  (∀ a x, ((![v285] : Fin 1 → IVec S16 32) a x).toNat < S65536.size a)
theorem k0_idx108_inb : ∀ (v285 : IVec S16 32) (k0_hw108 : k0_chk108 v285), ∀ a x, ((![v285] : Fin 1 → IVec S16 32) a x).toNat < S65536.size a := fun v285 k0_hw108 => k0_hw108
def k0_off140 (k0_t6 : Fin k0_t6_loop.trips) : Fin 2 → Nat :=
  let c48_i32_162 : BitVec 32 := 48#32
  let c0_i32_76 : BitVec 32 := 0#32
  let c1_i32_78 : BitVec 32 := 1#32
  let arg14 : BitVec 32 := Scf.iv c0_i32_76 c1_i32_78 k0_t6
  let v286 : BitVec 32 := Scalar.addi c48_i32_162 arg14
  let v287 : Index := Scalar.indexCast v286
  let c48 : Index := 48#32
  ![v287.toNat, 48]
def k0_off141 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_163 : BitVec 32 := 8#32
  let v289 : BitVec 32 := Scalar.muli arg14 c8_i32_163
  let c3_i32 : BitVec 32 := 3#32
  let v290 : BitVec 32 := Scalar.addi v289 c3_i32
  let v292 : Index := Scalar.indexCast v290
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_164 : BitVec 32 := 0#32
  let v291 : BitVec 32 := Scalar.addi v81 c0_i32_164
  let v293 : Index := Scalar.indexCast v291
  ![v292.toNat, v293.toNat]

def k0_chk109 (v295 : IVec S16 32) : Prop :=
  (∀ a x, ((![v295] : Fin 1 → IVec S16 32) a x).toNat < S65536.size a)
theorem k0_idx109_inb : ∀ (v295 : IVec S16 32) (k0_hw109 : k0_chk109 v295), ∀ a x, ((![v295] : Fin 1 → IVec S16 32) a x).toNat < S65536.size a := fun v295 k0_hw109 => k0_hw109
def k0_off142 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_165 : BitVec 32 := 8#32
  let v296 : BitVec 32 := Scalar.muli arg14 c8_i32_165
  let c3_i32_166 : BitVec 32 := 3#32
  let v297 : BitVec 32 := Scalar.addi v296 c3_i32_166
  let v299 : Index := Scalar.indexCast v297
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_167 : BitVec 32 := 16#32
  let v298 : BitVec 32 := Scalar.addi v81 c16_i32_167
  let v300 : Index := Scalar.indexCast v298
  ![v299.toNat, v300.toNat]

def k0_chk110 (v302 : IVec S16 32) : Prop :=
  (∀ a x, ((![v302] : Fin 1 → IVec S16 32) a x).toNat < S65536.size a)
theorem k0_idx110_inb : ∀ (v302 : IVec S16 32) (k0_hw110 : k0_chk110 v302), ∀ a x, ((![v302] : Fin 1 → IVec S16 32) a x).toNat < S65536.size a := fun v302 k0_hw110 => k0_hw110
def k0_off143 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_168 : BitVec 32 := 8#32
  let v303 : BitVec 32 := Scalar.muli arg14 c8_i32_168
  let c3_i32_169 : BitVec 32 := 3#32
  let v304 : BitVec 32 := Scalar.addi v303 c3_i32_169
  let v306 : Index := Scalar.indexCast v304
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_170 : BitVec 32 := 32#32
  let v305 : BitVec 32 := Scalar.addi v81 c32_i32_170
  let v307 : Index := Scalar.indexCast v305
  ![v306.toNat, v307.toNat]

def k0_chk111 (v309 : IVec S16 32) : Prop :=
  (∀ a x, ((![v309] : Fin 1 → IVec S16 32) a x).toNat < S65536.size a)
theorem k0_idx111_inb : ∀ (v309 : IVec S16 32) (k0_hw111 : k0_chk111 v309), ∀ a x, ((![v309] : Fin 1 → IVec S16 32) a x).toNat < S65536.size a := fun v309 k0_hw111 => k0_hw111
def k0_off144 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_171 : BitVec 32 := 8#32
  let v310 : BitVec 32 := Scalar.muli arg14 c8_i32_171
  let c3_i32_172 : BitVec 32 := 3#32
  let v311 : BitVec 32 := Scalar.addi v310 c3_i32_172
  let v313 : Index := Scalar.indexCast v311
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_173 : BitVec 32 := 48#32
  let v312 : BitVec 32 := Scalar.addi v81 c48_i32_173
  let v314 : Index := Scalar.indexCast v312
  ![v313.toNat, v314.toNat]

def k0_chk112 (v316 : IVec S16 32) : Prop :=
  (∀ a x, ((![v316] : Fin 1 → IVec S16 32) a x).toNat < S65536.size a)
theorem k0_idx112_inb : ∀ (v316 : IVec S16 32) (k0_hw112 : k0_chk112 v316), ∀ a x, ((![v316] : Fin 1 → IVec S16 32) a x).toNat < S65536.size a := fun v316 k0_hw112 => k0_hw112
def k0_off145 (k0_t6 : Fin k0_t6_loop.trips) : Fin 2 → Nat :=
  let c48_i32_174 : BitVec 32 := 48#32
  let c0_i32_76 : BitVec 32 := 0#32
  let c1_i32_78 : BitVec 32 := 1#32
  let arg14 : BitVec 32 := Scf.iv c0_i32_76 c1_i32_78 k0_t6
  let v317 : BitVec 32 := Scalar.addi c48_i32_174 arg14
  let v318 : Index := Scalar.indexCast v317
  let c64 : Index := 64#32
  ![v318.toNat, 64]
def k0_off146 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_175 : BitVec 32 := 8#32
  let v320 : BitVec 32 := Scalar.muli arg14 c8_i32_175
  let c4_i32_176 : BitVec 32 := 4#32
  let v321 : BitVec 32 := Scalar.addi v320 c4_i32_176
  let v323 : Index := Scalar.indexCast v321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_177 : BitVec 32 := 0#32
  let v322 : BitVec 32 := Scalar.addi v81 c0_i32_177
  let v324 : Index := Scalar.indexCast v322
  ![v323.toNat, v324.toNat]

def k0_chk113 (v326 : IVec S16 32) : Prop :=
  (∀ a x, ((![v326] : Fin 1 → IVec S16 32) a x).toNat < S65536.size a)
theorem k0_idx113_inb : ∀ (v326 : IVec S16 32) (k0_hw113 : k0_chk113 v326), ∀ a x, ((![v326] : Fin 1 → IVec S16 32) a x).toNat < S65536.size a := fun v326 k0_hw113 => k0_hw113
def k0_off147 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_178 : BitVec 32 := 8#32
  let v327 : BitVec 32 := Scalar.muli arg14 c8_i32_178
  let c4_i32_179 : BitVec 32 := 4#32
  let v328 : BitVec 32 := Scalar.addi v327 c4_i32_179
  let v330 : Index := Scalar.indexCast v328
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_180 : BitVec 32 := 16#32
  let v329 : BitVec 32 := Scalar.addi v81 c16_i32_180
  let v331 : Index := Scalar.indexCast v329
  ![v330.toNat, v331.toNat]

def k0_chk114 (v333 : IVec S16 32) : Prop :=
  (∀ a x, ((![v333] : Fin 1 → IVec S16 32) a x).toNat < S65536.size a)
theorem k0_idx114_inb : ∀ (v333 : IVec S16 32) (k0_hw114 : k0_chk114 v333), ∀ a x, ((![v333] : Fin 1 → IVec S16 32) a x).toNat < S65536.size a := fun v333 k0_hw114 => k0_hw114
def k0_off148 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_181 : BitVec 32 := 8#32
  let v334 : BitVec 32 := Scalar.muli arg14 c8_i32_181
  let c4_i32_182 : BitVec 32 := 4#32
  let v335 : BitVec 32 := Scalar.addi v334 c4_i32_182
  let v337 : Index := Scalar.indexCast v335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_183 : BitVec 32 := 32#32
  let v336 : BitVec 32 := Scalar.addi v81 c32_i32_183
  let v338 : Index := Scalar.indexCast v336
  ![v337.toNat, v338.toNat]

def k0_chk115 (v340 : IVec S16 32) : Prop :=
  (∀ a x, ((![v340] : Fin 1 → IVec S16 32) a x).toNat < S65536.size a)
theorem k0_idx115_inb : ∀ (v340 : IVec S16 32) (k0_hw115 : k0_chk115 v340), ∀ a x, ((![v340] : Fin 1 → IVec S16 32) a x).toNat < S65536.size a := fun v340 k0_hw115 => k0_hw115
def k0_off149 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_184 : BitVec 32 := 8#32
  let v341 : BitVec 32 := Scalar.muli arg14 c8_i32_184
  let c4_i32_185 : BitVec 32 := 4#32
  let v342 : BitVec 32 := Scalar.addi v341 c4_i32_185
  let v344 : Index := Scalar.indexCast v342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_186 : BitVec 32 := 48#32
  let v343 : BitVec 32 := Scalar.addi v81 c48_i32_186
  let v345 : Index := Scalar.indexCast v343
  ![v344.toNat, v345.toNat]

def k0_chk116 (v347 : IVec S16 32) : Prop :=
  (∀ a x, ((![v347] : Fin 1 → IVec S16 32) a x).toNat < S65536.size a)
theorem k0_idx116_inb : ∀ (v347 : IVec S16 32) (k0_hw116 : k0_chk116 v347), ∀ a x, ((![v347] : Fin 1 → IVec S16 32) a x).toNat < S65536.size a := fun v347 k0_hw116 => k0_hw116
def k0_off150 (k0_t6 : Fin k0_t6_loop.trips) : Fin 2 → Nat :=
  let c48_i32_187 : BitVec 32 := 48#32
  let c0_i32_76 : BitVec 32 := 0#32
  let c1_i32_78 : BitVec 32 := 1#32
  let arg14 : BitVec 32 := Scf.iv c0_i32_76 c1_i32_78 k0_t6
  let v348 : BitVec 32 := Scalar.addi c48_i32_187 arg14
  let v349 : Index := Scalar.indexCast v348
  let c80 : Index := 80#32
  ![v349.toNat, 80]
def k0_off151 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_188 : BitVec 32 := 8#32
  let v351 : BitVec 32 := Scalar.muli arg14 c8_i32_188
  let c5_i32 : BitVec 32 := 5#32
  let v352 : BitVec 32 := Scalar.addi v351 c5_i32
  let v354 : Index := Scalar.indexCast v352
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_189 : BitVec 32 := 0#32
  let v353 : BitVec 32 := Scalar.addi v81 c0_i32_189
  let v355 : Index := Scalar.indexCast v353
  ![v354.toNat, v355.toNat]

def k0_chk117 (v357 : IVec S16 32) : Prop :=
  (∀ a x, ((![v357] : Fin 1 → IVec S16 32) a x).toNat < S65536.size a)
theorem k0_idx117_inb : ∀ (v357 : IVec S16 32) (k0_hw117 : k0_chk117 v357), ∀ a x, ((![v357] : Fin 1 → IVec S16 32) a x).toNat < S65536.size a := fun v357 k0_hw117 => k0_hw117
def k0_off152 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_190 : BitVec 32 := 8#32
  let v358 : BitVec 32 := Scalar.muli arg14 c8_i32_190
  let c5_i32_191 : BitVec 32 := 5#32
  let v359 : BitVec 32 := Scalar.addi v358 c5_i32_191
  let v361 : Index := Scalar.indexCast v359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_192 : BitVec 32 := 16#32
  let v360 : BitVec 32 := Scalar.addi v81 c16_i32_192
  let v362 : Index := Scalar.indexCast v360
  ![v361.toNat, v362.toNat]

def k0_chk118 (v364 : IVec S16 32) : Prop :=
  (∀ a x, ((![v364] : Fin 1 → IVec S16 32) a x).toNat < S65536.size a)
theorem k0_idx118_inb : ∀ (v364 : IVec S16 32) (k0_hw118 : k0_chk118 v364), ∀ a x, ((![v364] : Fin 1 → IVec S16 32) a x).toNat < S65536.size a := fun v364 k0_hw118 => k0_hw118
def k0_off153 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_193 : BitVec 32 := 8#32
  let v365 : BitVec 32 := Scalar.muli arg14 c8_i32_193
  let c5_i32_194 : BitVec 32 := 5#32
  let v366 : BitVec 32 := Scalar.addi v365 c5_i32_194
  let v368 : Index := Scalar.indexCast v366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_195 : BitVec 32 := 32#32
  let v367 : BitVec 32 := Scalar.addi v81 c32_i32_195
  let v369 : Index := Scalar.indexCast v367
  ![v368.toNat, v369.toNat]

def k0_chk119 (v371 : IVec S16 32) : Prop :=
  (∀ a x, ((![v371] : Fin 1 → IVec S16 32) a x).toNat < S65536.size a)
theorem k0_idx119_inb : ∀ (v371 : IVec S16 32) (k0_hw119 : k0_chk119 v371), ∀ a x, ((![v371] : Fin 1 → IVec S16 32) a x).toNat < S65536.size a := fun v371 k0_hw119 => k0_hw119
def k0_off154 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_196 : BitVec 32 := 8#32
  let v372 : BitVec 32 := Scalar.muli arg14 c8_i32_196
  let c5_i32_197 : BitVec 32 := 5#32
  let v373 : BitVec 32 := Scalar.addi v372 c5_i32_197
  let v375 : Index := Scalar.indexCast v373
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_198 : BitVec 32 := 48#32
  let v374 : BitVec 32 := Scalar.addi v81 c48_i32_198
  let v376 : Index := Scalar.indexCast v374
  ![v375.toNat, v376.toNat]

def k0_chk120 (v378 : IVec S16 32) : Prop :=
  (∀ a x, ((![v378] : Fin 1 → IVec S16 32) a x).toNat < S65536.size a)
theorem k0_idx120_inb : ∀ (v378 : IVec S16 32) (k0_hw120 : k0_chk120 v378), ∀ a x, ((![v378] : Fin 1 → IVec S16 32) a x).toNat < S65536.size a := fun v378 k0_hw120 => k0_hw120
def k0_off155 (k0_t6 : Fin k0_t6_loop.trips) : Fin 2 → Nat :=
  let c48_i32_199 : BitVec 32 := 48#32
  let c0_i32_76 : BitVec 32 := 0#32
  let c1_i32_78 : BitVec 32 := 1#32
  let arg14 : BitVec 32 := Scf.iv c0_i32_76 c1_i32_78 k0_t6
  let v379 : BitVec 32 := Scalar.addi c48_i32_199 arg14
  let v380 : Index := Scalar.indexCast v379
  let c96 : Index := 96#32
  ![v380.toNat, 96]
def k0_off156 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_200 : BitVec 32 := 8#32
  let v382 : BitVec 32 := Scalar.muli arg14 c8_i32_200
  let c6_i32 : BitVec 32 := 6#32
  let v383 : BitVec 32 := Scalar.addi v382 c6_i32
  let v385 : Index := Scalar.indexCast v383
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_201 : BitVec 32 := 0#32
  let v384 : BitVec 32 := Scalar.addi v81 c0_i32_201
  let v386 : Index := Scalar.indexCast v384
  ![v385.toNat, v386.toNat]

def k0_chk121 (v388 : IVec S16 32) : Prop :=
  (∀ a x, ((![v388] : Fin 1 → IVec S16 32) a x).toNat < S65536.size a)
theorem k0_idx121_inb : ∀ (v388 : IVec S16 32) (k0_hw121 : k0_chk121 v388), ∀ a x, ((![v388] : Fin 1 → IVec S16 32) a x).toNat < S65536.size a := fun v388 k0_hw121 => k0_hw121
def k0_off157 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_202 : BitVec 32 := 8#32
  let v389 : BitVec 32 := Scalar.muli arg14 c8_i32_202
  let c6_i32_203 : BitVec 32 := 6#32
  let v390 : BitVec 32 := Scalar.addi v389 c6_i32_203
  let v392 : Index := Scalar.indexCast v390
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_204 : BitVec 32 := 16#32
  let v391 : BitVec 32 := Scalar.addi v81 c16_i32_204
  let v393 : Index := Scalar.indexCast v391
  ![v392.toNat, v393.toNat]

def k0_chk122 (v395 : IVec S16 32) : Prop :=
  (∀ a x, ((![v395] : Fin 1 → IVec S16 32) a x).toNat < S65536.size a)
theorem k0_idx122_inb : ∀ (v395 : IVec S16 32) (k0_hw122 : k0_chk122 v395), ∀ a x, ((![v395] : Fin 1 → IVec S16 32) a x).toNat < S65536.size a := fun v395 k0_hw122 => k0_hw122
def k0_off158 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_205 : BitVec 32 := 8#32
  let v396 : BitVec 32 := Scalar.muli arg14 c8_i32_205
  let c6_i32_206 : BitVec 32 := 6#32
  let v397 : BitVec 32 := Scalar.addi v396 c6_i32_206
  let v399 : Index := Scalar.indexCast v397
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_207 : BitVec 32 := 32#32
  let v398 : BitVec 32 := Scalar.addi v81 c32_i32_207
  let v400 : Index := Scalar.indexCast v398
  ![v399.toNat, v400.toNat]

def k0_chk123 (v402 : IVec S16 32) : Prop :=
  (∀ a x, ((![v402] : Fin 1 → IVec S16 32) a x).toNat < S65536.size a)
theorem k0_idx123_inb : ∀ (v402 : IVec S16 32) (k0_hw123 : k0_chk123 v402), ∀ a x, ((![v402] : Fin 1 → IVec S16 32) a x).toNat < S65536.size a := fun v402 k0_hw123 => k0_hw123
def k0_off159 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_208 : BitVec 32 := 8#32
  let v403 : BitVec 32 := Scalar.muli arg14 c8_i32_208
  let c6_i32_209 : BitVec 32 := 6#32
  let v404 : BitVec 32 := Scalar.addi v403 c6_i32_209
  let v406 : Index := Scalar.indexCast v404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_210 : BitVec 32 := 48#32
  let v405 : BitVec 32 := Scalar.addi v81 c48_i32_210
  let v407 : Index := Scalar.indexCast v405
  ![v406.toNat, v407.toNat]

def k0_chk124 (v409 : IVec S16 32) : Prop :=
  (∀ a x, ((![v409] : Fin 1 → IVec S16 32) a x).toNat < S65536.size a)
theorem k0_idx124_inb : ∀ (v409 : IVec S16 32) (k0_hw124 : k0_chk124 v409), ∀ a x, ((![v409] : Fin 1 → IVec S16 32) a x).toNat < S65536.size a := fun v409 k0_hw124 => k0_hw124
def k0_off160 (k0_t6 : Fin k0_t6_loop.trips) : Fin 2 → Nat :=
  let c48_i32_211 : BitVec 32 := 48#32
  let c0_i32_76 : BitVec 32 := 0#32
  let c1_i32_78 : BitVec 32 := 1#32
  let arg14 : BitVec 32 := Scf.iv c0_i32_76 c1_i32_78 k0_t6
  let v410 : BitVec 32 := Scalar.addi c48_i32_211 arg14
  let v411 : Index := Scalar.indexCast v410
  let c112 : Index := 112#32
  ![v411.toNat, 112]
def k0_off161 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_212 : BitVec 32 := 8#32
  let v413 : BitVec 32 := Scalar.muli arg14 c8_i32_212
  let c7_i32 : BitVec 32 := 7#32
  let v414 : BitVec 32 := Scalar.addi v413 c7_i32
  let v416 : Index := Scalar.indexCast v414
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_213 : BitVec 32 := 0#32
  let v415 : BitVec 32 := Scalar.addi v81 c0_i32_213
  let v417 : Index := Scalar.indexCast v415
  ![v416.toNat, v417.toNat]

def k0_chk125 (v419 : IVec S16 32) : Prop :=
  (∀ a x, ((![v419] : Fin 1 → IVec S16 32) a x).toNat < S65536.size a)
theorem k0_idx125_inb : ∀ (v419 : IVec S16 32) (k0_hw125 : k0_chk125 v419), ∀ a x, ((![v419] : Fin 1 → IVec S16 32) a x).toNat < S65536.size a := fun v419 k0_hw125 => k0_hw125
def k0_off162 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_214 : BitVec 32 := 8#32
  let v420 : BitVec 32 := Scalar.muli arg14 c8_i32_214
  let c7_i32_215 : BitVec 32 := 7#32
  let v421 : BitVec 32 := Scalar.addi v420 c7_i32_215
  let v423 : Index := Scalar.indexCast v421
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_216 : BitVec 32 := 16#32
  let v422 : BitVec 32 := Scalar.addi v81 c16_i32_216
  let v424 : Index := Scalar.indexCast v422
  ![v423.toNat, v424.toNat]

def k0_chk126 (v426 : IVec S16 32) : Prop :=
  (∀ a x, ((![v426] : Fin 1 → IVec S16 32) a x).toNat < S65536.size a)
theorem k0_idx126_inb : ∀ (v426 : IVec S16 32) (k0_hw126 : k0_chk126 v426), ∀ a x, ((![v426] : Fin 1 → IVec S16 32) a x).toNat < S65536.size a := fun v426 k0_hw126 => k0_hw126
def k0_off163 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_217 : BitVec 32 := 8#32
  let v427 : BitVec 32 := Scalar.muli arg14 c8_i32_217
  let c7_i32_218 : BitVec 32 := 7#32
  let v428 : BitVec 32 := Scalar.addi v427 c7_i32_218
  let v430 : Index := Scalar.indexCast v428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_219 : BitVec 32 := 32#32
  let v429 : BitVec 32 := Scalar.addi v81 c32_i32_219
  let v431 : Index := Scalar.indexCast v429
  ![v430.toNat, v431.toNat]

def k0_chk127 (v433 : IVec S16 32) : Prop :=
  (∀ a x, ((![v433] : Fin 1 → IVec S16 32) a x).toNat < S65536.size a)
theorem k0_idx127_inb : ∀ (v433 : IVec S16 32) (k0_hw127 : k0_chk127 v433), ∀ a x, ((![v433] : Fin 1 → IVec S16 32) a x).toNat < S65536.size a := fun v433 k0_hw127 => k0_hw127
def k0_off164 (i : grid0.Coords) (k0_t6 : Fin k0_t6_loop.trips) : Fin 2 → Nat :=
  let c0_i32_76 : BitVec 32 := 0#32
  let c1_i32_78 : BitVec 32 := 1#32
  let arg14 : BitVec 32 := Scf.iv c0_i32_76 c1_i32_78 k0_t6
  let c8_i32_220 : BitVec 32 := 8#32
  let v434 : BitVec 32 := Scalar.muli arg14 c8_i32_220
  let c7_i32_221 : BitVec 32 := 7#32
  let v435 : BitVec 32 := Scalar.addi v434 c7_i32_221
  let v437 : Index := Scalar.indexCast v435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_222 : BitVec 32 := 48#32
  let v436 : BitVec 32 := Scalar.addi v81 c48_i32_222
  let v438 : Index := Scalar.indexCast v436
  ![v437.toNat, v438.toNat]

def k0_chk128 (v440 : IVec S16 32) : Prop :=
  (∀ a x, ((![v440] : Fin 1 → IVec S16 32) a x).toNat < S65536.size a)
theorem k0_idx128_inb : ∀ (v440 : IVec S16 32) (k0_hw128 : k0_chk128 v440), ∀ a x, ((![v440] : Fin 1 → IVec S16 32) a x).toNat < S65536.size a := fun v440 k0_hw128 => k0_hw128
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c640_i32 : BitVec 32 := 640#32
  let v146 : BitVec 32 := Scalar.addi v20 c640_i32
  v146
@[reducible] def k0_t7_loop : Scf.Loop 32 :=
  let c0_i32_85 : BitVec 32 := 0#32
  let c16_i32_86 : BitVec 32 := 16#32
  let v152 : BitVec 32 := Scalar.addi c0_i32_85 c16_i32_86
  let c1_i32_87 : BitVec 32 := 1#32
  ⟨c0_i32_85, v152, c1_i32_87⟩
def k0_off165 (k0_t7 : Fin k0_t7_loop.trips) : Fin 2 → Nat :=
  let c64_i32_123 : BitVec 32 := 64#32
  let c0_i32_85 : BitVec 32 := 0#32
  let c1_i32_87 : BitVec 32 := 1#32
  let arg14 : BitVec 32 := Scf.iv c0_i32_85 c1_i32_87 k0_t7
  let v193 : BitVec 32 := Scalar.addi c64_i32_123 arg14
  let v194 : Index := Scalar.indexCast v193
  let c0 : Index := 0#32
  ![v194.toNat, 0]
def k0_off166 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_124 : BitVec 32 := 8#32
  let v196 : BitVec 32 := Scalar.muli arg14 c8_i32_124
  let c0_i32_125 : BitVec 32 := 0#32
  let v197 : BitVec 32 := Scalar.addi v196 c0_i32_125
  let v199 : Index := Scalar.indexCast v197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_126 : BitVec 32 := 0#32
  let v198 : BitVec 32 := Scalar.addi v81 c0_i32_126
  let v200 : Index := Scalar.indexCast v198
  ![v199.toNat, v200.toNat]

def k0_chk129 (v202 : IVec S16 32) : Prop :=
  (∀ a x, ((![v202] : Fin 1 → IVec S16 32) a x).toNat < S65536.size a)
theorem k0_idx129_inb : ∀ (v202 : IVec S16 32) (k0_hw129 : k0_chk129 v202), ∀ a x, ((![v202] : Fin 1 → IVec S16 32) a x).toNat < S65536.size a := fun v202 k0_hw129 => k0_hw129
def k0_off167 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_127 : BitVec 32 := 8#32
  let v203 : BitVec 32 := Scalar.muli arg14 c8_i32_127
  let c0_i32_128 : BitVec 32 := 0#32
  let v204 : BitVec 32 := Scalar.addi v203 c0_i32_128
  let v206 : Index := Scalar.indexCast v204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_129 : BitVec 32 := 16#32
  let v205 : BitVec 32 := Scalar.addi v81 c16_i32_129
  let v207 : Index := Scalar.indexCast v205
  ![v206.toNat, v207.toNat]

def k0_chk130 (v209 : IVec S16 32) : Prop :=
  (∀ a x, ((![v209] : Fin 1 → IVec S16 32) a x).toNat < S65536.size a)
theorem k0_idx130_inb : ∀ (v209 : IVec S16 32) (k0_hw130 : k0_chk130 v209), ∀ a x, ((![v209] : Fin 1 → IVec S16 32) a x).toNat < S65536.size a := fun v209 k0_hw130 => k0_hw130
def k0_off168 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_130 : BitVec 32 := 8#32
  let v210 : BitVec 32 := Scalar.muli arg14 c8_i32_130
  let c0_i32_131 : BitVec 32 := 0#32
  let v211 : BitVec 32 := Scalar.addi v210 c0_i32_131
  let v213 : Index := Scalar.indexCast v211
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_132 : BitVec 32 := 32#32
  let v212 : BitVec 32 := Scalar.addi v81 c32_i32_132
  let v214 : Index := Scalar.indexCast v212
  ![v213.toNat, v214.toNat]

def k0_chk131 (v216 : IVec S16 32) : Prop :=
  (∀ a x, ((![v216] : Fin 1 → IVec S16 32) a x).toNat < S65536.size a)
theorem k0_idx131_inb : ∀ (v216 : IVec S16 32) (k0_hw131 : k0_chk131 v216), ∀ a x, ((![v216] : Fin 1 → IVec S16 32) a x).toNat < S65536.size a := fun v216 k0_hw131 => k0_hw131
def k0_off169 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_133 : BitVec 32 := 8#32
  let v217 : BitVec 32 := Scalar.muli arg14 c8_i32_133
  let c0_i32_134 : BitVec 32 := 0#32
  let v218 : BitVec 32 := Scalar.addi v217 c0_i32_134
  let v220 : Index := Scalar.indexCast v218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_135 : BitVec 32 := 48#32
  let v219 : BitVec 32 := Scalar.addi v81 c48_i32_135
  let v221 : Index := Scalar.indexCast v219
  ![v220.toNat, v221.toNat]

def k0_chk132 (v223 : IVec S16 32) : Prop :=
  (∀ a x, ((![v223] : Fin 1 → IVec S16 32) a x).toNat < S65536.size a)
theorem k0_idx132_inb : ∀ (v223 : IVec S16 32) (k0_hw132 : k0_chk132 v223), ∀ a x, ((![v223] : Fin 1 → IVec S16 32) a x).toNat < S65536.size a := fun v223 k0_hw132 => k0_hw132
def k0_off170 (k0_t7 : Fin k0_t7_loop.trips) : Fin 2 → Nat :=
  let c64_i32_136 : BitVec 32 := 64#32
  let c0_i32_85 : BitVec 32 := 0#32
  let c1_i32_87 : BitVec 32 := 1#32
  let arg14 : BitVec 32 := Scf.iv c0_i32_85 c1_i32_87 k0_t7
  let v224 : BitVec 32 := Scalar.addi c64_i32_136 arg14
  let v225 : Index := Scalar.indexCast v224
  let c16 : Index := 16#32
  ![v225.toNat, 16]
def k0_off171 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_137 : BitVec 32 := 8#32
  let v227 : BitVec 32 := Scalar.muli arg14 c8_i32_137
  let c1_i32_138 : BitVec 32 := 1#32
  let v228 : BitVec 32 := Scalar.addi v227 c1_i32_138
  let v230 : Index := Scalar.indexCast v228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_139 : BitVec 32 := 0#32
  let v229 : BitVec 32 := Scalar.addi v81 c0_i32_139
  let v231 : Index := Scalar.indexCast v229
  ![v230.toNat, v231.toNat]

def k0_chk133 (v233 : IVec S16 32) : Prop :=
  (∀ a x, ((![v233] : Fin 1 → IVec S16 32) a x).toNat < S65536.size a)
theorem k0_idx133_inb : ∀ (v233 : IVec S16 32) (k0_hw133 : k0_chk133 v233), ∀ a x, ((![v233] : Fin 1 → IVec S16 32) a x).toNat < S65536.size a := fun v233 k0_hw133 => k0_hw133
def k0_off172 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_140 : BitVec 32 := 8#32
  let v234 : BitVec 32 := Scalar.muli arg14 c8_i32_140
  let c1_i32_141 : BitVec 32 := 1#32
  let v235 : BitVec 32 := Scalar.addi v234 c1_i32_141
  let v237 : Index := Scalar.indexCast v235
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_142 : BitVec 32 := 16#32
  let v236 : BitVec 32 := Scalar.addi v81 c16_i32_142
  let v238 : Index := Scalar.indexCast v236
  ![v237.toNat, v238.toNat]

def k0_chk134 (v240 : IVec S16 32) : Prop :=
  (∀ a x, ((![v240] : Fin 1 → IVec S16 32) a x).toNat < S65536.size a)
theorem k0_idx134_inb : ∀ (v240 : IVec S16 32) (k0_hw134 : k0_chk134 v240), ∀ a x, ((![v240] : Fin 1 → IVec S16 32) a x).toNat < S65536.size a := fun v240 k0_hw134 => k0_hw134
def k0_off173 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_143 : BitVec 32 := 8#32
  let v241 : BitVec 32 := Scalar.muli arg14 c8_i32_143
  let c1_i32_144 : BitVec 32 := 1#32
  let v242 : BitVec 32 := Scalar.addi v241 c1_i32_144
  let v244 : Index := Scalar.indexCast v242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_145 : BitVec 32 := 32#32
  let v243 : BitVec 32 := Scalar.addi v81 c32_i32_145
  let v245 : Index := Scalar.indexCast v243
  ![v244.toNat, v245.toNat]

def k0_chk135 (v247 : IVec S16 32) : Prop :=
  (∀ a x, ((![v247] : Fin 1 → IVec S16 32) a x).toNat < S65536.size a)
theorem k0_idx135_inb : ∀ (v247 : IVec S16 32) (k0_hw135 : k0_chk135 v247), ∀ a x, ((![v247] : Fin 1 → IVec S16 32) a x).toNat < S65536.size a := fun v247 k0_hw135 => k0_hw135
def k0_off174 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_146 : BitVec 32 := 8#32
  let v248 : BitVec 32 := Scalar.muli arg14 c8_i32_146
  let c1_i32_147 : BitVec 32 := 1#32
  let v249 : BitVec 32 := Scalar.addi v248 c1_i32_147
  let v251 : Index := Scalar.indexCast v249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_148 : BitVec 32 := 48#32
  let v250 : BitVec 32 := Scalar.addi v81 c48_i32_148
  let v252 : Index := Scalar.indexCast v250
  ![v251.toNat, v252.toNat]

def k0_chk136 (v254 : IVec S16 32) : Prop :=
  (∀ a x, ((![v254] : Fin 1 → IVec S16 32) a x).toNat < S65536.size a)
theorem k0_idx136_inb : ∀ (v254 : IVec S16 32) (k0_hw136 : k0_chk136 v254), ∀ a x, ((![v254] : Fin 1 → IVec S16 32) a x).toNat < S65536.size a := fun v254 k0_hw136 => k0_hw136
def k0_off175 (k0_t7 : Fin k0_t7_loop.trips) : Fin 2 → Nat :=
  let c64_i32_149 : BitVec 32 := 64#32
  let c0_i32_85 : BitVec 32 := 0#32
  let c1_i32_87 : BitVec 32 := 1#32
  let arg14 : BitVec 32 := Scf.iv c0_i32_85 c1_i32_87 k0_t7
  let v255 : BitVec 32 := Scalar.addi c64_i32_149 arg14
  let v256 : Index := Scalar.indexCast v255
  let c32 : Index := 32#32
  ![v256.toNat, 32]
def k0_off176 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_150 : BitVec 32 := 8#32
  let v258 : BitVec 32 := Scalar.muli arg14 c8_i32_150
  let c2_i32_151 : BitVec 32 := 2#32
  let v259 : BitVec 32 := Scalar.addi v258 c2_i32_151
  let v261 : Index := Scalar.indexCast v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_152 : BitVec 32 := 0#32
  let v260 : BitVec 32 := Scalar.addi v81 c0_i32_152
  let v262 : Index := Scalar.indexCast v260
  ![v261.toNat, v262.toNat]

def k0_chk137 (v264 : IVec S16 32) : Prop :=
  (∀ a x, ((![v264] : Fin 1 → IVec S16 32) a x).toNat < S65536.size a)
theorem k0_idx137_inb : ∀ (v264 : IVec S16 32) (k0_hw137 : k0_chk137 v264), ∀ a x, ((![v264] : Fin 1 → IVec S16 32) a x).toNat < S65536.size a := fun v264 k0_hw137 => k0_hw137
def k0_off177 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_153 : BitVec 32 := 8#32
  let v265 : BitVec 32 := Scalar.muli arg14 c8_i32_153
  let c2_i32_154 : BitVec 32 := 2#32
  let v266 : BitVec 32 := Scalar.addi v265 c2_i32_154
  let v268 : Index := Scalar.indexCast v266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_155 : BitVec 32 := 16#32
  let v267 : BitVec 32 := Scalar.addi v81 c16_i32_155
  let v269 : Index := Scalar.indexCast v267
  ![v268.toNat, v269.toNat]

def k0_chk138 (v271 : IVec S16 32) : Prop :=
  (∀ a x, ((![v271] : Fin 1 → IVec S16 32) a x).toNat < S65536.size a)
theorem k0_idx138_inb : ∀ (v271 : IVec S16 32) (k0_hw138 : k0_chk138 v271), ∀ a x, ((![v271] : Fin 1 → IVec S16 32) a x).toNat < S65536.size a := fun v271 k0_hw138 => k0_hw138
def k0_off178 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_156 : BitVec 32 := 8#32
  let v272 : BitVec 32 := Scalar.muli arg14 c8_i32_156
  let c2_i32_157 : BitVec 32 := 2#32
  let v273 : BitVec 32 := Scalar.addi v272 c2_i32_157
  let v275 : Index := Scalar.indexCast v273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_158 : BitVec 32 := 32#32
  let v274 : BitVec 32 := Scalar.addi v81 c32_i32_158
  let v276 : Index := Scalar.indexCast v274
  ![v275.toNat, v276.toNat]

def k0_chk139 (v278 : IVec S16 32) : Prop :=
  (∀ a x, ((![v278] : Fin 1 → IVec S16 32) a x).toNat < S65536.size a)
theorem k0_idx139_inb : ∀ (v278 : IVec S16 32) (k0_hw139 : k0_chk139 v278), ∀ a x, ((![v278] : Fin 1 → IVec S16 32) a x).toNat < S65536.size a := fun v278 k0_hw139 => k0_hw139
def k0_off179 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_159 : BitVec 32 := 8#32
  let v279 : BitVec 32 := Scalar.muli arg14 c8_i32_159
  let c2_i32_160 : BitVec 32 := 2#32
  let v280 : BitVec 32 := Scalar.addi v279 c2_i32_160
  let v282 : Index := Scalar.indexCast v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_161 : BitVec 32 := 48#32
  let v281 : BitVec 32 := Scalar.addi v81 c48_i32_161
  let v283 : Index := Scalar.indexCast v281
  ![v282.toNat, v283.toNat]

def k0_chk140 (v285 : IVec S16 32) : Prop :=
  (∀ a x, ((![v285] : Fin 1 → IVec S16 32) a x).toNat < S65536.size a)
theorem k0_idx140_inb : ∀ (v285 : IVec S16 32) (k0_hw140 : k0_chk140 v285), ∀ a x, ((![v285] : Fin 1 → IVec S16 32) a x).toNat < S65536.size a := fun v285 k0_hw140 => k0_hw140
def k0_off180 (k0_t7 : Fin k0_t7_loop.trips) : Fin 2 → Nat :=
  let c64_i32_162 : BitVec 32 := 64#32
  let c0_i32_85 : BitVec 32 := 0#32
  let c1_i32_87 : BitVec 32 := 1#32
  let arg14 : BitVec 32 := Scf.iv c0_i32_85 c1_i32_87 k0_t7
  let v286 : BitVec 32 := Scalar.addi c64_i32_162 arg14
  let v287 : Index := Scalar.indexCast v286
  let c48 : Index := 48#32
  ![v287.toNat, 48]
def k0_off181 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_163 : BitVec 32 := 8#32
  let v289 : BitVec 32 := Scalar.muli arg14 c8_i32_163
  let c3_i32 : BitVec 32 := 3#32
  let v290 : BitVec 32 := Scalar.addi v289 c3_i32
  let v292 : Index := Scalar.indexCast v290
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_164 : BitVec 32 := 0#32
  let v291 : BitVec 32 := Scalar.addi v81 c0_i32_164
  let v293 : Index := Scalar.indexCast v291
  ![v292.toNat, v293.toNat]

def k0_chk141 (v295 : IVec S16 32) : Prop :=
  (∀ a x, ((![v295] : Fin 1 → IVec S16 32) a x).toNat < S65536.size a)
theorem k0_idx141_inb : ∀ (v295 : IVec S16 32) (k0_hw141 : k0_chk141 v295), ∀ a x, ((![v295] : Fin 1 → IVec S16 32) a x).toNat < S65536.size a := fun v295 k0_hw141 => k0_hw141
def k0_off182 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_165 : BitVec 32 := 8#32
  let v296 : BitVec 32 := Scalar.muli arg14 c8_i32_165
  let c3_i32_166 : BitVec 32 := 3#32
  let v297 : BitVec 32 := Scalar.addi v296 c3_i32_166
  let v299 : Index := Scalar.indexCast v297
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_167 : BitVec 32 := 16#32
  let v298 : BitVec 32 := Scalar.addi v81 c16_i32_167
  let v300 : Index := Scalar.indexCast v298
  ![v299.toNat, v300.toNat]

def k0_chk142 (v302 : IVec S16 32) : Prop :=
  (∀ a x, ((![v302] : Fin 1 → IVec S16 32) a x).toNat < S65536.size a)
theorem k0_idx142_inb : ∀ (v302 : IVec S16 32) (k0_hw142 : k0_chk142 v302), ∀ a x, ((![v302] : Fin 1 → IVec S16 32) a x).toNat < S65536.size a := fun v302 k0_hw142 => k0_hw142
def k0_off183 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_168 : BitVec 32 := 8#32
  let v303 : BitVec 32 := Scalar.muli arg14 c8_i32_168
  let c3_i32_169 : BitVec 32 := 3#32
  let v304 : BitVec 32 := Scalar.addi v303 c3_i32_169
  let v306 : Index := Scalar.indexCast v304
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_170 : BitVec 32 := 32#32
  let v305 : BitVec 32 := Scalar.addi v81 c32_i32_170
  let v307 : Index := Scalar.indexCast v305
  ![v306.toNat, v307.toNat]

def k0_chk143 (v309 : IVec S16 32) : Prop :=
  (∀ a x, ((![v309] : Fin 1 → IVec S16 32) a x).toNat < S65536.size a)
theorem k0_idx143_inb : ∀ (v309 : IVec S16 32) (k0_hw143 : k0_chk143 v309), ∀ a x, ((![v309] : Fin 1 → IVec S16 32) a x).toNat < S65536.size a := fun v309 k0_hw143 => k0_hw143
def k0_off184 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_171 : BitVec 32 := 8#32
  let v310 : BitVec 32 := Scalar.muli arg14 c8_i32_171
  let c3_i32_172 : BitVec 32 := 3#32
  let v311 : BitVec 32 := Scalar.addi v310 c3_i32_172
  let v313 : Index := Scalar.indexCast v311
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_173 : BitVec 32 := 48#32
  let v312 : BitVec 32 := Scalar.addi v81 c48_i32_173
  let v314 : Index := Scalar.indexCast v312
  ![v313.toNat, v314.toNat]

def k0_chk144 (v316 : IVec S16 32) : Prop :=
  (∀ a x, ((![v316] : Fin 1 → IVec S16 32) a x).toNat < S65536.size a)
theorem k0_idx144_inb : ∀ (v316 : IVec S16 32) (k0_hw144 : k0_chk144 v316), ∀ a x, ((![v316] : Fin 1 → IVec S16 32) a x).toNat < S65536.size a := fun v316 k0_hw144 => k0_hw144
def k0_off185 (k0_t7 : Fin k0_t7_loop.trips) : Fin 2 → Nat :=
  let c64_i32_174 : BitVec 32 := 64#32
  let c0_i32_85 : BitVec 32 := 0#32
  let c1_i32_87 : BitVec 32 := 1#32
  let arg14 : BitVec 32 := Scf.iv c0_i32_85 c1_i32_87 k0_t7
  let v317 : BitVec 32 := Scalar.addi c64_i32_174 arg14
  let v318 : Index := Scalar.indexCast v317
  let c64 : Index := 64#32
  ![v318.toNat, 64]
def k0_off186 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_175 : BitVec 32 := 8#32
  let v320 : BitVec 32 := Scalar.muli arg14 c8_i32_175
  let c4_i32_176 : BitVec 32 := 4#32
  let v321 : BitVec 32 := Scalar.addi v320 c4_i32_176
  let v323 : Index := Scalar.indexCast v321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_177 : BitVec 32 := 0#32
  let v322 : BitVec 32 := Scalar.addi v81 c0_i32_177
  let v324 : Index := Scalar.indexCast v322
  ![v323.toNat, v324.toNat]

def k0_chk145 (v326 : IVec S16 32) : Prop :=
  (∀ a x, ((![v326] : Fin 1 → IVec S16 32) a x).toNat < S65536.size a)
theorem k0_idx145_inb : ∀ (v326 : IVec S16 32) (k0_hw145 : k0_chk145 v326), ∀ a x, ((![v326] : Fin 1 → IVec S16 32) a x).toNat < S65536.size a := fun v326 k0_hw145 => k0_hw145
def k0_off187 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_178 : BitVec 32 := 8#32
  let v327 : BitVec 32 := Scalar.muli arg14 c8_i32_178
  let c4_i32_179 : BitVec 32 := 4#32
  let v328 : BitVec 32 := Scalar.addi v327 c4_i32_179
  let v330 : Index := Scalar.indexCast v328
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_180 : BitVec 32 := 16#32
  let v329 : BitVec 32 := Scalar.addi v81 c16_i32_180
  let v331 : Index := Scalar.indexCast v329
  ![v330.toNat, v331.toNat]

def k0_chk146 (v333 : IVec S16 32) : Prop :=
  (∀ a x, ((![v333] : Fin 1 → IVec S16 32) a x).toNat < S65536.size a)
theorem k0_idx146_inb : ∀ (v333 : IVec S16 32) (k0_hw146 : k0_chk146 v333), ∀ a x, ((![v333] : Fin 1 → IVec S16 32) a x).toNat < S65536.size a := fun v333 k0_hw146 => k0_hw146
def k0_off188 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_181 : BitVec 32 := 8#32
  let v334 : BitVec 32 := Scalar.muli arg14 c8_i32_181
  let c4_i32_182 : BitVec 32 := 4#32
  let v335 : BitVec 32 := Scalar.addi v334 c4_i32_182
  let v337 : Index := Scalar.indexCast v335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_183 : BitVec 32 := 32#32
  let v336 : BitVec 32 := Scalar.addi v81 c32_i32_183
  let v338 : Index := Scalar.indexCast v336
  ![v337.toNat, v338.toNat]

def k0_chk147 (v340 : IVec S16 32) : Prop :=
  (∀ a x, ((![v340] : Fin 1 → IVec S16 32) a x).toNat < S65536.size a)
theorem k0_idx147_inb : ∀ (v340 : IVec S16 32) (k0_hw147 : k0_chk147 v340), ∀ a x, ((![v340] : Fin 1 → IVec S16 32) a x).toNat < S65536.size a := fun v340 k0_hw147 => k0_hw147
def k0_off189 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_184 : BitVec 32 := 8#32
  let v341 : BitVec 32 := Scalar.muli arg14 c8_i32_184
  let c4_i32_185 : BitVec 32 := 4#32
  let v342 : BitVec 32 := Scalar.addi v341 c4_i32_185
  let v344 : Index := Scalar.indexCast v342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_186 : BitVec 32 := 48#32
  let v343 : BitVec 32 := Scalar.addi v81 c48_i32_186
  let v345 : Index := Scalar.indexCast v343
  ![v344.toNat, v345.toNat]

def k0_chk148 (v347 : IVec S16 32) : Prop :=
  (∀ a x, ((![v347] : Fin 1 → IVec S16 32) a x).toNat < S65536.size a)
theorem k0_idx148_inb : ∀ (v347 : IVec S16 32) (k0_hw148 : k0_chk148 v347), ∀ a x, ((![v347] : Fin 1 → IVec S16 32) a x).toNat < S65536.size a := fun v347 k0_hw148 => k0_hw148
def k0_off190 (k0_t7 : Fin k0_t7_loop.trips) : Fin 2 → Nat :=
  let c64_i32_187 : BitVec 32 := 64#32
  let c0_i32_85 : BitVec 32 := 0#32
  let c1_i32_87 : BitVec 32 := 1#32
  let arg14 : BitVec 32 := Scf.iv c0_i32_85 c1_i32_87 k0_t7
  let v348 : BitVec 32 := Scalar.addi c64_i32_187 arg14
  let v349 : Index := Scalar.indexCast v348
  let c80 : Index := 80#32
  ![v349.toNat, 80]
def k0_off191 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_188 : BitVec 32 := 8#32
  let v351 : BitVec 32 := Scalar.muli arg14 c8_i32_188
  let c5_i32 : BitVec 32 := 5#32
  let v352 : BitVec 32 := Scalar.addi v351 c5_i32
  let v354 : Index := Scalar.indexCast v352
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_189 : BitVec 32 := 0#32
  let v353 : BitVec 32 := Scalar.addi v81 c0_i32_189
  let v355 : Index := Scalar.indexCast v353
  ![v354.toNat, v355.toNat]

def k0_chk149 (v357 : IVec S16 32) : Prop :=
  (∀ a x, ((![v357] : Fin 1 → IVec S16 32) a x).toNat < S65536.size a)
theorem k0_idx149_inb : ∀ (v357 : IVec S16 32) (k0_hw149 : k0_chk149 v357), ∀ a x, ((![v357] : Fin 1 → IVec S16 32) a x).toNat < S65536.size a := fun v357 k0_hw149 => k0_hw149
def k0_off192 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_190 : BitVec 32 := 8#32
  let v358 : BitVec 32 := Scalar.muli arg14 c8_i32_190
  let c5_i32_191 : BitVec 32 := 5#32
  let v359 : BitVec 32 := Scalar.addi v358 c5_i32_191
  let v361 : Index := Scalar.indexCast v359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_192 : BitVec 32 := 16#32
  let v360 : BitVec 32 := Scalar.addi v81 c16_i32_192
  let v362 : Index := Scalar.indexCast v360
  ![v361.toNat, v362.toNat]

def k0_chk150 (v364 : IVec S16 32) : Prop :=
  (∀ a x, ((![v364] : Fin 1 → IVec S16 32) a x).toNat < S65536.size a)
theorem k0_idx150_inb : ∀ (v364 : IVec S16 32) (k0_hw150 : k0_chk150 v364), ∀ a x, ((![v364] : Fin 1 → IVec S16 32) a x).toNat < S65536.size a := fun v364 k0_hw150 => k0_hw150
def k0_off193 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_193 : BitVec 32 := 8#32
  let v365 : BitVec 32 := Scalar.muli arg14 c8_i32_193
  let c5_i32_194 : BitVec 32 := 5#32
  let v366 : BitVec 32 := Scalar.addi v365 c5_i32_194
  let v368 : Index := Scalar.indexCast v366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_195 : BitVec 32 := 32#32
  let v367 : BitVec 32 := Scalar.addi v81 c32_i32_195
  let v369 : Index := Scalar.indexCast v367
  ![v368.toNat, v369.toNat]

def k0_chk151 (v371 : IVec S16 32) : Prop :=
  (∀ a x, ((![v371] : Fin 1 → IVec S16 32) a x).toNat < S65536.size a)
theorem k0_idx151_inb : ∀ (v371 : IVec S16 32) (k0_hw151 : k0_chk151 v371), ∀ a x, ((![v371] : Fin 1 → IVec S16 32) a x).toNat < S65536.size a := fun v371 k0_hw151 => k0_hw151
def k0_off194 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_196 : BitVec 32 := 8#32
  let v372 : BitVec 32 := Scalar.muli arg14 c8_i32_196
  let c5_i32_197 : BitVec 32 := 5#32
  let v373 : BitVec 32 := Scalar.addi v372 c5_i32_197
  let v375 : Index := Scalar.indexCast v373
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_198 : BitVec 32 := 48#32
  let v374 : BitVec 32 := Scalar.addi v81 c48_i32_198
  let v376 : Index := Scalar.indexCast v374
  ![v375.toNat, v376.toNat]

def k0_chk152 (v378 : IVec S16 32) : Prop :=
  (∀ a x, ((![v378] : Fin 1 → IVec S16 32) a x).toNat < S65536.size a)
theorem k0_idx152_inb : ∀ (v378 : IVec S16 32) (k0_hw152 : k0_chk152 v378), ∀ a x, ((![v378] : Fin 1 → IVec S16 32) a x).toNat < S65536.size a := fun v378 k0_hw152 => k0_hw152
def k0_off195 (k0_t7 : Fin k0_t7_loop.trips) : Fin 2 → Nat :=
  let c64_i32_199 : BitVec 32 := 64#32
  let c0_i32_85 : BitVec 32 := 0#32
  let c1_i32_87 : BitVec 32 := 1#32
  let arg14 : BitVec 32 := Scf.iv c0_i32_85 c1_i32_87 k0_t7
  let v379 : BitVec 32 := Scalar.addi c64_i32_199 arg14
  let v380 : Index := Scalar.indexCast v379
  let c96 : Index := 96#32
  ![v380.toNat, 96]
def k0_off196 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_200 : BitVec 32 := 8#32
  let v382 : BitVec 32 := Scalar.muli arg14 c8_i32_200
  let c6_i32 : BitVec 32 := 6#32
  let v383 : BitVec 32 := Scalar.addi v382 c6_i32
  let v385 : Index := Scalar.indexCast v383
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_201 : BitVec 32 := 0#32
  let v384 : BitVec 32 := Scalar.addi v81 c0_i32_201
  let v386 : Index := Scalar.indexCast v384
  ![v385.toNat, v386.toNat]

def k0_chk153 (v388 : IVec S16 32) : Prop :=
  (∀ a x, ((![v388] : Fin 1 → IVec S16 32) a x).toNat < S65536.size a)
theorem k0_idx153_inb : ∀ (v388 : IVec S16 32) (k0_hw153 : k0_chk153 v388), ∀ a x, ((![v388] : Fin 1 → IVec S16 32) a x).toNat < S65536.size a := fun v388 k0_hw153 => k0_hw153
def k0_off197 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_202 : BitVec 32 := 8#32
  let v389 : BitVec 32 := Scalar.muli arg14 c8_i32_202
  let c6_i32_203 : BitVec 32 := 6#32
  let v390 : BitVec 32 := Scalar.addi v389 c6_i32_203
  let v392 : Index := Scalar.indexCast v390
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_204 : BitVec 32 := 16#32
  let v391 : BitVec 32 := Scalar.addi v81 c16_i32_204
  let v393 : Index := Scalar.indexCast v391
  ![v392.toNat, v393.toNat]

def k0_chk154 (v395 : IVec S16 32) : Prop :=
  (∀ a x, ((![v395] : Fin 1 → IVec S16 32) a x).toNat < S65536.size a)
theorem k0_idx154_inb : ∀ (v395 : IVec S16 32) (k0_hw154 : k0_chk154 v395), ∀ a x, ((![v395] : Fin 1 → IVec S16 32) a x).toNat < S65536.size a := fun v395 k0_hw154 => k0_hw154
def k0_off198 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_205 : BitVec 32 := 8#32
  let v396 : BitVec 32 := Scalar.muli arg14 c8_i32_205
  let c6_i32_206 : BitVec 32 := 6#32
  let v397 : BitVec 32 := Scalar.addi v396 c6_i32_206
  let v399 : Index := Scalar.indexCast v397
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_207 : BitVec 32 := 32#32
  let v398 : BitVec 32 := Scalar.addi v81 c32_i32_207
  let v400 : Index := Scalar.indexCast v398
  ![v399.toNat, v400.toNat]

def k0_chk155 (v402 : IVec S16 32) : Prop :=
  (∀ a x, ((![v402] : Fin 1 → IVec S16 32) a x).toNat < S65536.size a)
theorem k0_idx155_inb : ∀ (v402 : IVec S16 32) (k0_hw155 : k0_chk155 v402), ∀ a x, ((![v402] : Fin 1 → IVec S16 32) a x).toNat < S65536.size a := fun v402 k0_hw155 => k0_hw155
def k0_off199 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_208 : BitVec 32 := 8#32
  let v403 : BitVec 32 := Scalar.muli arg14 c8_i32_208
  let c6_i32_209 : BitVec 32 := 6#32
  let v404 : BitVec 32 := Scalar.addi v403 c6_i32_209
  let v406 : Index := Scalar.indexCast v404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_210 : BitVec 32 := 48#32
  let v405 : BitVec 32 := Scalar.addi v81 c48_i32_210
  let v407 : Index := Scalar.indexCast v405
  ![v406.toNat, v407.toNat]

def k0_chk156 (v409 : IVec S16 32) : Prop :=
  (∀ a x, ((![v409] : Fin 1 → IVec S16 32) a x).toNat < S65536.size a)
theorem k0_idx156_inb : ∀ (v409 : IVec S16 32) (k0_hw156 : k0_chk156 v409), ∀ a x, ((![v409] : Fin 1 → IVec S16 32) a x).toNat < S65536.size a := fun v409 k0_hw156 => k0_hw156
def k0_off200 (k0_t7 : Fin k0_t7_loop.trips) : Fin 2 → Nat :=
  let c64_i32_211 : BitVec 32 := 64#32
  let c0_i32_85 : BitVec 32 := 0#32
  let c1_i32_87 : BitVec 32 := 1#32
  let arg14 : BitVec 32 := Scf.iv c0_i32_85 c1_i32_87 k0_t7
  let v410 : BitVec 32 := Scalar.addi c64_i32_211 arg14
  let v411 : Index := Scalar.indexCast v410
  let c112 : Index := 112#32
  ![v411.toNat, 112]
def k0_off201 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_212 : BitVec 32 := 8#32
  let v413 : BitVec 32 := Scalar.muli arg14 c8_i32_212
  let c7_i32 : BitVec 32 := 7#32
  let v414 : BitVec 32 := Scalar.addi v413 c7_i32
  let v416 : Index := Scalar.indexCast v414
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_213 : BitVec 32 := 0#32
  let v415 : BitVec 32 := Scalar.addi v81 c0_i32_213
  let v417 : Index := Scalar.indexCast v415
  ![v416.toNat, v417.toNat]

def k0_chk157 (v419 : IVec S16 32) : Prop :=
  (∀ a x, ((![v419] : Fin 1 → IVec S16 32) a x).toNat < S65536.size a)
theorem k0_idx157_inb : ∀ (v419 : IVec S16 32) (k0_hw157 : k0_chk157 v419), ∀ a x, ((![v419] : Fin 1 → IVec S16 32) a x).toNat < S65536.size a := fun v419 k0_hw157 => k0_hw157
def k0_off202 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_214 : BitVec 32 := 8#32
  let v420 : BitVec 32 := Scalar.muli arg14 c8_i32_214
  let c7_i32_215 : BitVec 32 := 7#32
  let v421 : BitVec 32 := Scalar.addi v420 c7_i32_215
  let v423 : Index := Scalar.indexCast v421
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_216 : BitVec 32 := 16#32
  let v422 : BitVec 32 := Scalar.addi v81 c16_i32_216
  let v424 : Index := Scalar.indexCast v422
  ![v423.toNat, v424.toNat]

def k0_chk158 (v426 : IVec S16 32) : Prop :=
  (∀ a x, ((![v426] : Fin 1 → IVec S16 32) a x).toNat < S65536.size a)
theorem k0_idx158_inb : ∀ (v426 : IVec S16 32) (k0_hw158 : k0_chk158 v426), ∀ a x, ((![v426] : Fin 1 → IVec S16 32) a x).toNat < S65536.size a := fun v426 k0_hw158 => k0_hw158
def k0_off203 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_217 : BitVec 32 := 8#32
  let v427 : BitVec 32 := Scalar.muli arg14 c8_i32_217
  let c7_i32_218 : BitVec 32 := 7#32
  let v428 : BitVec 32 := Scalar.addi v427 c7_i32_218
  let v430 : Index := Scalar.indexCast v428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_219 : BitVec 32 := 32#32
  let v429 : BitVec 32 := Scalar.addi v81 c32_i32_219
  let v431 : Index := Scalar.indexCast v429
  ![v430.toNat, v431.toNat]

def k0_chk159 (v433 : IVec S16 32) : Prop :=
  (∀ a x, ((![v433] : Fin 1 → IVec S16 32) a x).toNat < S65536.size a)
theorem k0_idx159_inb : ∀ (v433 : IVec S16 32) (k0_hw159 : k0_chk159 v433), ∀ a x, ((![v433] : Fin 1 → IVec S16 32) a x).toNat < S65536.size a := fun v433 k0_hw159 => k0_hw159
def k0_off204 (i : grid0.Coords) (k0_t7 : Fin k0_t7_loop.trips) : Fin 2 → Nat :=
  let c0_i32_85 : BitVec 32 := 0#32
  let c1_i32_87 : BitVec 32 := 1#32
  let arg14 : BitVec 32 := Scf.iv c0_i32_85 c1_i32_87 k0_t7
  let c8_i32_220 : BitVec 32 := 8#32
  let v434 : BitVec 32 := Scalar.muli arg14 c8_i32_220
  let c7_i32_221 : BitVec 32 := 7#32
  let v435 : BitVec 32 := Scalar.addi v434 c7_i32_221
  let v437 : Index := Scalar.indexCast v435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_222 : BitVec 32 := 48#32
  let v436 : BitVec 32 := Scalar.addi v81 c48_i32_222
  let v438 : Index := Scalar.indexCast v436
  ![v437.toNat, v438.toNat]

def k0_chk160 (v440 : IVec S16 32) : Prop :=
  (∀ a x, ((![v440] : Fin 1 → IVec S16 32) a x).toNat < S65536.size a)
theorem k0_idx160_inb : ∀ (v440 : IVec S16 32) (k0_hw160 : k0_chk160 v440), ∀ a x, ((![v440] : Fin 1 → IVec S16 32) a x).toNat < S65536.size a := fun v440 k0_hw160 => k0_hw160
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c768_i32 : BitVec 32 := 768#32
  let v158 : BitVec 32 := Scalar.addi v20 c768_i32
  v158
@[reducible] def k0_t8_loop : Scf.Loop 32 :=
  let c0_i32_94 : BitVec 32 := 0#32
  let c16_i32_95 : BitVec 32 := 16#32
  let v164 : BitVec 32 := Scalar.addi c0_i32_94 c16_i32_95
  let c1_i32_96 : BitVec 32 := 1#32
  ⟨c0_i32_94, v164, c1_i32_96⟩
def k0_off205 (k0_t8 : Fin k0_t8_loop.trips) : Fin 2 → Nat :=
  let c80_i32 : BitVec 32 := 80#32
  let c0_i32_94 : BitVec 32 := 0#32
  let c1_i32_96 : BitVec 32 := 1#32
  let arg14 : BitVec 32 := Scf.iv c0_i32_94 c1_i32_96 k0_t8
  let v193 : BitVec 32 := Scalar.addi c80_i32 arg14
  let v194 : Index := Scalar.indexCast v193
  let c0 : Index := 0#32
  ![v194.toNat, 0]
def k0_off206 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_123 : BitVec 32 := 8#32
  let v196 : BitVec 32 := Scalar.muli arg14 c8_i32_123
  let c0_i32_124 : BitVec 32 := 0#32
  let v197 : BitVec 32 := Scalar.addi v196 c0_i32_124
  let v199 : Index := Scalar.indexCast v197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_125 : BitVec 32 := 0#32
  let v198 : BitVec 32 := Scalar.addi v81 c0_i32_125
  let v200 : Index := Scalar.indexCast v198
  ![v199.toNat, v200.toNat]

def k0_chk161 (v202 : IVec S16 32) : Prop :=
  (∀ a x, ((![v202] : Fin 1 → IVec S16 32) a x).toNat < S65536.size a)
theorem k0_idx161_inb : ∀ (v202 : IVec S16 32) (k0_hw161 : k0_chk161 v202), ∀ a x, ((![v202] : Fin 1 → IVec S16 32) a x).toNat < S65536.size a := fun v202 k0_hw161 => k0_hw161
def k0_off207 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_126 : BitVec 32 := 8#32
  let v203 : BitVec 32 := Scalar.muli arg14 c8_i32_126
  let c0_i32_127 : BitVec 32 := 0#32
  let v204 : BitVec 32 := Scalar.addi v203 c0_i32_127
  let v206 : Index := Scalar.indexCast v204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_128 : BitVec 32 := 16#32
  let v205 : BitVec 32 := Scalar.addi v81 c16_i32_128
  let v207 : Index := Scalar.indexCast v205
  ![v206.toNat, v207.toNat]

def k0_chk162 (v209 : IVec S16 32) : Prop :=
  (∀ a x, ((![v209] : Fin 1 → IVec S16 32) a x).toNat < S65536.size a)
theorem k0_idx162_inb : ∀ (v209 : IVec S16 32) (k0_hw162 : k0_chk162 v209), ∀ a x, ((![v209] : Fin 1 → IVec S16 32) a x).toNat < S65536.size a := fun v209 k0_hw162 => k0_hw162
def k0_off208 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_129 : BitVec 32 := 8#32
  let v210 : BitVec 32 := Scalar.muli arg14 c8_i32_129
  let c0_i32_130 : BitVec 32 := 0#32
  let v211 : BitVec 32 := Scalar.addi v210 c0_i32_130
  let v213 : Index := Scalar.indexCast v211
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_131 : BitVec 32 := 32#32
  let v212 : BitVec 32 := Scalar.addi v81 c32_i32_131
  let v214 : Index := Scalar.indexCast v212
  ![v213.toNat, v214.toNat]

def k0_chk163 (v216 : IVec S16 32) : Prop :=
  (∀ a x, ((![v216] : Fin 1 → IVec S16 32) a x).toNat < S65536.size a)
theorem k0_idx163_inb : ∀ (v216 : IVec S16 32) (k0_hw163 : k0_chk163 v216), ∀ a x, ((![v216] : Fin 1 → IVec S16 32) a x).toNat < S65536.size a := fun v216 k0_hw163 => k0_hw163
def k0_off209 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_132 : BitVec 32 := 8#32
  let v217 : BitVec 32 := Scalar.muli arg14 c8_i32_132
  let c0_i32_133 : BitVec 32 := 0#32
  let v218 : BitVec 32 := Scalar.addi v217 c0_i32_133
  let v220 : Index := Scalar.indexCast v218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_134 : BitVec 32 := 48#32
  let v219 : BitVec 32 := Scalar.addi v81 c48_i32_134
  let v221 : Index := Scalar.indexCast v219
  ![v220.toNat, v221.toNat]

def k0_chk164 (v223 : IVec S16 32) : Prop :=
  (∀ a x, ((![v223] : Fin 1 → IVec S16 32) a x).toNat < S65536.size a)
theorem k0_idx164_inb : ∀ (v223 : IVec S16 32) (k0_hw164 : k0_chk164 v223), ∀ a x, ((![v223] : Fin 1 → IVec S16 32) a x).toNat < S65536.size a := fun v223 k0_hw164 => k0_hw164
def k0_off210 (k0_t8 : Fin k0_t8_loop.trips) : Fin 2 → Nat :=
  let c80_i32_135 : BitVec 32 := 80#32
  let c0_i32_94 : BitVec 32 := 0#32
  let c1_i32_96 : BitVec 32 := 1#32
  let arg14 : BitVec 32 := Scf.iv c0_i32_94 c1_i32_96 k0_t8
  let v224 : BitVec 32 := Scalar.addi c80_i32_135 arg14
  let v225 : Index := Scalar.indexCast v224
  let c16 : Index := 16#32
  ![v225.toNat, 16]
def k0_off211 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_136 : BitVec 32 := 8#32
  let v227 : BitVec 32 := Scalar.muli arg14 c8_i32_136
  let c1_i32_137 : BitVec 32 := 1#32
  let v228 : BitVec 32 := Scalar.addi v227 c1_i32_137
  let v230 : Index := Scalar.indexCast v228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_138 : BitVec 32 := 0#32
  let v229 : BitVec 32 := Scalar.addi v81 c0_i32_138
  let v231 : Index := Scalar.indexCast v229
  ![v230.toNat, v231.toNat]

def k0_chk165 (v233 : IVec S16 32) : Prop :=
  (∀ a x, ((![v233] : Fin 1 → IVec S16 32) a x).toNat < S65536.size a)
theorem k0_idx165_inb : ∀ (v233 : IVec S16 32) (k0_hw165 : k0_chk165 v233), ∀ a x, ((![v233] : Fin 1 → IVec S16 32) a x).toNat < S65536.size a := fun v233 k0_hw165 => k0_hw165
def k0_off212 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_139 : BitVec 32 := 8#32
  let v234 : BitVec 32 := Scalar.muli arg14 c8_i32_139
  let c1_i32_140 : BitVec 32 := 1#32
  let v235 : BitVec 32 := Scalar.addi v234 c1_i32_140
  let v237 : Index := Scalar.indexCast v235
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_141 : BitVec 32 := 16#32
  let v236 : BitVec 32 := Scalar.addi v81 c16_i32_141
  let v238 : Index := Scalar.indexCast v236
  ![v237.toNat, v238.toNat]

def k0_chk166 (v240 : IVec S16 32) : Prop :=
  (∀ a x, ((![v240] : Fin 1 → IVec S16 32) a x).toNat < S65536.size a)
theorem k0_idx166_inb : ∀ (v240 : IVec S16 32) (k0_hw166 : k0_chk166 v240), ∀ a x, ((![v240] : Fin 1 → IVec S16 32) a x).toNat < S65536.size a := fun v240 k0_hw166 => k0_hw166
def k0_off213 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_142 : BitVec 32 := 8#32
  let v241 : BitVec 32 := Scalar.muli arg14 c8_i32_142
  let c1_i32_143 : BitVec 32 := 1#32
  let v242 : BitVec 32 := Scalar.addi v241 c1_i32_143
  let v244 : Index := Scalar.indexCast v242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_144 : BitVec 32 := 32#32
  let v243 : BitVec 32 := Scalar.addi v81 c32_i32_144
  let v245 : Index := Scalar.indexCast v243
  ![v244.toNat, v245.toNat]

def k0_chk167 (v247 : IVec S16 32) : Prop :=
  (∀ a x, ((![v247] : Fin 1 → IVec S16 32) a x).toNat < S65536.size a)
theorem k0_idx167_inb : ∀ (v247 : IVec S16 32) (k0_hw167 : k0_chk167 v247), ∀ a x, ((![v247] : Fin 1 → IVec S16 32) a x).toNat < S65536.size a := fun v247 k0_hw167 => k0_hw167
def k0_off214 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_145 : BitVec 32 := 8#32
  let v248 : BitVec 32 := Scalar.muli arg14 c8_i32_145
  let c1_i32_146 : BitVec 32 := 1#32
  let v249 : BitVec 32 := Scalar.addi v248 c1_i32_146
  let v251 : Index := Scalar.indexCast v249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_147 : BitVec 32 := 48#32
  let v250 : BitVec 32 := Scalar.addi v81 c48_i32_147
  let v252 : Index := Scalar.indexCast v250
  ![v251.toNat, v252.toNat]

def k0_chk168 (v254 : IVec S16 32) : Prop :=
  (∀ a x, ((![v254] : Fin 1 → IVec S16 32) a x).toNat < S65536.size a)
theorem k0_idx168_inb : ∀ (v254 : IVec S16 32) (k0_hw168 : k0_chk168 v254), ∀ a x, ((![v254] : Fin 1 → IVec S16 32) a x).toNat < S65536.size a := fun v254 k0_hw168 => k0_hw168
def k0_off215 (k0_t8 : Fin k0_t8_loop.trips) : Fin 2 → Nat :=
  let c80_i32_148 : BitVec 32 := 80#32
  let c0_i32_94 : BitVec 32 := 0#32
  let c1_i32_96 : BitVec 32 := 1#32
  let arg14 : BitVec 32 := Scf.iv c0_i32_94 c1_i32_96 k0_t8
  let v255 : BitVec 32 := Scalar.addi c80_i32_148 arg14
  let v256 : Index := Scalar.indexCast v255
  let c32 : Index := 32#32
  ![v256.toNat, 32]
def k0_off216 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_149 : BitVec 32 := 8#32
  let v258 : BitVec 32 := Scalar.muli arg14 c8_i32_149
  let c2_i32_150 : BitVec 32 := 2#32
  let v259 : BitVec 32 := Scalar.addi v258 c2_i32_150
  let v261 : Index := Scalar.indexCast v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_151 : BitVec 32 := 0#32
  let v260 : BitVec 32 := Scalar.addi v81 c0_i32_151
  let v262 : Index := Scalar.indexCast v260
  ![v261.toNat, v262.toNat]

def k0_chk169 (v264 : IVec S16 32) : Prop :=
  (∀ a x, ((![v264] : Fin 1 → IVec S16 32) a x).toNat < S65536.size a)
theorem k0_idx169_inb : ∀ (v264 : IVec S16 32) (k0_hw169 : k0_chk169 v264), ∀ a x, ((![v264] : Fin 1 → IVec S16 32) a x).toNat < S65536.size a := fun v264 k0_hw169 => k0_hw169
def k0_off217 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_152 : BitVec 32 := 8#32
  let v265 : BitVec 32 := Scalar.muli arg14 c8_i32_152
  let c2_i32_153 : BitVec 32 := 2#32
  let v266 : BitVec 32 := Scalar.addi v265 c2_i32_153
  let v268 : Index := Scalar.indexCast v266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_154 : BitVec 32 := 16#32
  let v267 : BitVec 32 := Scalar.addi v81 c16_i32_154
  let v269 : Index := Scalar.indexCast v267
  ![v268.toNat, v269.toNat]

def k0_chk170 (v271 : IVec S16 32) : Prop :=
  (∀ a x, ((![v271] : Fin 1 → IVec S16 32) a x).toNat < S65536.size a)
theorem k0_idx170_inb : ∀ (v271 : IVec S16 32) (k0_hw170 : k0_chk170 v271), ∀ a x, ((![v271] : Fin 1 → IVec S16 32) a x).toNat < S65536.size a := fun v271 k0_hw170 => k0_hw170
def k0_off218 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_155 : BitVec 32 := 8#32
  let v272 : BitVec 32 := Scalar.muli arg14 c8_i32_155
  let c2_i32_156 : BitVec 32 := 2#32
  let v273 : BitVec 32 := Scalar.addi v272 c2_i32_156
  let v275 : Index := Scalar.indexCast v273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_157 : BitVec 32 := 32#32
  let v274 : BitVec 32 := Scalar.addi v81 c32_i32_157
  let v276 : Index := Scalar.indexCast v274
  ![v275.toNat, v276.toNat]

def k0_chk171 (v278 : IVec S16 32) : Prop :=
  (∀ a x, ((![v278] : Fin 1 → IVec S16 32) a x).toNat < S65536.size a)
theorem k0_idx171_inb : ∀ (v278 : IVec S16 32) (k0_hw171 : k0_chk171 v278), ∀ a x, ((![v278] : Fin 1 → IVec S16 32) a x).toNat < S65536.size a := fun v278 k0_hw171 => k0_hw171
def k0_off219 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_158 : BitVec 32 := 8#32
  let v279 : BitVec 32 := Scalar.muli arg14 c8_i32_158
  let c2_i32_159 : BitVec 32 := 2#32
  let v280 : BitVec 32 := Scalar.addi v279 c2_i32_159
  let v282 : Index := Scalar.indexCast v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_160 : BitVec 32 := 48#32
  let v281 : BitVec 32 := Scalar.addi v81 c48_i32_160
  let v283 : Index := Scalar.indexCast v281
  ![v282.toNat, v283.toNat]

def k0_chk172 (v285 : IVec S16 32) : Prop :=
  (∀ a x, ((![v285] : Fin 1 → IVec S16 32) a x).toNat < S65536.size a)
theorem k0_idx172_inb : ∀ (v285 : IVec S16 32) (k0_hw172 : k0_chk172 v285), ∀ a x, ((![v285] : Fin 1 → IVec S16 32) a x).toNat < S65536.size a := fun v285 k0_hw172 => k0_hw172
def k0_off220 (k0_t8 : Fin k0_t8_loop.trips) : Fin 2 → Nat :=
  let c80_i32_161 : BitVec 32 := 80#32
  let c0_i32_94 : BitVec 32 := 0#32
  let c1_i32_96 : BitVec 32 := 1#32
  let arg14 : BitVec 32 := Scf.iv c0_i32_94 c1_i32_96 k0_t8
  let v286 : BitVec 32 := Scalar.addi c80_i32_161 arg14
  let v287 : Index := Scalar.indexCast v286
  let c48 : Index := 48#32
  ![v287.toNat, 48]
def k0_off221 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_162 : BitVec 32 := 8#32
  let v289 : BitVec 32 := Scalar.muli arg14 c8_i32_162
  let c3_i32 : BitVec 32 := 3#32
  let v290 : BitVec 32 := Scalar.addi v289 c3_i32
  let v292 : Index := Scalar.indexCast v290
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_163 : BitVec 32 := 0#32
  let v291 : BitVec 32 := Scalar.addi v81 c0_i32_163
  let v293 : Index := Scalar.indexCast v291
  ![v292.toNat, v293.toNat]

def k0_chk173 (v295 : IVec S16 32) : Prop :=
  (∀ a x, ((![v295] : Fin 1 → IVec S16 32) a x).toNat < S65536.size a)
theorem k0_idx173_inb : ∀ (v295 : IVec S16 32) (k0_hw173 : k0_chk173 v295), ∀ a x, ((![v295] : Fin 1 → IVec S16 32) a x).toNat < S65536.size a := fun v295 k0_hw173 => k0_hw173
def k0_off222 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_164 : BitVec 32 := 8#32
  let v296 : BitVec 32 := Scalar.muli arg14 c8_i32_164
  let c3_i32_165 : BitVec 32 := 3#32
  let v297 : BitVec 32 := Scalar.addi v296 c3_i32_165
  let v299 : Index := Scalar.indexCast v297
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_166 : BitVec 32 := 16#32
  let v298 : BitVec 32 := Scalar.addi v81 c16_i32_166
  let v300 : Index := Scalar.indexCast v298
  ![v299.toNat, v300.toNat]

def k0_chk174 (v302 : IVec S16 32) : Prop :=
  (∀ a x, ((![v302] : Fin 1 → IVec S16 32) a x).toNat < S65536.size a)
theorem k0_idx174_inb : ∀ (v302 : IVec S16 32) (k0_hw174 : k0_chk174 v302), ∀ a x, ((![v302] : Fin 1 → IVec S16 32) a x).toNat < S65536.size a := fun v302 k0_hw174 => k0_hw174
def k0_off223 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_167 : BitVec 32 := 8#32
  let v303 : BitVec 32 := Scalar.muli arg14 c8_i32_167
  let c3_i32_168 : BitVec 32 := 3#32
  let v304 : BitVec 32 := Scalar.addi v303 c3_i32_168
  let v306 : Index := Scalar.indexCast v304
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_169 : BitVec 32 := 32#32
  let v305 : BitVec 32 := Scalar.addi v81 c32_i32_169
  let v307 : Index := Scalar.indexCast v305
  ![v306.toNat, v307.toNat]

def k0_chk175 (v309 : IVec S16 32) : Prop :=
  (∀ a x, ((![v309] : Fin 1 → IVec S16 32) a x).toNat < S65536.size a)
theorem k0_idx175_inb : ∀ (v309 : IVec S16 32) (k0_hw175 : k0_chk175 v309), ∀ a x, ((![v309] : Fin 1 → IVec S16 32) a x).toNat < S65536.size a := fun v309 k0_hw175 => k0_hw175
def k0_off224 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_170 : BitVec 32 := 8#32
  let v310 : BitVec 32 := Scalar.muli arg14 c8_i32_170
  let c3_i32_171 : BitVec 32 := 3#32
  let v311 : BitVec 32 := Scalar.addi v310 c3_i32_171
  let v313 : Index := Scalar.indexCast v311
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_172 : BitVec 32 := 48#32
  let v312 : BitVec 32 := Scalar.addi v81 c48_i32_172
  let v314 : Index := Scalar.indexCast v312
  ![v313.toNat, v314.toNat]

def k0_chk176 (v316 : IVec S16 32) : Prop :=
  (∀ a x, ((![v316] : Fin 1 → IVec S16 32) a x).toNat < S65536.size a)
theorem k0_idx176_inb : ∀ (v316 : IVec S16 32) (k0_hw176 : k0_chk176 v316), ∀ a x, ((![v316] : Fin 1 → IVec S16 32) a x).toNat < S65536.size a := fun v316 k0_hw176 => k0_hw176
def k0_off225 (k0_t8 : Fin k0_t8_loop.trips) : Fin 2 → Nat :=
  let c80_i32_173 : BitVec 32 := 80#32
  let c0_i32_94 : BitVec 32 := 0#32
  let c1_i32_96 : BitVec 32 := 1#32
  let arg14 : BitVec 32 := Scf.iv c0_i32_94 c1_i32_96 k0_t8
  let v317 : BitVec 32 := Scalar.addi c80_i32_173 arg14
  let v318 : Index := Scalar.indexCast v317
  let c64 : Index := 64#32
  ![v318.toNat, 64]
def k0_off226 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_174 : BitVec 32 := 8#32
  let v320 : BitVec 32 := Scalar.muli arg14 c8_i32_174
  let c4_i32_175 : BitVec 32 := 4#32
  let v321 : BitVec 32 := Scalar.addi v320 c4_i32_175
  let v323 : Index := Scalar.indexCast v321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_176 : BitVec 32 := 0#32
  let v322 : BitVec 32 := Scalar.addi v81 c0_i32_176
  let v324 : Index := Scalar.indexCast v322
  ![v323.toNat, v324.toNat]

def k0_chk177 (v326 : IVec S16 32) : Prop :=
  (∀ a x, ((![v326] : Fin 1 → IVec S16 32) a x).toNat < S65536.size a)
theorem k0_idx177_inb : ∀ (v326 : IVec S16 32) (k0_hw177 : k0_chk177 v326), ∀ a x, ((![v326] : Fin 1 → IVec S16 32) a x).toNat < S65536.size a := fun v326 k0_hw177 => k0_hw177
def k0_off227 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_177 : BitVec 32 := 8#32
  let v327 : BitVec 32 := Scalar.muli arg14 c8_i32_177
  let c4_i32_178 : BitVec 32 := 4#32
  let v328 : BitVec 32 := Scalar.addi v327 c4_i32_178
  let v330 : Index := Scalar.indexCast v328
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_179 : BitVec 32 := 16#32
  let v329 : BitVec 32 := Scalar.addi v81 c16_i32_179
  let v331 : Index := Scalar.indexCast v329
  ![v330.toNat, v331.toNat]

def k0_chk178 (v333 : IVec S16 32) : Prop :=
  (∀ a x, ((![v333] : Fin 1 → IVec S16 32) a x).toNat < S65536.size a)
theorem k0_idx178_inb : ∀ (v333 : IVec S16 32) (k0_hw178 : k0_chk178 v333), ∀ a x, ((![v333] : Fin 1 → IVec S16 32) a x).toNat < S65536.size a := fun v333 k0_hw178 => k0_hw178
def k0_off228 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_180 : BitVec 32 := 8#32
  let v334 : BitVec 32 := Scalar.muli arg14 c8_i32_180
  let c4_i32_181 : BitVec 32 := 4#32
  let v335 : BitVec 32 := Scalar.addi v334 c4_i32_181
  let v337 : Index := Scalar.indexCast v335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_182 : BitVec 32 := 32#32
  let v336 : BitVec 32 := Scalar.addi v81 c32_i32_182
  let v338 : Index := Scalar.indexCast v336
  ![v337.toNat, v338.toNat]

def k0_chk179 (v340 : IVec S16 32) : Prop :=
  (∀ a x, ((![v340] : Fin 1 → IVec S16 32) a x).toNat < S65536.size a)
theorem k0_idx179_inb : ∀ (v340 : IVec S16 32) (k0_hw179 : k0_chk179 v340), ∀ a x, ((![v340] : Fin 1 → IVec S16 32) a x).toNat < S65536.size a := fun v340 k0_hw179 => k0_hw179
def k0_off229 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_183 : BitVec 32 := 8#32
  let v341 : BitVec 32 := Scalar.muli arg14 c8_i32_183
  let c4_i32_184 : BitVec 32 := 4#32
  let v342 : BitVec 32 := Scalar.addi v341 c4_i32_184
  let v344 : Index := Scalar.indexCast v342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_185 : BitVec 32 := 48#32
  let v343 : BitVec 32 := Scalar.addi v81 c48_i32_185
  let v345 : Index := Scalar.indexCast v343
  ![v344.toNat, v345.toNat]

def k0_chk180 (v347 : IVec S16 32) : Prop :=
  (∀ a x, ((![v347] : Fin 1 → IVec S16 32) a x).toNat < S65536.size a)
theorem k0_idx180_inb : ∀ (v347 : IVec S16 32) (k0_hw180 : k0_chk180 v347), ∀ a x, ((![v347] : Fin 1 → IVec S16 32) a x).toNat < S65536.size a := fun v347 k0_hw180 => k0_hw180
def k0_off230 (k0_t8 : Fin k0_t8_loop.trips) : Fin 2 → Nat :=
  let c80_i32_186 : BitVec 32 := 80#32
  let c0_i32_94 : BitVec 32 := 0#32
  let c1_i32_96 : BitVec 32 := 1#32
  let arg14 : BitVec 32 := Scf.iv c0_i32_94 c1_i32_96 k0_t8
  let v348 : BitVec 32 := Scalar.addi c80_i32_186 arg14
  let v349 : Index := Scalar.indexCast v348
  let c80 : Index := 80#32
  ![v349.toNat, 80]
def k0_off231 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_187 : BitVec 32 := 8#32
  let v351 : BitVec 32 := Scalar.muli arg14 c8_i32_187
  let c5_i32 : BitVec 32 := 5#32
  let v352 : BitVec 32 := Scalar.addi v351 c5_i32
  let v354 : Index := Scalar.indexCast v352
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_188 : BitVec 32 := 0#32
  let v353 : BitVec 32 := Scalar.addi v81 c0_i32_188
  let v355 : Index := Scalar.indexCast v353
  ![v354.toNat, v355.toNat]

def k0_chk181 (v357 : IVec S16 32) : Prop :=
  (∀ a x, ((![v357] : Fin 1 → IVec S16 32) a x).toNat < S65536.size a)
theorem k0_idx181_inb : ∀ (v357 : IVec S16 32) (k0_hw181 : k0_chk181 v357), ∀ a x, ((![v357] : Fin 1 → IVec S16 32) a x).toNat < S65536.size a := fun v357 k0_hw181 => k0_hw181
def k0_off232 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_189 : BitVec 32 := 8#32
  let v358 : BitVec 32 := Scalar.muli arg14 c8_i32_189
  let c5_i32_190 : BitVec 32 := 5#32
  let v359 : BitVec 32 := Scalar.addi v358 c5_i32_190
  let v361 : Index := Scalar.indexCast v359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_191 : BitVec 32 := 16#32
  let v360 : BitVec 32 := Scalar.addi v81 c16_i32_191
  let v362 : Index := Scalar.indexCast v360
  ![v361.toNat, v362.toNat]

def k0_chk182 (v364 : IVec S16 32) : Prop :=
  (∀ a x, ((![v364] : Fin 1 → IVec S16 32) a x).toNat < S65536.size a)
theorem k0_idx182_inb : ∀ (v364 : IVec S16 32) (k0_hw182 : k0_chk182 v364), ∀ a x, ((![v364] : Fin 1 → IVec S16 32) a x).toNat < S65536.size a := fun v364 k0_hw182 => k0_hw182
def k0_off233 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_192 : BitVec 32 := 8#32
  let v365 : BitVec 32 := Scalar.muli arg14 c8_i32_192
  let c5_i32_193 : BitVec 32 := 5#32
  let v366 : BitVec 32 := Scalar.addi v365 c5_i32_193
  let v368 : Index := Scalar.indexCast v366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_194 : BitVec 32 := 32#32
  let v367 : BitVec 32 := Scalar.addi v81 c32_i32_194
  let v369 : Index := Scalar.indexCast v367
  ![v368.toNat, v369.toNat]

def k0_chk183 (v371 : IVec S16 32) : Prop :=
  (∀ a x, ((![v371] : Fin 1 → IVec S16 32) a x).toNat < S65536.size a)
theorem k0_idx183_inb : ∀ (v371 : IVec S16 32) (k0_hw183 : k0_chk183 v371), ∀ a x, ((![v371] : Fin 1 → IVec S16 32) a x).toNat < S65536.size a := fun v371 k0_hw183 => k0_hw183
def k0_off234 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_195 : BitVec 32 := 8#32
  let v372 : BitVec 32 := Scalar.muli arg14 c8_i32_195
  let c5_i32_196 : BitVec 32 := 5#32
  let v373 : BitVec 32 := Scalar.addi v372 c5_i32_196
  let v375 : Index := Scalar.indexCast v373
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_197 : BitVec 32 := 48#32
  let v374 : BitVec 32 := Scalar.addi v81 c48_i32_197
  let v376 : Index := Scalar.indexCast v374
  ![v375.toNat, v376.toNat]

def k0_chk184 (v378 : IVec S16 32) : Prop :=
  (∀ a x, ((![v378] : Fin 1 → IVec S16 32) a x).toNat < S65536.size a)
theorem k0_idx184_inb : ∀ (v378 : IVec S16 32) (k0_hw184 : k0_chk184 v378), ∀ a x, ((![v378] : Fin 1 → IVec S16 32) a x).toNat < S65536.size a := fun v378 k0_hw184 => k0_hw184
def k0_off235 (k0_t8 : Fin k0_t8_loop.trips) : Fin 2 → Nat :=
  let c80_i32_198 : BitVec 32 := 80#32
  let c0_i32_94 : BitVec 32 := 0#32
  let c1_i32_96 : BitVec 32 := 1#32
  let arg14 : BitVec 32 := Scf.iv c0_i32_94 c1_i32_96 k0_t8
  let v379 : BitVec 32 := Scalar.addi c80_i32_198 arg14
  let v380 : Index := Scalar.indexCast v379
  let c96 : Index := 96#32
  ![v380.toNat, 96]
def k0_off236 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_199 : BitVec 32 := 8#32
  let v382 : BitVec 32 := Scalar.muli arg14 c8_i32_199
  let c6_i32 : BitVec 32 := 6#32
  let v383 : BitVec 32 := Scalar.addi v382 c6_i32
  let v385 : Index := Scalar.indexCast v383
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_200 : BitVec 32 := 0#32
  let v384 : BitVec 32 := Scalar.addi v81 c0_i32_200
  let v386 : Index := Scalar.indexCast v384
  ![v385.toNat, v386.toNat]

def k0_chk185 (v388 : IVec S16 32) : Prop :=
  (∀ a x, ((![v388] : Fin 1 → IVec S16 32) a x).toNat < S65536.size a)
theorem k0_idx185_inb : ∀ (v388 : IVec S16 32) (k0_hw185 : k0_chk185 v388), ∀ a x, ((![v388] : Fin 1 → IVec S16 32) a x).toNat < S65536.size a := fun v388 k0_hw185 => k0_hw185
def k0_off237 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_201 : BitVec 32 := 8#32
  let v389 : BitVec 32 := Scalar.muli arg14 c8_i32_201
  let c6_i32_202 : BitVec 32 := 6#32
  let v390 : BitVec 32 := Scalar.addi v389 c6_i32_202
  let v392 : Index := Scalar.indexCast v390
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_203 : BitVec 32 := 16#32
  let v391 : BitVec 32 := Scalar.addi v81 c16_i32_203
  let v393 : Index := Scalar.indexCast v391
  ![v392.toNat, v393.toNat]

def k0_chk186 (v395 : IVec S16 32) : Prop :=
  (∀ a x, ((![v395] : Fin 1 → IVec S16 32) a x).toNat < S65536.size a)
theorem k0_idx186_inb : ∀ (v395 : IVec S16 32) (k0_hw186 : k0_chk186 v395), ∀ a x, ((![v395] : Fin 1 → IVec S16 32) a x).toNat < S65536.size a := fun v395 k0_hw186 => k0_hw186
def k0_off238 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_204 : BitVec 32 := 8#32
  let v396 : BitVec 32 := Scalar.muli arg14 c8_i32_204
  let c6_i32_205 : BitVec 32 := 6#32
  let v397 : BitVec 32 := Scalar.addi v396 c6_i32_205
  let v399 : Index := Scalar.indexCast v397
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_206 : BitVec 32 := 32#32
  let v398 : BitVec 32 := Scalar.addi v81 c32_i32_206
  let v400 : Index := Scalar.indexCast v398
  ![v399.toNat, v400.toNat]

def k0_chk187 (v402 : IVec S16 32) : Prop :=
  (∀ a x, ((![v402] : Fin 1 → IVec S16 32) a x).toNat < S65536.size a)
theorem k0_idx187_inb : ∀ (v402 : IVec S16 32) (k0_hw187 : k0_chk187 v402), ∀ a x, ((![v402] : Fin 1 → IVec S16 32) a x).toNat < S65536.size a := fun v402 k0_hw187 => k0_hw187
def k0_off239 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_207 : BitVec 32 := 8#32
  let v403 : BitVec 32 := Scalar.muli arg14 c8_i32_207
  let c6_i32_208 : BitVec 32 := 6#32
  let v404 : BitVec 32 := Scalar.addi v403 c6_i32_208
  let v406 : Index := Scalar.indexCast v404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_209 : BitVec 32 := 48#32
  let v405 : BitVec 32 := Scalar.addi v81 c48_i32_209
  let v407 : Index := Scalar.indexCast v405
  ![v406.toNat, v407.toNat]

def k0_chk188 (v409 : IVec S16 32) : Prop :=
  (∀ a x, ((![v409] : Fin 1 → IVec S16 32) a x).toNat < S65536.size a)
theorem k0_idx188_inb : ∀ (v409 : IVec S16 32) (k0_hw188 : k0_chk188 v409), ∀ a x, ((![v409] : Fin 1 → IVec S16 32) a x).toNat < S65536.size a := fun v409 k0_hw188 => k0_hw188
def k0_off240 (k0_t8 : Fin k0_t8_loop.trips) : Fin 2 → Nat :=
  let c80_i32_210 : BitVec 32 := 80#32
  let c0_i32_94 : BitVec 32 := 0#32
  let c1_i32_96 : BitVec 32 := 1#32
  let arg14 : BitVec 32 := Scf.iv c0_i32_94 c1_i32_96 k0_t8
  let v410 : BitVec 32 := Scalar.addi c80_i32_210 arg14
  let v411 : Index := Scalar.indexCast v410
  let c112 : Index := 112#32
  ![v411.toNat, 112]
def k0_off241 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_211 : BitVec 32 := 8#32
  let v413 : BitVec 32 := Scalar.muli arg14 c8_i32_211
  let c7_i32 : BitVec 32 := 7#32
  let v414 : BitVec 32 := Scalar.addi v413 c7_i32
  let v416 : Index := Scalar.indexCast v414
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_212 : BitVec 32 := 0#32
  let v415 : BitVec 32 := Scalar.addi v81 c0_i32_212
  let v417 : Index := Scalar.indexCast v415
  ![v416.toNat, v417.toNat]

def k0_chk189 (v419 : IVec S16 32) : Prop :=
  (∀ a x, ((![v419] : Fin 1 → IVec S16 32) a x).toNat < S65536.size a)
theorem k0_idx189_inb : ∀ (v419 : IVec S16 32) (k0_hw189 : k0_chk189 v419), ∀ a x, ((![v419] : Fin 1 → IVec S16 32) a x).toNat < S65536.size a := fun v419 k0_hw189 => k0_hw189
def k0_off242 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_213 : BitVec 32 := 8#32
  let v420 : BitVec 32 := Scalar.muli arg14 c8_i32_213
  let c7_i32_214 : BitVec 32 := 7#32
  let v421 : BitVec 32 := Scalar.addi v420 c7_i32_214
  let v423 : Index := Scalar.indexCast v421
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_215 : BitVec 32 := 16#32
  let v422 : BitVec 32 := Scalar.addi v81 c16_i32_215
  let v424 : Index := Scalar.indexCast v422
  ![v423.toNat, v424.toNat]

def k0_chk190 (v426 : IVec S16 32) : Prop :=
  (∀ a x, ((![v426] : Fin 1 → IVec S16 32) a x).toNat < S65536.size a)
theorem k0_idx190_inb : ∀ (v426 : IVec S16 32) (k0_hw190 : k0_chk190 v426), ∀ a x, ((![v426] : Fin 1 → IVec S16 32) a x).toNat < S65536.size a := fun v426 k0_hw190 => k0_hw190
def k0_off243 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_216 : BitVec 32 := 8#32
  let v427 : BitVec 32 := Scalar.muli arg14 c8_i32_216
  let c7_i32_217 : BitVec 32 := 7#32
  let v428 : BitVec 32 := Scalar.addi v427 c7_i32_217
  let v430 : Index := Scalar.indexCast v428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_218 : BitVec 32 := 32#32
  let v429 : BitVec 32 := Scalar.addi v81 c32_i32_218
  let v431 : Index := Scalar.indexCast v429
  ![v430.toNat, v431.toNat]

def k0_chk191 (v433 : IVec S16 32) : Prop :=
  (∀ a x, ((![v433] : Fin 1 → IVec S16 32) a x).toNat < S65536.size a)
theorem k0_idx191_inb : ∀ (v433 : IVec S16 32) (k0_hw191 : k0_chk191 v433), ∀ a x, ((![v433] : Fin 1 → IVec S16 32) a x).toNat < S65536.size a := fun v433 k0_hw191 => k0_hw191
def k0_off244 (i : grid0.Coords) (k0_t8 : Fin k0_t8_loop.trips) : Fin 2 → Nat :=
  let c0_i32_94 : BitVec 32 := 0#32
  let c1_i32_96 : BitVec 32 := 1#32
  let arg14 : BitVec 32 := Scf.iv c0_i32_94 c1_i32_96 k0_t8
  let c8_i32_219 : BitVec 32 := 8#32
  let v434 : BitVec 32 := Scalar.muli arg14 c8_i32_219
  let c7_i32_220 : BitVec 32 := 7#32
  let v435 : BitVec 32 := Scalar.addi v434 c7_i32_220
  let v437 : Index := Scalar.indexCast v435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_221 : BitVec 32 := 48#32
  let v436 : BitVec 32 := Scalar.addi v81 c48_i32_221
  let v438 : Index := Scalar.indexCast v436
  ![v437.toNat, v438.toNat]

def k0_chk192 (v440 : IVec S16 32) : Prop :=
  (∀ a x, ((![v440] : Fin 1 → IVec S16 32) a x).toNat < S65536.size a)
theorem k0_idx192_inb : ∀ (v440 : IVec S16 32) (k0_hw192 : k0_chk192 v440), ∀ a x, ((![v440] : Fin 1 → IVec S16 32) a x).toNat < S65536.size a := fun v440 k0_hw192 => k0_hw192
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1024_i32 : BitVec 32 := 1024#32
  let v20 : BitVec 32 := Scalar.muli v18 c1024_i32
  let c896_i32 : BitVec 32 := 896#32
  let v170 : BitVec 32 := Scalar.addi v20 c896_i32
  v170
@[reducible] def k0_t9_loop : Scf.Loop 32 :=
  let c0_i32_103 : BitVec 32 := 0#32
  let c16_i32_104 : BitVec 32 := 16#32
  let v176 : BitVec 32 := Scalar.addi c0_i32_103 c16_i32_104
  let c1_i32_105 : BitVec 32 := 1#32
  ⟨c0_i32_103, v176, c1_i32_105⟩
def k0_off245 (k0_t9 : Fin k0_t9_loop.trips) : Fin 2 → Nat :=
  let c96_i32 : BitVec 32 := 96#32
  let c0_i32_103 : BitVec 32 := 0#32
  let c1_i32_105 : BitVec 32 := 1#32
  let arg14 : BitVec 32 := Scf.iv c0_i32_103 c1_i32_105 k0_t9
  let v193 : BitVec 32 := Scalar.addi c96_i32 arg14
  let v194 : Index := Scalar.indexCast v193
  let c0 : Index := 0#32
  ![v194.toNat, 0]
def k0_off246 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_123 : BitVec 32 := 8#32
  let v196 : BitVec 32 := Scalar.muli arg14 c8_i32_123
  let c0_i32_124 : BitVec 32 := 0#32
  let v197 : BitVec 32 := Scalar.addi v196 c0_i32_124
  let v199 : Index := Scalar.indexCast v197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_125 : BitVec 32 := 0#32
  let v198 : BitVec 32 := Scalar.addi v81 c0_i32_125
  let v200 : Index := Scalar.indexCast v198
  ![v199.toNat, v200.toNat]

def k0_chk193 (v202 : IVec S16 32) : Prop :=
  (∀ a x, ((![v202] : Fin 1 → IVec S16 32) a x).toNat < S65536.size a)
theorem k0_idx193_inb : ∀ (v202 : IVec S16 32) (k0_hw193 : k0_chk193 v202), ∀ a x, ((![v202] : Fin 1 → IVec S16 32) a x).toNat < S65536.size a := fun v202 k0_hw193 => k0_hw193
def k0_off247 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_126 : BitVec 32 := 8#32
  let v203 : BitVec 32 := Scalar.muli arg14 c8_i32_126
  let c0_i32_127 : BitVec 32 := 0#32
  let v204 : BitVec 32 := Scalar.addi v203 c0_i32_127
  let v206 : Index := Scalar.indexCast v204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_128 : BitVec 32 := 16#32
  let v205 : BitVec 32 := Scalar.addi v81 c16_i32_128
  let v207 : Index := Scalar.indexCast v205
  ![v206.toNat, v207.toNat]

def k0_chk194 (v209 : IVec S16 32) : Prop :=
  (∀ a x, ((![v209] : Fin 1 → IVec S16 32) a x).toNat < S65536.size a)
theorem k0_idx194_inb : ∀ (v209 : IVec S16 32) (k0_hw194 : k0_chk194 v209), ∀ a x, ((![v209] : Fin 1 → IVec S16 32) a x).toNat < S65536.size a := fun v209 k0_hw194 => k0_hw194
def k0_off248 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_129 : BitVec 32 := 8#32
  let v210 : BitVec 32 := Scalar.muli arg14 c8_i32_129
  let c0_i32_130 : BitVec 32 := 0#32
  let v211 : BitVec 32 := Scalar.addi v210 c0_i32_130
  let v213 : Index := Scalar.indexCast v211
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_131 : BitVec 32 := 32#32
  let v212 : BitVec 32 := Scalar.addi v81 c32_i32_131
  let v214 : Index := Scalar.indexCast v212
  ![v213.toNat, v214.toNat]

def k0_chk195 (v216 : IVec S16 32) : Prop :=
  (∀ a x, ((![v216] : Fin 1 → IVec S16 32) a x).toNat < S65536.size a)
theorem k0_idx195_inb : ∀ (v216 : IVec S16 32) (k0_hw195 : k0_chk195 v216), ∀ a x, ((![v216] : Fin 1 → IVec S16 32) a x).toNat < S65536.size a := fun v216 k0_hw195 => k0_hw195
def k0_off249 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_132 : BitVec 32 := 8#32
  let v217 : BitVec 32 := Scalar.muli arg14 c8_i32_132
  let c0_i32_133 : BitVec 32 := 0#32
  let v218 : BitVec 32 := Scalar.addi v217 c0_i32_133
  let v220 : Index := Scalar.indexCast v218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_134 : BitVec 32 := 48#32
  let v219 : BitVec 32 := Scalar.addi v81 c48_i32_134
  let v221 : Index := Scalar.indexCast v219
  ![v220.toNat, v221.toNat]

def k0_chk196 (v223 : IVec S16 32) : Prop :=
  (∀ a x, ((![v223] : Fin 1 → IVec S16 32) a x).toNat < S65536.size a)
theorem k0_idx196_inb : ∀ (v223 : IVec S16 32) (k0_hw196 : k0_chk196 v223), ∀ a x, ((![v223] : Fin 1 → IVec S16 32) a x).toNat < S65536.size a := fun v223 k0_hw196 => k0_hw196
def k0_off250 (k0_t9 : Fin k0_t9_loop.trips) : Fin 2 → Nat :=
  let c96_i32_135 : BitVec 32 := 96#32
  let c0_i32_103 : BitVec 32 := 0#32
  let c1_i32_105 : BitVec 32 := 1#32
  let arg14 : BitVec 32 := Scf.iv c0_i32_103 c1_i32_105 k0_t9
  let v224 : BitVec 32 := Scalar.addi c96_i32_135 arg14
  let v225 : Index := Scalar.indexCast v224
  let c16 : Index := 16#32
  ![v225.toNat, 16]
def k0_off251 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_136 : BitVec 32 := 8#32
  let v227 : BitVec 32 := Scalar.muli arg14 c8_i32_136
  let c1_i32_137 : BitVec 32 := 1#32
  let v228 : BitVec 32 := Scalar.addi v227 c1_i32_137
  let v230 : Index := Scalar.indexCast v228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_138 : BitVec 32 := 0#32
  let v229 : BitVec 32 := Scalar.addi v81 c0_i32_138
  let v231 : Index := Scalar.indexCast v229
  ![v230.toNat, v231.toNat]

def k0_chk197 (v233 : IVec S16 32) : Prop :=
  (∀ a x, ((![v233] : Fin 1 → IVec S16 32) a x).toNat < S65536.size a)
theorem k0_idx197_inb : ∀ (v233 : IVec S16 32) (k0_hw197 : k0_chk197 v233), ∀ a x, ((![v233] : Fin 1 → IVec S16 32) a x).toNat < S65536.size a := fun v233 k0_hw197 => k0_hw197
def k0_off252 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_139 : BitVec 32 := 8#32
  let v234 : BitVec 32 := Scalar.muli arg14 c8_i32_139
  let c1_i32_140 : BitVec 32 := 1#32
  let v235 : BitVec 32 := Scalar.addi v234 c1_i32_140
  let v237 : Index := Scalar.indexCast v235
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_141 : BitVec 32 := 16#32
  let v236 : BitVec 32 := Scalar.addi v81 c16_i32_141
  let v238 : Index := Scalar.indexCast v236
  ![v237.toNat, v238.toNat]

def k0_chk198 (v240 : IVec S16 32) : Prop :=
  (∀ a x, ((![v240] : Fin 1 → IVec S16 32) a x).toNat < S65536.size a)
theorem k0_idx198_inb : ∀ (v240 : IVec S16 32) (k0_hw198 : k0_chk198 v240), ∀ a x, ((![v240] : Fin 1 → IVec S16 32) a x).toNat < S65536.size a := fun v240 k0_hw198 => k0_hw198
def k0_off253 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_142 : BitVec 32 := 8#32
  let v241 : BitVec 32 := Scalar.muli arg14 c8_i32_142
  let c1_i32_143 : BitVec 32 := 1#32
  let v242 : BitVec 32 := Scalar.addi v241 c1_i32_143
  let v244 : Index := Scalar.indexCast v242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_144 : BitVec 32 := 32#32
  let v243 : BitVec 32 := Scalar.addi v81 c32_i32_144
  let v245 : Index := Scalar.indexCast v243
  ![v244.toNat, v245.toNat]

def k0_chk199 (v247 : IVec S16 32) : Prop :=
  (∀ a x, ((![v247] : Fin 1 → IVec S16 32) a x).toNat < S65536.size a)
theorem k0_idx199_inb : ∀ (v247 : IVec S16 32) (k0_hw199 : k0_chk199 v247), ∀ a x, ((![v247] : Fin 1 → IVec S16 32) a x).toNat < S65536.size a := fun v247 k0_hw199 => k0_hw199
def k0_off254 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_145 : BitVec 32 := 8#32
  let v248 : BitVec 32 := Scalar.muli arg14 c8_i32_145
  let c1_i32_146 : BitVec 32 := 1#32
  let v249 : BitVec 32 := Scalar.addi v248 c1_i32_146
  let v251 : Index := Scalar.indexCast v249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_147 : BitVec 32 := 48#32
  let v250 : BitVec 32 := Scalar.addi v81 c48_i32_147
  let v252 : Index := Scalar.indexCast v250
  ![v251.toNat, v252.toNat]

def k0_chk200 (v254 : IVec S16 32) : Prop :=
  (∀ a x, ((![v254] : Fin 1 → IVec S16 32) a x).toNat < S65536.size a)
theorem k0_idx200_inb : ∀ (v254 : IVec S16 32) (k0_hw200 : k0_chk200 v254), ∀ a x, ((![v254] : Fin 1 → IVec S16 32) a x).toNat < S65536.size a := fun v254 k0_hw200 => k0_hw200
def k0_off255 (k0_t9 : Fin k0_t9_loop.trips) : Fin 2 → Nat :=
  let c96_i32_148 : BitVec 32 := 96#32
  let c0_i32_103 : BitVec 32 := 0#32
  let c1_i32_105 : BitVec 32 := 1#32
  let arg14 : BitVec 32 := Scf.iv c0_i32_103 c1_i32_105 k0_t9
  let v255 : BitVec 32 := Scalar.addi c96_i32_148 arg14
  let v256 : Index := Scalar.indexCast v255
  let c32 : Index := 32#32
  ![v256.toNat, 32]
def k0_off256 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_149 : BitVec 32 := 8#32
  let v258 : BitVec 32 := Scalar.muli arg14 c8_i32_149
  let c2_i32_150 : BitVec 32 := 2#32
  let v259 : BitVec 32 := Scalar.addi v258 c2_i32_150
  let v261 : Index := Scalar.indexCast v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_151 : BitVec 32 := 0#32
  let v260 : BitVec 32 := Scalar.addi v81 c0_i32_151
  let v262 : Index := Scalar.indexCast v260
  ![v261.toNat, v262.toNat]

def k0_chk201 (v264 : IVec S16 32) : Prop :=
  (∀ a x, ((![v264] : Fin 1 → IVec S16 32) a x).toNat < S65536.size a)
theorem k0_idx201_inb : ∀ (v264 : IVec S16 32) (k0_hw201 : k0_chk201 v264), ∀ a x, ((![v264] : Fin 1 → IVec S16 32) a x).toNat < S65536.size a := fun v264 k0_hw201 => k0_hw201
def k0_off257 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_152 : BitVec 32 := 8#32
  let v265 : BitVec 32 := Scalar.muli arg14 c8_i32_152
  let c2_i32_153 : BitVec 32 := 2#32
  let v266 : BitVec 32 := Scalar.addi v265 c2_i32_153
  let v268 : Index := Scalar.indexCast v266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_154 : BitVec 32 := 16#32
  let v267 : BitVec 32 := Scalar.addi v81 c16_i32_154
  let v269 : Index := Scalar.indexCast v267
  ![v268.toNat, v269.toNat]

def k0_chk202 (v271 : IVec S16 32) : Prop :=
  (∀ a x, ((![v271] : Fin 1 → IVec S16 32) a x).toNat < S65536.size a)
theorem k0_idx202_inb : ∀ (v271 : IVec S16 32) (k0_hw202 : k0_chk202 v271), ∀ a x, ((![v271] : Fin 1 → IVec S16 32) a x).toNat < S65536.size a := fun v271 k0_hw202 => k0_hw202
def k0_off258 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_155 : BitVec 32 := 8#32
  let v272 : BitVec 32 := Scalar.muli arg14 c8_i32_155
  let c2_i32_156 : BitVec 32 := 2#32
  let v273 : BitVec 32 := Scalar.addi v272 c2_i32_156
  let v275 : Index := Scalar.indexCast v273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_157 : BitVec 32 := 32#32
  let v274 : BitVec 32 := Scalar.addi v81 c32_i32_157
  let v276 : Index := Scalar.indexCast v274
  ![v275.toNat, v276.toNat]

def k0_chk203 (v278 : IVec S16 32) : Prop :=
  (∀ a x, ((![v278] : Fin 1 → IVec S16 32) a x).toNat < S65536.size a)
theorem k0_idx203_inb : ∀ (v278 : IVec S16 32) (k0_hw203 : k0_chk203 v278), ∀ a x, ((![v278] : Fin 1 → IVec S16 32) a x).toNat < S65536.size a := fun v278 k0_hw203 => k0_hw203
def k0_off259 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_158 : BitVec 32 := 8#32
  let v279 : BitVec 32 := Scalar.muli arg14 c8_i32_158
  let c2_i32_159 : BitVec 32 := 2#32
  let v280 : BitVec 32 := Scalar.addi v279 c2_i32_159
  let v282 : Index := Scalar.indexCast v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_160 : BitVec 32 := 48#32
  let v281 : BitVec 32 := Scalar.addi v81 c48_i32_160
  let v283 : Index := Scalar.indexCast v281
  ![v282.toNat, v283.toNat]

def k0_chk204 (v285 : IVec S16 32) : Prop :=
  (∀ a x, ((![v285] : Fin 1 → IVec S16 32) a x).toNat < S65536.size a)
theorem k0_idx204_inb : ∀ (v285 : IVec S16 32) (k0_hw204 : k0_chk204 v285), ∀ a x, ((![v285] : Fin 1 → IVec S16 32) a x).toNat < S65536.size a := fun v285 k0_hw204 => k0_hw204
def k0_off260 (k0_t9 : Fin k0_t9_loop.trips) : Fin 2 → Nat :=
  let c96_i32_161 : BitVec 32 := 96#32
  let c0_i32_103 : BitVec 32 := 0#32
  let c1_i32_105 : BitVec 32 := 1#32
  let arg14 : BitVec 32 := Scf.iv c0_i32_103 c1_i32_105 k0_t9
  let v286 : BitVec 32 := Scalar.addi c96_i32_161 arg14
  let v287 : Index := Scalar.indexCast v286
  let c48 : Index := 48#32
  ![v287.toNat, 48]
def k0_off261 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_162 : BitVec 32 := 8#32
  let v289 : BitVec 32 := Scalar.muli arg14 c8_i32_162
  let c3_i32 : BitVec 32 := 3#32
  let v290 : BitVec 32 := Scalar.addi v289 c3_i32
  let v292 : Index := Scalar.indexCast v290
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_163 : BitVec 32 := 0#32
  let v291 : BitVec 32 := Scalar.addi v81 c0_i32_163
  let v293 : Index := Scalar.indexCast v291
  ![v292.toNat, v293.toNat]

def k0_chk205 (v295 : IVec S16 32) : Prop :=
  (∀ a x, ((![v295] : Fin 1 → IVec S16 32) a x).toNat < S65536.size a)
theorem k0_idx205_inb : ∀ (v295 : IVec S16 32) (k0_hw205 : k0_chk205 v295), ∀ a x, ((![v295] : Fin 1 → IVec S16 32) a x).toNat < S65536.size a := fun v295 k0_hw205 => k0_hw205
def k0_off262 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_164 : BitVec 32 := 8#32
  let v296 : BitVec 32 := Scalar.muli arg14 c8_i32_164
  let c3_i32_165 : BitVec 32 := 3#32
  let v297 : BitVec 32 := Scalar.addi v296 c3_i32_165
  let v299 : Index := Scalar.indexCast v297
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_166 : BitVec 32 := 16#32
  let v298 : BitVec 32 := Scalar.addi v81 c16_i32_166
  let v300 : Index := Scalar.indexCast v298
  ![v299.toNat, v300.toNat]

def k0_chk206 (v302 : IVec S16 32) : Prop :=
  (∀ a x, ((![v302] : Fin 1 → IVec S16 32) a x).toNat < S65536.size a)
theorem k0_idx206_inb : ∀ (v302 : IVec S16 32) (k0_hw206 : k0_chk206 v302), ∀ a x, ((![v302] : Fin 1 → IVec S16 32) a x).toNat < S65536.size a := fun v302 k0_hw206 => k0_hw206
def k0_off263 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_167 : BitVec 32 := 8#32
  let v303 : BitVec 32 := Scalar.muli arg14 c8_i32_167
  let c3_i32_168 : BitVec 32 := 3#32
  let v304 : BitVec 32 := Scalar.addi v303 c3_i32_168
  let v306 : Index := Scalar.indexCast v304
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_169 : BitVec 32 := 32#32
  let v305 : BitVec 32 := Scalar.addi v81 c32_i32_169
  let v307 : Index := Scalar.indexCast v305
  ![v306.toNat, v307.toNat]

def k0_chk207 (v309 : IVec S16 32) : Prop :=
  (∀ a x, ((![v309] : Fin 1 → IVec S16 32) a x).toNat < S65536.size a)
theorem k0_idx207_inb : ∀ (v309 : IVec S16 32) (k0_hw207 : k0_chk207 v309), ∀ a x, ((![v309] : Fin 1 → IVec S16 32) a x).toNat < S65536.size a := fun v309 k0_hw207 => k0_hw207
def k0_off264 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_170 : BitVec 32 := 8#32
  let v310 : BitVec 32 := Scalar.muli arg14 c8_i32_170
  let c3_i32_171 : BitVec 32 := 3#32
  let v311 : BitVec 32 := Scalar.addi v310 c3_i32_171
  let v313 : Index := Scalar.indexCast v311
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_172 : BitVec 32 := 48#32
  let v312 : BitVec 32 := Scalar.addi v81 c48_i32_172
  let v314 : Index := Scalar.indexCast v312
  ![v313.toNat, v314.toNat]

def k0_chk208 (v316 : IVec S16 32) : Prop :=
  (∀ a x, ((![v316] : Fin 1 → IVec S16 32) a x).toNat < S65536.size a)
theorem k0_idx208_inb : ∀ (v316 : IVec S16 32) (k0_hw208 : k0_chk208 v316), ∀ a x, ((![v316] : Fin 1 → IVec S16 32) a x).toNat < S65536.size a := fun v316 k0_hw208 => k0_hw208
def k0_off265 (k0_t9 : Fin k0_t9_loop.trips) : Fin 2 → Nat :=
  let c96_i32_173 : BitVec 32 := 96#32
  let c0_i32_103 : BitVec 32 := 0#32
  let c1_i32_105 : BitVec 32 := 1#32
  let arg14 : BitVec 32 := Scf.iv c0_i32_103 c1_i32_105 k0_t9
  let v317 : BitVec 32 := Scalar.addi c96_i32_173 arg14
  let v318 : Index := Scalar.indexCast v317
  let c64 : Index := 64#32
  ![v318.toNat, 64]
def k0_off266 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_174 : BitVec 32 := 8#32
  let v320 : BitVec 32 := Scalar.muli arg14 c8_i32_174
  let c4_i32_175 : BitVec 32 := 4#32
  let v321 : BitVec 32 := Scalar.addi v320 c4_i32_175
  let v323 : Index := Scalar.indexCast v321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_176 : BitVec 32 := 0#32
  let v322 : BitVec 32 := Scalar.addi v81 c0_i32_176
  let v324 : Index := Scalar.indexCast v322
  ![v323.toNat, v324.toNat]

def k0_chk209 (v326 : IVec S16 32) : Prop :=
  (∀ a x, ((![v326] : Fin 1 → IVec S16 32) a x).toNat < S65536.size a)
theorem k0_idx209_inb : ∀ (v326 : IVec S16 32) (k0_hw209 : k0_chk209 v326), ∀ a x, ((![v326] : Fin 1 → IVec S16 32) a x).toNat < S65536.size a := fun v326 k0_hw209 => k0_hw209
def k0_off267 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_177 : BitVec 32 := 8#32
  let v327 : BitVec 32 := Scalar.muli arg14 c8_i32_177
  let c4_i32_178 : BitVec 32 := 4#32
  let v328 : BitVec 32 := Scalar.addi v327 c4_i32_178
  let v330 : Index := Scalar.indexCast v328
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_179 : BitVec 32 := 16#32
  let v329 : BitVec 32 := Scalar.addi v81 c16_i32_179
  let v331 : Index := Scalar.indexCast v329
  ![v330.toNat, v331.toNat]

def k0_chk210 (v333 : IVec S16 32) : Prop :=
  (∀ a x, ((![v333] : Fin 1 → IVec S16 32) a x).toNat < S65536.size a)
theorem k0_idx210_inb : ∀ (v333 : IVec S16 32) (k0_hw210 : k0_chk210 v333), ∀ a x, ((![v333] : Fin 1 → IVec S16 32) a x).toNat < S65536.size a := fun v333 k0_hw210 => k0_hw210
def k0_off268 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_180 : BitVec 32 := 8#32
  let v334 : BitVec 32 := Scalar.muli arg14 c8_i32_180
  let c4_i32_181 : BitVec 32 := 4#32
  let v335 : BitVec 32 := Scalar.addi v334 c4_i32_181
  let v337 : Index := Scalar.indexCast v335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_182 : BitVec 32 := 32#32
  let v336 : BitVec 32 := Scalar.addi v81 c32_i32_182
  let v338 : Index := Scalar.indexCast v336
  ![v337.toNat, v338.toNat]

def k0_chk211 (v340 : IVec S16 32) : Prop :=
  (∀ a x, ((![v340] : Fin 1 → IVec S16 32) a x).toNat < S65536.size a)
theorem k0_idx211_inb : ∀ (v340 : IVec S16 32) (k0_hw211 : k0_chk211 v340), ∀ a x, ((![v340] : Fin 1 → IVec S16 32) a x).toNat < S65536.size a := fun v340 k0_hw211 => k0_hw211
def k0_off269 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_183 : BitVec 32 := 8#32
  let v341 : BitVec 32 := Scalar.muli arg14 c8_i32_183
  let c4_i32_184 : BitVec 32 := 4#32
  let v342 : BitVec 32 := Scalar.addi v341 c4_i32_184
  let v344 : Index := Scalar.indexCast v342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_185 : BitVec 32 := 48#32
  let v343 : BitVec 32 := Scalar.addi v81 c48_i32_185
  let v345 : Index := Scalar.indexCast v343
  ![v344.toNat, v345.toNat]

def k0_chk212 (v347 : IVec S16 32) : Prop :=
  (∀ a x, ((![v347] : Fin 1 → IVec S16 32) a x).toNat < S65536.size a)
theorem k0_idx212_inb : ∀ (v347 : IVec S16 32) (k0_hw212 : k0_chk212 v347), ∀ a x, ((![v347] : Fin 1 → IVec S16 32) a x).toNat < S65536.size a := fun v347 k0_hw212 => k0_hw212
def k0_off270 (k0_t9 : Fin k0_t9_loop.trips) : Fin 2 → Nat :=
  let c96_i32_186 : BitVec 32 := 96#32
  let c0_i32_103 : BitVec 32 := 0#32
  let c1_i32_105 : BitVec 32 := 1#32
  let arg14 : BitVec 32 := Scf.iv c0_i32_103 c1_i32_105 k0_t9
  let v348 : BitVec 32 := Scalar.addi c96_i32_186 arg14
  let v349 : Index := Scalar.indexCast v348
  let c80 : Index := 80#32
  ![v349.toNat, 80]
def k0_off271 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_187 : BitVec 32 := 8#32
  let v351 : BitVec 32 := Scalar.muli arg14 c8_i32_187
  let c5_i32 : BitVec 32 := 5#32
  let v352 : BitVec 32 := Scalar.addi v351 c5_i32
  let v354 : Index := Scalar.indexCast v352
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_188 : BitVec 32 := 0#32
  let v353 : BitVec 32 := Scalar.addi v81 c0_i32_188
  let v355 : Index := Scalar.indexCast v353
  ![v354.toNat, v355.toNat]

def k0_chk213 (v357 : IVec S16 32) : Prop :=
  (∀ a x, ((![v357] : Fin 1 → IVec S16 32) a x).toNat < S65536.size a)
theorem k0_idx213_inb : ∀ (v357 : IVec S16 32) (k0_hw213 : k0_chk213 v357), ∀ a x, ((![v357] : Fin 1 → IVec S16 32) a x).toNat < S65536.size a := fun v357 k0_hw213 => k0_hw213
def k0_off272 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_189 : BitVec 32 := 8#32
  let v358 : BitVec 32 := Scalar.muli arg14 c8_i32_189
  let c5_i32_190 : BitVec 32 := 5#32
  let v359 : BitVec 32 := Scalar.addi v358 c5_i32_190
  let v361 : Index := Scalar.indexCast v359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_191 : BitVec 32 := 16#32
  let v360 : BitVec 32 := Scalar.addi v81 c16_i32_191
  let v362 : Index := Scalar.indexCast v360
  ![v361.toNat, v362.toNat]

def k0_chk214 (v364 : IVec S16 32) : Prop :=
  (∀ a x, ((![v364] : Fin 1 → IVec S16 32) a x).toNat < S65536.size a)
theorem k0_idx214_inb : ∀ (v364 : IVec S16 32) (k0_hw214 : k0_chk214 v364), ∀ a x, ((![v364] : Fin 1 → IVec S16 32) a x).toNat < S65536.size a := fun v364 k0_hw214 => k0_hw214
def k0_off273 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_192 : BitVec 32 := 8#32
  let v365 : BitVec 32 := Scalar.muli arg14 c8_i32_192
  let c5_i32_193 : BitVec 32 := 5#32
  let v366 : BitVec 32 := Scalar.addi v365 c5_i32_193
  let v368 : Index := Scalar.indexCast v366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_194 : BitVec 32 := 32#32
  let v367 : BitVec 32 := Scalar.addi v81 c32_i32_194
  let v369 : Index := Scalar.indexCast v367
  ![v368.toNat, v369.toNat]

def k0_chk215 (v371 : IVec S16 32) : Prop :=
  (∀ a x, ((![v371] : Fin 1 → IVec S16 32) a x).toNat < S65536.size a)
theorem k0_idx215_inb : ∀ (v371 : IVec S16 32) (k0_hw215 : k0_chk215 v371), ∀ a x, ((![v371] : Fin 1 → IVec S16 32) a x).toNat < S65536.size a := fun v371 k0_hw215 => k0_hw215
def k0_off274 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_195 : BitVec 32 := 8#32
  let v372 : BitVec 32 := Scalar.muli arg14 c8_i32_195
  let c5_i32_196 : BitVec 32 := 5#32
  let v373 : BitVec 32 := Scalar.addi v372 c5_i32_196
  let v375 : Index := Scalar.indexCast v373
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_197 : BitVec 32 := 48#32
  let v374 : BitVec 32 := Scalar.addi v81 c48_i32_197
  let v376 : Index := Scalar.indexCast v374
  ![v375.toNat, v376.toNat]

def k0_chk216 (v378 : IVec S16 32) : Prop :=
  (∀ a x, ((![v378] : Fin 1 → IVec S16 32) a x).toNat < S65536.size a)
theorem k0_idx216_inb : ∀ (v378 : IVec S16 32) (k0_hw216 : k0_chk216 v378), ∀ a x, ((![v378] : Fin 1 → IVec S16 32) a x).toNat < S65536.size a := fun v378 k0_hw216 => k0_hw216
def k0_off275 (k0_t9 : Fin k0_t9_loop.trips) : Fin 2 → Nat :=
  let c96_i32_198 : BitVec 32 := 96#32
  let c0_i32_103 : BitVec 32 := 0#32
  let c1_i32_105 : BitVec 32 := 1#32
  let arg14 : BitVec 32 := Scf.iv c0_i32_103 c1_i32_105 k0_t9
  let v379 : BitVec 32 := Scalar.addi c96_i32_198 arg14
  let v380 : Index := Scalar.indexCast v379
  let c96 : Index := 96#32
  ![v380.toNat, 96]
def k0_off276 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_199 : BitVec 32 := 8#32
  let v382 : BitVec 32 := Scalar.muli arg14 c8_i32_199
  let c6_i32 : BitVec 32 := 6#32
  let v383 : BitVec 32 := Scalar.addi v382 c6_i32
  let v385 : Index := Scalar.indexCast v383
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_200 : BitVec 32 := 0#32
  let v384 : BitVec 32 := Scalar.addi v81 c0_i32_200
  let v386 : Index := Scalar.indexCast v384
  ![v385.toNat, v386.toNat]

def k0_chk217 (v388 : IVec S16 32) : Prop :=
  (∀ a x, ((![v388] : Fin 1 → IVec S16 32) a x).toNat < S65536.size a)
theorem k0_idx217_inb : ∀ (v388 : IVec S16 32) (k0_hw217 : k0_chk217 v388), ∀ a x, ((![v388] : Fin 1 → IVec S16 32) a x).toNat < S65536.size a := fun v388 k0_hw217 => k0_hw217
def k0_off277 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_201 : BitVec 32 := 8#32
  let v389 : BitVec 32 := Scalar.muli arg14 c8_i32_201
  let c6_i32_202 : BitVec 32 := 6#32
  let v390 : BitVec 32 := Scalar.addi v389 c6_i32_202
  let v392 : Index := Scalar.indexCast v390
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_203 : BitVec 32 := 16#32
  let v391 : BitVec 32 := Scalar.addi v81 c16_i32_203
  let v393 : Index := Scalar.indexCast v391
  ![v392.toNat, v393.toNat]

def k0_chk218 (v395 : IVec S16 32) : Prop :=
  (∀ a x, ((![v395] : Fin 1 → IVec S16 32) a x).toNat < S65536.size a)
theorem k0_idx218_inb : ∀ (v395 : IVec S16 32) (k0_hw218 : k0_chk218 v395), ∀ a x, ((![v395] : Fin 1 → IVec S16 32) a x).toNat < S65536.size a := fun v395 k0_hw218 => k0_hw218
def k0_off278 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_204 : BitVec 32 := 8#32
  let v396 : BitVec 32 := Scalar.muli arg14 c8_i32_204
  let c6_i32_205 : BitVec 32 := 6#32
  let v397 : BitVec 32 := Scalar.addi v396 c6_i32_205
  let v399 : Index := Scalar.indexCast v397
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_206 : BitVec 32 := 32#32
  let v398 : BitVec 32 := Scalar.addi v81 c32_i32_206
  let v400 : Index := Scalar.indexCast v398
  ![v399.toNat, v400.toNat]

def k0_chk219 (v402 : IVec S16 32) : Prop :=
  (∀ a x, ((![v402] : Fin 1 → IVec S16 32) a x).toNat < S65536.size a)
theorem k0_idx219_inb : ∀ (v402 : IVec S16 32) (k0_hw219 : k0_chk219 v402), ∀ a x, ((![v402] : Fin 1 → IVec S16 32) a x).toNat < S65536.size a := fun v402 k0_hw219 => k0_hw219
def k0_off279 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_207 : BitVec 32 := 8#32
  let v403 : BitVec 32 := Scalar.muli arg14 c8_i32_207
  let c6_i32_208 : BitVec 32 := 6#32
  let v404 : BitVec 32 := Scalar.addi v403 c6_i32_208
  let v406 : Index := Scalar.indexCast v404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_209 : BitVec 32 := 48#32
  let v405 : BitVec 32 := Scalar.addi v81 c48_i32_209
  let v407 : Index := Scalar.indexCast v405
  ![v406.toNat, v407.toNat]

def k0_chk220 (v409 : IVec S16 32) : Prop :=
  (∀ a x, ((![v409] : Fin 1 → IVec S16 32) a x).toNat < S65536.size a)
theorem k0_idx220_inb : ∀ (v409 : IVec S16 32) (k0_hw220 : k0_chk220 v409), ∀ a x, ((![v409] : Fin 1 → IVec S16 32) a x).toNat < S65536.size a := fun v409 k0_hw220 => k0_hw220
def k0_off280 (k0_t9 : Fin k0_t9_loop.trips) : Fin 2 → Nat :=
  let c96_i32_210 : BitVec 32 := 96#32
  let c0_i32_103 : BitVec 32 := 0#32
  let c1_i32_105 : BitVec 32 := 1#32
  let arg14 : BitVec 32 := Scf.iv c0_i32_103 c1_i32_105 k0_t9
  let v410 : BitVec 32 := Scalar.addi c96_i32_210 arg14
  let v411 : Index := Scalar.indexCast v410
  let c112 : Index := 112#32
  ![v411.toNat, 112]
def k0_off281 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_211 : BitVec 32 := 8#32
  let v413 : BitVec 32 := Scalar.muli arg14 c8_i32_211
  let c7_i32 : BitVec 32 := 7#32
  let v414 : BitVec 32 := Scalar.addi v413 c7_i32
  let v416 : Index := Scalar.indexCast v414
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_212 : BitVec 32 := 0#32
  let v415 : BitVec 32 := Scalar.addi v81 c0_i32_212
  let v417 : Index := Scalar.indexCast v415
  ![v416.toNat, v417.toNat]

def k0_chk221 (v419 : IVec S16 32) : Prop :=
  (∀ a x, ((![v419] : Fin 1 → IVec S16 32) a x).toNat < S65536.size a)
theorem k0_idx221_inb : ∀ (v419 : IVec S16 32) (k0_hw221 : k0_chk221 v419), ∀ a x, ((![v419] : Fin 1 → IVec S16 32) a x).toNat < S65536.size a := fun v419 k0_hw221 => k0_hw221
def k0_off282 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_213 : BitVec 32 := 8#32
  let v420 : BitVec 32 := Scalar.muli arg14 c8_i32_213
  let c7_i32_214 : BitVec 32 := 7#32
  let v421 : BitVec 32 := Scalar.addi v420 c7_i32_214
  let v423 : Index := Scalar.indexCast v421
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_215 : BitVec 32 := 16#32
  let v422 : BitVec 32 := Scalar.addi v81 c16_i32_215
  let v424 : Index := Scalar.indexCast v422
  ![v423.toNat, v424.toNat]

def k0_chk222 (v426 : IVec S16 32) : Prop :=
  (∀ a x, ((![v426] : Fin 1 → IVec S16 32) a x).toNat < S65536.size a)
theorem k0_idx222_inb : ∀ (v426 : IVec S16 32) (k0_hw222 : k0_chk222 v426), ∀ a x, ((![v426] : Fin 1 → IVec S16 32) a x).toNat < S65536.size a := fun v426 k0_hw222 => k0_hw222
def k0_off283 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_216 : BitVec 32 := 8#32
  let v427 : BitVec 32 := Scalar.muli arg14 c8_i32_216
  let c7_i32_217 : BitVec 32 := 7#32
  let v428 : BitVec 32 := Scalar.addi v427 c7_i32_217
  let v430 : Index := Scalar.indexCast v428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_218 : BitVec 32 := 32#32
  let v429 : BitVec 32 := Scalar.addi v81 c32_i32_218
  let v431 : Index := Scalar.indexCast v429
  ![v430.toNat, v431.toNat]

def k0_chk223 (v433 : IVec S16 32) : Prop :=
  (∀ a x, ((![v433] : Fin 1 → IVec S16 32) a x).toNat < S65536.size a)
theorem k0_idx223_inb : ∀ (v433 : IVec S16 32) (k0_hw223 : k0_chk223 v433), ∀ a x, ((![v433] : Fin 1 → IVec S16 32) a x).toNat < S65536.size a := fun v433 k0_hw223 => k0_hw223
def k0_off284 (i : grid0.Coords) (k0_t9 : Fin k0_t9_loop.trips) : Fin 2 → Nat :=
  let c0_i32_103 : BitVec 32 := 0#32
  let c1_i32_105 : BitVec 32 := 1#32
  let arg14 : BitVec 32 := Scf.iv c0_i32_103 c1_i32_105 k0_t9
  let c8_i32_219 : BitVec 32 := 8#32
  let v434 : BitVec 32 := Scalar.muli arg14 c8_i32_219
  let c7_i32_220 : BitVec 32 := 7#32
  let v435 : BitVec 32 := Scalar.addi v434 c7_i32_220
  let v437 : Index := Scalar.indexCast v435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_221 : BitVec 32 := 48#32
  let v436 : BitVec 32 := Scalar.addi v81 c48_i32_221
  let v438 : Index := Scalar.indexCast v436
  ![v437.toNat, v438.toNat]

def k0_chk224 (v440 : IVec S16 32) : Prop :=
  (∀ a x, ((![v440] : Fin 1 → IVec S16 32) a x).toNat < S65536.size a)
theorem k0_idx224_inb : ∀ (v440 : IVec S16 32) (k0_hw224 : k0_chk224 v440), ∀ a x, ((![v440] : Fin 1 → IVec S16 32) a x).toNat < S65536.size a := fun v440 k0_hw224 => k0_hw224
@[reducible] def k0_t10_loop : Scf.Loop 32 :=
  let c0_i32_110 : BitVec 32 := 0#32
  let c16_i32_111 : BitVec 32 := 16#32
  let v182 : BitVec 32 := Scalar.addi c0_i32_110 c16_i32_111
  let c1_i32_112 : BitVec 32 := 1#32
  ⟨c0_i32_110, v182, c1_i32_112⟩
def k0_off285 (k0_t10 : Fin k0_t10_loop.trips) : Fin 2 → Nat :=
  let c112_i32 : BitVec 32 := 112#32
  let c0_i32_110 : BitVec 32 := 0#32
  let c1_i32_112 : BitVec 32 := 1#32
  let arg14 : BitVec 32 := Scf.iv c0_i32_110 c1_i32_112 k0_t10
  let v193 : BitVec 32 := Scalar.addi c112_i32 arg14
  let v194 : Index := Scalar.indexCast v193
  let c0 : Index := 0#32
  ![v194.toNat, 0]
def k0_off286 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_123 : BitVec 32 := 8#32
  let v196 : BitVec 32 := Scalar.muli arg14 c8_i32_123
  let c0_i32_124 : BitVec 32 := 0#32
  let v197 : BitVec 32 := Scalar.addi v196 c0_i32_124
  let v199 : Index := Scalar.indexCast v197
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_125 : BitVec 32 := 0#32
  let v198 : BitVec 32 := Scalar.addi v81 c0_i32_125
  let v200 : Index := Scalar.indexCast v198
  ![v199.toNat, v200.toNat]

def k0_chk225 (v202 : IVec S16 32) : Prop :=
  (∀ a x, ((![v202] : Fin 1 → IVec S16 32) a x).toNat < S65536.size a)
theorem k0_idx225_inb : ∀ (v202 : IVec S16 32) (k0_hw225 : k0_chk225 v202), ∀ a x, ((![v202] : Fin 1 → IVec S16 32) a x).toNat < S65536.size a := fun v202 k0_hw225 => k0_hw225
def k0_off287 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_126 : BitVec 32 := 8#32
  let v203 : BitVec 32 := Scalar.muli arg14 c8_i32_126
  let c0_i32_127 : BitVec 32 := 0#32
  let v204 : BitVec 32 := Scalar.addi v203 c0_i32_127
  let v206 : Index := Scalar.indexCast v204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_128 : BitVec 32 := 16#32
  let v205 : BitVec 32 := Scalar.addi v81 c16_i32_128
  let v207 : Index := Scalar.indexCast v205
  ![v206.toNat, v207.toNat]

def k0_chk226 (v209 : IVec S16 32) : Prop :=
  (∀ a x, ((![v209] : Fin 1 → IVec S16 32) a x).toNat < S65536.size a)
theorem k0_idx226_inb : ∀ (v209 : IVec S16 32) (k0_hw226 : k0_chk226 v209), ∀ a x, ((![v209] : Fin 1 → IVec S16 32) a x).toNat < S65536.size a := fun v209 k0_hw226 => k0_hw226
def k0_off288 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_129 : BitVec 32 := 8#32
  let v210 : BitVec 32 := Scalar.muli arg14 c8_i32_129
  let c0_i32_130 : BitVec 32 := 0#32
  let v211 : BitVec 32 := Scalar.addi v210 c0_i32_130
  let v213 : Index := Scalar.indexCast v211
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_131 : BitVec 32 := 32#32
  let v212 : BitVec 32 := Scalar.addi v81 c32_i32_131
  let v214 : Index := Scalar.indexCast v212
  ![v213.toNat, v214.toNat]

def k0_chk227 (v216 : IVec S16 32) : Prop :=
  (∀ a x, ((![v216] : Fin 1 → IVec S16 32) a x).toNat < S65536.size a)
theorem k0_idx227_inb : ∀ (v216 : IVec S16 32) (k0_hw227 : k0_chk227 v216), ∀ a x, ((![v216] : Fin 1 → IVec S16 32) a x).toNat < S65536.size a := fun v216 k0_hw227 => k0_hw227
def k0_off289 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_132 : BitVec 32 := 8#32
  let v217 : BitVec 32 := Scalar.muli arg14 c8_i32_132
  let c0_i32_133 : BitVec 32 := 0#32
  let v218 : BitVec 32 := Scalar.addi v217 c0_i32_133
  let v220 : Index := Scalar.indexCast v218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_134 : BitVec 32 := 48#32
  let v219 : BitVec 32 := Scalar.addi v81 c48_i32_134
  let v221 : Index := Scalar.indexCast v219
  ![v220.toNat, v221.toNat]

def k0_chk228 (v223 : IVec S16 32) : Prop :=
  (∀ a x, ((![v223] : Fin 1 → IVec S16 32) a x).toNat < S65536.size a)
theorem k0_idx228_inb : ∀ (v223 : IVec S16 32) (k0_hw228 : k0_chk228 v223), ∀ a x, ((![v223] : Fin 1 → IVec S16 32) a x).toNat < S65536.size a := fun v223 k0_hw228 => k0_hw228
def k0_off290 (k0_t10 : Fin k0_t10_loop.trips) : Fin 2 → Nat :=
  let c112_i32_135 : BitVec 32 := 112#32
  let c0_i32_110 : BitVec 32 := 0#32
  let c1_i32_112 : BitVec 32 := 1#32
  let arg14 : BitVec 32 := Scf.iv c0_i32_110 c1_i32_112 k0_t10
  let v224 : BitVec 32 := Scalar.addi c112_i32_135 arg14
  let v225 : Index := Scalar.indexCast v224
  let c16 : Index := 16#32
  ![v225.toNat, 16]
def k0_off291 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_136 : BitVec 32 := 8#32
  let v227 : BitVec 32 := Scalar.muli arg14 c8_i32_136
  let c1_i32_137 : BitVec 32 := 1#32
  let v228 : BitVec 32 := Scalar.addi v227 c1_i32_137
  let v230 : Index := Scalar.indexCast v228
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_138 : BitVec 32 := 0#32
  let v229 : BitVec 32 := Scalar.addi v81 c0_i32_138
  let v231 : Index := Scalar.indexCast v229
  ![v230.toNat, v231.toNat]

def k0_chk229 (v233 : IVec S16 32) : Prop :=
  (∀ a x, ((![v233] : Fin 1 → IVec S16 32) a x).toNat < S65536.size a)
theorem k0_idx229_inb : ∀ (v233 : IVec S16 32) (k0_hw229 : k0_chk229 v233), ∀ a x, ((![v233] : Fin 1 → IVec S16 32) a x).toNat < S65536.size a := fun v233 k0_hw229 => k0_hw229
def k0_off292 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_139 : BitVec 32 := 8#32
  let v234 : BitVec 32 := Scalar.muli arg14 c8_i32_139
  let c1_i32_140 : BitVec 32 := 1#32
  let v235 : BitVec 32 := Scalar.addi v234 c1_i32_140
  let v237 : Index := Scalar.indexCast v235
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_141 : BitVec 32 := 16#32
  let v236 : BitVec 32 := Scalar.addi v81 c16_i32_141
  let v238 : Index := Scalar.indexCast v236
  ![v237.toNat, v238.toNat]

def k0_chk230 (v240 : IVec S16 32) : Prop :=
  (∀ a x, ((![v240] : Fin 1 → IVec S16 32) a x).toNat < S65536.size a)
theorem k0_idx230_inb : ∀ (v240 : IVec S16 32) (k0_hw230 : k0_chk230 v240), ∀ a x, ((![v240] : Fin 1 → IVec S16 32) a x).toNat < S65536.size a := fun v240 k0_hw230 => k0_hw230
def k0_off293 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_142 : BitVec 32 := 8#32
  let v241 : BitVec 32 := Scalar.muli arg14 c8_i32_142
  let c1_i32_143 : BitVec 32 := 1#32
  let v242 : BitVec 32 := Scalar.addi v241 c1_i32_143
  let v244 : Index := Scalar.indexCast v242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_144 : BitVec 32 := 32#32
  let v243 : BitVec 32 := Scalar.addi v81 c32_i32_144
  let v245 : Index := Scalar.indexCast v243
  ![v244.toNat, v245.toNat]

def k0_chk231 (v247 : IVec S16 32) : Prop :=
  (∀ a x, ((![v247] : Fin 1 → IVec S16 32) a x).toNat < S65536.size a)
theorem k0_idx231_inb : ∀ (v247 : IVec S16 32) (k0_hw231 : k0_chk231 v247), ∀ a x, ((![v247] : Fin 1 → IVec S16 32) a x).toNat < S65536.size a := fun v247 k0_hw231 => k0_hw231
def k0_off294 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_145 : BitVec 32 := 8#32
  let v248 : BitVec 32 := Scalar.muli arg14 c8_i32_145
  let c1_i32_146 : BitVec 32 := 1#32
  let v249 : BitVec 32 := Scalar.addi v248 c1_i32_146
  let v251 : Index := Scalar.indexCast v249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_147 : BitVec 32 := 48#32
  let v250 : BitVec 32 := Scalar.addi v81 c48_i32_147
  let v252 : Index := Scalar.indexCast v250
  ![v251.toNat, v252.toNat]

def k0_chk232 (v254 : IVec S16 32) : Prop :=
  (∀ a x, ((![v254] : Fin 1 → IVec S16 32) a x).toNat < S65536.size a)
theorem k0_idx232_inb : ∀ (v254 : IVec S16 32) (k0_hw232 : k0_chk232 v254), ∀ a x, ((![v254] : Fin 1 → IVec S16 32) a x).toNat < S65536.size a := fun v254 k0_hw232 => k0_hw232
def k0_off295 (k0_t10 : Fin k0_t10_loop.trips) : Fin 2 → Nat :=
  let c112_i32_148 : BitVec 32 := 112#32
  let c0_i32_110 : BitVec 32 := 0#32
  let c1_i32_112 : BitVec 32 := 1#32
  let arg14 : BitVec 32 := Scf.iv c0_i32_110 c1_i32_112 k0_t10
  let v255 : BitVec 32 := Scalar.addi c112_i32_148 arg14
  let v256 : Index := Scalar.indexCast v255
  let c32 : Index := 32#32
  ![v256.toNat, 32]
def k0_off296 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_149 : BitVec 32 := 8#32
  let v258 : BitVec 32 := Scalar.muli arg14 c8_i32_149
  let c2_i32_150 : BitVec 32 := 2#32
  let v259 : BitVec 32 := Scalar.addi v258 c2_i32_150
  let v261 : Index := Scalar.indexCast v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_151 : BitVec 32 := 0#32
  let v260 : BitVec 32 := Scalar.addi v81 c0_i32_151
  let v262 : Index := Scalar.indexCast v260
  ![v261.toNat, v262.toNat]

def k0_chk233 (v264 : IVec S16 32) : Prop :=
  (∀ a x, ((![v264] : Fin 1 → IVec S16 32) a x).toNat < S65536.size a)
theorem k0_idx233_inb : ∀ (v264 : IVec S16 32) (k0_hw233 : k0_chk233 v264), ∀ a x, ((![v264] : Fin 1 → IVec S16 32) a x).toNat < S65536.size a := fun v264 k0_hw233 => k0_hw233
def k0_off297 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_152 : BitVec 32 := 8#32
  let v265 : BitVec 32 := Scalar.muli arg14 c8_i32_152
  let c2_i32_153 : BitVec 32 := 2#32
  let v266 : BitVec 32 := Scalar.addi v265 c2_i32_153
  let v268 : Index := Scalar.indexCast v266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_154 : BitVec 32 := 16#32
  let v267 : BitVec 32 := Scalar.addi v81 c16_i32_154
  let v269 : Index := Scalar.indexCast v267
  ![v268.toNat, v269.toNat]

def k0_chk234 (v271 : IVec S16 32) : Prop :=
  (∀ a x, ((![v271] : Fin 1 → IVec S16 32) a x).toNat < S65536.size a)
theorem k0_idx234_inb : ∀ (v271 : IVec S16 32) (k0_hw234 : k0_chk234 v271), ∀ a x, ((![v271] : Fin 1 → IVec S16 32) a x).toNat < S65536.size a := fun v271 k0_hw234 => k0_hw234
def k0_off298 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_155 : BitVec 32 := 8#32
  let v272 : BitVec 32 := Scalar.muli arg14 c8_i32_155
  let c2_i32_156 : BitVec 32 := 2#32
  let v273 : BitVec 32 := Scalar.addi v272 c2_i32_156
  let v275 : Index := Scalar.indexCast v273
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_157 : BitVec 32 := 32#32
  let v274 : BitVec 32 := Scalar.addi v81 c32_i32_157
  let v276 : Index := Scalar.indexCast v274
  ![v275.toNat, v276.toNat]

def k0_chk235 (v278 : IVec S16 32) : Prop :=
  (∀ a x, ((![v278] : Fin 1 → IVec S16 32) a x).toNat < S65536.size a)
theorem k0_idx235_inb : ∀ (v278 : IVec S16 32) (k0_hw235 : k0_chk235 v278), ∀ a x, ((![v278] : Fin 1 → IVec S16 32) a x).toNat < S65536.size a := fun v278 k0_hw235 => k0_hw235
def k0_off299 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_158 : BitVec 32 := 8#32
  let v279 : BitVec 32 := Scalar.muli arg14 c8_i32_158
  let c2_i32_159 : BitVec 32 := 2#32
  let v280 : BitVec 32 := Scalar.addi v279 c2_i32_159
  let v282 : Index := Scalar.indexCast v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_160 : BitVec 32 := 48#32
  let v281 : BitVec 32 := Scalar.addi v81 c48_i32_160
  let v283 : Index := Scalar.indexCast v281
  ![v282.toNat, v283.toNat]

def k0_chk236 (v285 : IVec S16 32) : Prop :=
  (∀ a x, ((![v285] : Fin 1 → IVec S16 32) a x).toNat < S65536.size a)
theorem k0_idx236_inb : ∀ (v285 : IVec S16 32) (k0_hw236 : k0_chk236 v285), ∀ a x, ((![v285] : Fin 1 → IVec S16 32) a x).toNat < S65536.size a := fun v285 k0_hw236 => k0_hw236
def k0_off300 (k0_t10 : Fin k0_t10_loop.trips) : Fin 2 → Nat :=
  let c112_i32_161 : BitVec 32 := 112#32
  let c0_i32_110 : BitVec 32 := 0#32
  let c1_i32_112 : BitVec 32 := 1#32
  let arg14 : BitVec 32 := Scf.iv c0_i32_110 c1_i32_112 k0_t10
  let v286 : BitVec 32 := Scalar.addi c112_i32_161 arg14
  let v287 : Index := Scalar.indexCast v286
  let c48 : Index := 48#32
  ![v287.toNat, 48]
def k0_off301 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_162 : BitVec 32 := 8#32
  let v289 : BitVec 32 := Scalar.muli arg14 c8_i32_162
  let c3_i32 : BitVec 32 := 3#32
  let v290 : BitVec 32 := Scalar.addi v289 c3_i32
  let v292 : Index := Scalar.indexCast v290
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_163 : BitVec 32 := 0#32
  let v291 : BitVec 32 := Scalar.addi v81 c0_i32_163
  let v293 : Index := Scalar.indexCast v291
  ![v292.toNat, v293.toNat]

def k0_chk237 (v295 : IVec S16 32) : Prop :=
  (∀ a x, ((![v295] : Fin 1 → IVec S16 32) a x).toNat < S65536.size a)
theorem k0_idx237_inb : ∀ (v295 : IVec S16 32) (k0_hw237 : k0_chk237 v295), ∀ a x, ((![v295] : Fin 1 → IVec S16 32) a x).toNat < S65536.size a := fun v295 k0_hw237 => k0_hw237
def k0_off302 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_164 : BitVec 32 := 8#32
  let v296 : BitVec 32 := Scalar.muli arg14 c8_i32_164
  let c3_i32_165 : BitVec 32 := 3#32
  let v297 : BitVec 32 := Scalar.addi v296 c3_i32_165
  let v299 : Index := Scalar.indexCast v297
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_166 : BitVec 32 := 16#32
  let v298 : BitVec 32 := Scalar.addi v81 c16_i32_166
  let v300 : Index := Scalar.indexCast v298
  ![v299.toNat, v300.toNat]

def k0_chk238 (v302 : IVec S16 32) : Prop :=
  (∀ a x, ((![v302] : Fin 1 → IVec S16 32) a x).toNat < S65536.size a)
theorem k0_idx238_inb : ∀ (v302 : IVec S16 32) (k0_hw238 : k0_chk238 v302), ∀ a x, ((![v302] : Fin 1 → IVec S16 32) a x).toNat < S65536.size a := fun v302 k0_hw238 => k0_hw238
def k0_off303 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_167 : BitVec 32 := 8#32
  let v303 : BitVec 32 := Scalar.muli arg14 c8_i32_167
  let c3_i32_168 : BitVec 32 := 3#32
  let v304 : BitVec 32 := Scalar.addi v303 c3_i32_168
  let v306 : Index := Scalar.indexCast v304
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_169 : BitVec 32 := 32#32
  let v305 : BitVec 32 := Scalar.addi v81 c32_i32_169
  let v307 : Index := Scalar.indexCast v305
  ![v306.toNat, v307.toNat]

def k0_chk239 (v309 : IVec S16 32) : Prop :=
  (∀ a x, ((![v309] : Fin 1 → IVec S16 32) a x).toNat < S65536.size a)
theorem k0_idx239_inb : ∀ (v309 : IVec S16 32) (k0_hw239 : k0_chk239 v309), ∀ a x, ((![v309] : Fin 1 → IVec S16 32) a x).toNat < S65536.size a := fun v309 k0_hw239 => k0_hw239
def k0_off304 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_170 : BitVec 32 := 8#32
  let v310 : BitVec 32 := Scalar.muli arg14 c8_i32_170
  let c3_i32_171 : BitVec 32 := 3#32
  let v311 : BitVec 32 := Scalar.addi v310 c3_i32_171
  let v313 : Index := Scalar.indexCast v311
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_172 : BitVec 32 := 48#32
  let v312 : BitVec 32 := Scalar.addi v81 c48_i32_172
  let v314 : Index := Scalar.indexCast v312
  ![v313.toNat, v314.toNat]

def k0_chk240 (v316 : IVec S16 32) : Prop :=
  (∀ a x, ((![v316] : Fin 1 → IVec S16 32) a x).toNat < S65536.size a)
theorem k0_idx240_inb : ∀ (v316 : IVec S16 32) (k0_hw240 : k0_chk240 v316), ∀ a x, ((![v316] : Fin 1 → IVec S16 32) a x).toNat < S65536.size a := fun v316 k0_hw240 => k0_hw240
def k0_off305 (k0_t10 : Fin k0_t10_loop.trips) : Fin 2 → Nat :=
  let c112_i32_173 : BitVec 32 := 112#32
  let c0_i32_110 : BitVec 32 := 0#32
  let c1_i32_112 : BitVec 32 := 1#32
  let arg14 : BitVec 32 := Scf.iv c0_i32_110 c1_i32_112 k0_t10
  let v317 : BitVec 32 := Scalar.addi c112_i32_173 arg14
  let v318 : Index := Scalar.indexCast v317
  let c64 : Index := 64#32
  ![v318.toNat, 64]
def k0_off306 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_174 : BitVec 32 := 8#32
  let v320 : BitVec 32 := Scalar.muli arg14 c8_i32_174
  let c4_i32_175 : BitVec 32 := 4#32
  let v321 : BitVec 32 := Scalar.addi v320 c4_i32_175
  let v323 : Index := Scalar.indexCast v321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_176 : BitVec 32 := 0#32
  let v322 : BitVec 32 := Scalar.addi v81 c0_i32_176
  let v324 : Index := Scalar.indexCast v322
  ![v323.toNat, v324.toNat]

def k0_chk241 (v326 : IVec S16 32) : Prop :=
  (∀ a x, ((![v326] : Fin 1 → IVec S16 32) a x).toNat < S65536.size a)
theorem k0_idx241_inb : ∀ (v326 : IVec S16 32) (k0_hw241 : k0_chk241 v326), ∀ a x, ((![v326] : Fin 1 → IVec S16 32) a x).toNat < S65536.size a := fun v326 k0_hw241 => k0_hw241
def k0_off307 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_177 : BitVec 32 := 8#32
  let v327 : BitVec 32 := Scalar.muli arg14 c8_i32_177
  let c4_i32_178 : BitVec 32 := 4#32
  let v328 : BitVec 32 := Scalar.addi v327 c4_i32_178
  let v330 : Index := Scalar.indexCast v328
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_179 : BitVec 32 := 16#32
  let v329 : BitVec 32 := Scalar.addi v81 c16_i32_179
  let v331 : Index := Scalar.indexCast v329
  ![v330.toNat, v331.toNat]

def k0_chk242 (v333 : IVec S16 32) : Prop :=
  (∀ a x, ((![v333] : Fin 1 → IVec S16 32) a x).toNat < S65536.size a)
theorem k0_idx242_inb : ∀ (v333 : IVec S16 32) (k0_hw242 : k0_chk242 v333), ∀ a x, ((![v333] : Fin 1 → IVec S16 32) a x).toNat < S65536.size a := fun v333 k0_hw242 => k0_hw242
def k0_off308 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_180 : BitVec 32 := 8#32
  let v334 : BitVec 32 := Scalar.muli arg14 c8_i32_180
  let c4_i32_181 : BitVec 32 := 4#32
  let v335 : BitVec 32 := Scalar.addi v334 c4_i32_181
  let v337 : Index := Scalar.indexCast v335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_182 : BitVec 32 := 32#32
  let v336 : BitVec 32 := Scalar.addi v81 c32_i32_182
  let v338 : Index := Scalar.indexCast v336
  ![v337.toNat, v338.toNat]

def k0_chk243 (v340 : IVec S16 32) : Prop :=
  (∀ a x, ((![v340] : Fin 1 → IVec S16 32) a x).toNat < S65536.size a)
theorem k0_idx243_inb : ∀ (v340 : IVec S16 32) (k0_hw243 : k0_chk243 v340), ∀ a x, ((![v340] : Fin 1 → IVec S16 32) a x).toNat < S65536.size a := fun v340 k0_hw243 => k0_hw243
def k0_off309 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_183 : BitVec 32 := 8#32
  let v341 : BitVec 32 := Scalar.muli arg14 c8_i32_183
  let c4_i32_184 : BitVec 32 := 4#32
  let v342 : BitVec 32 := Scalar.addi v341 c4_i32_184
  let v344 : Index := Scalar.indexCast v342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_185 : BitVec 32 := 48#32
  let v343 : BitVec 32 := Scalar.addi v81 c48_i32_185
  let v345 : Index := Scalar.indexCast v343
  ![v344.toNat, v345.toNat]

def k0_chk244 (v347 : IVec S16 32) : Prop :=
  (∀ a x, ((![v347] : Fin 1 → IVec S16 32) a x).toNat < S65536.size a)
theorem k0_idx244_inb : ∀ (v347 : IVec S16 32) (k0_hw244 : k0_chk244 v347), ∀ a x, ((![v347] : Fin 1 → IVec S16 32) a x).toNat < S65536.size a := fun v347 k0_hw244 => k0_hw244
def k0_off310 (k0_t10 : Fin k0_t10_loop.trips) : Fin 2 → Nat :=
  let c112_i32_186 : BitVec 32 := 112#32
  let c0_i32_110 : BitVec 32 := 0#32
  let c1_i32_112 : BitVec 32 := 1#32
  let arg14 : BitVec 32 := Scf.iv c0_i32_110 c1_i32_112 k0_t10
  let v348 : BitVec 32 := Scalar.addi c112_i32_186 arg14
  let v349 : Index := Scalar.indexCast v348
  let c80 : Index := 80#32
  ![v349.toNat, 80]
def k0_off311 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_187 : BitVec 32 := 8#32
  let v351 : BitVec 32 := Scalar.muli arg14 c8_i32_187
  let c5_i32 : BitVec 32 := 5#32
  let v352 : BitVec 32 := Scalar.addi v351 c5_i32
  let v354 : Index := Scalar.indexCast v352
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_188 : BitVec 32 := 0#32
  let v353 : BitVec 32 := Scalar.addi v81 c0_i32_188
  let v355 : Index := Scalar.indexCast v353
  ![v354.toNat, v355.toNat]

def k0_chk245 (v357 : IVec S16 32) : Prop :=
  (∀ a x, ((![v357] : Fin 1 → IVec S16 32) a x).toNat < S65536.size a)
theorem k0_idx245_inb : ∀ (v357 : IVec S16 32) (k0_hw245 : k0_chk245 v357), ∀ a x, ((![v357] : Fin 1 → IVec S16 32) a x).toNat < S65536.size a := fun v357 k0_hw245 => k0_hw245
def k0_off312 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_189 : BitVec 32 := 8#32
  let v358 : BitVec 32 := Scalar.muli arg14 c8_i32_189
  let c5_i32_190 : BitVec 32 := 5#32
  let v359 : BitVec 32 := Scalar.addi v358 c5_i32_190
  let v361 : Index := Scalar.indexCast v359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_191 : BitVec 32 := 16#32
  let v360 : BitVec 32 := Scalar.addi v81 c16_i32_191
  let v362 : Index := Scalar.indexCast v360
  ![v361.toNat, v362.toNat]

def k0_chk246 (v364 : IVec S16 32) : Prop :=
  (∀ a x, ((![v364] : Fin 1 → IVec S16 32) a x).toNat < S65536.size a)
theorem k0_idx246_inb : ∀ (v364 : IVec S16 32) (k0_hw246 : k0_chk246 v364), ∀ a x, ((![v364] : Fin 1 → IVec S16 32) a x).toNat < S65536.size a := fun v364 k0_hw246 => k0_hw246
def k0_off313 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_192 : BitVec 32 := 8#32
  let v365 : BitVec 32 := Scalar.muli arg14 c8_i32_192
  let c5_i32_193 : BitVec 32 := 5#32
  let v366 : BitVec 32 := Scalar.addi v365 c5_i32_193
  let v368 : Index := Scalar.indexCast v366
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_194 : BitVec 32 := 32#32
  let v367 : BitVec 32 := Scalar.addi v81 c32_i32_194
  let v369 : Index := Scalar.indexCast v367
  ![v368.toNat, v369.toNat]

def k0_chk247 (v371 : IVec S16 32) : Prop :=
  (∀ a x, ((![v371] : Fin 1 → IVec S16 32) a x).toNat < S65536.size a)
theorem k0_idx247_inb : ∀ (v371 : IVec S16 32) (k0_hw247 : k0_chk247 v371), ∀ a x, ((![v371] : Fin 1 → IVec S16 32) a x).toNat < S65536.size a := fun v371 k0_hw247 => k0_hw247
def k0_off314 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_195 : BitVec 32 := 8#32
  let v372 : BitVec 32 := Scalar.muli arg14 c8_i32_195
  let c5_i32_196 : BitVec 32 := 5#32
  let v373 : BitVec 32 := Scalar.addi v372 c5_i32_196
  let v375 : Index := Scalar.indexCast v373
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_197 : BitVec 32 := 48#32
  let v374 : BitVec 32 := Scalar.addi v81 c48_i32_197
  let v376 : Index := Scalar.indexCast v374
  ![v375.toNat, v376.toNat]

def k0_chk248 (v378 : IVec S16 32) : Prop :=
  (∀ a x, ((![v378] : Fin 1 → IVec S16 32) a x).toNat < S65536.size a)
theorem k0_idx248_inb : ∀ (v378 : IVec S16 32) (k0_hw248 : k0_chk248 v378), ∀ a x, ((![v378] : Fin 1 → IVec S16 32) a x).toNat < S65536.size a := fun v378 k0_hw248 => k0_hw248
def k0_off315 (k0_t10 : Fin k0_t10_loop.trips) : Fin 2 → Nat :=
  let c112_i32_198 : BitVec 32 := 112#32
  let c0_i32_110 : BitVec 32 := 0#32
  let c1_i32_112 : BitVec 32 := 1#32
  let arg14 : BitVec 32 := Scf.iv c0_i32_110 c1_i32_112 k0_t10
  let v379 : BitVec 32 := Scalar.addi c112_i32_198 arg14
  let v380 : Index := Scalar.indexCast v379
  let c96 : Index := 96#32
  ![v380.toNat, 96]
def k0_off316 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_199 : BitVec 32 := 8#32
  let v382 : BitVec 32 := Scalar.muli arg14 c8_i32_199
  let c6_i32 : BitVec 32 := 6#32
  let v383 : BitVec 32 := Scalar.addi v382 c6_i32
  let v385 : Index := Scalar.indexCast v383
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_200 : BitVec 32 := 0#32
  let v384 : BitVec 32 := Scalar.addi v81 c0_i32_200
  let v386 : Index := Scalar.indexCast v384
  ![v385.toNat, v386.toNat]

def k0_chk249 (v388 : IVec S16 32) : Prop :=
  (∀ a x, ((![v388] : Fin 1 → IVec S16 32) a x).toNat < S65536.size a)
theorem k0_idx249_inb : ∀ (v388 : IVec S16 32) (k0_hw249 : k0_chk249 v388), ∀ a x, ((![v388] : Fin 1 → IVec S16 32) a x).toNat < S65536.size a := fun v388 k0_hw249 => k0_hw249
def k0_off317 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_201 : BitVec 32 := 8#32
  let v389 : BitVec 32 := Scalar.muli arg14 c8_i32_201
  let c6_i32_202 : BitVec 32 := 6#32
  let v390 : BitVec 32 := Scalar.addi v389 c6_i32_202
  let v392 : Index := Scalar.indexCast v390
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_203 : BitVec 32 := 16#32
  let v391 : BitVec 32 := Scalar.addi v81 c16_i32_203
  let v393 : Index := Scalar.indexCast v391
  ![v392.toNat, v393.toNat]

def k0_chk250 (v395 : IVec S16 32) : Prop :=
  (∀ a x, ((![v395] : Fin 1 → IVec S16 32) a x).toNat < S65536.size a)
theorem k0_idx250_inb : ∀ (v395 : IVec S16 32) (k0_hw250 : k0_chk250 v395), ∀ a x, ((![v395] : Fin 1 → IVec S16 32) a x).toNat < S65536.size a := fun v395 k0_hw250 => k0_hw250
def k0_off318 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_204 : BitVec 32 := 8#32
  let v396 : BitVec 32 := Scalar.muli arg14 c8_i32_204
  let c6_i32_205 : BitVec 32 := 6#32
  let v397 : BitVec 32 := Scalar.addi v396 c6_i32_205
  let v399 : Index := Scalar.indexCast v397
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_206 : BitVec 32 := 32#32
  let v398 : BitVec 32 := Scalar.addi v81 c32_i32_206
  let v400 : Index := Scalar.indexCast v398
  ![v399.toNat, v400.toNat]

def k0_chk251 (v402 : IVec S16 32) : Prop :=
  (∀ a x, ((![v402] : Fin 1 → IVec S16 32) a x).toNat < S65536.size a)
theorem k0_idx251_inb : ∀ (v402 : IVec S16 32) (k0_hw251 : k0_chk251 v402), ∀ a x, ((![v402] : Fin 1 → IVec S16 32) a x).toNat < S65536.size a := fun v402 k0_hw251 => k0_hw251
def k0_off319 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_207 : BitVec 32 := 8#32
  let v403 : BitVec 32 := Scalar.muli arg14 c8_i32_207
  let c6_i32_208 : BitVec 32 := 6#32
  let v404 : BitVec 32 := Scalar.addi v403 c6_i32_208
  let v406 : Index := Scalar.indexCast v404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_209 : BitVec 32 := 48#32
  let v405 : BitVec 32 := Scalar.addi v81 c48_i32_209
  let v407 : Index := Scalar.indexCast v405
  ![v406.toNat, v407.toNat]

def k0_chk252 (v409 : IVec S16 32) : Prop :=
  (∀ a x, ((![v409] : Fin 1 → IVec S16 32) a x).toNat < S65536.size a)
theorem k0_idx252_inb : ∀ (v409 : IVec S16 32) (k0_hw252 : k0_chk252 v409), ∀ a x, ((![v409] : Fin 1 → IVec S16 32) a x).toNat < S65536.size a := fun v409 k0_hw252 => k0_hw252
def k0_off320 (k0_t10 : Fin k0_t10_loop.trips) : Fin 2 → Nat :=
  let c112_i32_210 : BitVec 32 := 112#32
  let c0_i32_110 : BitVec 32 := 0#32
  let c1_i32_112 : BitVec 32 := 1#32
  let arg14 : BitVec 32 := Scf.iv c0_i32_110 c1_i32_112 k0_t10
  let v410 : BitVec 32 := Scalar.addi c112_i32_210 arg14
  let v411 : Index := Scalar.indexCast v410
  let c112 : Index := 112#32
  ![v411.toNat, 112]
def k0_off321 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_211 : BitVec 32 := 8#32
  let v413 : BitVec 32 := Scalar.muli arg14 c8_i32_211
  let c7_i32 : BitVec 32 := 7#32
  let v414 : BitVec 32 := Scalar.addi v413 c7_i32
  let v416 : Index := Scalar.indexCast v414
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c0_i32_212 : BitVec 32 := 0#32
  let v415 : BitVec 32 := Scalar.addi v81 c0_i32_212
  let v417 : Index := Scalar.indexCast v415
  ![v416.toNat, v417.toNat]

def k0_chk253 (v419 : IVec S16 32) : Prop :=
  (∀ a x, ((![v419] : Fin 1 → IVec S16 32) a x).toNat < S65536.size a)
theorem k0_idx253_inb : ∀ (v419 : IVec S16 32) (k0_hw253 : k0_chk253 v419), ∀ a x, ((![v419] : Fin 1 → IVec S16 32) a x).toNat < S65536.size a := fun v419 k0_hw253 => k0_hw253
def k0_off322 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_213 : BitVec 32 := 8#32
  let v420 : BitVec 32 := Scalar.muli arg14 c8_i32_213
  let c7_i32_214 : BitVec 32 := 7#32
  let v421 : BitVec 32 := Scalar.addi v420 c7_i32_214
  let v423 : Index := Scalar.indexCast v421
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c16_i32_215 : BitVec 32 := 16#32
  let v422 : BitVec 32 := Scalar.addi v81 c16_i32_215
  let v424 : Index := Scalar.indexCast v422
  ![v423.toNat, v424.toNat]

def k0_chk254 (v426 : IVec S16 32) : Prop :=
  (∀ a x, ((![v426] : Fin 1 → IVec S16 32) a x).toNat < S65536.size a)
theorem k0_idx254_inb : ∀ (v426 : IVec S16 32) (k0_hw254 : k0_chk254 v426), ∀ a x, ((![v426] : Fin 1 → IVec S16 32) a x).toNat < S65536.size a := fun v426 k0_hw254 => k0_hw254
def k0_off323 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_216 : BitVec 32 := 8#32
  let v427 : BitVec 32 := Scalar.muli arg14 c8_i32_216
  let c7_i32_217 : BitVec 32 := 7#32
  let v428 : BitVec 32 := Scalar.addi v427 c7_i32_217
  let v430 : Index := Scalar.indexCast v428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c32_i32_218 : BitVec 32 := 32#32
  let v429 : BitVec 32 := Scalar.addi v81 c32_i32_218
  let v431 : Index := Scalar.indexCast v429
  ![v430.toNat, v431.toNat]

def k0_chk255 (v433 : IVec S16 32) : Prop :=
  (∀ a x, ((![v433] : Fin 1 → IVec S16 32) a x).toNat < S65536.size a)
theorem k0_idx255_inb : ∀ (v433 : IVec S16 32) (k0_hw255 : k0_chk255 v433), ∀ a x, ((![v433] : Fin 1 → IVec S16 32) a x).toNat < S65536.size a := fun v433 k0_hw255 => k0_hw255
def k0_off324 (i : grid0.Coords) (k0_t10 : Fin k0_t10_loop.trips) : Fin 2 → Nat :=
  let c0_i32_110 : BitVec 32 := 0#32
  let c1_i32_112 : BitVec 32 := 1#32
  let arg14 : BitVec 32 := Scf.iv c0_i32_110 c1_i32_112 k0_t10
  let c8_i32_219 : BitVec 32 := 8#32
  let v434 : BitVec 32 := Scalar.muli arg14 c8_i32_219
  let c7_i32_220 : BitVec 32 := 7#32
  let v435 : BitVec 32 := Scalar.addi v434 c7_i32_220
  let v437 : Index := Scalar.indexCast v435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c2_i32_23 : BitVec 32 := 2#32
  let c0_i32_24 : BitVec 32 := 0#32
  let v71 : BitVec 1 := Scalar.cmpi .eq c2_i32_23 c0_i32_24
  let c1_i32_25 : BitVec 32 := 1#32
  let v72 : BitVec 32 := Scalar.select v71 c1_i32_25 c2_i32_23
  let v73 : BitVec 32 := Scalar.remsi v19 v72
  let c0_i32_27 : BitVec 32 := 0#32
  let v75 : BitVec 1 := Scalar.cmpi .slt v73 c0_i32_27
  let c0_i32_28 : BitVec 32 := 0#32
  let v76 : BitVec 1 := Scalar.cmpi .slt v72 c0_i32_28
  let v77 : BitVec 1 := Scalar.xori v75 v76
  let c0_i32_26 : BitVec 32 := 0#32
  let v74 : BitVec 1 := Scalar.cmpi .ne v73 c0_i32_26
  let v78 : BitVec 1 := Scalar.andi v77 v74
  let v79 : BitVec 32 := Scalar.addi v73 v72
  let v80 : BitVec 32 := Scalar.select v78 v79 v73
  let c64_i32 : BitVec 32 := 64#32
  let v81 : BitVec 32 := Scalar.muli v80 c64_i32
  let c48_i32_221 : BitVec 32 := 48#32
  let v436 : BitVec 32 := Scalar.addi v81 c48_i32_221
  let v438 : Index := Scalar.indexCast v436
  ![v437.toNat, v438.toNat]

def k0_chk256 (v440 : IVec S16 32) : Prop :=
  (∀ a x, ((![v440] : Fin 1 → IVec S16 32) a x).toNat < S65536.size a)
theorem k0_idx256_inb : ∀ (v440 : IVec S16 32) (k0_hw256 : k0_chk256 v440), ∀ a x, ((![v440] : Fin 1 → IVec S16 32) a x).toNat < S65536.size a := fun v440 k0_hw256 => k0_hw256
@[reducible] def k0_t11_loop : Scf.Loop 32 :=
  let c0_i32_115 : BitVec 32 := 0#32
  let c32_i32_116 : BitVec 32 := 32#32
  let v184 : BitVec 32 := Scalar.addi c0_i32_115 c32_i32_116
  let c1_i32_117 : BitVec 32 := 1#32
  ⟨c0_i32_115, v184, c1_i32_117⟩
def k0_off325 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c32_i32_123 : BitVec 32 := 32#32
  let v193 : BitVec 32 := Scalar.muli v19 c32_i32_123
  let c0_i32_115 : BitVec 32 := 0#32
  let c1_i32_117 : BitVec 32 := 1#32
  let arg14 : BitVec 32 := Scf.iv c0_i32_115 c1_i32_117 k0_t11
  let v194 : BitVec 32 := Scalar.addi v193 arg14
  let v195 : Index := Scalar.indexCast v194
  let c0 : Index := 0#32
  ![v195.toNat, 0]

def k0_chk257 (v198 : IVec S16 32) : Prop :=
  (∀ a x, ((![v198] : Fin 1 → IVec S16 32) a x).toNat < S1024.size a)
theorem k0_idx257_inb : ∀ (v198 : IVec S16 32) (k0_hw257 : k0_chk257 v198), ∀ a x, ((![v198] : Fin 1 → IVec S16 32) a x).toNat < S1024.size a := fun v198 k0_hw257 => k0_hw257
def k0_off326 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c32_i32_124 : BitVec 32 := 32#32
  let v199 : BitVec 32 := Scalar.muli v19 c32_i32_124
  let c0_i32_115 : BitVec 32 := 0#32
  let c1_i32_117 : BitVec 32 := 1#32
  let arg14 : BitVec 32 := Scf.iv c0_i32_115 c1_i32_117 k0_t11
  let v200 : BitVec 32 := Scalar.addi v199 arg14
  let v201 : Index := Scalar.indexCast v200
  let c16 : Index := 16#32
  ![v201.toNat, 16]

def k0_chk258 (v204 : IVec S16 32) : Prop :=
  (∀ a x, ((![v204] : Fin 1 → IVec S16 32) a x).toNat < S1024.size a)
theorem k0_idx258_inb : ∀ (v204 : IVec S16 32) (k0_hw258 : k0_chk258 v204), ∀ a x, ((![v204] : Fin 1 → IVec S16 32) a x).toNat < S1024.size a := fun v204 k0_hw258 => k0_hw258
def k0_off327 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c32_i32_126 : BitVec 32 := 32#32
  let v205 : BitVec 32 := Scalar.muli v19 c32_i32_126
  let c0_i32_115 : BitVec 32 := 0#32
  let c1_i32_117 : BitVec 32 := 1#32
  let arg14 : BitVec 32 := Scf.iv c0_i32_115 c1_i32_117 k0_t11
  let v206 : BitVec 32 := Scalar.addi v205 arg14
  let v207 : Index := Scalar.indexCast v206
  let c32 : Index := 32#32
  ![v207.toNat, 32]

def k0_chk259 (v210 : IVec S16 32) : Prop :=
  (∀ a x, ((![v210] : Fin 1 → IVec S16 32) a x).toNat < S1024.size a)
theorem k0_idx259_inb : ∀ (v210 : IVec S16 32) (k0_hw259 : k0_chk259 v210), ∀ a x, ((![v210] : Fin 1 → IVec S16 32) a x).toNat < S1024.size a := fun v210 k0_hw259 => k0_hw259
def k0_off328 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c32_i32_128 : BitVec 32 := 32#32
  let v211 : BitVec 32 := Scalar.muli v19 c32_i32_128
  let c0_i32_115 : BitVec 32 := 0#32
  let c1_i32_117 : BitVec 32 := 1#32
  let arg14 : BitVec 32 := Scf.iv c0_i32_115 c1_i32_117 k0_t11
  let v212 : BitVec 32 := Scalar.addi v211 arg14
  let v213 : Index := Scalar.indexCast v212
  let c48 : Index := 48#32
  ![v213.toNat, 48]

def k0_chk260 (v216 : IVec S16 32) : Prop :=
  (∀ a x, ((![v216] : Fin 1 → IVec S16 32) a x).toNat < S1024.size a)
theorem k0_idx260_inb : ∀ (v216 : IVec S16 32) (k0_hw260 : k0_chk260 v216), ∀ a x, ((![v216] : Fin 1 → IVec S16 32) a x).toNat < S1024.size a := fun v216 k0_hw260 => k0_hw260
def k0_off329 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c32_i32_130 : BitVec 32 := 32#32
  let v217 : BitVec 32 := Scalar.muli v19 c32_i32_130
  let c0_i32_115 : BitVec 32 := 0#32
  let c1_i32_117 : BitVec 32 := 1#32
  let arg14 : BitVec 32 := Scf.iv c0_i32_115 c1_i32_117 k0_t11
  let v218 : BitVec 32 := Scalar.addi v217 arg14
  let v219 : Index := Scalar.indexCast v218
  let c64 : Index := 64#32
  ![v219.toNat, 64]

def k0_chk261 (v222 : IVec S16 32) : Prop :=
  (∀ a x, ((![v222] : Fin 1 → IVec S16 32) a x).toNat < S1024.size a)
theorem k0_idx261_inb : ∀ (v222 : IVec S16 32) (k0_hw261 : k0_chk261 v222), ∀ a x, ((![v222] : Fin 1 → IVec S16 32) a x).toNat < S1024.size a := fun v222 k0_hw261 => k0_hw261
def k0_off330 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c32_i32_132 : BitVec 32 := 32#32
  let v223 : BitVec 32 := Scalar.muli v19 c32_i32_132
  let c0_i32_115 : BitVec 32 := 0#32
  let c1_i32_117 : BitVec 32 := 1#32
  let arg14 : BitVec 32 := Scf.iv c0_i32_115 c1_i32_117 k0_t11
  let v224 : BitVec 32 := Scalar.addi v223 arg14
  let v225 : Index := Scalar.indexCast v224
  let c80 : Index := 80#32
  ![v225.toNat, 80]

def k0_chk262 (v228 : IVec S16 32) : Prop :=
  (∀ a x, ((![v228] : Fin 1 → IVec S16 32) a x).toNat < S1024.size a)
theorem k0_idx262_inb : ∀ (v228 : IVec S16 32) (k0_hw262 : k0_chk262 v228), ∀ a x, ((![v228] : Fin 1 → IVec S16 32) a x).toNat < S1024.size a := fun v228 k0_hw262 => k0_hw262
def k0_off331 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c32_i32_134 : BitVec 32 := 32#32
  let v229 : BitVec 32 := Scalar.muli v19 c32_i32_134
  let c0_i32_115 : BitVec 32 := 0#32
  let c1_i32_117 : BitVec 32 := 1#32
  let arg14 : BitVec 32 := Scf.iv c0_i32_115 c1_i32_117 k0_t11
  let v230 : BitVec 32 := Scalar.addi v229 arg14
  let v231 : Index := Scalar.indexCast v230
  let c96 : Index := 96#32
  ![v231.toNat, 96]

def k0_chk263 (v234 : IVec S16 32) : Prop :=
  (∀ a x, ((![v234] : Fin 1 → IVec S16 32) a x).toNat < S1024.size a)
theorem k0_idx263_inb : ∀ (v234 : IVec S16 32) (k0_hw263 : k0_chk263 v234), ∀ a x, ((![v234] : Fin 1 → IVec S16 32) a x).toNat < S1024.size a := fun v234 k0_hw263 => k0_hw263
def k0_off332 (i : grid0.Coords) (k0_t11 : Fin k0_t11_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c32_i32_136 : BitVec 32 := 32#32
  let v235 : BitVec 32 := Scalar.muli v19 c32_i32_136
  let c0_i32_115 : BitVec 32 := 0#32
  let c1_i32_117 : BitVec 32 := 1#32
  let arg14 : BitVec 32 := Scf.iv c0_i32_115 c1_i32_117 k0_t11
  let v236 : BitVec 32 := Scalar.addi v235 arg14
  let v237 : Index := Scalar.indexCast v236
  let c112 : Index := 112#32
  ![v237.toNat, 112]

def k0_chk264 (v240 : IVec S16 32) : Prop :=
  (∀ a x, ((![v240] : Fin 1 → IVec S16 32) a x).toNat < S1024.size a)
theorem k0_idx264_inb : ∀ (v240 : IVec S16 32) (k0_hw264 : k0_chk264 v240), ∀ a x, ((![v240] : Fin 1 → IVec S16 32) a x).toNat < S1024.size a := fun v240 k0_hw264 => k0_hw264
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c8_i32_119 : BitVec 32 := 8#32
  let v186 : BitVec 32 := Scalar.muli v19 c8_i32_119
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v187 : BitVec 32 := Scalar.addi v186 v18
  let c1024_i32_120 : BitVec 32 := 1024#32
  let v188 : BitVec 32 := Scalar.muli v187 c1024_i32_120
  let c64_i32_121 : BitVec 32 := 64#32
  let v189 : BitVec 32 := Scalar.muli v188 c64_i32_121
  v189
def k0_off333 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v19 : BitVec 32 := Scalar.remsi v1 c4_i32_4
  let c8_i32_119 : BitVec 32 := 8#32
  let v186 : BitVec 32 := Scalar.muli v19 c8_i32_119
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v187 : BitVec 32 := Scalar.addi v186 v18
  let c1024_i32_120 : BitVec 32 := 1024#32
  let v188 : BitVec 32 := Scalar.muli v187 c1024_i32_120
  let c64_i32_121 : BitVec 32 := 64#32
  let v189 : BitVec 32 := Scalar.muli v188 c64_i32_121
  let v190 : BitVec 32 := v189
  ![v190.toNat]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_122 : BitVec 32 := 1024#32
  let v191 : BitVec 32 := Scalar.muli v1 c1024_i32_122
  v191
def k0_off334 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_122 : BitVec 32 := 1024#32
  let v191 : BitVec 32 := Scalar.muli v1 c1024_i32_122
  let v192 : BitVec 32 := v191
  ![v192.toNat]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16384x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x8192x128 : Shape := ⟨3, ![2, 8192, 128]⟩
abbrev S1024x128 : Shape := ⟨2, ![1024, 128]⟩
abbrev S8x256x32x32 : Shape := ⟨4, ![8, 256, 32, 32]⟩
abbrev S1024x256 : Shape := ⟨2, ![1024, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192x128 : Shape := ⟨3, ![1, 8192, 128]⟩
abbrev S8192x128 : Shape := ⟨2, ![8192, 128]⟩
abbrev S1024 : Shape := ⟨1, ![1024]⟩
abbrev S8192x16 : Shape := ⟨2, ![8192, 16]⟩
abbrev S1x1024 : Shape := ⟨2, ![1, 1024]⟩
abbrev S8192x1024 : Shape := ⟨2, ![8192, 1024]⟩
abbrev S256x8192 : Shape := ⟨2, ![256, 8192]⟩
abbrev S256x1024 : Shape := ⟨2, ![256, 1024]⟩
abbrev S1024x1 : Shape := ⟨2, ![1024, 1]⟩
abbrev S8x1024x256 : Shape := ⟨3, ![8, 1024, 256]⟩
abbrev S8x256x1024 : Shape := ⟨3, ![8, 256, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S1024x128, .i32⟩
  | .hbm, ⟨2, _⟩ => ⟨S8x256x32x32, .f32⟩
  | .hbm, ⟨3, _⟩ => ⟨S1024x256, .f32⟩
  | .hbm, ⟨4, _⟩ => ⟨S8x32x32x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x256, .f32⟩
  | .hbm, ⟨15, _⟩ => ⟨S8192x256, .f32⟩
  | .hbm, ⟨16, _⟩ => ⟨S1x8192x128, .f32⟩
  | .hbm, ⟨17, _⟩ => ⟨S8192x128, .f32⟩
  | .hbm, ⟨18, _⟩ => ⟨S1x8192x128, .f32⟩
  | .hbm, ⟨19, _⟩ => ⟨S8192x128, .f32⟩
  | .hbm, ⟨20, _⟩ => ⟨S8192x256, .f32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S8192x16, .i32⟩
  | .hbm, ⟨26, _⟩ => ⟨S8192x1, .i32⟩
  | .hbm, ⟨27, _⟩ => ⟨S1x1024, .i32⟩
  | .hbm, ⟨28, _⟩ => ⟨S8192x1024, .i32⟩
  | .hbm, ⟨29, _⟩ => ⟨S8192x1024, .i32⟩
  | .hbm, ⟨30, _⟩ => ⟨S8192x1024, .i1⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S256x8192, .f32⟩
  | .hbm, ⟨35, _⟩ => ⟨S256x1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S1024x256, .f32⟩
  | .hbm, ⟨51, _⟩ => ⟨S_, .f32⟩
  | .hbm, ⟨52, _⟩ => ⟨S1024, .f32⟩
  | .hbm, ⟨53, _⟩ => ⟨S1024x1, .f32⟩
  | .hbm, ⟨54, _⟩ => ⟨S1024x1, .f32⟩
  | .hbm, ⟨55, _⟩ => ⟨S_, .f32⟩
  | .hbm, ⟨56, _⟩ => ⟨S1024x1, .f32⟩
  | .hbm, ⟨57, _⟩ => ⟨S1024x1, .f32⟩
  | .hbm, ⟨58, _⟩ => ⟨S1024x256, .f32⟩
  | .hbm, ⟨59, _⟩ => ⟨S1024x256, .f32⟩
  | .hbm, ⟨60, _⟩ => ⟨S256x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x256, .f32⟩
  | .hbm, ⟨77, _⟩ => ⟨S8x1024x256, .f32⟩
  | .hbm, ⟨78, _⟩ => ⟨S8x256x1024, .f32⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Proof.Ideal.Trip.lean ====
/-
  The row loop of the segment sums, written once. The kernel runs eight row loops, one per chunk of
  128 rows; the printed program spells each out with its own offsets and its own side conditions.
  Here one trip of such a loop is a program over the chunk's number and the buffer it reads, and each
  printed loop's body is shown to be it.
-/
module

public import proofs.«01_k».proof.Defs
public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen
open Idealize.ShloMosaic Idealize.SL.Sem

variable {F : FTy → Type} [FloatOps F]

abbrev xV : Memref sig .scVector .hbm S2x8192x128 .f32 := Memref.whole main_arg0_scv
abbrev kV : Memref sig .scVector .hbm S1024x128 .i32 := Memref.whole main_arg1_scv
abbrev oV : Memref sig .scVector .hbm S2097152 .f32 := Memref.whole main_v1_0_scv
abbrev nV : Memref sig .scVector .hbm S32768 .f32 := Memref.whole main_v1_1_scv
abbrev keyS : Memref sig .scVector .vmem S128x128 .i32 := Memref.whole cc0_scratch0
abbrev aS : Memref sig .scVector .vmem S128x128 .f32 := Memref.whole cc0_scratch1
abbrev bS : Memref sig .scVector .vmem S128x128 .f32 := Memref.whole cc0_scratch2
abbrev accS : Memref sig .scVector .vmem S65536 .f32 := Memref.whole cc0_scratch3
abbrev cntS : Memref sig .scVector .vmem S1024 .f32 := Memref.whole cc0_scratch4

/-! ## Offsets -/

/-- The first column of a tile's half of a row, as the kernel computes it. -/
def colWord (i : grid0.Coords) : BitVec 32 :=
  let v1 : BitVec 32 := Scalar.addi (Scalar.muli (BitVec.ofNat 32 (i 1).val) 2#32) (BitVec.ofNat 32 (i 0).val)
  let v19 : BitVec 32 := Scalar.remsi v1 4#32
  let v72 : BitVec 32 := Scalar.select (Scalar.cmpi .eq 2#32 0#32) 1#32 2#32
  let v73 : BitVec 32 := Scalar.remsi v19 v72
  let v78 : BitVec 1 := Scalar.andi (Scalar.xori (Scalar.cmpi .slt v73 0#32) (Scalar.cmpi .slt v72 0#32)) (Scalar.cmpi .ne v73 0#32)
  Scalar.muli (Scalar.select v78 (Scalar.addi v73 v72) v73) 64#32

/-- Where sixteen lanes of a row start: row `j` of trip `t`'s eight rows, lane group `c`. -/
def offV (i : grid0.Coords) (t : Fin k0_t3_loop.trips) (j : Fin 8) (c : Fin 4) : Fin 2 → Nat :=
  ![(Scalar.indexCast (Scalar.addi (Scalar.muli (Scf.iv 0#32 1#32 t) 8#32) (BitVec.ofNat 32 j.val))).toNat,
    (Scalar.indexCast (Scalar.addi (colWord i) (BitVec.ofNat 32 (16 * c.val)))).toNat]

/-- Where the sixteen copies of a row's segment offset start. -/
def offK (h : Fin 8) (t : Fin k0_t3_loop.trips) (j : Fin 8) : Fin 2 → Nat :=
  ![(Scalar.indexCast (Scalar.addi (BitVec.ofNat 32 (16 * h.val)) (Scf.iv 0#32 1#32 t))).toNat, 16 * j.val]

theorem colWord_add : ∀ (i : grid0.Coords) (c : Fin 4),
    (Scalar.indexCast (Scalar.addi (colWord i) (BitVec.ofNat 32 (16 * c.val)))).toNat = 64 * ((2 * (i 1).val + (i 0).val) % 2) + 16 * c.val := by
  decide +kernel

theorem rowWord_add : ∀ (t : Fin k0_t3_loop.trips) (j : Fin 8),
    (Scalar.indexCast (Scalar.addi (Scalar.muli (Scf.iv 0#32 1#32 t) 8#32) (BitVec.ofNat 32 j.val))).toNat = 8 * t.val + j.val := by
  decide +kernel

theorem keyWord_add : ∀ (h : Fin 8) (t : Fin k0_t3_loop.trips),
    (Scalar.indexCast (Scalar.addi (BitVec.ofNat 32 (16 * h.val)) (Scf.iv 0#32 1#32 t))).toNat = 16 * h.val + t.val := by
  decide +kernel

theorem trips16 : k0_t3_loop.trips = 16 := by decide +kernel

theorem offV_eq (i : grid0.Coords) (t : Fin k0_t3_loop.trips) (j : Fin 8) (c : Fin 4) :
    offV i t j c = ![8 * t.val + j.val, 64 * ((2 * (i 1).val + (i 0).val) % 2) + 16 * c.val] := by
  rw [offV, rowWord_add, colWord_add]

theorem offK_eq (h : Fin 8) (t : Fin k0_t3_loop.trips) (j : Fin 8) :
    offK h t j = ![16 * h.val + t.val, 16 * j.val] := by
  rw [offK, keyWord_add]

theorem offV_inb (i : grid0.Coords) (t : Fin k0_t3_loop.trips) (j : Fin 8) (c : Fin 4) :
    ∀ a, offV i t j c a + S1x16.size a ≤ S128x128.size a := by
  have ht : t.val < 16 := t.isLt.trans_eq trips16
  have := j.isLt; have := c.isLt
  rw [offV_eq]
  intro a
  match a with
  | ⟨0, _⟩ => show 8 * t.val + j.val + 1 ≤ 128; omega
  | ⟨1, _⟩ => show 64 * ((2 * (i 1).val + (i 0).val) % 2) + 16 * c.val + 16 ≤ 128; omega
  | ⟨_ + 2, h⟩ => exact absurd h (Nat.not_lt.2 (Nat.le_add_left _ _))

theorem offK_inb (h : Fin 8) (t : Fin k0_t3_loop.trips) (j : Fin 8) :
    ∀ a, offK h t j a + S1x16.size a ≤ S128x128.size a := by
  have ht : t.val < 16 := t.isLt.trans_eq trips16
  have := j.isLt; have := h.isLt
  rw [offK_eq]
  intro a
  match a with
  | ⟨0, _⟩ => show 16 * h.val + t.val + 1 ≤ 128; omega
  | ⟨1, _⟩ => show 16 * j.val + 16 ≤ 128; omega
  | ⟨_ + 2, h⟩ => exact absurd h (Nat.not_lt.2 (Nat.le_add_left _ _))

/-! ## One trip -/

/-- The side condition of a scatter into the sums: every lane's index inside the buffer. -/
def InAcc (v : IVec S16 32) : Prop := ∀ a x, ((![v] : Fin 1 → IVec S16 32) a x).toNat < S65536.size a

instance InAcc.dec (v : IVec S16 32) : Decidable (InAcc v) := decidable_of_iff' _ (Iff.of_eq (InAcc.eq_1 v))

/-- Programs of the tile at `i`. -/
abbrev TProg (F : FTy → Type) [FloatOps F] (i : grid0.Coords) (α : Type) :=
  Prog (TpuEff nD τ sig (Elt F) Λ₀ (.scVector ((i 0).castLE hcore0) ((i 1).castLE hsub0))) α

/-- A one-row block of sixteen as a vector of sixteen. -/
def lanes {e : EltTy} (v : Vec F S1x16 e) : Vec F S16 e := shapeCast S16 v shapeCasts_S1x16_S16

/-- Sixteen lanes of one row added into the sums at the row's segment. -/
def quarter (i : grid0.Coords) (t : Fin k0_t3_loop.trips) (buf : Memref sig .scVector .vmem S128x128 .f32) (acc : Memref sig .scVector .vmem S65536 .f32)
    (kv : IVec S16 32) (ln : IVec S16 32) (j : Fin 8) (c : Fin 4) : TProg F i PUnit :=
  .op (.load buf (Rect.unit (s := S128x128) (offV i t j c) S1x16.size (offV_inb i t j c)).toLoadRect (View.loadsAt_vmem h_S1x16)) fun ld =>
  .op (TpuEff.assume (InAcc (addi kv ln)) (InAcc.dec _)) fun hw =>
  SparseCore.vectorStoreIdx acc ![addi kv ln] (lanes (F := F) ld) (fun _ => 1#1) true hw.down (View.stores_vmem_bits_univ h_S65536 rfl)

/-- One row added into the sums. -/
def rowProg (i : grid0.Coords) (h : Fin 8) (t : Fin k0_t3_loop.trips) (keys : Memref sig .scVector .vmem S128x128 .i32)
    (buf : Memref sig .scVector .vmem S128x128 .f32) (acc : Memref sig .scVector .vmem S65536 .f32) (ln : Fin 4 → IVec S16 32) (j : Fin 8) : TProg F i PUnit :=
  .op (.load keys (Rect.unit (s := S128x128) (offK h t j) S1x16.size (offK_inb h t j)).toLoadRect (View.loadsAt_vmem h_S1x16)) fun kld => do
  quarter i t buf acc (lanes (F := F) (e := .i32) kld) (ln 0) j 0
  quarter i t buf acc (lanes (F := F) (e := .i32) kld) (ln 1) j 1
  quarter i t buf acc (lanes (F := F) (e := .i32) kld) (ln 2) j 2
  quarter i t buf acc (lanes (F := F) (e := .i32) kld) (ln 3) j 3

/-- One trip of a row loop: eight rows. -/
def tripProg (i : grid0.Coords) (h : Fin 8) (keys : Memref sig .scVector .vmem S128x128 .i32)
    (buf : Memref sig .scVector .vmem S128x128 .f32) (acc : Memref sig .scVector .vmem S65536 .f32) (ln : Fin 4 → IVec S16 32)
    (t : Fin k0_t3_loop.trips) : TProg F i (BitVec 32) := do
  rowProg i h t keys buf acc ln 0
  rowProg i h t keys buf acc ln 1
  rowProg i h t keys buf acc ln 2
  rowProg i h t keys buf acc ln 3
  rowProg i h t keys buf acc ln 4
  rowProg i h t keys buf acc ln 5
  rowProg i h t keys buf acc ln 6
  rowProg i h t keys buf acc ln 7
  pure 0#32

/-- The row loop over one chunk. -/
def rowsProg (i : grid0.Coords) (h : Fin 8) (buf : Memref sig .scVector .vmem S128x128 .f32) : TProg F i (BitVec 32) :=
  Scf.Loop.for k0_t3_loop k0_t3_ok 0#32 fun t _ => tripProg i h keyS buf accS ![k0_pay294, k0_pay295, k0_pay296, k0_pay297] t

/-! ## The zero fills -/

/-- One store of sixteen zeros into the sums. -/
def zeroStep (i : grid0.Coords) (t : Fin k0_t1_loop.trips) (r : Fin 16) : TProg F i PUnit :=
  .op (.load accS (Rect.unit (s := S65536) (k0_off3 t (BitVec.ofNat 32 (16 * r.val))) S16.size (k0_off3_inb t r)).toLoadRect (View.loadsAt_vmem h_S16)) fun _ =>
  .op (.store accS (Rect.unit (s := S65536) (k0_off3 t (BitVec.ofNat 32 (16 * r.val))) S16.size (k0_off3_inb t r)) (k0_pay299 (F := F)) Finset.univ
    (View.stores_vmem_bits_univ h_S16 rfl) (.inl rfl)) .ret

/-- The sums zeroed. -/
def zeroSums (i : grid0.Coords) : TProg F i (BitVec 32) :=
  Scf.Loop.for k0_t1_loop k0_t1_ok 0#32 fun t _ => do
    zeroStep i t 0; zeroStep i t 1; zeroStep i t 2; zeroStep i t 3; zeroStep i t 4; zeroStep i t 5; zeroStep i t 6; zeroStep i t 7
    zeroStep i t 8; zeroStep i t 9; zeroStep i t 10; zeroStep i t 11; zeroStep i t 12; zeroStep i t 13; zeroStep i t 14; zeroStep i t 15
    pure 0#32

/-- The counts zeroed. -/
def zeroCnts (i : grid0.Coords) : TProg F i (BitVec 32) :=
  Scf.Loop.for k0_t2_loop k0_t2_ok 0#32 fun t _ =>
    .op (.load cntS (Rect.unit (s := S1024) (k0_off4 t) S16.size (k0_off4_inb t)).toLoadRect (View.loadsAt_vmem h_S16)) fun _ =>
    .op (.store cntS (Rect.unit (s := S1024) (k0_off4 t) S16.size (k0_off4_inb t)) (k0_pay299 (F := F)) Finset.univ
      (View.stores_vmem_bits_univ h_S16 rfl) (.inl rfl)) fun _ => pure 0#32

/-! ## The counts -/

/-- The side condition of a scatter into the counts. -/
def InCnt (v : IVec S16 32) : Prop := ∀ a x, ((![v] : Fin 1 → IVec S16 32) a x).toNat < S1024.size a

instance InCnt.dec (v : IVec S16 32) : Decidable (InCnt v) := decidable_of_iff' _ (Iff.of_eq (InCnt.eq_1 v))

/-- Where the copies of a counted row's segment offset start: trip `t` of the tile's quarter of the rows, row `j` of its eight. -/
def offC (i : grid0.Coords) (t : Fin k0_t11_loop.trips) (j : Fin 8) : Fin 2 → Nat :=
  let v1 : BitVec 32 := Scalar.addi (Scalar.muli (BitVec.ofNat 32 (i 1).val) 2#32) (BitVec.ofNat 32 (i 0).val)
  ![(Scalar.indexCast (Scalar.addi (Scalar.muli (Scalar.remsi v1 4#32) 32#32) (Scf.iv 0#32 1#32 t))).toNat, 16 * j.val]

theorem cntWord_add : ∀ (i : grid0.Coords) (t : Fin k0_t11_loop.trips),
    (Scalar.indexCast (Scalar.addi (Scalar.muli (Scalar.remsi (Scalar.addi (Scalar.muli (BitVec.ofNat 32 (i 1).val) 2#32) (BitVec.ofNat 32 (i 0).val)) 4#32) 32#32)
      (Scf.iv 0#32 1#32 t))).toNat = 32 * ((2 * (i 1).val + (i 0).val) % 4) + t.val := by
  decide +kernel

theorem trips32 : k0_t11_loop.trips = 32 := by decide +kernel

theorem offC_eq (i : grid0.Coords) (t : Fin k0_t11_loop.trips) (j : Fin 8) :
    offC i t j = ![32 * ((2 * (i 1).val + (i 0).val) % 4) + t.val, 16 * j.val] := by
  rw [offC, cntWord_add]

theorem offC_inb (i : grid0.Coords) (t : Fin k0_t11_loop.trips) (j : Fin 8) :
    ∀ a, offC i t j a + S1x16.size a ≤ S128x128.size a := by
  have ht : t.val < 32 := t.isLt.trans_eq trips32
  have := j.isLt
  rw [offC_eq]
  intro a
  match a with
  | ⟨0, _⟩ => show 32 * ((2 * (i 1).val + (i 0).val) % 4) + t.val + 1 ≤ 128; omega
  | ⟨1, _⟩ => show 16 * j.val + 16 ≤ 128; omega
  | ⟨_ + 2, h⟩ => exact absurd h (Nat.not_lt.2 (Nat.le_add_left _ _))

/-- One counted row: the masked scatter of ones at the row's segment. -/
def cntStep (i : grid0.Coords) (t : Fin k0_t11_loop.trips) (j : Fin 8) : TProg F i PUnit :=
  .op (.load keyS (Rect.unit (s := S128x128) (offC i t j) S1x16.size (offC_inb i t j)).toLoadRect (View.loadsAt_vmem h_S1x16)) fun kld =>
  .op (TpuEff.assume (InCnt (shrui (lanes (F := F) (e := .i32) kld) (broadcast S16 6#32))) (InCnt.dec _)) fun hw =>
  SparseCore.vectorStoreIdx cntS ![shrui (lanes (F := F) (e := .i32) kld) (broadcast S16 6#32)] (k0_pay298 (F := F)) k0_pay300 true hw.down (View.stores_vmem_bits_univ h_S1024 rfl)

/-- The counting loop. -/
def cntProg (i : grid0.Coords) : TProg F i (BitVec 32) :=
  Scf.Loop.for k0_t11_loop k0_t11_ok 0#32 fun t _ => do
    cntStep i t 0; cntStep i t 1; cntStep i t 2; cntStep i t 3; cntStep i t 4; cntStep i t 5; cntStep i t 6; cntStep i t 7
    pure 0#32

/-! ## The whole task -/

/-- Chunk `r` of the tile's rows, in the array of vectors. -/
abbrev chunk (i : grid0.Coords) (r : Fin 8) : Memref sig .scVector .hbm S128x128 .f32 :=
  (xV.slice (Rect.unit (s := S2x8192x128) (k0_off2 i (BitVec.ofNat 32 (128 * r.val))) S1x128x128.size (k0_off2_inb i r)) (fun _ => rfl)).squeeze S128x128 squeezes_S1x128x128_S128x128
/-- The tile's rows of segment offsets. -/
abbrev keyRows (i : grid0.Coords) : Memref sig .scVector .hbm S128x128 .i32 :=
  kV.slice (Rect.unit (s := S1024x128) (k0_off1 i) S128x128.size (k0_off1_inb i)) (fun _ => rfl)
/-- The tile's part of the sums. -/
abbrev sumOut (i : grid0.Coords) : Memref sig .scVector .hbm S65536 .f32 :=
  oV.slice (Rect.unit (s := S2097152) (k0_off333 i) S65536.size (k0_off333_inb i)) (fun _ => rfl)
/-- The tile's part of the counts. -/
abbrev cntOut (i : grid0.Coords) : Memref sig .scVector .hbm S1024 .f32 :=
  nV.slice (Rect.unit (s := S32768) (k0_off334 i) S1024.size (k0_off334_inb i)) (fun _ => rfl)

/-- Start fetching a chunk. -/
abbrev fetch (i : grid0.Coords) (r : Fin 8) (buf : Memref sig .scVector .vmem S128x128 .f32) (hb : buf.IsWhole) (s : DmaSems sig S_) : TProg F i PUnit :=
  Prog.lift (.enqueueDma (chunk i r) (.here buf) (.dma s.sem) ((View.wordExact_bits rfl).reshape _ _) hb.wordExact ⟨Or.inl rfl, trivial⟩)
/-- Wait for a chunk. -/
abbrev await (i : grid0.Coords) (r : Fin 8) (buf : Memref sig .scVector .vmem S128x128 .f32) (hb : buf.IsWhole) (s : DmaSems sig S_) : TProg F i PUnit :=
  Prog.lift (.waitDma2 s.sem (chunk i r) buf ((View.wordExact_bits rfl).reshape _ _) hb.wordExact)

/-- The task of a tile. -/
def bodyProg (i : grid0.Coords) : TProg F i PUnit := do
  Prog.lift (.enqueueDma (keyRows i) (.here keyS) (.dma cc0_scratch5.sem) (View.wordExact_bits rfl) (Memref.isWhole_whole cc0_scratch0).wordExact ⟨Or.inl rfl, trivial⟩)
  fetch i 0 aS (Memref.isWhole_whole _) cc0_scratch6
  let _ ← zeroSums i
  let _ ← zeroCnts i
  Prog.lift (.waitDma2 cc0_scratch5.sem (keyRows i) keyS (View.wordExact_bits rfl) (Memref.isWhole_whole cc0_scratch0).wordExact)
  await i 0 aS (Memref.isWhole_whole _) cc0_scratch6
  fetch i 1 bS (Memref.isWhole_whole _) cc0_scratch7
  let _ ← rowsProg i 0 aS
  await i 1 bS (Memref.isWhole_whole _) cc0_scratch7
  fetch i 2 aS (Memref.isWhole_whole _) cc0_scratch6
  let _ ← rowsProg i 1 bS
  await i 2 aS (Memref.isWhole_whole _) cc0_scratch6
  fetch i 3 bS (Memref.isWhole_whole _) cc0_scratch7
  let _ ← rowsProg i 2 aS
  await i 3 bS (Memref.isWhole_whole _) cc0_scratch7
  fetch i 4 aS (Memref.isWhole_whole _) cc0_scratch6
  let _ ← rowsProg i 3 bS
  await i 4 aS (Memref.isWhole_whole _) cc0_scratch6
  fetch i 5 bS (Memref.isWhole_whole _) cc0_scratch7
  let _ ← rowsProg i 4 aS
  await i 5 bS (Memref.isWhole_whole _) cc0_scratch7
  fetch i 6 aS (Memref.isWhole_whole _) cc0_scratch6
  let _ ← rowsProg i 5 bS
  await i 6 aS (Memref.isWhole_whole _) cc0_scratch6
  fetch i 7 bS (Memref.isWhole_whole _) cc0_scratch7
  let _ ← rowsProg i 6 aS
  await i 7 bS (Memref.isWhole_whole _) cc0_scratch7
  let _ ← rowsProg i 7 bS
  let _ ← cntProg i
  Prog.lift (.enqueueDma accS (.here (sumOut i)) (.dma cc0_scoped0.sem) (Memref.isWhole_whole cc0_scratch3).wordExact (View.wordExact_bits rfl) ⟨Or.inl rfl, trivial⟩)
  Prog.lift (.waitDma2 cc0_scoped0.sem accS (sumOut i) (Memref.isWhole_whole cc0_scratch3).wordExact (View.wordExact_bits rfl))
  Prog.lift (.enqueueDma cntS (.here (cntOut i)) (.dma cc0_scoped1.sem) (Memref.isWhole_whole cc0_scratch4).wordExact (View.wordExact_bits rfl) ⟨Or.inl rfl, trivial⟩)
  Prog.lift (.waitDma2 cc0_scoped1.sem cntS (cntOut i) (Memref.isWhole_whole cc0_scratch4).wordExact (View.wordExact_bits rfl))
  pure ⟨⟩

/-- A tile's number, as the kernel computes it. -/
abbrev w1 (i : grid0.Coords) : BitVec 32 := Scalar.addi (Scalar.muli (BitVec.ofNat 32 (i 1).val) 2#32) (BitVec.ofNat 32 (i 0).val)
/-- A tile's block of rows, as the kernel computes it. -/
abbrev w18 (i : grid0.Coords) : BitVec 32 :=
  Scalar.select (Scalar.andi (Scalar.cmpi .ne (Scalar.subi (Scalar.extui (Scalar.cmpi .sgt (w1 i) 0#32)) (Scalar.extui (Scalar.cmpi .slt (w1 i) 0#32)))
      (Scalar.subi (Scalar.extui (Scalar.cmpi .sgt 4#32 0#32)) (Scalar.extui (Scalar.cmpi .slt 4#32 0#32))))
    (Scalar.cmpi .ne (Scalar.remsi (w1 i) 4#32) 0#32)) (Scalar.subi (Scalar.divsi (w1 i) 4#32) 1#32) (Scalar.divsi (w1 i) 4#32)
/-- Two, the number of halves of a row, as the kernel computes it. -/
abbrev v72 : BitVec 32 := Scalar.select (Scalar.cmpi .eq 2#32 0#32) 1#32 2#32
/-- The half of a row a tile adds, before its sign is settled. -/
abbrev v73 (i : grid0.Coords) : BitVec 32 :=
  Scalar.remsi (Scalar.remsi (Scalar.addi (Scalar.muli (BitVec.ofNat 32 (i 1).val) 2#32) (BitVec.ofNat 32 (i 0).val)) 4#32) v72

set_option maxRecDepth 65536 in
set_option maxHeartbeats 2000000 in
/-- The first window: the rows of segment offsets start. -/
theorem part60_eq (i : grid0.Coords) (a b c : BitVec 32) (e : BitVec 1) :
    k0_part60 (F := F) i xV (Memref.isWhole_whole _) kV (Memref.isWhole_whole _) oV (Memref.isWhole_whole _) nV (Memref.isWhole_whole _)
      keyS (Memref.isWhole_whole _) aS (Memref.isWhole_whole _) bS (Memref.isWhole_whole _) accS (Memref.isWhole_whole _) cntS (Memref.isWhole_whole _)
      cc0_scratch5 cc0_scratch6 cc0_scratch7 cc0_scoped0 cc0_scoped1
      (Scalar.remsi (Scalar.addi (Scalar.muli (BitVec.ofNat 32 (i 1).val) 2#32) (BitVec.ofNat 32 (i 0).val)) 4#32) a 8#32 b c e = (do
      Prog.lift (.enqueueDma (keyRows i) (.here keyS) (.dma cc0_scratch5.sem) (View.wordExact_bits rfl) (Memref.isWhole_whole cc0_scratch0).wordExact ⟨Or.inl rfl, trivial⟩)
      pure ⟨v72, (v73 i), Scalar.cmpi .ne (v73 i) 0#32, (Scalar.xori (Scalar.cmpi .slt (v73 i) 0#32) (Scalar.cmpi .slt v72 0#32))⟩) := by rfl

set_option maxRecDepth 65536 in
set_option maxHeartbeats 2000000 in
/-- The second window: the first chunk starts, the zero fills, and the first chunk's rows. -/
theorem part61_eq (i : grid0.Coords) (a : BitVec 32) :
    k0_part61 (F := F) i xV (Memref.isWhole_whole _) kV (Memref.isWhole_whole _) oV (Memref.isWhole_whole _) nV (Memref.isWhole_whole _)
      keyS (Memref.isWhole_whole _) aS (Memref.isWhole_whole _) bS (Memref.isWhole_whole _) accS (Memref.isWhole_whole _) cntS (Memref.isWhole_whole _)
      cc0_scratch5 cc0_scratch6 cc0_scratch7 cc0_scoped0 cc0_scoped1
      a k0_pay294 k0_pay295 k0_pay296 k0_pay297 k0_pay299 v72 (v73 i) (Scalar.cmpi .ne (v73 i) 0#32) (Scalar.xori (Scalar.cmpi .slt (v73 i) 0#32) (Scalar.cmpi .slt v72 0#32)) = (do
      fetch i 0 aS (Memref.isWhole_whole _) cc0_scratch6
      let _ ← zeroSums i
      let _ ← zeroCnts i
      Prog.lift (.waitDma2 cc0_scratch5.sem (keyRows i) keyS (View.wordExact_bits rfl) (Memref.isWhole_whole cc0_scratch0).wordExact)
      await i 0 aS (Memref.isWhole_whole _) cc0_scratch6
      fetch i 1 bS (Memref.isWhole_whole _) cc0_scratch7
      let _ ← rowsProg i 0 aS
      pure (colWord i)) := by rfl

set_option maxRecDepth 65536 in
set_option maxHeartbeats 2000000 in
/-- The third window: chunks 1 and 2. -/
theorem part62_eq (i : grid0.Coords) (a : BitVec 32) :
    k0_part62 (F := F) i xV (Memref.isWhole_whole _) kV (Memref.isWhole_whole _) oV (Memref.isWhole_whole _) nV (Memref.isWhole_whole _)
      keyS (Memref.isWhole_whole _) aS (Memref.isWhole_whole _) bS (Memref.isWhole_whole _) accS (Memref.isWhole_whole _) cntS (Memref.isWhole_whole _)
      cc0_scratch5 cc0_scratch6 cc0_scratch7 cc0_scoped0 cc0_scoped1
      a k0_pay294 k0_pay295 k0_pay296 k0_pay297 (colWord i) = (do
      await i 1 bS (Memref.isWhole_whole _) cc0_scratch7
      fetch i 2 aS (Memref.isWhole_whole _) cc0_scratch6
      let _ ← rowsProg i 1 bS
      await i 2 aS (Memref.isWhole_whole _) cc0_scratch6
      fetch i 3 bS (Memref.isWhole_whole _) cc0_scratch7
      let _ ← rowsProg i 2 aS
      await i 3 bS (Memref.isWhole_whole _) cc0_scratch7
      pure ⟨⟩) := by rfl

set_option maxRecDepth 65536 in
set_option maxHeartbeats 2000000 in
/-- The fourth window: chunks 3, 4 and 5. -/
theorem part63_eq (i : grid0.Coords) (a : BitVec 32) :
    k0_part63 (F := F) i xV (Memref.isWhole_whole _) kV (Memref.isWhole_whole _) oV (Memref.isWhole_whole _) nV (Memref.isWhole_whole _)
      keyS (Memref.isWhole_whole _) aS (Memref.isWhole_whole _) bS (Memref.isWhole_whole _) accS (Memref.isWhole_whole _) cntS (Memref.isWhole_whole _)
      cc0_scratch5 cc0_scratch6 cc0_scratch7 cc0_scoped0 cc0_scoped1
      a k0_pay294 k0_pay295 k0_pay296 k0_pay297 (colWord i) = (do
      fetch i 4 aS (Memref.isWhole_whole _) cc0_scratch6
      let _ ← rowsProg i 3 bS
      await i 4 aS (Memref.isWhole_whole _) cc0_scratch6
      fetch i 5 bS (Memref.isWhole_whole _) cc0_scratch7
      let _ ← rowsProg i 4 aS
      await i 5 bS (Memref.isWhole_whole _) cc0_scratch7
      fetch i 6 aS (Memref.isWhole_whole _) cc0_scratch6
      let _ ← rowsProg i 5 bS
      pure ⟨⟩) := by rfl

set_option maxRecDepth 65536 in
set_option maxHeartbeats 2000000 in
/-- The fifth window: chunks 6 and 7, the counts, and the sums written out. -/
theorem part64_eq (i : grid0.Coords) (a b c : BitVec 32) :
    k0_part64 (F := F) i xV (Memref.isWhole_whole _) kV (Memref.isWhole_whole _) oV (Memref.isWhole_whole _) nV (Memref.isWhole_whole _)
      keyS (Memref.isWhole_whole _) aS (Memref.isWhole_whole _) bS (Memref.isWhole_whole _) accS (Memref.isWhole_whole _) cntS (Memref.isWhole_whole _)
      cc0_scratch5 cc0_scratch6 cc0_scratch7 cc0_scoped0 cc0_scoped1
      a b (Scalar.remsi (Scalar.addi (Scalar.muli (BitVec.ofNat 32 (i 1).val) 2#32) (BitVec.ofNat 32 (i 0).val)) 4#32) c k0_pay294 k0_pay295 k0_pay296 k0_pay297 k0_pay298 k0_pay300 (colWord i) = (do
      await i 6 aS (Memref.isWhole_whole _) cc0_scratch6
      fetch i 7 bS (Memref.isWhole_whole _) cc0_scratch7
      let _ ← rowsProg i 6 aS
      await i 7 bS (Memref.isWhole_whole _) cc0_scratch7
      let _ ← rowsProg i 7 bS
      let _ ← cntProg i
      Prog.lift (.enqueueDma accS (.here (sumOut i)) (.dma cc0_scoped0.sem) (Memref.isWhole_whole cc0_scratch3).wordExact (View.wordExact_bits rfl) ⟨Or.inl rfl, trivial⟩)
      Prog.lift (.waitDma2 cc0_scoped0.sem accS (sumOut i) (Memref.isWhole_whole cc0_scratch3).wordExact (View.wordExact_bits rfl))
      pure ⟨⟩) := by rfl

set_option maxRecDepth 65536 in
set_option maxHeartbeats 2000000 in
/-- The printed task, as its windows one after the other. -/
theorem body_windows (i : grid0.Coords) : ∃ (v1 v18 v20 b c : BitVec 32) (e : BitVec 1),
    cc0__segsum_body (F := F) i xV (Memref.isWhole_whole _) kV (Memref.isWhole_whole _) oV (Memref.isWhole_whole _) nV (Memref.isWhole_whole _)
      keyS (Memref.isWhole_whole _) aS (Memref.isWhole_whole _) bS (Memref.isWhole_whole _) accS (Memref.isWhole_whole _) cntS (Memref.isWhole_whole _)
      cc0_scratch5 cc0_scratch6 cc0_scratch7 cc0_scoped0 cc0_scoped1 = (do
      let ⟨w72, w73, w74, w77⟩ : Σ' (v72 : BitVec 32) (v73 : BitVec 32) (v74 : BitVec 1), BitVec 1 ← k0_part60 i xV (Memref.isWhole_whole _) kV (Memref.isWhole_whole _) oV (Memref.isWhole_whole _) nV (Memref.isWhole_whole _) keyS (Memref.isWhole_whole _) aS (Memref.isWhole_whole _) bS (Memref.isWhole_whole _) accS (Memref.isWhole_whole _) cntS (Memref.isWhole_whole _) cc0_scratch5 cc0_scratch6 cc0_scratch7 cc0_scoped0 cc0_scoped1 (Scalar.remsi (Scalar.addi (Scalar.muli (BitVec.ofNat 32 (i 1).val) 2#32) (BitVec.ofNat 32 (i 0).val)) 4#32) v20 8#32 b c e
      let v81 ← k0_part61 i xV (Memref.isWhole_whole _) kV (Memref.isWhole_whole _) oV (Memref.isWhole_whole _) nV (Memref.isWhole_whole _) keyS (Memref.isWhole_whole _) aS (Memref.isWhole_whole _) bS (Memref.isWhole_whole _) accS (Memref.isWhole_whole _) cntS (Memref.isWhole_whole _) cc0_scratch5 cc0_scratch6 cc0_scratch7 cc0_scoped0 cc0_scoped1 v20 k0_pay294 k0_pay295 k0_pay296 k0_pay297 k0_pay299 w72 w73 w74 w77
      k0_part62 i xV (Memref.isWhole_whole _) kV (Memref.isWhole_whole _) oV (Memref.isWhole_whole _) nV (Memref.isWhole_whole _) keyS (Memref.isWhole_whole _) aS (Memref.isWhole_whole _) bS (Memref.isWhole_whole _) accS (Memref.isWhole_whole _) cntS (Memref.isWhole_whole _) cc0_scratch5 cc0_scratch6 cc0_scratch7 cc0_scoped0 cc0_scoped1 v20 k0_pay294 k0_pay295 k0_pay296 k0_pay297 v81
      k0_part63 i xV (Memref.isWhole_whole _) kV (Memref.isWhole_whole _) oV (Memref.isWhole_whole _) nV (Memref.isWhole_whole _) keyS (Memref.isWhole_whole _) aS (Memref.isWhole_whole _) bS (Memref.isWhole_whole _) accS (Memref.isWhole_whole _) cntS (Memref.isWhole_whole _) cc0_scratch5 cc0_scratch6 cc0_scratch7 cc0_scoped0 cc0_scoped1 v20 k0_pay294 k0_pay295 k0_pay296 k0_pay297 v81
      k0_part64 i xV (Memref.isWhole_whole _) kV (Memref.isWhole_whole _) oV (Memref.isWhole_whole _) nV (Memref.isWhole_whole _) keyS (Memref.isWhole_whole _) aS (Memref.isWhole_whole _) bS (Memref.isWhole_whole _) accS (Memref.isWhole_whole _) cntS (Memref.isWhole_whole _) cc0_scratch5 cc0_scratch6 cc0_scratch7 cc0_scoped0 cc0_scoped1 v1 v18 (Scalar.remsi (Scalar.addi (Scalar.muli (BitVec.ofNat 32 (i 1).val) 2#32) (BitVec.ofNat 32 (i 0).val)) 4#32) v20 k0_pay294 k0_pay295 k0_pay296 k0_pay297 k0_pay298 k0_pay300 v81
      Prog.lift (.enqueueDma cntS (.here (cntOut i)) (.dma cc0_scoped1.sem) (Memref.isWhole_whole cc0_scratch4).wordExact (View.wordExact_bits rfl) ⟨Or.inl rfl, trivial⟩)
      Prog.lift (.waitDma2 cc0_scoped1.sem cntS (cntOut i) (Memref.isWhole_whole cc0_scratch4).wordExact (View.wordExact_bits rfl))
      pure ⟨⟩) :=
  ⟨w1 i, w18 i, Scalar.muli (w18 i) 1024#32, Scalar.divsi (Scalar.muli (w18 i) 1024#32) 8#32, Scalar.extui (Scalar.cmpi .sgt (Scalar.muli (w18 i) 1024#32) 0#32),
    Scalar.cmpi .slt (Scalar.muli (w18 i) 1024#32) 0#32, rfl⟩

set_option maxRecDepth 65536 in
set_option maxHeartbeats 2000000 in
/-- The printed task is it. -/
theorem body_eq (i : grid0.Coords) :
    cc0__segsum_body (F := F) i xV (Memref.isWhole_whole _) kV (Memref.isWhole_whole _) oV (Memref.isWhole_whole _) nV (Memref.isWhole_whole _)
      keyS (Memref.isWhole_whole _) aS (Memref.isWhole_whole _) bS (Memref.isWhole_whole _) accS (Memref.isWhole_whole _) cntS (Memref.isWhole_whole _)
      cc0_scratch5 cc0_scratch6 cc0_scratch7 cc0_scoped0 cc0_scoped1 = bodyProg i := by
  obtain ⟨v1, v18, v20, b, c, e, h⟩ := body_windows (F := F) i
  rw [h, part60_eq]
  have h1 := part61_eq (F := F) i v20
  have h2 := part62_eq (F := F) i v20
  have h3 := part63_eq (F := F) i v20
  have h4 := part64_eq (F := F) i v1 v18 v20
  clear h
  generalize k0_part61 (F := F) i xV _ kV _ oV _ nV _ keyS _ aS _ bS _ accS _ cntS _ _ _ _ _ _ v20 _ _ _ _ _ = P1 at h1 ⊢
  simp only [Prog.pure_eq_ret, Prog.bind_ret, Prog.bind_assoc]
  rw [h1]
  simp only [Prog.pure_eq_ret, Prog.bind_ret, Prog.bind_assoc]
  rw [h2, h3, h4]
  unfold bodyProg
  simp only [Prog.pure_eq_ret, Prog.bind_ret, Prog.bind_assoc]

end Cert.Proof.Ideal

end
-- ==== Proof.Ideal.Setup.lean ====
/-
  The launch's names: the SparseCore configuration, the resource algebra (the handshakes' rounds, the
  TensorCore call's and a counter per semaphore), a tile's thread.
-/
module

public import proofs.«01_k».proof.Proof.Ideal.Trip
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type} [FloatOps F]

/-! ## The launch configuration -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × (UR sig nD τ × Counters)

abbrev EH : Emb UH (MT nD τ sig (HIx 1) (Elt F) ℕ UU ℕ) := embL
def EP : Emb (UR sig nD τ) (MT nD τ sig (HIx 1) (Elt F) ℕ UU ℕ) := (Emb.inl).trans embR

instance EP_landsIn : (EP (F := F)).LandsIn (upEmb : UEmb _ (MT nD τ sig (HIx 1) (Elt F) ℕ UU ℕ)) := by
  unfold EP; infer_instance

/-! ## A tile -/

/-- The SparseCore a tile is on. -/
abbrev tC (i : grid0.Coords) : Fin τ.nSC := (i 0).castLE hcore0
/-- The tile's number on its SparseCore. -/
abbrev tS (i : grid0.Coords) : Fin τ.nSub := (i 1).castLE hsub0
/-- The thread of the tile at `i`. -/
abbrev thr (d : Dev nD) (i : grid0.Coords) : Thread nD τ := V d (tC i) (tS i)

end Cert.Proof.Ideal

end
-- ==== Proof.Ideal.Step.lean ====
/-
  What a trip does to the sums and the counts, and the runs of the loops: each loop reads the segment
  offsets and a chunk's vectors and rewrites one scratch array, in the order the program does.
-/
module

public import proofs.«01_k».proof.Proof.Ideal.Setup

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

/-! ## The values -/

/-- The lane groups' indices within a segment. -/
abbrev laneIx : Fin 4 → IVec S16 32 := ![k0_pay294, k0_pay295, k0_pay296, k0_pay297]

/-- Sixteen lanes added into the sums at the indices `w`. -/
def addLanes (A : Vec F S65536 .f32) (w : IVec S16 32) (v : Vec F S16 .f32) : Vec F S65536 .f32 :=
  if h : InAcc w then storeIdx A ![w] v (fun _ => 1#1) true h else A

/-- The sixteen copies of a row's segment offset. -/
def keyLanes (K : Vec F S128x128 .i32) (h : Fin 8) (t : Fin k0_t3_loop.trips) (j : Fin 8) : IVec S16 32 :=
  lanes (F := F) (e := .i32) fun x => K ((Rect.unit (s := S128x128) (offK h t j) S1x16.size (offK_inb h t j)).toLoadRect.idx x)

/-- Sixteen lanes of a row. -/
def rowLanes (i : grid0.Coords) (X : Vec F S128x128 .f32) (t : Fin k0_t3_loop.trips) (j : Fin 8) (c : Fin 4) : Vec F S16 .f32 :=
  lanes (F := F) fun x => X ((Rect.unit (s := S128x128) (offV i t j c) S1x16.size (offV_inb i t j c)).toLoadRect.idx x)

/-- A row's lane group added into the sums. -/
def addQuarter (i : grid0.Coords) (K : Vec F S128x128 .i32) (X : Vec F S128x128 .f32) (h : Fin 8) (t : Fin k0_t3_loop.trips) (j : Fin 8)
    (A : Vec F S65536 .f32) (c : Fin 4) : Vec F S65536 .f32 :=
  addLanes A (addi (keyLanes (F := F) K h t j) (laneIx c)) (rowLanes i X t j c)

/-- A row added into the sums. -/
def addRow (i : grid0.Coords) (K : Vec F S128x128 .i32) (X : Vec F S128x128 .f32) (h : Fin 8) (t : Fin k0_t3_loop.trips)
    (A : Vec F S65536 .f32) (j : Fin 8) : Vec F S65536 .f32 :=
  addQuarter i K X h t j (addQuarter i K X h t j (addQuarter i K X h t j (addQuarter i K X h t j A 0) 1) 2) 3

/-- A trip's eight rows added into the sums. -/
def addTrip (i : grid0.Coords) (K : Vec F S128x128 .i32) (X : Vec F S128x128 .f32) (h : Fin 8)
    (A : Vec F S65536 .f32) (t : Fin k0_t3_loop.trips) : Vec F S65536 .f32 :=
  (List.finRange 8).foldl (addRow i K X h t) A

/-- The first `n` trips' rows added into the sums. -/
def addTrips (i : grid0.Coords) (K : Vec F S128x128 .i32) (X : Vec F S128x128 .f32) (h : Fin 8) (A : Vec F S65536 .f32) : ℕ → Vec F S65536 .f32
  | 0 => A
  | n + 1 => if hn : n < k0_t3_loop.trips then addTrip i K X h (addTrips i K X h A n) ⟨n, hn⟩ else addTrips i K X h A n

/-- A chunk's rows added into the sums. -/
abbrev addChunk (i : grid0.Coords) (K : Vec F S128x128 .i32) (X : Vec F S128x128 .f32) (h : Fin 8) (A : Vec F S65536 .f32) : Vec F S65536 .f32 :=
  addTrips i K X h A k0_t3_loop.trips

/-- Every index a row's scatter uses is inside the sums. -/
def KeysOK (K : Vec F S128x128 .i32) : Prop := ∀ h t j c, InAcc (addi (keyLanes (F := F) K h t j) (laneIx c))

/-! ## The runs -/

variable (d : Dev nD) (i : grid0.Coords)

/-- The sums' scratch as a scatter addresses it is the scratch whole. -/
theorem pts_acc (A : Vec F S65536 .f32) :
    (((accS.access (.whole S65536)).loc (thr d i)) ↦[(accS.access (.whole S65536)).set]{fullShare} A : sProp 𝕄)
      = (accS.view.loc (thr d i) ↦{fullShare} A) := by
  rw [show (accS.access (.whole S65536)).set = Finset.univ from Memref.set_access_whole (cc0_scratch3 : Ref sig .scVector)]

omit [FloatOps F] in
theorem read_acc (A : Vec F S65536 .f32) : (accS.access (.whole S65536)).read (Elt F) A = A := Memref.read_access_whole (Elt F) cc0_scratch3 A

omit [FloatOps F] in
theorem write_acc (A w : Vec F S65536 .f32) : (accS.access (.whole S65536)).write (Elt F) A w Finset.univ = w :=
  Memref.write_access_whole_univ (Elt F) cc0_scratch3 A w

/-- What a scatter leaves in the sums' scratch. -/
theorem pts_acc_storeIdx (A : Vec F S65536 .f32) (w : IVec S16 32) (v : Vec F S16 .f32) (h : InAcc w) :
    (((accS.access (.whole S65536)).loc (thr d i)) ↦[(accS.access (.whole S65536)).set]{fullShare}
        ((accS.access (.whole S65536)).write (Elt F) A (storeIdx ((accS.access (.whole S65536)).read (Elt F) A) ![w] v (fun _ => 1#1) true h) Finset.univ) : sProp 𝕄)
      = (accS.view.loc (thr d i) ↦{fullShare} addLanes A w v) := by
  rw [pts_acc, read_acc, write_acc, addLanes, dif_pos h]

/-- A lane group added from a buffer, as the program loads it. -/
theorem addQuarter_read (h : Fin 8) (t : Fin k0_t3_loop.trips) (j : Fin 8) (c : Fin 4) (K : Vec F S128x128 .i32)
    (buf : Memref sig .scVector .vmem S128x128 .f32) (fb : Buf (Elt F) (buf.view.loc (thr d i))) (A : Vec F S65536 .f32) :
    addQuarter i K (buf.view.read (Elt F) fb) h t j A c
      = addLanes A (addi (keyLanes (F := F) K h t j) (laneIx c))
          (lanes (F := F) (buf.view.readAt (Elt F) (Rect.unit (s := S128x128) (offV i t j c) S1x16.size (offV_inb i t j c)).toLoadRect fb)) := rfl

/-- A lane group of a row. -/
theorem wp_quarter (h : Fin 8) (t : Fin k0_t3_loop.trips) (j : Fin 8) (c : Fin 4) (K : Vec F S128x128 .i32) (hK : KeysOK (F := F) K)
    (buf : Memref sig .scVector .vmem S128x128 .f32) (fb : Buf (Elt F) (buf.view.loc (thr d i)))
    (A : Vec F S65536 .f32) {α : Type} (k : PUnit → TProg F i α) (Q : α → sProp 𝕄) :
    iprop((buf.view.loc (thr d i) ↦{fullShare} fb) ∗ (accS.view.loc (thr d i) ↦{fullShare} A)
        ∗ ((buf.view.loc (thr d i) ↦{fullShare} fb)
          -∗ (accS.view.loc (thr d i) ↦{fullShare} addQuarter i K (buf.view.read (Elt F) fb) h t j A c)
          -∗ wp frame (wpE (defs₀ (F := F)) 𝒱₀ (thr d i) none) Set.univ (k ⟨⟩) Q))
      ⊢ wp frame (wpE (defs₀ (F := F)) 𝒱₀ (thr d i) none) Set.univ
          (quarter i t buf accS (keyLanes (F := F) K h t j) (laneIx c) j c >>= k) Q := by
  iintro ⟨Hb, HA, Hk⟩
  unfold quarter
  simp only [Prog.bind_op]
  iapply (wp_load 𝒱₀ (thr d i) none Set.univ (m := buf) (S := Finset.univ) (Finset.subset_univ _)) $$ Hb
  iintro Hb
  rw [wp_assume_of _ _ _ _ (hK h t j c)]
  iapply (SparseCore.wp_vectorStoreIdx 𝒱₀ (thr d i) none Set.univ (base := accS) (f := A)) $$ [HA]
  · rw [pts_acc]; iexact HA
  iintro HA
  ihave HA := (Entails.of_eq (pts_acc_storeIdx d i A (addi (keyLanes (F := F) K h t j) (laneIx c))
    (lanes (F := F) (buf.view.readAt (Elt F) (Rect.unit (s := S128x128) (offV i t j c) S1x16.size (offV_inb i t j c)).toLoadRect fb)) (hK h t j c))) $$ HA
  ispecialize Hk $$ Hb
  iapply Hk
  rw [addQuarter_read]
  iexact HA

/-- A row. -/
theorem wp_rowProg (h : Fin 8) (t : Fin k0_t3_loop.trips) (j : Fin 8) (K : Vec F S128x128 .i32) (hK : KeysOK (F := F) K)
    (buf : Memref sig .scVector .vmem S128x128 .f32) (fb : Buf (Elt F) (buf.view.loc (thr d i)))
    (A : Vec F S65536 .f32) {α : Type} (k : PUnit → TProg F i α) (Q : α → sProp 𝕄) :
    iprop((keyS.view.loc (thr d i) ↦{fullShare} K) ∗ (buf.view.loc (thr d i) ↦{fullShare} fb) ∗ (accS.view.loc (thr d i) ↦{fullShare} A)
        ∗ ((keyS.view.loc (thr d i) ↦{fullShare} K) -∗ (buf.view.loc (thr d i) ↦{fullShare} fb)
          -∗ (accS.view.loc (thr d i) ↦{fullShare} addRow i K (buf.view.read (Elt F) fb) h t A j)
          -∗ wp frame (wpE (defs₀ (F := F)) 𝒱₀ (thr d i) none) Set.univ (k ⟨⟩) Q))
      ⊢ wp frame (wpE (defs₀ (F := F)) 𝒱₀ (thr d i) none) Set.univ (rowProg i h t keyS buf accS laneIx j >>= k) Q := by
  iintro ⟨Hkey, Hb, HA, Hk⟩
  unfold rowProg
  simp only [Prog.bind_op, Prog.bind_assoc]
  iapply (wp_load 𝒱₀ (thr d i) none Set.univ (m := keyS) (S := Finset.univ) (Finset.subset_univ _)) $$ Hkey
  iintro Hkey
  iapply (wp_quarter d i h t j 0 K hK buf fb)
  isplitl [Hb]; · iexact Hb
  isplitl [HA]; · iexact HA
  iintro Hb HA
  iapply (wp_quarter d i h t j 1 K hK buf fb)
  isplitl [Hb]; · iexact Hb
  isplitl [HA]; · iexact HA
  iintro Hb HA
  iapply (wp_quarter d i h t j 2 K hK buf fb)
  isplitl [Hb]; · iexact Hb
  isplitl [HA]; · iexact HA
  iintro Hb HA
  iapply (wp_quarter d i h t j 3 K hK buf fb)
  isplitl [Hb]; · iexact Hb
  isplitl [HA]; · iexact HA
  iintro Hb HA
  ispecialize Hk $$ Hkey
  ispecialize Hk $$ Hb
  iapply Hk
  iexact HA

/-- A trip: eight rows. -/
theorem wp_tripProg (h : Fin 8) (t : Fin k0_t3_loop.trips) (K : Vec F S128x128 .i32) (hK : KeysOK (F := F) K)
    (buf : Memref sig .scVector .vmem S128x128 .f32) (fb : Buf (Elt F) (buf.view.loc (thr d i))) (A : Vec F S65536 .f32) :
    iprop((keyS.view.loc (thr d i) ↦{fullShare} K) ∗ (buf.view.loc (thr d i) ↦{fullShare} fb) ∗ (accS.view.loc (thr d i) ↦{fullShare} A))
      ⊢ wp frame (wpE (defs₀ (F := F)) 𝒱₀ (thr d i) none) Set.univ (tripProg i h keyS buf accS laneIx t)
          fun _ => iprop((keyS.view.loc (thr d i) ↦{fullShare} K) ∗ (buf.view.loc (thr d i) ↦{fullShare} fb)
            ∗ (accS.view.loc (thr d i) ↦{fullShare} addTrip i K (buf.view.read (Elt F) fb) h A t) : sProp 𝕄) := by
  iintro ⟨Hkey, Hb, HA⟩
  unfold tripProg
  iapply (wp_rowProg d i h t 0 K hK buf fb)
  isplitl [Hkey]; · iexact Hkey
  isplitl [Hb]; · iexact Hb
  isplitl [HA]; · iexact HA
  iintro Hkey Hb HA
  iapply (wp_rowProg d i h t 1 K hK buf fb)
  isplitl [Hkey]; · iexact Hkey
  isplitl [Hb]; · iexact Hb
  isplitl [HA]; · iexact HA
  iintro Hkey Hb HA
  iapply (wp_rowProg d i h t 2 K hK buf fb)
  isplitl [Hkey]; · iexact Hkey
  isplitl [Hb]; · iexact Hb
  isplitl [HA]; · iexact HA
  iintro Hkey Hb HA
  iapply (wp_rowProg d i h t 3 K hK buf fb)
  isplitl [Hkey]; · iexact Hkey
  isplitl [Hb]; · iexact Hb
  isplitl [HA]; · iexact HA
  iintro Hkey Hb HA
  iapply (wp_rowProg d i h t 4 K hK buf fb)
  isplitl [Hkey]; · iexact Hkey
  isplitl [Hb]; · iexact Hb
  isplitl [HA]; · iexact HA
  iintro Hkey Hb HA
  iapply (wp_rowProg d i h t 5 K hK buf fb)
  isplitl [Hkey]; · iexact Hkey
  isplitl [Hb]; · iexact Hb
  isplitl [HA]; · iexact HA
  iintro Hkey Hb HA
  iapply (wp_rowProg d i h t 6 K hK buf fb)
  isplitl [Hkey]; · iexact Hkey
  isplitl [Hb]; · iexact Hb
  isplitl [HA]; · iexact HA
  iintro Hkey Hb HA
  iapply (wp_rowProg d i h t 7 K hK buf fb)
  isplitl [Hkey]; · iexact Hkey
  isplitl [Hb]; · iexact Hb
  isplitl [HA]; · iexact HA
  iintro Hkey Hb HA
  rw [Prog.pure_eq_ret, wp_ret]
  imodintro
  isplitl [Hkey]; · iexact Hkey
  isplitl [Hb]; · iexact Hb
  iexact HA

/-- The row loop over a chunk. -/
theorem wp_rowsProg (h : Fin 8) (K : Vec F S128x128 .i32) (hK : KeysOK (F := F) K)
    (buf : Memref sig .scVector .vmem S128x128 .f32) (fb : Buf (Elt F) (buf.view.loc (thr d i))) (A : Vec F S65536 .f32)
    {α : Type} (k : BitVec 32 → TProg F i α) (Q : α → sProp 𝕄) :
    iprop((keyS.view.loc (thr d i) ↦{fullShare} K) ∗ (buf.view.loc (thr d i) ↦{fullShare} fb) ∗ (accS.view.loc (thr d i) ↦{fullShare} A)
        ∗ ((keyS.view.loc (thr d i) ↦{fullShare} K) -∗ (buf.view.loc (thr d i) ↦{fullShare} fb)
          -∗ (accS.view.loc (thr d i) ↦{fullShare} addChunk i K (buf.view.read (Elt F) fb) h A)
          -∗ ∀ w, wp frame (wpE (defs₀ (F := F)) 𝒱₀ (thr d i) none) Set.univ (k w) Q))
      ⊢ wp frame (wpE (defs₀ (F := F)) 𝒱₀ (thr d i) none) Set.univ (rowsProg i h buf >>= k) Q := by
  iintro ⟨Hkey, Hb, HA, Hk⟩
  unfold rowsProg
  iapply (Scf.wp_for_bind frame (wpE (defs₀ (F := F)) 𝒱₀ (thr d i) none) Set.univ k0_t3_loop.lb k0_t3_loop.ub k0_t3_loop.st k0_t3_ok 0#32 _
    (fun n _ => iprop((keyS.view.loc (thr d i) ↦{fullShare} K) ∗ (buf.view.loc (thr d i) ↦{fullShare} fb)
      ∗ (accS.view.loc (thr d i) ↦{fullShare} addTrips i K (buf.view.read (Elt F) fb) h A n))) ?hb) $$ [Hkey Hb HA]
  case hb =>
    intro t _
    refine (wp_tripProg d i h t K hK buf fb _).trans (wp_mono _ _ _ fun _ => ?_)
    rw [show addTrips i K (buf.view.read (Elt F) fb) h A (t.val + 1) = addTrip i K (buf.view.read (Elt F) fb) h (addTrips i K (buf.view.read (Elt F) fb) h A t.val) t
      from dif_pos t.isLt]
  · isplitl [Hkey]; · iexact Hkey
    isplitl [Hb]; · iexact Hb
    iexact HA
  iintro %w ⟨Hkey, Hb, HA⟩
  ispecialize Hk $$ Hkey
  ispecialize Hk $$ Hb
  ispecialize Hk $$ HA
  iapply Hk

end Cert.Proof.Ideal

end
-- ==== Proof.Ideal.Fill.lean ====
/-
  The zero fills and the counting loop: the runs of the loops that clear the two scratch arrays and of
  the loop that counts the rows of each segment with masked scatters of ones.
-/
module

public import proofs.«01_k».proof.Proof.Ideal.Step
public import Idealize.ShloMosaic.Lib.WritesUnit

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

/-! ## Filling from the front -/

/-- A block stored right after an already filled front extends the front. -/
theorem fill_step {κ : Kind} {sp : Space} {d : Fin 1 → ℕ} {e : EltTy} (v : View sig κ sp ⟨1, d⟩ e) (f : v.ty.Contents (Elt F)) (z : Elt F e)
    (off size : Fin 1 → ℕ) (inb : ∀ a, off a + size a ≤ (⟨1, d⟩ : Shape).size a)
    (hf : ∀ y, (y 0).val < off 0 → v.read (Elt F) f y = z) (y : (⟨1, d⟩ : Shape).Idx) (hy : (y 0).val < off 0 + size 0) :
    v.read (Elt F) ((v.slice (Rect.unit off size inb)).write (Elt F) f (fun _ => z) Finset.univ) y = z := by
  by_cases h : (y 0).val < off 0
  · exact (View.read_writes_cons_unit_of_not_mem v f inb (fun _ => z) [] y rfl 0 (.inl h)).trans (hf y h)
  · exact View.read_writes_cons_unit_of_mem v f inb (fun _ => z) [] y
      (Rect.unitLocal (s := ⟨1, d⟩) (off := off) (size := size) y fun a => by obtain rfl : a = 0 := Subsingleton.elim _ _; exact ⟨Nat.le_of_not_lt h, hy⟩) rfl
      fun a => by obtain rfl : a = 0 := Subsingleton.elim _ _; rw [Rect.unitLocal_val]; omega

/-- The float zero the fills store. -/
abbrev fz : F .f32 := Scalar.ofBits .f32 0x00000000#32

variable (d : Dev nD) (i : grid0.Coords)

/-- The sums' scratch, its first `n` entries zero. -/
def accZ (n : ℕ) : sProp 𝕄 :=
  iprop(∃ A : Vec F S65536 .f32, ⌜∀ y : S65536.Idx, (y 0).val < n → A y = fz⌝ ∗ (accS.view.loc (thr d i) ↦{fullShare} A))

/-- The counts' scratch, its first `n` entries zero. -/
def cntZ (n : ℕ) : sProp 𝕄 :=
  iprop(∃ A : Vec F S1024 .f32, ⌜∀ y : S1024.Idx, (y 0).val < n → A y = fz⌝ ∗ (cntS.view.loc (thr d i) ↦{fullShare} A))

theorem off3_eq : ∀ (t : Fin k0_t1_loop.trips) (r : Fin 16), k0_off3 t (BitVec.ofNat 32 (16 * r.val)) = ![256 * t.val + 16 * r.val] := by
  decide +kernel

theorem off4_eq : ∀ t : Fin k0_t2_loop.trips, k0_off4 t = ![16 * t.val] := by
  decide +kernel

theorem wp_zeroStep (t : Fin k0_t1_loop.trips) (r : Fin 16) (n : ℕ) (hn : n = 256 * t.val + 16 * r.val) {α : Type} (k : PUnit → TProg F i α) (Q : α → sProp 𝕄) :
    iprop(accZ d i n ∗ (accZ d i (n + 16) -∗ wp frame (wpE (defs₀ (F := F)) 𝒱₀ (thr d i) none) Set.univ (k ⟨⟩) Q))
      ⊢ wp frame (wpE (defs₀ (F := F)) 𝒱₀ (thr d i) none) Set.univ (zeroStep i t r >>= k) Q := by
  iintro ⟨HZ, Hk⟩
  unfold accZ zeroStep
  icases HZ with ⟨%A, %hA, HA⟩
  simp only [Prog.bind_op, Prog.bind_ret]
  iapply (wp_load 𝒱₀ (thr d i) none Set.univ (m := accS) (S := Finset.univ) (Finset.subset_univ _)) $$ HA
  iintro HA
  iapply (wp_store 𝒱₀ (thr d i) none Set.univ (m := accS) (r := Rect.unit (s := S65536) (k0_off3 t (BitVec.ofNat 32 (16 * r.val))) S16.size (k0_off3_inb t r)) (f := A) (S := Finset.univ) (Finset.subset_univ _)) $$ HA
  iintro HA
  iapply Hk
  iexists _
  isplitr
  rotate_left
  · iexact HA
  · ipureintro
    have h0 : k0_off3 t (BitVec.ofNat 32 (16 * r.val)) 0 = n := by rw [off3_eq, hn]; rfl
    intro y hy
    exact fill_step accS.view A fz (k0_off3 t (BitVec.ofNat 32 (16 * r.val))) S16.size (k0_off3_inb t r) (fun y hy => hA y (by rwa [h0] at hy)) y (by rw [h0]; exact hy)

theorem trips256 : k0_t1_loop.trips = 256 := by decide +kernel
theorem trips64 : k0_t2_loop.trips = 64 := by decide +kernel

/-- The sums cleared. -/
theorem wp_zeroSums {α : Type} (k : BitVec 32 → TProg F i α) (Q : α → sProp 𝕄) :
    iprop(accZ d i 0 ∗ (accZ d i 65536 -∗ ∀ w, wp frame (wpE (defs₀ (F := F)) 𝒱₀ (thr d i) none) Set.univ (k w) Q))
      ⊢ wp frame (wpE (defs₀ (F := F)) 𝒱₀ (thr d i) none) Set.univ (zeroSums i >>= k) Q := by
  iintro ⟨HZ, Hk⟩
  unfold zeroSums
  iapply (Scf.wp_for_bind frame (wpE (defs₀ (F := F)) 𝒱₀ (thr d i) none) Set.univ k0_t1_loop.lb k0_t1_loop.ub k0_t1_loop.st k0_t1_ok 0#32 _
    (fun n _ => accZ d i (256 * n)) ?hb) $$ [HZ]
  case hb =>
    intro t _
    iintro HZ
    iapply (wp_zeroStep d i t 0 (256 * t.val) rfl); isplitl [HZ]; · iexact HZ
    iintro HZ
    iapply (wp_zeroStep d i t 1 (256 * t.val + 16) rfl); isplitl [HZ]; · iexact HZ
    iintro HZ
    iapply (wp_zeroStep d i t 2 (256 * t.val + 16 * 2) rfl); isplitl [HZ]; · iexact HZ
    iintro HZ
    iapply (wp_zeroStep d i t 3 (256 * t.val + 16 * 3) rfl); isplitl [HZ]; · iexact HZ
    iintro HZ
    iapply (wp_zeroStep d i t 4 (256 * t.val + 16 * 4) rfl); isplitl [HZ]; · iexact HZ
    iintro HZ
    iapply (wp_zeroStep d i t 5 (256 * t.val + 16 * 5) rfl); isplitl [HZ]; · iexact HZ
    iintro HZ
    iapply (wp_zeroStep d i t 6 (256 * t.val + 16 * 6) rfl); isplitl [HZ]; · iexact HZ
    iintro HZ
    iapply (wp_zeroStep d i t 7 (256 * t.val + 16 * 7) rfl); isplitl [HZ]; · iexact HZ
    iintro HZ
    iapply (wp_zeroStep d i t 8 (256 * t.val + 16 * 8) rfl); isplitl [HZ]; · iexact HZ
    iintro HZ
    iapply (wp_zeroStep d i t 9 (256 * t.val + 16 * 9) rfl); isplitl [HZ]; · iexact HZ
    iintro HZ
    iapply (wp_zeroStep d i t 10 (256 * t.val + 16 * 10) rfl); isplitl [HZ]; · iexact HZ
    iintro HZ
    iapply (wp_zeroStep d i t 11 (256 * t.val + 16 * 11) rfl); isplitl [HZ]; · iexact HZ
    iintro HZ
    iapply (wp_zeroStep d i t 12 (256 * t.val + 16 * 12) rfl); isplitl [HZ]; · iexact HZ
    iintro HZ
    iapply (wp_zeroStep d i t 13 (256 * t.val + 16 * 13) rfl); isplitl [HZ]; · iexact HZ
    iintro HZ
    iapply (wp_zeroStep d i t 14 (256 * t.val + 16 * 14) rfl); isplitl [HZ]; · iexact HZ
    iintro HZ
    iapply (wp_zeroStep d i t 15 (256 * t.val + 16 * 15) rfl); isplitl [HZ]; · iexact HZ
    iintro HZ
    rw [Prog.pure_eq_ret, wp_ret]
    imodintro
    rw [show 256 * (t.val + 1) = 256 * t.val + 16 * 15 + 16 by omega]
    iexact HZ
  · iexact HZ
  iintro %w HZ
  ispecialize Hk $$ [HZ]
  · rw [show (65536 : ℕ) = 256 * k0_t1_loop.trips by rw [trips256]]; iexact HZ
  iapply Hk

/-- The counts cleared. -/
theorem wp_zeroCnts {α : Type} (k : BitVec 32 → TProg F i α) (Q : α → sProp 𝕄) :
    iprop(cntZ d i 0 ∗ (cntZ d i 1024 -∗ ∀ w, wp frame (wpE (defs₀ (F := F)) 𝒱₀ (thr d i) none) Set.univ (k w) Q))
      ⊢ wp frame (wpE (defs₀ (F := F)) 𝒱₀ (thr d i) none) Set.univ (zeroCnts i >>= k) Q := by
  iintro ⟨HZ, Hk⟩
  unfold zeroCnts
  iapply (Scf.wp_for_bind frame (wpE (defs₀ (F := F)) 𝒱₀ (thr d i) none) Set.univ k0_t2_loop.lb k0_t2_loop.ub k0_t2_loop.st k0_t2_ok 0#32 _
    (fun n _ => cntZ d i (16 * n)) ?hb) $$ [HZ]
  case hb =>
    intro t _
    unfold cntZ
    iintro ⟨%A, %hA, HA⟩
    iapply (wp_load 𝒱₀ (thr d i) none Set.univ (m := cntS) (S := Finset.univ) (Finset.subset_univ _)) $$ HA
    iintro HA
    iapply (wp_store 𝒱₀ (thr d i) none Set.univ (m := cntS) (r := Rect.unit (s := S1024) (k0_off4 t) S16.size (k0_off4_inb t)) (f := A) (S := Finset.univ) (Finset.subset_univ _)) $$ HA
    iintro HA
    rw [Prog.pure_eq_ret, wp_ret]
    imodintro
    iexists _
    isplitr
    rotate_left
    · iexact HA
    · ipureintro
      have h0 : k0_off4 t 0 = 16 * t.val := by rw [off4_eq]; rfl
      intro y hy
      exact fill_step cntS.view A fz (k0_off4 t) S16.size (k0_off4_inb t) (fun y hy => hA y (by rwa [h0] at hy)) y
        (by rw [h0]; exact hy.trans_eq (by show 16 * (t.val + 1) = 16 * t.val + 16; omega))
  · iexact HZ
  iintro %w HZ
  ispecialize Hk $$ [HZ]
  · rw [show (1024 : ℕ) = 16 * k0_t2_loop.trips by rw [trips64]]; iexact HZ
  iapply Hk

/-! ## The counts -/

/-- A masked scatter of ones into the counts at the indices `w`. -/
def addOnes (A : Vec F S1024 .f32) (w : IVec S16 32) : Vec F S1024 .f32 :=
  if h : InCnt w then storeIdx A ![w] (k0_pay298 (F := F)) k0_pay300 true h else A

/-- The counts' indices a row of segment offsets gives. -/
def cntLanes (i : grid0.Coords) (K : Vec F S128x128 .i32) (t : Fin k0_t11_loop.trips) (j : Fin 8) : IVec S16 32 :=
  shrui (lanes (F := F) (e := .i32) fun x => K ((Rect.unit (s := S128x128) (offC i t j) S1x16.size (offC_inb i t j)).toLoadRect.idx x)) (broadcast S16 6#32)

/-- A trip's eight rows counted. -/
def cntTrip (i : grid0.Coords) (K : Vec F S128x128 .i32) (A : Vec F S1024 .f32) (t : Fin k0_t11_loop.trips) : Vec F S1024 .f32 :=
  (List.finRange 8).foldl (fun A j => addOnes A (cntLanes (F := F) i K t j)) A

/-- The first `n` trips' rows counted. -/
def cntTrips (i : grid0.Coords) (K : Vec F S128x128 .i32) (A : Vec F S1024 .f32) : ℕ → Vec F S1024 .f32
  | 0 => A
  | n + 1 => if hn : n < k0_t11_loop.trips then cntTrip i K (cntTrips i K A n) ⟨n, hn⟩ else cntTrips i K A n

/-- The counts of the tile's quarter of the rows. -/
abbrev cntAll (i : grid0.Coords) (K : Vec F S128x128 .i32) (A : Vec F S1024 .f32) : Vec F S1024 .f32 := cntTrips i K A k0_t11_loop.trips

/-- Every index a counted row's scatter uses is inside the counts. -/
def CntsOK (i : grid0.Coords) (K : Vec F S128x128 .i32) : Prop := ∀ t j, InCnt (cntLanes (F := F) i K t j)

/-- The counts' scratch as a scatter addresses it is the scratch whole. -/
theorem pts_cnt (A : Vec F S1024 .f32) :
    (((cntS.access (.whole S1024)).loc (thr d i)) ↦[(cntS.access (.whole S1024)).set]{fullShare} A : sProp 𝕄)
      = (cntS.view.loc (thr d i) ↦{fullShare} A) := by
  rw [show (cntS.access (.whole S1024)).set = Finset.univ from Memref.set_access_whole (cc0_scratch4 : Ref sig .scVector)]

omit [FloatOps F] in
theorem read_cnt (A : Vec F S1024 .f32) : (cntS.access (.whole S1024)).read (Elt F) A = A := Memref.read_access_whole (Elt F) cc0_scratch4 A

omit [FloatOps F] in
theorem write_cnt (A w : Vec F S1024 .f32) : (cntS.access (.whole S1024)).write (Elt F) A w Finset.univ = w :=
  Memref.write_access_whole_univ (Elt F) cc0_scratch4 A w

/-- What a scatter leaves in the counts' scratch. -/
theorem pts_cnt_storeIdx (A : Vec F S1024 .f32) (w : IVec S16 32) (h : InCnt w) :
    (((cntS.access (.whole S1024)).loc (thr d i)) ↦[(cntS.access (.whole S1024)).set]{fullShare}
        ((cntS.access (.whole S1024)).write (Elt F) A (storeIdx ((cntS.access (.whole S1024)).read (Elt F) A) ![w] (k0_pay298 (F := F)) k0_pay300 true h) Finset.univ) : sProp 𝕄)
      = (cntS.view.loc (thr d i) ↦{fullShare} addOnes A w) := by
  rw [pts_cnt, read_cnt, write_cnt, addOnes, dif_pos h]

/-- A row counted. -/
theorem wp_cntStep (t : Fin k0_t11_loop.trips) (j : Fin 8) (K : Vec F S128x128 .i32) (hK : CntsOK (F := F) i K)
    (A : Vec F S1024 .f32) {α : Type} (k : PUnit → TProg F i α) (Q : α → sProp 𝕄) :
    iprop((keyS.view.loc (thr d i) ↦{fullShare} K) ∗ (cntS.view.loc (thr d i) ↦{fullShare} A)
        ∗ ((keyS.view.loc (thr d i) ↦{fullShare} K)
          -∗ (cntS.view.loc (thr d i) ↦{fullShare} addOnes A (cntLanes (F := F) i K t j))
          -∗ wp frame (wpE (defs₀ (F := F)) 𝒱₀ (thr d i) none) Set.univ (k ⟨⟩) Q))
      ⊢ wp frame (wpE (defs₀ (F := F)) 𝒱₀ (thr d i) none) Set.univ (cntStep i t j >>= k) Q := by
  iintro ⟨Hb, HA, Hk⟩
  unfold cntStep
  simp only [Prog.bind_op]
  iapply (wp_load 𝒱₀ (thr d i) none Set.univ (m := keyS) (S := Finset.univ) (Finset.subset_univ _)) $$ Hb
  iintro Hb
  rw [wp_assume_of _ _ _ _ (show InCnt (shrui (lanes (F := F) (e := .i32) (keyS.view.readAt (Elt F)
    (Rect.unit (s := S128x128) (offC i t j) S1x16.size (offC_inb i t j)).toLoadRect K)) (broadcast S16 6#32)) from hK t j)]
  iapply (SparseCore.wp_vectorStoreIdx 𝒱₀ (thr d i) none Set.univ (base := cntS) (f := A)) $$ [HA]
  · rw [pts_cnt]; iexact HA
  iintro HA
  ihave HA := (Entails.of_eq (pts_cnt_storeIdx d i A
    (shrui (lanes (F := F) (e := .i32) (keyS.view.readAt (Elt F) (Rect.unit (s := S128x128) (offC i t j) S1x16.size (offC_inb i t j)).toLoadRect K)) (broadcast S16 6#32)) (hK t j))) $$ HA
  ispecialize Hk $$ Hb
  iapply Hk
  rw [show addOnes A (cntLanes (F := F) i K t j)
    = addOnes A (shrui (lanes (F := F) (e := .i32) (keyS.view.readAt (Elt F) (Rect.unit (s := S128x128) (offC i t j) S1x16.size (offC_inb i t j)).toLoadRect K)) (broadcast S16 6#32)) from rfl]
  iexact HA

/-- The counting loop. -/
theorem wp_cntProg (K : Vec F S128x128 .i32) (hK : CntsOK (F := F) i K) (A : Vec F S1024 .f32)
    {α : Type} (k : BitVec 32 → TProg F i α) (Q : α → sProp 𝕄) :
    iprop((keyS.view.loc (thr d i) ↦{fullShare} K) ∗ (cntS.view.loc (thr d i) ↦{fullShare} A)
        ∗ ((keyS.view.loc (thr d i) ↦{fullShare} K) -∗ (cntS.view.loc (thr d i) ↦{fullShare} cntAll i K A)
          -∗ ∀ w, wp frame (wpE (defs₀ (F := F)) 𝒱₀ (thr d i) none) Set.univ (k w) Q))
      ⊢ wp frame (wpE (defs₀ (F := F)) 𝒱₀ (thr d i) none) Set.univ (cntProg i >>= k) Q := by
  iintro ⟨Hkey, HA, Hk⟩
  unfold cntProg
  iapply (Scf.wp_for_bind frame (wpE (defs₀ (F := F)) 𝒱₀ (thr d i) none) Set.univ k0_t11_loop.lb k0_t11_loop.ub k0_t11_loop.st k0_t11_ok 0#32 _
    (fun n _ => iprop((keyS.view.loc (thr d i) ↦{fullShare} K) ∗ (cntS.view.loc (thr d i) ↦{fullShare} cntTrips i K A n))) ?hb) $$ [Hkey HA]
  case hb =>
    intro t _
    rw [show cntTrips i K A (t.val + 1) = cntTrip i K (cntTrips i K A t.val) t from dif_pos t.isLt]
    generalize cntTrips i K A t.val = B
    iintro ⟨Hkey, HA⟩
    iapply (wp_cntStep d i t 0 K hK); isplitl [Hkey]; · iexact Hkey
    isplitl [HA]; · iexact HA
    iintro Hkey HA
    iapply (wp_cntStep d i t 1 K hK); isplitl [Hkey]; · iexact Hkey
    isplitl [HA]; · iexact HA
    iintro Hkey HA
    iapply (wp_cntStep d i t 2 K hK); isplitl [Hkey]; · iexact Hkey
    isplitl [HA]; · iexact HA
    iintro Hkey HA
    iapply (wp_cntStep d i t 3 K hK); isplitl [Hkey]; · iexact Hkey
    isplitl [HA]; · iexact HA
    iintro Hkey HA
    iapply (wp_cntStep d i t 4 K hK); isplitl [Hkey]; · iexact Hkey
    isplitl [HA]; · iexact HA
    iintro Hkey HA
    iapply (wp_cntStep d i t 5 K hK); isplitl [Hkey]; · iexact Hkey
    isplitl [HA]; · iexact HA
    iintro Hkey HA
    iapply (wp_cntStep d i t 6 K hK); isplitl [Hkey]; · iexact Hkey
    isplitl [HA]; · iexact HA
    iintro Hkey HA
    iapply (wp_cntStep d i t 7 K hK); isplitl [Hkey]; · iexact Hkey
    isplitl [HA]; · iexact HA
    iintro Hkey HA
    rw [Prog.pure_eq_ret, wp_ret]
    imodintro
    isplitl [Hkey]; · iexact Hkey
    iexact HA
  · isplitl [Hkey]; · iexact Hkey
    iexact HA
  iintro %w ⟨Hkey, HA⟩
  ispecialize Hk $$ Hkey
  ispecialize Hk $$ HA
  iapply Hk

end Cert.Proof.Ideal

end
-- ==== Proof.Ideal.Tile.lean ====
/-
  A tile's task: its rows of segment offsets and its eight chunks fetched, the sums and the counts
  cleared and filled, both written out.
-/
module

public import proofs.«01_k».proof.Proof.Ideal.Fill

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

/-! ## The values -/

/-- The tile's rows of segment offsets. -/
def keyTile (i : grid0.Coords) (KS : Vec F S1024x128 .i32) : Vec F S128x128 .i32 := (keyRows i).view.read (Elt F) KS

/-- Chunk `r` of the tile's rows. -/
def chunkTile (i : grid0.Coords) (X : Vec F S2x8192x128 .f32) (r : Fin 8) : Vec F S128x128 .f32 := (chunk i r).view.read (Elt F) X

/-- The sums after the first chunks up to `n`, from zero. -/
def sumUpTo (i : grid0.Coords) (X : Vec F S2x8192x128 .f32) (KS : Vec F S1024x128 .i32) : ℕ → Vec F S65536 .f32
  | 0 => fun _ => fz
  | n + 1 => if hn : n < 8 then addChunk i (keyTile i KS) (chunkTile i X ⟨n, hn⟩) ⟨n, hn⟩ (sumUpTo i X KS n) else sumUpTo i X KS n

/-- The tile's sums. -/
def sumTile (i : grid0.Coords) (X : Vec F S2x8192x128 .f32) (KS : Vec F S1024x128 .i32) : Vec F S65536 .f32 := sumUpTo i X KS 8

/-- The tile's counts. -/
def cntTile (i : grid0.Coords) (KS : Vec F S1024x128 .i32) : Vec F S1024 .f32 := cntAll i (keyTile i KS) fun _ => fz

/-- The tile at a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- Tile number `w`. -/
def tileAt (w : ℕ) : grid0.Coords := coordsV ⟨w % 2, Nat.mod_lt _ (by decide)⟩ ⟨w / 2 % 16, Nat.mod_lt _ (by decide)⟩

/-- The entry of a tile's sums at a number. -/
def sumIx (n : ℕ) : S65536.Idx := Shape.ofLane (d := ![65536]) ⟨n % 65536, Nat.mod_lt _ (by decide)⟩
/-- The entry of a tile's counts at a number. -/
def cntIx (n : ℕ) : S1024.Idx := Shape.ofLane (d := ![1024]) ⟨n % 1024, Nat.mod_lt _ (by decide)⟩

theorem sumIx_eq (n : ℕ) (x : S65536.Idx) (h : n % 65536 = (x 0).val) : sumIx n = x := by
  funext a
  obtain rfl : a = 0 := Subsingleton.elim _ _
  exact Fin.ext h
theorem cntIx_eq (n : ℕ) (x : S1024.Idx) (h : n % 1024 = (x 0).val) : cntIx n = x := by
  funext a
  obtain rfl : a = 0 := Subsingleton.elim _ _
  exact Fin.ext h

/-- The sums, tile by tile: entry `65536 * (8 * q + g) + x` is entry `x` of tile `4 * g + q`. -/
def sumsAll (X : Vec F S2x8192x128 .f32) (KS : Vec F S1024x128 .i32) : Vec F S2097152 .f32 := fun y =>
  sumTile (tileAt (4 * ((y 0).val / 65536 % 8) + (y 0).val / 65536 / 8)) X KS (sumIx (y 0).val)

/-- The counts, tile by tile. -/
def cntsAll (KS : Vec F S1024x128 .i32) : Vec F S32768 .f32 := fun y =>
  cntTile (tileAt ((y 0).val / 1024)) KS (cntIx (y 0).val)

/-- A tile's number. -/
abbrev wid (i : grid0.Coords) : ℕ := 2 * (i 1).val + (i 0).val

theorem off333_eq : ∀ i : grid0.Coords, k0_off333 i = ![65536 * (8 * (wid i % 4) + wid i / 4)] := by decide +kernel
theorem off334_eq : ∀ i : grid0.Coords, k0_off334 i = ![1024 * wid i] := by decide +kernel
theorem tileAt_wid : ∀ i : grid0.Coords, tileAt (wid i) = i := by decide +kernel
theorem wid_lt : ∀ i : grid0.Coords, wid i < 32 := by decide +kernel

theorem sumsAll_at (i : grid0.Coords) (X : Vec F S2x8192x128 .f32) (KS : Vec F S1024x128 .i32) (y : S2097152.Idx) (x : S65536.Idx)
    (h : (y 0).val = 65536 * (8 * (wid i % 4) + wid i / 4) + (x 0).val) : sumsAll X KS y = sumTile i X KS x := by
  have hw := wid_lt i
  have hx : (x 0).val < 65536 := (x 0).isLt
  unfold sumsAll
  rw [h, show 4 * ((65536 * (8 * (wid i % 4) + wid i / 4) + (x 0).val) / 65536 % 8) + (65536 * (8 * (wid i % 4) + wid i / 4) + (x 0).val) / 65536 / 8 = wid i by omega,
    tileAt_wid, sumIx_eq _ x (by omega)]

theorem cntsAll_at (i : grid0.Coords) (KS : Vec F S1024x128 .i32) (y : S32768.Idx) (x : S1024.Idx)
    (h : (y 0).val = 1024 * wid i + (x 0).val) : cntsAll KS y = cntTile i KS x := by
  have hw := wid_lt i
  have hx : (x 0).val < 1024 := (x 0).isLt
  unfold cntsAll
  rw [h, show (1024 * wid i + (x 0).val) / 1024 = wid i by omega, tileAt_wid, cntIx_eq _ x (by omega)]

/-- Entry `x` of a tile's part of the sums, in the whole. -/
theorem sumOut_emb (i : grid0.Coords) (x : S65536.Idx) :
    ((sumOut i).view.emb x 0).val = 65536 * (8 * (wid i % 4) + wid i / 4) + (x 0).val := by
  refine (Rect.emb_apply (Rect.unit (s := S2097152) (k0_off333 i) S65536.size (k0_off333_inb i)) x 0).trans ?_
  show k0_off333 i 0 + 1 * (x 0).val = _
  rw [off333_eq, Nat.one_mul]; rfl

/-- Entry `x` of a tile's part of the counts, in the whole. -/
theorem cntOut_emb (i : grid0.Coords) (x : S1024.Idx) :
    ((cntOut i).view.emb x 0).val = 1024 * wid i + (x 0).val := by
  refine (Rect.emb_apply (Rect.unit (s := S32768) (k0_off334 i) S1024.size (k0_off334_inb i)) x 0).trans ?_
  show k0_off334 i 0 + 1 * (x 0).val = _
  rw [off334_eq, Nat.one_mul]; rfl

/-- The tile's part of the sums reads its sums. -/
theorem read_sumsAll (i : grid0.Coords) (X : Vec F S2x8192x128 .f32) (KS : Vec F S1024x128 .i32) (x : S65536.Idx) :
    (sumOut i).view.read (Elt F) (sumsAll X KS) x = sumTile i X KS x :=
  (View.read_apply _ _).trans ((cast_eq _ _).trans (sumsAll_at i X KS _ x (sumOut_emb i x)))

/-- The tile's part of the counts reads its counts. -/
theorem read_cntsAll (i : grid0.Coords) (KS : Vec F S1024x128 .i32) (x : S1024.Idx) :
    (cntOut i).view.read (Elt F) (cntsAll KS) x = cntTile i KS x :=
  (View.read_apply _ _).trans ((cast_eq _ _).trans (cntsAll_at i KS _ x (cntOut_emb i x)))

variable (d : Dev nD) (i : grid0.Coords)

/-- A view's elements after one write of it whole are any contents that read the same. -/
theorem pts_landed {sp : Space} {s : Shape} {e : EltTy} (v : View sig .scVector sp s e) (f g : Buf (Elt F) (v.loc (thr d i))) (w : s.Idx → Elt F e)
    (hg : ∀ x, v.read (Elt F) g x = w x) :
    (v.loc (thr d i) ↦[v.set]{fullShare} v.writes (Elt F) f [⟨Rect.whole s, w⟩] : sProp 𝕄) = (v.loc (thr d i) ↦[v.set]{fullShare} g) :=
  pointsTo_congr fun j hj => by
    obtain ⟨x, -, rfl⟩ := Finset.mem_map.mp hj
    have h := (View.read_writes_cons_hit v f (Rect.whole s) w [] x x (Rect.emb_whole_apply s x)).trans (hg x).symm
    rw [View.read_apply, View.read_apply] at h
    exact (cast_inj _).mp h

/-! ## The tile's own semaphores and scratches -/

theorem cell_ne {a b : SemLoc sig} (h : a ≠ b) : ((thr d i, a) : GSem nD τ sig) ≠ (thr d i, b) := fun e => h (Prod.mk.inj e).2

omit [FloatOps F] in
/-- The five cells of the tile's task are among its own: they are them, at zero, and the rest. -/
theorem ownSems0_V :
    (ownSems0 (thr d i) : sProp 𝕄)
      = iprop(semVal ((thr d i, SemLoc.dma cc0_scratch5.sem) : GSem nD τ sig) 0 ∗ semVal ((thr d i, SemLoc.dma cc0_scratch6.sem) : GSem nD τ sig) 0 ∗ semVal ((thr d i, SemLoc.dma cc0_scratch7.sem) : GSem nD τ sig) 0 ∗ semVal ((thr d i, SemLoc.dma cc0_scoped0.sem) : GSem nD τ sig) 0 ∗ semVal ((thr d i, SemLoc.dma cc0_scoped1.sem) : GSem nD τ sig) 0
          ∗ bigSep ((((((ownCells (thr d i)).erase ((thr d i, SemLoc.dma cc0_scratch5.sem) : GSem nD τ sig)).erase ((thr d i, SemLoc.dma cc0_scratch6.sem) : GSem nD τ sig)).erase ((thr d i, SemLoc.dma cc0_scratch7.sem) : GSem nD τ sig)).erase ((thr d i, SemLoc.dma cc0_scoped0.sem) : GSem nD τ sig)).erase ((thr d i, SemLoc.dma cc0_scoped1.sem) : GSem nD τ sig)) fun g => semVal g 0) := by
  unfold SparseCore.Cfg.ownSems0
  rw [SparseCore.bigSep_erase' ((mem_ownCells (g := ((thr d i, SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨cell_ne d i (by decide), (mem_ownCells (g := ((thr d i, SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨cell_ne d i (by decide), Finset.mem_erase.mpr ⟨cell_ne d i (by decide), (mem_ownCells (g := ((thr d i, SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨cell_ne d i (by decide), Finset.mem_erase.mpr ⟨cell_ne d i (by decide), Finset.mem_erase.mpr ⟨cell_ne d i (by decide), (mem_ownCells (g := ((thr d i, SemLoc.dma cc0_scoped0.sem) : GSem nD τ sig))).mpr ⟨rfl, by show (SemLoc.dma cc0_scoped0.sem : SemLoc sig).isScoped .scVector = true; decide⟩⟩⟩⟩),
    SparseCore.bigSep_erase' (Finset.mem_erase.mpr ⟨cell_ne d i (by decide), Finset.mem_erase.mpr ⟨cell_ne d i (by decide), Finset.mem_erase.mpr ⟨cell_ne d i (by decide), Finset.mem_erase.mpr ⟨cell_ne d i (by decide), (mem_ownCells (g := ((thr d i, SemLoc.dma cc0_scoped1.sem) : GSem nD τ sig))).mpr ⟨rfl, by show (SemLoc.dma cc0_scoped1.sem : SemLoc sig).isScoped .scVector = true; decide⟩⟩⟩⟩⟩)]

theorem ref_ne {a b : Ref sig .scVector} (h : a ≠ b) : (Proc.scVector (tC i) (tS i)).devRef a ≠ (Proc.scVector (tC i) (tS i)).devRef b :=
  fun e => h (Proc.devRef_injective _ e)

omit [FloatOps F] in
/-- The five scratches are among the tile's own buffers: they are them, at some contents, and the rest. -/
theorem ownBufs_V :
    (ownBufs (thr d i) : sProp 𝕄)
      = iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f)
          ∗ bigSep ((((((ownRefs (τ := τ) (.scVector (tC i) (tS i))).erase ((Proc.scVector (tC i) (tS i)).devRef cc0_scratch0)).erase ((Proc.scVector (tC i) (tS i)).devRef cc0_scratch1)).erase ((Proc.scVector (tC i) (tS i)).devRef cc0_scratch2)).erase ((Proc.scVector (tC i) (tS i)).devRef cc0_scratch3)).erase ((Proc.scVector (tC i) (tS i)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (tC i) (tS i)) (b := (Proc.scVector (tC i) (tS i)).devRef cc0_scratch0) rfl)).trans ?_
  rw [SparseCore.bigSep_erase' (Finset.mem_erase.mpr ⟨ref_ne i (by decide), SparseCore.Cfg.mem_ownRefs_of_owner (p := Proc.scVector (tC i) (tS i)) (b := (Proc.scVector (tC i) (tS i)).devRef cc0_scratch1) rfl⟩),
    SparseCore.bigSep_erase' (Finset.mem_erase.mpr ⟨ref_ne i (by decide), Finset.mem_erase.mpr ⟨ref_ne i (by decide), SparseCore.Cfg.mem_ownRefs_of_owner (p := Proc.scVector (tC i) (tS i)) (b := (Proc.scVector (tC i) (tS i)).devRef cc0_scratch2) rfl⟩⟩),
    SparseCore.bigSep_erase' (Finset.mem_erase.mpr ⟨ref_ne i (by decide), Finset.mem_erase.mpr ⟨ref_ne i (by decide), Finset.mem_erase.mpr ⟨ref_ne i (by decide), SparseCore.Cfg.mem_ownRefs_of_owner (p := Proc.scVector (tC i) (tS i)) (b := (Proc.scVector (tC i) (tS i)).devRef cc0_scratch3) rfl⟩⟩⟩),
    SparseCore.bigSep_erase' (Finset.mem_erase.mpr ⟨ref_ne i (by decide), Finset.mem_erase.mpr ⟨ref_ne i (by decide), Finset.mem_erase.mpr ⟨ref_ne i (by decide), Finset.mem_erase.mpr ⟨ref_ne i (by decide), SparseCore.Cfg.mem_ownRefs_of_owner (p := Proc.scVector (tC i) (tS i)) (b := (Proc.scVector (tC i) (tS i)).devRef cc0_scratch4) rfl⟩⟩⟩⟩)]

/-! ## The task -/

theorem pts_whole (r : Ref sig .scVector) (f : Buf (Elt F) ((thr d i).loc r)) :
    ((Memref.whole r).view.loc (thr d i) ↦{fullShare} f : sProp 𝕄) = (thr d i).loc r ↦{fullShare} f := rfl

theorem fetched_keys (fk : Vec F S128x128 .i32) (KS : Vec F S1024x128 .i32) :
    keyS.view.write (Elt F) fk ((keyRows i).view.read (Elt F) KS) Finset.univ = keyTile i KS := View.write_whole_univ _ _ _
theorem fetched_a (f : Vec F S128x128 .f32) (X : Vec F S2x8192x128 .f32) (r : Fin 8) :
    aS.view.write (Elt F) f ((chunk i r).view.read (Elt F) X) Finset.univ = chunkTile i X r := View.write_whole_univ _ _ _
theorem fetched_b (f : Vec F S128x128 .f32) (X : Vec F S2x8192x128 .f32) (r : Fin 8) :
    bS.view.write (Elt F) f ((chunk i r).view.read (Elt F) X) Finset.univ = chunkTile i X r := View.write_whole_univ _ _ _

/-- A chunk added to what the chunks before it gave. -/
theorem sumUpTo_succ (X : Vec F S2x8192x128 .f32) (KS : Vec F S1024x128 .i32) (r : Fin 8) :
    addChunk i (keyTile i KS) (chunkTile i X r) r (sumUpTo i X KS r.val) = sumUpTo i X KS (r.val + 1) := by
  rw [sumUpTo, dif_pos r.isLt]

/-- The row loop over the chunk in the first buffer. -/
theorem wp_rows_a (r : Fin 8) (X : Vec F S2x8192x128 .f32) (KS : Vec F S1024x128 .i32) (hK : KeysOK (F := F) (keyTile i KS)) (f : Vec F S128x128 .f32)
    {α : Type} (k : BitVec 32 → TProg F i α) (Q : α → sProp 𝕄) :
    iprop((keyS.view.loc (thr d i) ↦{fullShare} keyTile i KS)
        ∗ (aS.view.loc (thr d i) ↦{fullShare} aS.view.write (Elt F) f ((chunk i r).view.read (Elt F) X) Finset.univ)
        ∗ (accS.view.loc (thr d i) ↦{fullShare} sumUpTo i X KS r.val)
        ∗ ((keyS.view.loc (thr d i) ↦{fullShare} keyTile i KS) -∗ (aS.view.loc (thr d i) ↦{fullShare} chunkTile i X r)
          -∗ (accS.view.loc (thr d i) ↦{fullShare} sumUpTo i X KS (r.val + 1))
          -∗ ∀ w, wp frame (wpE (defs₀ (F := F)) 𝒱₀ (thr d i) none) Set.univ (k w) Q))
      ⊢ wp frame (wpE (defs₀ (F := F)) 𝒱₀ (thr d i) none) Set.univ (rowsProg i r aS >>= k) Q := by
  rw [← sumUpTo_succ, fetched_a]
  exact wp_rowsProg d i r (keyTile i KS) hK aS (chunkTile i X r) (sumUpTo i X KS r.val) k Q

/-- The row loop over the chunk in the second buffer. -/
theorem wp_rows_b (r : Fin 8) (X : Vec F S2x8192x128 .f32) (KS : Vec F S1024x128 .i32) (hK : KeysOK (F := F) (keyTile i KS)) (f : Vec F S128x128 .f32)
    {α : Type} (k : BitVec 32 → TProg F i α) (Q : α → sProp 𝕄) :
    iprop((keyS.view.loc (thr d i) ↦{fullShare} keyTile i KS)
        ∗ (bS.view.loc (thr d i) ↦{fullShare} bS.view.write (Elt F) f ((chunk i r).view.read (Elt F) X) Finset.univ)
        ∗ (accS.view.loc (thr d i) ↦{fullShare} sumUpTo i X KS r.val)
        ∗ ((keyS.view.loc (thr d i) ↦{fullShare} keyTile i KS) -∗ (bS.view.loc (thr d i) ↦{fullShare} chunkTile i X r)
          -∗ (accS.view.loc (thr d i) ↦{fullShare} sumUpTo i X KS (r.val + 1))
          -∗ ∀ w, wp frame (wpE (defs₀ (F := F)) 𝒱₀ (thr d i) none) Set.univ (k w) Q))
      ⊢ wp frame (wpE (defs₀ (F := F)) 𝒱₀ (thr d i) none) Set.univ (rowsProg i r bS >>= k) Q := by
  rw [← sumUpTo_succ, fetched_b]
  exact wp_rowsProg d i r (keyTile i KS) hK bS (chunkTile i X r) (sumUpTo i X KS r.val) k Q

/-- The cleared sums. -/
theorem accZ_all : (accZ d i 65536 : sProp 𝕄) ⊢ (accS.view.loc (thr d i) ↦{fullShare} ((fun _ => fz : Vec F S65536 .f32))) := by
  unfold accZ
  iintro ⟨%A, %hA, HA⟩
  have e : A = fun _ => fz := funext fun y => hA y (y 0).isLt
  subst e
  iexact HA

/-- The cleared counts. -/
theorem cntZ_all : (cntZ d i 1024 : sProp 𝕄) ⊢ (cntS.view.loc (thr d i) ↦{fullShare} (fun _ => fz : Vec F S1024 .f32)) := by
  unfold cntZ
  iintro ⟨%A, %hA, HA⟩
  have e : A = fun _ => fz := funext fun y => hA y (y 0).isLt
  subst e
  iexact HA

/-- What the tile is handed: a share of the vectors and of the segment offsets, its parts of the two results whole. -/
def goTile (q : PosShare TreeShare) (X : Vec F S2x8192x128 .f32) (KS : Vec F S1024x128 .i32) (fo : Vec F S2097152 .f32) (fn : Vec F S32768 .f32) : sProp 𝕄 :=
  iprop((xV.view.loc (thr d i) ↦{q} X) ∗ (kV.view.loc (thr d i) ↦{q} KS)
    ∗ ((sumOut i).view.loc (thr d i) ↦[(sumOut i).view.set]{fullShare} fo)
    ∗ ((cntOut i).view.loc (thr d i) ↦[(cntOut i).view.set]{fullShare} fn))

set_option maxHeartbeats 4000000 in
set_option maxRecDepth 4096 in
/-- The task on the tile at `i`. -/
theorem tile_body (hF : (K (F := F)).Facts) (q : PosShare TreeShare) (X : Vec F S2x8192x128 .f32) (KS : Vec F S1024x128 .i32)
    (fo : Vec F S2097152 .f32) (fn : Vec F S32768 .f32)
    (hK : KeysOK (F := F) (keyTile i KS)) (hC : CntsOK (F := F) i (keyTile i KS))
    (O : CellTallies nD τ sig (HIx 1)) (W : Waits sig (HIx 1)) (hO : ∀ g, O g none = 0) :
    iprop(levAts (K (F := F)).L (K (F := F)).lev ∗ emp ∗ goTile d i q X KS fo fn ∗ scopedBufs (thr d i) ∗ scopedSems0 (thr d i) ∗ owes (thr d i) O W)
      ⊢ wp frame (wpE (defs₀ (F := F)) 𝒱₀ (thr d i) none) Set.univ
          (cc0__segsum_body (F := F) i xV (Memref.isWhole_whole _) kV (Memref.isWhole_whole _) oV (Memref.isWhole_whole _) nV (Memref.isWhole_whole _)
            keyS (Memref.isWhole_whole _) aS (Memref.isWhole_whole _) bS (Memref.isWhole_whole _) accS (Memref.isWhole_whole _) cntS (Memref.isWhole_whole _)
            cc0_scratch5 cc0_scratch6 cc0_scratch7 cc0_scoped0 cc0_scoped1)
          fun _ => iprop(goTile d i q X KS (sumsAll X KS) (cntsAll KS)
            ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d (tC i) (tS i), SparseCore.Cfg.scopedSems0_V (Val := Elt F) d (tC i) (tS i), ownSems0_V, ownBufs_V]
  unfold goTile
  iintro ⟨#Hlv, -, ⟨Hx, Hk, Ho, Hn⟩, ⟨⟨%fk, Hkey⟩, ⟨%fa, Ha⟩, ⟨%fb, Hb⟩, ⟨%fA, HA⟩, ⟨%fC, HC⟩, Hbufs⟩, ⟨Hs5, Hs6, Hs7, Hp0, Hp1, Hsems⟩, HO⟩
  ihave Hmw := ((K (F := F)).mayWaits_none (thr := thr d i) hO) $$ Hlv
  ihave Hxx := ((pointsTo_share (PosShare.mem_left_op_right q)).1) $$ Hx
  icases Hxx with ⟨Hx0, Hx1⟩
  ihave Hkey := (Entails.of_eq (pts_whole (F := F) d i cc0_scratch0 fk).symm) $$ Hkey
  ihave Ha := (Entails.of_eq (pts_whole (F := F) d i cc0_scratch1 fa).symm) $$ Ha
  ihave Hb := (Entails.of_eq (pts_whole (F := F) d i cc0_scratch2 fb).symm) $$ Hb
  ihave HA := (Entails.of_eq (pts_whole (F := F) d i cc0_scratch3 fA).symm) $$ HA
  ihave HC := (Entails.of_eq (pts_whole (F := F) d i cc0_scratch4 fC).symm) $$ HC
  unfold bodyProg
  generalize hz : zeroSums (F := F) i = zs
  generalize hc : zeroCnts (F := F) i = zc
  generalize hr : rowsProg (F := F) i = rp
  generalize hn : cntProg (F := F) i = cp
  sl_exec (disch := exact View.amount_pos _ _ (show 0 < S128x128.numel by decide))
  rw [← hz]
  iapply (wp_zeroSums d i)
  isplitl [HA]
  · unfold accZ; iexists fA; isplitr; · ipureintro; intro y hy; exact absurd hy (Nat.not_lt_zero _)
    iexact HA
  iintro HA %w0
  rw [← hc]
  iapply (wp_zeroCnts d i)
  isplitl [HC]
  · unfold cntZ; iexists fC; isplitr; · ipureintro; intro y hy; exact absurd hy (Nat.not_lt_zero _)
    iexact HC
  iintro HC %w1
  ihave HA := (accZ_all d i) $$ HA
  ihave HC := (cntZ_all d i) $$ HC
  sl_exec (disch := exact View.amount_pos _ _ (show 0 < S128x128.numel by decide))
  unfold tile_body.sl.dma0
  ihave Hkey := (Entails.of_eq (congrArg (fun f => (keyS.view.loc (thr d i) ↦{fullShare} f : sProp 𝕄)) (fetched_keys i fk KS))) $$ Hkey
  rw [← hr]
  iapply (wp_rows_a d i 0 X KS hK _)
  isplitl [Hkey]; · iexact Hkey
  isplitl [Ha]; · iexact Ha
  isplitl [HA]; · iexact HA
  iintro Hkey Ha HA %w2
  rw [hr]
  sl_exec (disch := exact View.amount_pos _ _ (show 0 < S128x128.numel by decide))
  rw [← hr]
  iapply (wp_rows_b d i 1 X KS hK _)
  isplitl [Hkey]; · iexact Hkey
  isplitl [Hb]; · iexact Hb
  isplitl [HA]; · iexact HA
  iintro Hkey Hb HA %w3
  rw [hr]
  sl_exec (disch := exact View.amount_pos _ _ (show 0 < S128x128.numel by decide))
  rw [← hr]
  iapply (wp_rows_a d i 2 X KS hK _)
  isplitl [Hkey]; · iexact Hkey
  isplitl [Ha]; · iexact Ha
  isplitl [HA]; · iexact HA
  iintro Hkey Ha HA %w4
  rw [hr]
  sl_exec (disch := exact View.amount_pos _ _ (show 0 < S128x128.numel by decide))
  rw [← hr]
  iapply (wp_rows_b d i 3 X KS hK _)
  isplitl [Hkey]; · iexact Hkey
  isplitl [Hb]; · iexact Hb
  isplitl [HA]; · iexact HA
  iintro Hkey Hb HA %w5
  rw [hr]
  sl_exec (disch := exact View.amount_pos _ _ (show 0 < S128x128.numel by decide))
  rw [← hr]
  iapply (wp_rows_a d i 4 X KS hK _)
  isplitl [Hkey]; · iexact Hkey
  isplitl [Ha]; · iexact Ha
  isplitl [HA]; · iexact HA
  iintro Hkey Ha HA %w6
  rw [hr]
  sl_exec (disch := exact View.amount_pos _ _ (show 0 < S128x128.numel by decide))
  rw [← hr]
  iapply (wp_rows_b d i 5 X KS hK _)
  isplitl [Hkey]; · iexact Hkey
  isplitl [Hb]; · iexact Hb
  isplitl [HA]; · iexact HA
  iintro Hkey Hb HA %w7
  rw [hr]
  sl_exec (disch := exact View.amount_pos _ _ (show 0 < S128x128.numel by decide))
  rw [← hr]
  iapply (wp_rows_a d i 6 X KS hK _)
  isplitl [Hkey]; · iexact Hkey
  isplitl [Ha]; · iexact Ha
  isplitl [HA]; · iexact HA
  iintro Hkey Ha HA %w8
  rw [hr]
  sl_exec (disch := exact View.amount_pos _ _ (show 0 < S128x128.numel by decide))
  rw [← hr]
  iapply (wp_rows_b d i 7 X KS hK _)
  isplitl [Hkey]; · iexact Hkey
  isplitl [Hb]; · iexact Hb
  isplitl [HA]; · iexact HA
  iintro Hkey Hb HA %w9
  rw [← hn]
  iapply (wp_cntProg d i (keyTile i KS) hC)
  isplitl [Hkey]; · iexact Hkey
  isplitl [HC]; · iexact HC
  iintro Hkey HC %w10
  sl_exec (disch := exact View.amount_pos _ _ (show 0 < S65536.numel by decide))
  unfold tile_body.sl.dma0_9 tile_body.sl.dma0_10
  ihave Ho := (Entails.of_eq (pts_landed d i (sumOut i).view fo (sumsAll X KS)
    (ReadAs.same.apply (View.read (Elt F) accS.view (sumUpTo i X KS ((7 : Fin 8).val + 1)))) (read_sumsAll i X KS))) $$ Ho
  ihave Hn := (Entails.of_eq (pts_landed d i (cntOut i).view fn (cntsAll KS)
    (ReadAs.same.apply (View.read (Elt F) cntS.view (cntTrips i (keyTile i KS) (fun _ => fz) k0_t11_loop.trips))) (read_cntsAll i KS))) $$ Hn
  ihave Hx := ((pointsTo_share (PosShare.mem_left_op_right q)).2) $$ [Hx0 Hx1]
  · isplitl [Hx0]; · iexact Hx0
    iexact Hx1
  rw [wp_ret]; imodintro
  isplitl [Hx Hk Ho Hn]
  · isplitl [Hx]; · iexact Hx
    isplitl [Hk]; · iexact Hk
    isplitl [Ho]; · iexact Ho
    iexact Hn
  isplitl [Hkey Ha Hb HA HC Hbufs]
  · isplitl [Hkey]; · iexists _; iexact Hkey
    isplitl [Ha]; · iexists _; iexact Ha
    isplitl [Hb]; · iexists _; iexact Hb
    isplitl [HA]; · iexists _; iexact HA
    isplitl [HC]; · iexists _; iexact HC
    iexact Hbufs
  isplitl [Hs5 Hs6 Hs7 Hp0 Hp1 Hsems]
  · isplitl [Hs5]; · iexact Hs5
    isplitl [Hs6]; · iexact Hs6
    isplitl [Hs7]; · iexact Hs7
    isplitl [Hp0]; · iexact Hp0
    isplitl [Hp1]; · iexact Hp1
    iexact Hsems
  iexists _
  isplitr
  rotate_left
  · iexact HO
  ipureintro
  intro p hp
  simp only [Finset.mem_insert] at hp
  rcases hp with hp | hp | hp | hp | hp | hp | hp | hp | hp | hp | hp | hp
  all_goals first
    | exact .inl hp
    | exact .inr (hp ▸ rfl)

end Cert.Proof.Ideal

end
-- ==== Proof.Ideal.Final.lean ====
/-
  The final TensorCore body, run: what it leaves in its two scratch arrays at the first point, and in its two
  result blocks at every point.
-/
module

public import proofs.«01_k».proof.Proof.Gen.KernelIdeal
public import proofs.«01_k».proof.Proof.Gen.KernelIdeal.Skeleton
public import Idealize.ShloMosaic.Lib.Pipeline.FrameBody
public import Idealize.ShloMosaic.Lib.Pipeline.TableIdle
public import Idealize.ShloMosaic.Lib.Pipeline.ValueKit
public import Idealize.ShloMosaic.Lib.Pipeline.ReadBack
public import Idealize.ShloMosaic.Lib.Tactic

@[expose] public section

noncomputable section

namespace Cert.Proof.Ideal.Final

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U]

local notation "𝕄" => MT nD τ sig Ix (Elt F) ℕ U ℕ

/-- The contents of memref `M`'s buffer on core `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- 512 rows of the partial sums, from row `o`. -/
abbrev sl (SU : Vec F S16384x128 .f32) (o : ℕ) (h : ∀ a, (![o, 0] : Fin 2 → ℕ) a + S512x128.size a ≤ S16384x128.size a) : Vec F S512x128 .f32 :=
  View.ld SU (Rect.unit (s := S16384x128) ![o, 0] S512x128.size h)

section Values

variable (SU : Vec F S16384x128 .f32) (CN : Vec F S32x1024 .f32) (UN : Vec F S1024x256 .f32)

/-- The first three blocks of columns: the partial sums of a quarter, their two halves spread to even and odd rows. -/
def q0 : FVec F S1024x64 .f32 :=
  k1_pay9 k1_pay5
    (k1_pay7 (sl SU 0 inb_S16384x128_S512x128_0_0) (sl SU 512 inb_S16384x128_S512x128_512_0) (sl SU 1024 inb_S16384x128_S512x128_1024_0) (sl SU 1536 inb_S16384x128_S512x128_1536_0)
      (sl SU 2048 inb_S16384x128_S512x128_2048_0) (sl SU 2560 inb_S16384x128_S512x128_2560_0) (sl SU 3072 inb_S16384x128_S512x128_3072_0) (sl SU 3584 inb_S16384x128_S512x128_3584_0))
    (k1_pay8 (sl SU 0 inb_S16384x128_S512x128_0_0) (sl SU 512 inb_S16384x128_S512x128_512_0) (sl SU 1024 inb_S16384x128_S512x128_1024_0) (sl SU 1536 inb_S16384x128_S512x128_1536_0)
      (sl SU 2048 inb_S16384x128_S512x128_2048_0) (sl SU 2560 inb_S16384x128_S512x128_2560_0) (sl SU 3072 inb_S16384x128_S512x128_3072_0) (sl SU 3584 inb_S16384x128_S512x128_3584_0))
def q1 : FVec F S1024x64 .f32 :=
  k1_pay10 k1_pay4 k1_pay5 (sl SU 4096 inb_S16384x128_S512x128_4096_0) (sl SU 4608 inb_S16384x128_S512x128_4608_0) (sl SU 5120 inb_S16384x128_S512x128_5120_0) (sl SU 5632 inb_S16384x128_S512x128_5632_0)
    (sl SU 6144 inb_S16384x128_S512x128_6144_0) (sl SU 6656 inb_S16384x128_S512x128_6656_0) (sl SU 7168 inb_S16384x128_S512x128_7168_0) (sl SU 7680 inb_S16384x128_S512x128_7680_0)
def q2 : FVec F S1024x64 .f32 :=
  k1_pay12 k1_pay4 k1_pay5 (k1_pay11 (sl SU 8192 inb_S16384x128_S512x128_8192_0) (sl SU 8704 inb_S16384x128_S512x128_8704_0)) (sl SU 9216 inb_S16384x128_S512x128_9216_0)
    (sl SU 9728 inb_S16384x128_S512x128_9728_0) (sl SU 10240 inb_S16384x128_S512x128_10240_0) (sl SU 10752 inb_S16384x128_S512x128_10752_0) (sl SU 11264 inb_S16384x128_S512x128_11264_0)
    (sl SU 11776 inb_S16384x128_S512x128_11776_0)
/-- Part of the last quarter's sum. -/
def q3 : FVec F S512x128 .f32 :=
  k1_pay13 (sl SU 12288 inb_S16384x128_S512x128_12288_0) (sl SU 12800 inb_S16384x128_S512x128_12800_0) (sl SU 13312 inb_S16384x128_S512x128_13312_0)
    (sl SU 13824 inb_S16384x128_S512x128_13824_0) (sl SU 14336 inb_S16384x128_S512x128_14336_0)

/-- The new memory rows, -/
def nd : FVec F S1024x256 .f32 :=
  k1_pay14 k1_pay4 k1_pay5 (q0 SU) (q1 SU) (q2 SU) (q3 SU) (sl SU 14848 inb_S16384x128_S512x128_14848_0) (sl SU 15360 inb_S16384x128_S512x128_15360_0)
    (sl SU 15872 inb_S16384x128_S512x128_15872_0) CN UN
/-- and those rows normalised. -/
def mn : FVec F S1024x256 .f32 :=
  k1_pay1 (nd SU CN UN)
    (k1_pay16 k1_pay4 k1_pay5 (q0 SU) (q1 SU) (q2 SU) (q3 SU) (sl SU 14848 inb_S16384x128_S512x128_14848_0) (sl SU 15360 inb_S16384x128_S512x128_15360_0)
      (sl SU 15872 inb_S16384x128_S512x128_15872_0) CN UN)

end Values

/-- The body at a later point: the two scratch arrays read, the two result blocks written. -/
theorem run_rest (c : Dev nD) (i : grid1.Coords) (hi : (i 0).val ≠ 0)
    (M1 : Memref sig .tc .vmem S1x256x1024 .f32) (h1 : M1.IsWhole) (M2 : Memref sig .tc .vmem S1024x256 .f32) (h2 : M2.IsWhole)
    (M3 : Memref sig .tc .vmem S16384x128 .f32) (h3 : M3.IsWhole) (M4 : Memref sig .tc .vmem S32x1024 .f32) (h4 : M4.IsWhole)
    (M5 : Memref sig .tc .vmem S1024x1024 .f32) (h5 : M5.IsWhole) (M6 : Memref sig .tc .vmem S1x256x1024 .f32) (h6 : M6.IsWhole)
    (M7 : Memref sig .tc .vmem S1024x256 .f32) (h7 : M7.IsWhole) (M8 : Memref sig .tc .vmem S1024x256 .f32) (h8 : M8.IsWhole)
    (f1 : Bf (F := F) c M1) (f5 : Bf (F := F) c M5) (f6 : Bf (F := F) c M6) (f7 : Bf (F := F) c M7) (f8 : Bf (F := F) c M8) (E : Set ℕ) (Q : PUnit → sProp 𝕄) :
    iprop(pt c M1 f1 ∗ pt c M5 f5 ∗ pt c M6 f6 ∗ pt c M7 f7 ∗ pt c M8 f8
      ∗ (iprop(pt c M1 f1 ∗ (∃ g, ⌜M5.view.read (Elt F) g = k1_pay2 (M1.view.read (Elt F) f1) (M8.view.read (Elt F) f8)⌝ ∗ pt c M5 g)
          ∗ (∃ g, ⌜M6.view.read (Elt F) g = k1_pay3 (M1.view.read (Elt F) f1) (M8.view.read (Elt F) f8) (M7.view.read (Elt F) f7)⌝ ∗ pt c M6 g)
          ∗ pt c M7 f7 ∗ pt c M8 f8) -∗ Q ⟨⟩))
      ⊢ wp frame (wpE (defs₀ (F := F)) Variants.none (c : Thread nD τ) none) E (cc1__final_body i M1 h1 M2 h2 M3 h3 M4 h4 M5 h5 M6 h6 M7 h7 M8 h8) Q := by
  rw [cc1__final_body_eq_skeleton]; unfold cc1__final_body_skel
  have hc : ¬ Scalar.cmpi .ne (Scalar.extui (Scalar.cmpi .eq (BitVec.ofNat 32 (i 0).val) 0#32)) (0#32) = 1#1 := by
    have hlt : (i 0).val < 8 := (i 0).isLt
    revert hi hlt; generalize (i 0).val = k; intro hi hlt
    interval_cases k <;> first | exact absurd rfl hi | decide
  iintro ⟨H1, H5, H6, H7, H8, Hk⟩
  sl_exec!
  sl_step
  iapply Hk
  isplitl [H1]; · iexact H1
  isplitl [H5]
  · iexists _; isplitr; swap; (· iexact H5)
    ipureintro; frame_out
  isplitl [H6]
  · iexists _; isplitr; swap; (· iexact H6)
    ipureintro; frame_out
  isplitl [H7]; · iexact H7
  iexact H8

/-- The body at the first point: the partial sums, the counts and the units read, the two scratch arrays filled, the
    two result blocks written. -/
theorem run_first (c : Dev nD) (i : grid1.Coords) (hi : (i 0).val = 0)
    (M1 : Memref sig .tc .vmem S1x256x1024 .f32) (h1 : M1.IsWhole) (M2 : Memref sig .tc .vmem S1024x256 .f32) (h2 : M2.IsWhole)
    (M3 : Memref sig .tc .vmem S16384x128 .f32) (h3 : M3.IsWhole) (M4 : Memref sig .tc .vmem S32x1024 .f32) (h4 : M4.IsWhole)
    (M5 : Memref sig .tc .vmem S1024x1024 .f32) (h5 : M5.IsWhole) (M6 : Memref sig .tc .vmem S1x256x1024 .f32) (h6 : M6.IsWhole)
    (M7 : Memref sig .tc .vmem S1024x256 .f32) (h7 : M7.IsWhole) (M8 : Memref sig .tc .vmem S1024x256 .f32) (h8 : M8.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c M7) (f8 : Bf (F := F) c M8) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8
      ∗ (iprop(pt c M1 f1 ∗ pt c M2 f2 ∗ pt c M3 f3 ∗ pt c M4 f4
          ∗ (∃ g, ⌜M5.view.read (Elt F) g = k1_pay2 (M1.view.read (Elt F) f1) (mn (M3.view.read (Elt F) f3) (M4.view.read (Elt F) f4) (M2.view.read (Elt F) f2))⌝ ∗ pt c M5 g)
          ∗ (∃ g, ⌜M6.view.read (Elt F) g = k1_pay3 (M1.view.read (Elt F) f1) (mn (M3.view.read (Elt F) f3) (M4.view.read (Elt F) f4) (M2.view.read (Elt F) f2))
                (nd (M3.view.read (Elt F) f3) (M4.view.read (Elt F) f4) (M2.view.read (Elt F) f2))⌝ ∗ pt c M6 g)
          ∗ (∃ g, ⌜M7.view.read (Elt F) g = nd (M3.view.read (Elt F) f3) (M4.view.read (Elt F) f4) (M2.view.read (Elt F) f2)⌝ ∗ pt c M7 g)
          ∗ ∃ g, ⌜M8.view.read (Elt F) g = mn (M3.view.read (Elt F) f3) (M4.view.read (Elt F) f4) (M2.view.read (Elt F) f2)⌝ ∗ pt c M8 g) -∗ Q ⟨⟩))
      ⊢ wp frame (wpE (defs₀ (F := F)) Variants.none (c : Thread nD τ) none) E (cc1__final_body i M1 h1 M2 h2 M3 h3 M4 h4 M5 h5 M6 h6 M7 h7 M8 h8) Q := by
  rw [cc1__final_body_eq_skeleton]; unfold cc1__final_body_skel
  have hc : Scalar.cmpi .ne (Scalar.extui (Scalar.cmpi .eq (BitVec.ofNat 32 (i 0).val) 0#32)) (0#32) = 1#1 := by
    rw [hi]; decide
  iintro ⟨H1, H2, H3, H4, H5, H6, H7, H8, Hk⟩
  sl_exec_parts!
  sl_step
  iapply Hk
  isplitl [H1]; · iexact H1
  isplitl [H2]; · iexact H2
  isplitl [H3]; · iexact H3
  isplitl [H4]; · iexact H4
  isplitl [H5]
  · iexists _; isplitr; swap; (· iexact H5)
    ipureintro; frame_out; rfl
  isplitl [H6]
  · iexists _; isplitr; swap; (· iexact H6)
    ipureintro; frame_out; simp only [k1_pay15, shapeCast_self]; rfl
  isplitl [H7]
  · iexists _; isplitr; swap; (· iexact H7)
    ipureintro; frame_out; simp only [k1_pay15, shapeCast_self]; rfl
  iexists _; isplitr; swap; (· iexact H8)
  ipureintro; frame_out; rfl

end Cert.Proof.Ideal.Final

end
-- ==== Proof.Ideal.Region.lean ====
/-
  The final TensorCore call: its proof data over the arrays it is entered with, its body's obligation at every
  point, and the call as a step of the program.
-/
module

public import proofs.«01_k».proof.Proof.Ideal.Setup
public import proofs.«01_k».proof.Proof.Ideal.Final
public import Idealize.ShloMosaic.Lib.Pipeline.RegionsLoop

@[expose] public section

noncomputable section

namespace Cert.Proof.Ideal

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data, at the arrays the call is entered with -/

variable (R : (c : Dev nD) → (b : Ref sig .tc) → Buf (Elt F) ((c : Thread nD τ).loc b)) (lim : ℕ)

/-- A point's block of `x`, -/
abbrev xBlk (c : Dev nD) (t : Fin cfg1.N) : Vec F S1x256x1024 .f32 := ((cfg1.win 0).blk t).view.read (Elt F) (R c main_v0)
/-- the memory rows the first point makes, and those normalised. -/
abbrev ndOf (c : Dev nD) : Vec F S1024x256 .f32 := Final.nd (R c main_v2) (R c main_v3) (R c main_arg3)
abbrev mnOf (c : Dev nD) : Vec F S1024x256 .f32 := Final.mn (R c main_v2) (R c main_v3) (R c main_arg3)

/-- The two scratch arrays between the points: at anything before the first, then at the memory rows. -/
def scr (c : Dev nD) : ℕ → sProp 𝕄
  | 0 => Pipeline.scopedRest (Ix := HIx 1) (Name := ℕ) (U := UU) (Lvl := ℕ) (Val := Elt F) spec1 c
  | _ + 1 => iprop(((c : Thread nD τ).loc cc1_scratch0 ↦{fullShare} ndOf R c) ∗ (c : Thread nD τ).loc cc1_scratch1 ↦{fullShare} mnOf R c)

/-- The proof data. -/
def dat (c : Dev nD) : Dat τ (Elt F) (HIx 1) ℕ UU ℕ cfg1 c where
  A w := R c (Pipeline.arrRef spec1 w)
  after w t := match w with
    | ⟨0, _⟩ => xBlk R c t
    | ⟨1, _⟩ => ((cfg1.win 1).blk t).view.read (Elt F) (R c main_arg3)
    | ⟨2, _⟩ => ((cfg1.win 2).blk t).view.read (Elt F) (R c main_v2)
    | ⟨3, _⟩ => ((cfg1.win 3).blk t).view.read (Elt F) (R c main_v3)
    | ⟨4, _⟩ => k1_pay2 (xBlk R c t) (mnOf R c)
    | ⟨5, _⟩ => k1_pay3 (xBlk R c t) (mnOf R c) (ndOf R c)
  Φ t := scr R c t.val
  q _ := fullShare
  owed _ := 0
  recorded _ := {p | (K (F := F)).lev (T c, p.1) p.2 ≤ lim}

theorem coords1 : ∀ t : Fin grid1.N, (grid1.coords t 0).val = t.val := by decide

/-- The windows that hold a whole array read it whole. -/
theorem blk1_1 (t : Fin cfg1.N) (f : Vec F S1024x256 .f32) : ((cfg1.win 1).blk t).view.read (Elt F) f = f := by
  funext y
  blk_simp
  refine congrArg f (funext fun a => Fin.ext ?_)
  fin_cases a <;> blk_simp <;> exact (Nat.zero_mul _ ▸ Nat.zero_add _)
theorem blk1_2 (t : Fin cfg1.N) (f : Vec F S16384x128 .f32) : ((cfg1.win 2).blk t).view.read (Elt F) f = f := by
  funext y
  blk_simp
  refine congrArg f (funext fun a => Fin.ext ?_)
  fin_cases a <;> blk_simp <;> exact (Nat.zero_mul _ ▸ Nat.zero_add _)
theorem blk1_3 (t : Fin cfg1.N) (f : Vec F S32x1024 .f32) : ((cfg1.win 3).blk t).view.read (Elt F) f = f := by
  funext y
  blk_simp
  refine congrArg f (funext fun a => Fin.ext ?_)
  fin_cases a <;> blk_simp <;> exact (Nat.zero_mul _ ▸ Nat.zero_add _)

theorem before0 (c : Dev nD) (t : Fin cfg1.N) (d) : (dat R lim c).before 0 t d = xBlk R c t :=
  ((dat R lim c).before_in_eq_fetched 0 rfl (fun _ => rfl) (fun _ _ _ => rfl) (fun _ => rfl) t d).trans rfl
theorem before1 (c : Dev nD) (t : Fin cfg1.N) (d) : (dat R lim c).before 1 t d = R c main_arg3 :=
  ((dat R lim c).before_in_eq_fetched 1 rfl (fun _ => rfl) (fun _ _ _ => rfl) (fun _ => rfl) t d).trans (show ((cfg1.win 1).blk t).view.read (Elt F) (R c main_arg3) = _ from blk1_1 t _)
theorem before2 (c : Dev nD) (t : Fin cfg1.N) (d) : (dat R lim c).before 2 t d = R c main_v2 :=
  ((dat R lim c).before_in_eq_fetched 2 rfl (fun _ => rfl) (fun _ _ _ => rfl) (fun _ => rfl) t d).trans (show ((cfg1.win 2).blk t).view.read (Elt F) (R c main_v2) = _ from blk1_2 t _)
theorem before3 (c : Dev nD) (t : Fin cfg1.N) (d) : (dat R lim c).before 3 t d = R c main_v3 :=
  ((dat R lim c).before_in_eq_fetched 3 rfl (fun _ => rfl) (fun _ _ _ => rfl) (fun _ => rfl) t d).trans (show ((cfg1.win 3).blk t).view.read (Elt F) (R c main_v3) = _ from blk1_3 t _)

omit [FloatOps F] in
theorem owns_of_whole (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ Final.pt c M f) := by
  unfold owns; rw [h.set_eq_univ]

/-- The body's obligation. -/
theorem body_obligation (c : Dev nD) : BodyObligation (dat R lim c) (defs₀ (F := F)) 𝒱₀ none Set.univ := fun t => by
  rw [bigSep_W1, bigSep_W1]
  rw [show (dat R lim c).owesAt none t.succ = (dat R lim c).owesAt none t.castSucc from rfl]
  rw [show (dat R lim c).Φ t.succ = scr R c (t.val + 1) from rfl, show (dat R lim c).Φ t.castSucc = scr R c t.val from rfl]
  dsimp only
  simp only [before0, before1, before2, before3]
  have e0 (X) : (owns (c : Thread nD τ) (stage1_0 (cfg1.slots t 0)) fullShare X : sProp 𝕄) = _ := owns_of_whole c (hstage1_0 _) X
  have e1 (X) : (owns (c : Thread nD τ) (stage1_1 (cfg1.slots t 1)) fullShare X : sProp 𝕄) = _ := owns_of_whole c (hstage1_1 _) X
  have e2 (X) : (owns (c : Thread nD τ) (stage1_2 (cfg1.slots t 2)) fullShare X : sProp 𝕄) = _ := owns_of_whole c (hstage1_2 _) X
  have e3 (X) : (owns (c : Thread nD τ) (stage1_3 (cfg1.slots t 3)) fullShare X : sProp 𝕄) = _ := owns_of_whole c (hstage1_3 _) X
  have e4 (X) : (owns (c : Thread nD τ) (stage1_4 (cfg1.slots t 4)) fullShare X : sProp 𝕄) = _ := owns_of_whole c (hstage1_4 _) X
  have e5 (X) : (owns (c : Thread nD τ) (stage1_5 (cfg1.slots t 5)) fullShare X : sProp 𝕄) = _ := owns_of_whole c (hstage1_5 _) X
  change _ ⊢ wp _ _ _ (bodyAt1 t) _
  simp only [e0, e1, e2, e3, e4, e5]
  have hi := coords1 t
  rcases hn : t.val with _ | n
  · rw [hn] at hi
    dsimp only [scr]
    rw [scopedRest1_eq]
    iintro ⟨⟨⟨%f7, H7⟩, ⟨%f8, H8⟩⟩, Howes, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
    iapply (Final.run_first c (grid1.coords t) hi _ _ _ _ _ _ _ _ _ _ _ _ (Memref.whole cc1_scratch0) _ (Memref.whole cc1_scratch1) _ f0 f1 f2 f3 f4 f5 f7 f8 Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro ⟨H0, H1, H2, H3, ⟨%g4, %hg4, H4⟩, ⟨%g5, %hg5, H5⟩, ⟨%g7, %hg7, H7⟩, ⟨%g8, %hg8, H8⟩⟩
    rw [hf0, hf1, hf2, hf3] at hg4 hg5
    rw [hf1, hf2, hf3, View.read_whole] at hg7 hg8
    subst hg7 hg8
    isplitl [H7 H8]
    · isplitl [H7] <;> iassumption
    isplitl [Howes]; · iexact Howes
    isplitl [H0]; · iexists _; isplitr; swap; (· iexact H0); ipureintro; exact hf0
    isplitl [H1]; · iexists _; isplitr; swap; (· iexact H1); ipureintro; exact hf1.trans (blk1_1 t _).symm
    isplitl [H2]; · iexists _; isplitr; swap; (· iexact H2); ipureintro; exact hf2.trans (blk1_2 t _).symm
    isplitl [H3]; · iexists _; isplitr; swap; (· iexact H3); ipureintro; exact hf3.trans (blk1_3 t _).symm
    isplitl [H4]; · iexists _; isplitr; swap; (· iexact H4); ipureintro; exact hg4
    iexists _; isplitr; swap; (· iexact H5); ipureintro; exact hg5
  · dsimp only [scr]
    iintro ⟨⟨H7, H8⟩, Howes, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
    iapply (Final.run_rest c (grid1.coords t) (by omega) _ _ _ _ _ _ _ _ _ _ _ _ (Memref.whole cc1_scratch0) _ (Memref.whole cc1_scratch1) _ f0 f4 f5 (ndOf R c) (mnOf R c) Set.univ _)
    isplitl [H0]; · iexact H0
    isplitl [H4]; · iexact H4
    isplitl [H5]; · iexact H5
    isplitl [H7]; · iexact H7
    isplitl [H8]; · iexact H8
    iintro ⟨H0, ⟨%g4, %hg4, H4⟩, ⟨%g5, %hg5, H5⟩, H7, H8⟩
    rw [hf0] at hg4 hg5
    isplitl [H7 H8]
    · isplitl [H7] <;> iassumption
    isplitl [Howes]; · iexact Howes
    isplitl [H0]; · iexists _; isplitr; swap; (· iexact H0); ipureintro; exact hf0
    isplitl [H1]; · iexists _; isplitr; swap; (· iexact H1); ipureintro; exact hf1.trans (blk1_1 t _).symm
    isplitl [H2]; · iexists _; isplitr; swap; (· iexact H2); ipureintro; exact hf2.trans (blk1_2 t _).symm
    isplitl [H3]; · iexists _; isplitr; swap; (· iexact H3); ipureintro; exact hf3.trans (blk1_3 t _).symm
    isplitl [H4]; · iexists _; isplitr; swap; (· iexact H4); ipureintro; exact hg4
    iexists _; isplitr; swap; (· iexact H5); ipureintro; exact hg5

/-! ## The call as a step of the program -/

/-- The pipeline takes no tables. -/
abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat R lim c

/-- The two result arrays after the call. -/
def scoreOut (c : Dev nD) : Buf (Elt F) ((c : Thread nD τ).loc main_v4_0) := (dat R 0 c).arrAt 4 cfg1.N
def blendOut (c : Dev nD) : Buf (Elt F) ((c : Thread nD τ).loc main_v4_1) := (dat R 0 c).arrAt 5 cfg1.N

/-- The arrays after the call. -/
def leaves (c : Dev nD) (b : Ref sig .tc) : Buf (Elt F) ((c : Thread nD τ).loc b) :=
  if h : b = main_v4_0 then h ▸ scoreOut R c else if h : b = main_v4_1 then h ▸ blendOut R c else R c b

theorem leaves_score (c : Dev nD) : leaves R c main_v4_0 = scoreOut R c := rfl
theorem leaves_blend (c : Dev nD) : leaves R c main_v4_1 = blendOut R c := rfl
theorem leaves_ne (c : Dev nD) (b : Ref sig .tc) (h0 : b ≠ main_v4_0) (h1 : b ≠ main_v4_1) : leaves R c b = R c b := by
  unfold leaves; rw [dif_neg h0, dif_neg h1]

/-- How far the recorded waits may reach does not enter the arrays. -/
theorem arrAt_lim (c : Dev nD) (w : Fin cfg1.W) : (dat R lim c).arrAt w cfg1.N = (dat R 0 c).arrAt w cfg1.N := rfl

/-- What the core owes around the call: nothing, with waits recorded at low places only. -/
abbrev owesLow (c : Dev nD) : sProp 𝕄 :=
  iprop(∃ W, ⌜(K (F := F)).WBelow (T c) W lim⌝ ∗ owes (T c) (0 : CellTallies nD τ sig (HIx 1)) W)

set_option backward.isDefEq.respectTransparency.types false in
/-- The call, entered with the arrays at `R` and left with the two results at theirs. -/
def reg : Pipeline.RegionSeg (pcfgs (F := F)) adm (pdats R lim) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation R lim c).loose
  hwaits := Pipeline.hwaits_of_owed_zero _ _ _ _ _ _ 0 fun _ _ => rfl
  pre c := iprop(unscopedBufs c (R c) ∗ owesLow lim c)
  post c := iprop(unscopedBufs c (leaves R c) ∗ owesLow lim c)
  X _ := BI.emp
  Y _ := BI.emp
  Z c := iprop(Pipeline.unscopedRest (Ix := HIx 1) (Name := ℕ) (U := UU) (Lvl := ℕ) spec1 c (R c))
  hentry c := by
    rw [Pipeline.ownSems0_none]
    have hsplit := Pipeline.arrays_of_unscopedBufs (p := 0) (pcfgs (F := F)) adm (pdats R lim) launch1.win launch1.arr_whole c
      ((pdats R lim 0 c).share_full fun _ => rfl) (R c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats R lim 0 c).Φ 0 = Pipeline.scopedRest spec1 c from rfl]
    iintro ⟨-, -, Hr⟩; iexact Hr
  hout c := by
    rw [Pipeline.ownSems0_none]
    change iprop(((c : Thread nD τ).loc cc1_scratch0 ↦{fullShare} ndOf R c) ∗ (c : Thread nD τ).loc cc1_scratch1 ↦{fullShare} mnOf R c)
      ⊢ iprop(BI.emp ∗ BI.emp ∗ Pipeline.scopedRest spec1 c)
    rw [scopedRest1_eq]
    iintro ⟨H7, H8⟩
    isplitr; · iempintro
    isplitr; · iempintro
    isplitl [H7]; · iexists _; iexact H7
    iexists _; iexact H8
  hexit c := by
    have hjoin := Pipeline.unscopedBufs_of_arrays (p := 0) (pcfgs (F := F)) adm (Ix := HIx 1) (Name := ℕ) (U := UU) (Lvl := ℕ) launch1.win launch1.arr_whole c
      (pdats R lim) ((pdats R lim 0 c).share_full fun _ => rfl) (R c) (leaves R c) ((pdats R lim 0 c).arrAt · cfg1.N)
      (fun w => match w with
        | ⟨0, _⟩ => ((dat R lim c).arrAt_in 0 rfl _).trans (leaves_ne R c main_v0 (by decide) (by decide)).symm
        | ⟨1, _⟩ => ((dat R lim c).arrAt_in 1 rfl _).trans (leaves_ne R c main_arg3 (by decide) (by decide)).symm
        | ⟨2, _⟩ => ((dat R lim c).arrAt_in 2 rfl _).trans (leaves_ne R c main_v2 (by decide) (by decide)).symm
        | ⟨3, _⟩ => ((dat R lim c).arrAt_in 3 rfl _).trans (leaves_ne R c main_v3 (by decide) (by decide)).symm
        | ⟨4, _⟩ => (arrAt_lim R lim c 4).trans (leaves_score R c).symm
        | ⟨5, _⟩ => (arrAt_lim R lim c 5).trans (leaves_blend R c).symm)
      (fun b hb => leaves_ne R c b (fun h => hb (h ▸ Finset.mem_image.mpr ⟨4, Finset.mem_univ _, rfl⟩)) fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | h
      · exact h
      · rcases h with ⟨w, s, rfl⟩
        exact Nat.zero_le _
    iexact HO

end Cert.Proof.Ideal

end
-- ==== Proof.Ideal.Deal.lean ====
/-
  The four arrays of the SparseCore call dealt to its thirty-two tiles and collected again: a share of the
  vectors and of the segment offsets each, and each result's parts. What the launch hands each tile, and
  the tile's obligation to it.
-/
module

public import proofs.«01_k».proof.Proof.Ideal.Tile
public import proofs.«01_k».proof.Proof.Ideal.Region

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

/-! ## The arrays -/

abbrev xLoc (d : Dev nD) : Loc nD τ sig := (SparseCore.T d).loc main_arg0
abbrev kLoc (d : Dev nD) : Loc nD τ sig := (SparseCore.T d).loc main_arg1
abbrev oLoc (d : Dev nD) : Loc nD τ sig := (SparseCore.T d).loc main_v1_0
abbrev nLoc (d : Dev nD) : Loc nD τ sig := (SparseCore.T d).loc main_v1_1

/-- The tile at a core and a subcore. -/
def tileOf (p : Fin 2 × Fin 16) : grid0.Coords := tileAt (2 * p.2.val + p.1.val)

/-- Its share of the two inputs. -/
def shareOf (p : Fin 2 × Fin 16) : PosShare TreeShare :=
  Transfers.dealOf (Transfers.dealOf fullShare Finset.univ p.1) Finset.univ p.2

/-- Its entries of the sums and of the counts. -/
def sumSet (p : Fin 2 × Fin 16) : Finset S2097152.Idx := (sumOut (tileOf p)).view.set
def cntSet (p : Fin 2 × Fin 16) : Finset S32768.Idx := (cntOut (tileOf p)).view.set

theorem wid_tileOf : ∀ p : Fin 2 × Fin 16, wid (tileOf p) = 2 * p.2.val + p.1.val := by decide +kernel

theorem mem_sumSet (p : Fin 2 × Fin 16) (y : S2097152.Idx) :
    y ∈ sumSet p ↔ 4 * ((y 0).val / 65536 % 8) + (y 0).val / 65536 / 8 = 2 * p.2.val + p.1.val := by
  rw [← wid_tileOf p]
  have hw := wid_lt (tileOf p)
  constructor
  · intro h
    obtain ⟨x, -, rfl⟩ := Finset.mem_map.mp h
    have e := sumOut_emb (tileOf p) x
    have hx : (x 0).val < 65536 := (x 0).isLt
    change 4 * (((sumOut (tileOf p)).view.emb x 0).val / 65536 % 8) + ((sumOut (tileOf p)).view.emb x 0).val / 65536 / 8 = _
    rw [e]; omega
  · intro h
    refine Finset.mem_map.mpr ⟨sumIx (y 0).val, Finset.mem_univ _, ?_⟩
    funext a
    obtain rfl : a = 0 := Subsingleton.elim _ _
    refine Fin.ext ((sumOut_emb (tileOf p) _).trans ?_)
    have hy : (y 0).val < 2097152 := (y 0).isLt
    change 65536 * (8 * (wid (tileOf p) % 4) + wid (tileOf p) / 4) + (y 0).val % 65536 = (y 0).val
    omega

theorem mem_cntSet (p : Fin 2 × Fin 16) (y : S32768.Idx) : y ∈ cntSet p ↔ (y 0).val / 1024 = 2 * p.2.val + p.1.val := by
  rw [← wid_tileOf p]
  have hw := wid_lt (tileOf p)
  constructor
  · intro h
    obtain ⟨x, -, rfl⟩ := Finset.mem_map.mp h
    have e := cntOut_emb (tileOf p) x
    have hx : (x 0).val < 1024 := (x 0).isLt
    change ((cntOut (tileOf p)).view.emb x 0).val / 1024 = _
    rw [e]; omega
  · intro h
    refine Finset.mem_map.mpr ⟨cntIx (y 0).val, Finset.mem_univ _, ?_⟩
    funext a
    obtain rfl : a = 0 := Subsingleton.elim _ _
    refine Fin.ext ((cntOut_emb (tileOf p) _).trans ?_)
    change 1024 * wid (tileOf p) + (y 0).val % 1024 = (y 0).val
    omega

theorem tile_inj {p q : Fin 2 × Fin 16} (h : 2 * p.2.val + p.1.val = 2 * q.2.val + q.1.val) : p = q :=
  Prod.ext (Fin.ext (by omega)) (Fin.ext (by omega))

theorem sumSet_disjoint : ∀ p ∈ (Finset.univ : Finset (Fin 2 × Fin 16)), ∀ q ∈ (Finset.univ : Finset (Fin 2 × Fin 16)), p ≠ q → Disjoint (sumSet p) (sumSet q) :=
  fun p _ q _ h => Finset.disjoint_left.mpr fun y hp hq => h (tile_inj (((mem_sumSet p y).mp hp).symm.trans ((mem_sumSet q y).mp hq)))
theorem cntSet_disjoint : ∀ p ∈ (Finset.univ : Finset (Fin 2 × Fin 16)), ∀ q ∈ (Finset.univ : Finset (Fin 2 × Fin 16)), p ≠ q → Disjoint (cntSet p) (cntSet q) :=
  fun p _ q _ h => Finset.disjoint_left.mpr fun y hp hq => h (tile_inj (((mem_cntSet p y).mp hp).symm.trans ((mem_cntSet q y).mp hq)))

theorem sumSet_cover : (Finset.univ : Finset (Fin 2 × Fin 16)).biUnion sumSet = Finset.univ := by
  refine Finset.eq_univ_iff_forall.mpr fun y => Finset.mem_biUnion.mpr ?_
  have hy : (y 0).val < 2097152 := (y 0).isLt
  generalize hn : 4 * ((y 0).val / 65536 % 8) + (y 0).val / 65536 / 8 = n
  have hlt : n < 32 := by omega
  refine ⟨(⟨n % 2, by omega⟩, ⟨n / 2, by omega⟩), Finset.mem_univ _, (mem_sumSet _ y).mpr (hn.trans ?_)⟩
  show n = 2 * (n / 2) + n % 2
  omega
theorem cntSet_cover : (Finset.univ : Finset (Fin 2 × Fin 16)).biUnion cntSet = Finset.univ := by
  refine Finset.eq_univ_iff_forall.mpr fun y => Finset.mem_biUnion.mpr ?_
  have hy : (y 0).val < 32768 := (y 0).isLt
  generalize hn : (y 0).val / 1024 = n
  have hlt : n < 32 := by omega
  refine ⟨(⟨n % 2, by omega⟩, ⟨n / 2, by omega⟩), Finset.mem_univ _, (mem_cntSet _ y).mpr (hn.trans ?_)⟩
  show n = 2 * (n / 2) + n % 2
  omega

/-! ## Dealt and collected -/

variable (d : Dev nD)

omit [FloatOps F] in
/-- An array whole is its shares for the tiles. -/
theorem pts_shares (ℓ : Loc nD τ sig) (f : Buf (Elt F) ℓ) :
    (ℓ ↦{fullShare} f : sProp 𝕄) = bigSep Finset.univ fun p : Fin 2 × Fin 16 => ℓ ↦{shareOf p} f := by
  rw [bigSep_univ_prod, Transfers.pointsTo_deal (Finset.univ : Finset (Fin 2)) Finset.univ_nonempty fullShare]
  exact bigSep_congr fun c _ => Transfers.pointsTo_deal (Finset.univ : Finset (Fin 16)) Finset.univ_nonempty _

omit [FloatOps F] in
theorem pts_sums (f : Buf (Elt F) (oLoc d)) :
    (oLoc d ↦{fullShare} f : sProp 𝕄) = bigSep Finset.univ fun p : Fin 2 × Fin 16 => oLoc d ↦[sumSet p]{fullShare} f := by
  rw [← pointsTo_biUnion Finset.univ (ℓ := oLoc d) sumSet sumSet_disjoint, sumSet_cover]
omit [FloatOps F] in
theorem pts_cnts (f : Buf (Elt F) (nLoc d)) :
    (nLoc d ↦{fullShare} f : sProp 𝕄) = bigSep Finset.univ fun p : Fin 2 × Fin 16 => nLoc d ↦[cntSet p]{fullShare} f := by
  rw [← pointsTo_biUnion Finset.univ (ℓ := nLoc d) cntSet cntSet_disjoint, cntSet_cover]

variable (X : Vec F S2x8192x128 .f32) (KS : Vec F S1024x128 .i32) (fo : Vec F S2097152 .f32) (fn : Vec F S32768 .f32)

/-- The four arrays, whole. -/
def arrays : sProp 𝕄 := iprop((xLoc d ↦{fullShare} X) ∗ (kLoc d ↦{fullShare} KS) ∗ (oLoc d ↦{fullShare} fo) ∗ (nLoc d ↦{fullShare} fn))

/-- A tile's part of them. -/
def part (p : Fin 2 × Fin 16) : sProp 𝕄 := goTile d (tileOf p) (shareOf p) X KS fo fn

theorem part_eq (p : Fin 2 × Fin 16) :
    (part d X KS fo fn p : sProp 𝕄)
      = iprop((xLoc d ↦{shareOf p} X) ∗ (kLoc d ↦{shareOf p} KS) ∗ (oLoc d ↦[sumSet p]{fullShare} fo) ∗ (nLoc d ↦[cntSet p]{fullShare} fn)) := rfl

/-- The arrays are the tiles' parts. -/
theorem arrays_parts : (arrays d X KS fo fn : sProp 𝕄)
    = bigSep Finset.univ fun c : Fin 2 => bigSep Finset.univ fun s : Fin 16 => part d X KS fo fn (c, s) := by
  rw [← bigSep_univ_prod (fun p : Fin 2 × Fin 16 => part d X KS fo fn p)]
  unfold arrays
  rw [pts_shares (xLoc d), pts_shares (kLoc d), pts_sums, pts_cnts]
  simp only [part_eq, bigSep_sep']

instance part_storable (p : Fin 2 × Fin 16) : Storable upEmb (part d X KS fo fn p : sProp 𝕄) := by
  unfold part goTile; infer_instance

/-! ## What the launch hands on -/

theorem nSub_zero : (K (F := F)).nSub 0 = 16 := rfl
theorem nCore_zero : (K (F := F)).nCore 0 = 2 := rfl

/-- What a SparseCore is handed, of the arrays at some contents. -/
def corePart (c : Fin 2) : sProp 𝕄 := bigSep Finset.univ fun s : Fin 16 => part d X KS fo fn (c, s)

instance corePart_storable (c : Fin 2) : Storable upEmb (corePart d X KS fo fn c : sProp 𝕄) := by
  unfold corePart; infer_instance

section Launch

variable (XX : Dev nD → Vec F S2x8192x128 .f32) (KK : Dev nD → Vec F S1024x128 .i32)
  (FO : Dev nD → Vec F S2097152 .f32) (FN : Dev nD → Vec F S32768 .f32)

/-- The handshakes' payloads: each tile's part in, and the same out with the results in it. -/
def P : (K (F := F)).Pay (nD := nD) (Val := Elt F) (Name := ℕ) (U := UU) where
  st q d c := match q with | 0 => corePart d (XX d) (KK d) (FO d) (FN d) (Fin.cast nCore_zero c)
  dn q d c := match q with | 0 => corePart d (XX d) (KK d) (sumsAll (XX d) (KK d)) (cntsAll (KK d)) (Fin.cast nCore_zero c)
  go q d c i := match q with | 0 => part d (XX d) (KK d) (FO d) (FN d) (Fin.cast nCore_zero c, Fin.cast nSub_zero i)
  td q d c i := match q with | 0 => part d (XX d) (KK d) (sumsAll (XX d) (KK d)) (cntsAll (KK d)) (Fin.cast nCore_zero c, Fin.cast nSub_zero i)
  x _ _ := iprop(emp)

instance P_storable : (P (F := F) XX KK FO FN).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

theorem vecSplit : (K (F := F)).VecSplit' (P XX KK FO FN) 0 := by
  intro d c
  change corePart d (XX d) (KK d) (FO d) (FN d) (Fin.cast nCore_zero c) ⊢ |={Set.univ}=> iprop(
      (bigSep Finset.univ fun s : Fin 16 => part d (XX d) (KK d) (FO d) (FN d) (Fin.cast nCore_zero c, s))
      ∗ ((bigSep Finset.univ fun s : Fin 16 => part d (XX d) (KK d) (sumsAll (XX d) (KK d)) (cntsAll (KK d)) (Fin.cast nCore_zero c, s))
          -∗ corePart d (XX d) (KK d) (sumsAll (XX d) (KK d)) (cntsAll (KK d)) (Fin.cast nCore_zero c)))
  unfold corePart
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => cc0__segsum_body (F := F) (coordsV c s)
          xV (Memref.isWhole_whole _) kV (Memref.isWhole_whole _) oV (Memref.isWhole_whole _) nV (Memref.isWhole_whole _)
          keyS (Memref.isWhole_whole _) aS (Memref.isWhole_whole _) bS (Memref.isWhole_whole _) accS (Memref.isWhole_whole _) cntS (Memref.isWhole_whole _)
          cc0_scratch5 cc0_scratch6 cc0_scratch7 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileOf_eq (c : Fin (grid0.bound 0)) (s : Fin (grid0.bound 1)) : tileOf (c, s) = coordsV c s := tileAt_wid (coordsV c s)

set_option maxRecDepth 1024 in
/-- Each tile's task, from what the launch hands it. -/
theorem tileObl (hF : (K (F := F)).Facts) (hK : ∀ d i, KeysOK (F := F) (keyTile i (KK d))) (hC : ∀ d i, CntsOK (F := F) i (keyTile i (KK d))) :
    (K (F := F)).TileObl (D (F := F)) 𝒱 (P XX KK FO FN) v₀ 0 := by
  intro d c i O W hO _ _
  simp only [show (P XX KK FO FN).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have he : tileOf (Fin.cast nCore_zero c, Fin.cast nSub_zero i) = coordsV ⟨_, hc.1⟩ ⟨_, hc.2⟩ := tileOf_eq _ _
  have hb := tile_body d (coordsV ⟨_, hc.1⟩ ⟨_, hc.2⟩) hF (shareOf (Fin.cast nCore_zero c, Fin.cast nSub_zero i)) (XX d) (KK d) (FO d) (FN d) (hK d _) (hC d _) O W hO
  change iprop(_ ∗ _ ∗ part d (XX d) (KK d) (FO d) (FN d) (Fin.cast nCore_zero c, Fin.cast nSub_zero i) ∗ _) ⊢
    wp _ _ _ _ fun _ => iprop(part d (XX d) (KK d) (sumsAll (XX d) (KK d)) (cntsAll (KK d)) (Fin.cast nCore_zero c, Fin.cast nSub_zero i) ∗ _)
  unfold part
  rw [he]
  exact hb.trans (wp_mono frame _ _ fun _ => obl_post)

/-! ## The launch's ghost state -/

def u₀ : UU := (initOf (K (F := F)).hsCells (K (F := F)).hsToks,
  (initOf (Pipeline.cells cfgs cellOf_inj) (Pipeline.launchToks cfgs cellOf_inj), 1))

/-- What a core's pipeline is dealt: its cells' first states and the tokens of its transfers. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem ghost_dealt : (BI.own (((Emb.inl).trans embR : Emb (UR sig nD τ) 𝕄) (initOf (Pipeline.cells cfgs cellOf_inj) (Pipeline.launchToks cfgs cellOf_inj))) : sProp 𝕄)
    ⊢ |==> bigSep Finset.univ fun d : Dev nD => ghost d := by
  refine (Pipeline.fund_ghost cfgs EP cellOf_inj).trans (BI.bupd_mono ?_)
  rw [bigSep_sep']
  exact sep_mono (bigSep_mono fun c _ => bigSep_elim (Finset.mem_univ (0 : Fin 1))) (bigSep_mono fun c _ => bigSep_elim (Finset.mem_univ (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P XX KK FO FN).x q thr) := by
  unfold u₀
  iintro Hu
  ihave H := (ownU_pair _ _) $$ Hu
  icases H with ⟨HH, HR⟩
  ihave H := (own_pair_emb embR _ _) $$ HR
  icases H with ⟨HP, -⟩
  ihave HP' := (ghost_dealt (F := F)) $$ HP
  imod HP' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem st0_eq (d : Dev nD) : (bigSep Finset.univ fun c : Fin ((K (F := F)).nCore 0) => (P XX KK FO FN).st 0 d c) = arrays d (XX d) (KK d) (FO d) (FN d) :=
  (arrays_parts d (XX d) (KK d) (FO d) (FN d)).symm
theorem dn0_eq (d : Dev nD) : (bigSep Finset.univ fun c : Fin ((K (F := F)).nCore 0) => (P XX KK FO FN).dn 0 d c) = arrays d (XX d) (KK d) (sumsAll (XX d) (KK d)) (cntsAll (KK d)) :=
  (arrays_parts d (XX d) (KK d) _ _).symm

end Launch

end Cert.Proof.Ideal

end
-- ==== Proof.Ideal.Launch.lean ====
/-
  The program's run: the one call, from the arguments to the two results, every argument kept.
-/
module

public import proofs.«01_k».proof.Proof.Ideal.Deal

@[expose] public section

noncomputable section

namespace Cert.Proof.Ideal

open Cert.KernelIdeal Cert.KernelIdeal.Gen
open Idealize.ShloMosaic Idealize.ShloMosaic.StableHlo
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The payloads, at a memory. -/
abbrev PM : (K (F := F)).Pay (nD := nD) (Val := Elt F) (Name := ℕ) (U := UU) :=
  P (fun d => m (xLoc d)) (fun d => m (kLoc d)) (fun d => m (oLoc d)) (fun d => m (nLoc d))

/-! ## The arrays through the program -/

abbrev x0' : DevRef τ sig := Proc.devRef .tc (main_arg0 : Ref sig .tc)
abbrev k' : DevRef τ sig := Proc.devRef .tc (main_arg1 : Ref sig .tc)
abbrev x' : DevRef τ sig := Proc.devRef .tc (main_arg2 : Ref sig .tc)
abbrev u' : DevRef τ sig := Proc.devRef .tc (main_arg3 : Ref sig .tc)
abbrev y' : DevRef τ sig := Proc.devRef .tc (main_v0 : Ref sig .tc)
abbrev o' : DevRef τ sig := Proc.devRef .tc (main_v1_0 : Ref sig .tc)
abbrev n' : DevRef τ sig := Proc.devRef .tc (main_v1_1 : Ref sig .tc)
abbrev s' : DevRef τ sig := Proc.devRef .tc (main_v2 : Ref sig .tc)
abbrev c' : DevRef τ sig := Proc.devRef .tc (main_v3 : Ref sig .tc)
abbrev sc' : DevRef τ sig := Proc.devRef .tc (main_v4_0 : Ref sig .tc)
abbrev bl' : DevRef τ sig := Proc.devRef .tc (main_v4_1 : Ref sig .tc)

/-- The three reshapes: of `x` before the first call, of the call's two results after it. -/
abbrev opX : HloOp τ sig (Elt F) := StableHlo.reshape main_arg2 main_v0 (rfl : (.f32 : EltTy) = .f32) shapeCasts_S8x256x32x32_S8x256x1024
abbrev opS : HloOp τ sig (Elt F) := StableHlo.reshape main_v1_0 main_v2 (rfl : (.f32 : EltTy) = .f32) shapeCasts_S2097152_S16384x128
abbrev opC : HloOp τ sig (Elt F) := StableHlo.reshape main_v1_1 main_v3 (rfl : (.f32 : EltTy) = .f32) shapeCasts_S32768_S32x1024

/-- The arrays the first call does not touch, and all of them. -/
abbrev Srest : Finset (DevRef τ sig) := {x', u', y', s', c', sc', bl'}
abbrev Sall : Finset (DevRef τ sig) := insert x0' (insert k' (insert o' (insert n' Srest)))

omit [FloatOps F] in
theorem held_all (d : Dev nD) (W : Valuation τ sig (Elt F)) :
    (StableHlo.held (SparseCore.T d) Sall W : sProp 𝕄) = iprop((xLoc d ↦{fullShare} W x0') ∗ (kLoc d ↦{fullShare} W k') ∗ (oLoc d ↦{fullShare} W o') ∗ (nLoc d ↦{fullShare} W n')
      ∗ StableHlo.held (SparseCore.T d) Srest W) := by
  unfold StableHlo.held
  rw [SparseCore.bigSep_insert' (by decide), SparseCore.bigSep_insert' (by decide), SparseCore.bigSep_insert' (by decide), SparseCore.bigSep_insert' (by decide)]

omit [FloatOps F] in
theorem unscoped_held (d : Dev nD) (W : Valuation τ sig (Elt F)) :
    (unscopedBufs d (fun b => W b) : sProp 𝕄) = StableHlo.held (SparseCore.T d) Sall W := by
  unfold unscopedBufs StableHlo.held
  rw [show Sall = (Finset.univ.filter fun b : Ref sig .tc => ¬ b.isScoped).map ⟨Proc.devRef .tc, Proc.devRef_injective _⟩ by decide, bigSep_map]
  rfl

/-- The arrays at the launch, after the first reshape, after the first call, and when the second call is entered. -/
def V0 (d : Dev nD) : Valuation τ sig (Elt F) := fun b => m (d, b)
def V1 (d : Dev nD) : Valuation τ sig (Elt F) := (opX (F := F)).result (V0 m d)
def V2 (d : Dev nD) : Valuation τ sig (Elt F) :=
  Function.update (Function.update (V1 m d) o' (sumsAll (m (xLoc d)) (m (kLoc d)))) n' (cntsAll (m (kLoc d)))
def V4 (d : Dev nD) : Valuation τ sig (Elt F) := (opC (F := F)).result ((opS (F := F)).result (V2 m d))

theorem V1_ne (d : Dev nD) (b : DevRef τ sig) (hb : b ≠ y') : V1 m d b = m (d, b) :=
  ((opX (F := F)).result_of_not_mem _ (show b ∉ ({y'} : Finset (DevRef τ sig)) from fun h => hb (Finset.mem_singleton.mp h))).trans rfl
theorem V2_ne (d : Dev nD) (b : DevRef τ sig) (ho : b ≠ o') (hn : b ≠ n') : V2 m d b = V1 m d b :=
  (Function.update_of_ne hn _ _).trans (Function.update_of_ne ho _ _)
theorem V2_n (d : Dev nD) : V2 m d n' = cntsAll (m (kLoc d)) := Function.update_self _ _ _
theorem V2_o (d : Dev nD) : V2 m d o' = sumsAll (m (xLoc d)) (m (kLoc d)) :=
  (Function.update_of_ne (show o' ≠ n' by decide) _ _).trans (Function.update_self _ _ _)
theorem V4_ne (d : Dev nD) (b : DevRef τ sig) (hs : b ≠ s') (hc : b ≠ c') : V4 m d b = V2 m d b :=
  ((opC (F := F)).result_of_not_mem _ (show b ∉ ({c'} : Finset (DevRef τ sig)) from fun h => hc (Finset.mem_singleton.mp h))).trans
    ((opS (F := F)).result_of_not_mem _ (show b ∉ ({s'} : Finset (DevRef τ sig)) from fun h => hs (Finset.mem_singleton.mp h)))
theorem V4_arg (d : Dev nD) (b : DevRef τ sig) (hb : b ∈ ({x0', k', x', u'} : Finset (DevRef τ sig))) : V4 m d b = m (d, b) := by
  have h : ∀ b ∈ ({x0', k', x', u'} : Finset (DevRef τ sig)), b ≠ s' ∧ b ≠ c' ∧ b ≠ o' ∧ b ≠ n' ∧ b ≠ y' := by decide
  obtain ⟨h1, h2, h3, h4, h5⟩ := h b hb
  rw [V4_ne m d b h1 h2, V2_ne m d b h3 h4, V1_ne m d b h5]

/-- The second call's inputs, as functions of the arguments. -/
theorem V4_y (d : Dev nD) : V4 m d y' = shapeCast S8x256x1024 (m ((SparseCore.T d : Thread nD τ).loc main_arg2) : Vec F S8x256x32x32 .f32) shapeCasts_S8x256x32x32_S8x256x1024 := by
  rw [V4_ne m d _ (by decide) (by decide), V2_ne m d _ (by decide) (by decide)]
  exact StableHlo.reshape_result _ _ _ _ _ _ _
theorem V4_s (d : Dev nD) : V4 m d s' = shapeCast S16384x128 (sumsAll (m (xLoc d)) (m (kLoc d))) shapeCasts_S2097152_S16384x128 := by
  refine ((opC (F := F)).result_of_not_mem _ (show s' ∉ ({c'} : Finset (DevRef τ sig)) by decide)).trans ?_
  refine (StableHlo.reshape_result _ _ _ _ _ _ _).trans ?_
  rw [V2_o]; rfl
theorem V4_c (d : Dev nD) : V4 m d c' = shapeCast S32x1024 (cntsAll (m (kLoc d))) shapeCasts_S32768_S32x1024 := by
  refine (StableHlo.reshape_result _ _ _ _ _ _ _).trans ?_
  rw [(opS (F := F)).result_of_not_mem _ (show n' ∉ ({s'} : Finset (DevRef τ sig)) by decide), V2_n]; rfl

theorem hX : (opX (F := F)).bufs ⊆ Sall := show ({x', y'} : Finset (DevRef τ sig)) ⊆ Sall by decide
theorem hS : (opS (F := F)).bufs ⊆ Sall := show ({o', s'} : Finset (DevRef τ sig)) ⊆ Sall by decide
theorem hC' : (opC (F := F)).bufs ⊆ Sall := show ({n', c'} : Finset (DevRef τ sig)) ⊆ Sall by decide

theorem sep_assoc_eq (A B C : sProp 𝕄) : iprop((A ∗ B) ∗ C) = iprop(A ∗ B ∗ C) := equiv_iff.mp ⟨BI.sep_assoc, BI.sep_assoc'⟩

/-- Before the first call, and after it. -/
theorem held_V1 (d : Dev nD) : (StableHlo.held (SparseCore.T d) Sall ((opX (F := F)).result (V0 m d)) : sProp 𝕄)
    = iprop(arrays d (m (xLoc d)) (m (kLoc d)) (m (oLoc d)) (m (nLoc d)) ∗ StableHlo.held (SparseCore.T d) Srest (V1 m d)) := by
  show StableHlo.held (SparseCore.T d) Sall (V1 m d) = _
  rw [held_all, V1_ne m d x0' (by decide), V1_ne m d k' (by decide), V1_ne m d o' (by decide), V1_ne m d n' (by decide)]
  unfold arrays
  rw [sep_assoc_eq, sep_assoc_eq, sep_assoc_eq]
theorem held_V2 (d : Dev nD) : (StableHlo.held (SparseCore.T d) Sall (V2 m d) : sProp 𝕄)
    = iprop(arrays d (m (xLoc d)) (m (kLoc d)) (sumsAll (m (xLoc d)) (m (kLoc d))) (cntsAll (m (kLoc d))) ∗ StableHlo.held (SparseCore.T d) Srest (V1 m d)) := by
  have hr : (StableHlo.held (SparseCore.T d) Srest (V2 m d) : sProp 𝕄) = StableHlo.held (SparseCore.T d) Srest (V1 m d) := by
    unfold StableHlo.held
    refine bigSep_congr fun b hb => ?_
    have h : ∀ b ∈ Srest, b ≠ o' ∧ b ≠ n' := by decide
    rw [V2_ne m d b (h b hb).1 (h b hb).2]
  rw [held_all, hr, V2_ne m d x0' (by decide) (by decide), V2_ne m d k' (by decide) (by decide), V2_o, V2_n, V1_ne m d x0' (by decide), V1_ne m d k' (by decide)]
  unfold arrays
  rw [sep_assoc_eq, sep_assoc_eq, sep_assoc_eq]

/-- The second call's entry valuation, by reference. -/
abbrev R4 (c : Dev nD) (b : Ref sig .tc) : Buf (Elt F) ((c : Thread nD τ).loc b) := V4 m c b

/-- The arrays at the end. -/
abbrev FIN (d : Dev nD) : sProp 𝕄 := unscopedBufs d (leaves (R4 m) d)

theorem final_call : (Prog.lift (.customCall (SparseCore.inner (Pipeline.entry 0)) ()) : Prog (TpuEff nD τ sig (Elt F) (SparseCore.Sig (ΛP (F := F)) 1) .tc) PUnit)
    = SparseCore.liftProg (Q := 1) (Prog.op (.customCall (Pipeline.entry 0) ()) .ret : Prog (TpuEff nD τ sig (Elt F) (ΛP (F := F)) .tc) PUnit) := rfl

set_option backward.isDefEq.respectTransparency.types false in
/-- The second call, as a step of the program. -/
theorem wp_final [∀ e, Nonempty (Elt F e)] (R : (c : Dev nD) → (b : Ref sig .tc) → Buf (Elt F) ((c : Thread nD τ).loc b)) (lim : ℕ) (d : Dev nD) (Φ : PUnit → sProp 𝕄) :
    iprop((iprop(boundary (SparseCore.T d) ∗ unscopedBufs d (leaves R d) ∗ owesLow lim d) -∗ Φ ⟨⟩)
        ∗ boundary (SparseCore.T d) ∗ (unscopedBufs d (R d) ∗ owesLow lim d) ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Φ := by
  rw [final_call]
  refine BI.Entails.trans ?_ ((K (F := F)).wp_liftProg (D (F := F)) 𝒱 (SparseCore.T d) Set.univ none _ Φ)
  refine BI.Entails.trans ?_ (Pipeline.RegionSeg.wp (pcfgs (F := F)) adm (pdats R lim) none cellOf_inj EP defs₀ 𝒱₀ (K (F := F)).L (K (F := F)).lev (reg R lim) d none (fun _ h => nomatch h) .ret Φ)
  rw [show (reg R lim).pre d = iprop(unscopedBufs d (R d) ∗ owesLow lim d) from rfl, show (reg R lim).post d = iprop(unscopedBufs d (leaves R d) ∗ owesLow lim d) from rfl]
  change (iprop(_) : sProp 𝕄) ⊢ iprop(_)
  iintro ⟨Hk, Hb, Hpre, Hlev, Hg⟩
  isplitl [Hk]
  · iintro H
    rw [wp_ret]; imodintro
    iapply Hk; iexact H
  isplitl [Hb]; · iexact Hb
  isplitl [Hpre]; · iexact Hpre
  isplitl [Hlev] <;> iassumption

theorem Otc_one (d : Dev nD) : (K (F := F)).Otc d 1 = 0 := by
  unfold SparseCore.Cfg.Otc
  refine Finset.sum_eq_zero fun q _ => if_neg (by have := q.isLt; omega)

/-- `@main` on a device's TensorCore. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) Sall (V0 m d) from unscoped_held d (V0 m d)]
  simp only [main, wp_bind, wp_pure]
  iintro ⟨#Hctx, Hst, ⟨Hb, Hheld, Hts, -⟩, Hg⟩
  iapply (wp_hlo_within 𝒱 (SparseCore.T d) none Set.univ (op := opX) (S := Sall) hX (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hbufs, Hrest⟩
  iapply ((K (F := F)).wp_run (D (F := F)) 𝒱 (EH := EH) (P := PM m) κ d 0) $$ [Hst Hbufs Hb Hts Hrest Hg]
  isplitr; · iexact Hctx
  isplitl [Hst]; · iexact Hst
  isplitl [Hbufs]
  · rw [st0_eq]; iexact Hbufs
  iintro ⟨Hst, Hdn⟩
  ihave Hdn' := (Entails.of_eq (dn0_eq (fun d => m (xLoc d)) (fun d => m (kLoc d)) (fun d => m (oLoc d)) (fun d => m (nLoc d)) d)) $$ Hdn
  iapply (wp_hlo_within 𝒱 (SparseCore.T d) none Set.univ (op := opS) (S := Sall) hS (V := V2 m d)) $$ [Hb Hdn' Hrest]
  · isplitl [Hb]; · iexact Hb
    rw [held_V2]
    isplitl [Hdn'] <;> iassumption
  iintro ⟨Hb, Hheld⟩
  rw [wp_ret]; imodintro
  iapply (wp_hlo_within 𝒱 (SparseCore.T d) none Set.univ (op := opC) (S := Sall) hC' (V := (opS (F := F)).result (V2 m d))) $$ [Hb Hheld]
  · isplitl [Hb] <;> iassumption
  iintro ⟨Hb, Hheld⟩
  rw [wp_ret]; imodintro
  ihave Hbufs := (Entails.of_eq (show (held (SparseCore.T d) Sall ((opC (F := F)).result ((opS (F := F)).result (V2 m d))) : sProp 𝕄) = unscopedBufs d (R4 m d) from (unscoped_held d (V4 m d)).symm)) $$ Hheld
  ihave Hlev := ((K (F := F)).ctx_levAts κ) $$ Hctx
  unfold SparseCore.Cfg.tcSt
  icases Hst with ⟨Howes, Hst⟩
  iapply (wp_final (R4 m) _ d _)
  isplitl [Hts Hst]
  · iintro ⟨Hb, Hbufs, Howes⟩
    imodintro
    isplitl [Howes Hst]
    · isplitl [Howes]
      · rw [Otc_one]; iexact Howes
      · iexact Hst
    isplitl [Hbufs]; · iexact Hbufs
    isplitl [Hb] <;> iassumption
  isplitl [Hb]; · iexact Hb
  isplitl [Hbufs Howes]
  · isplitl [Hbufs]; · iexact Hbufs
    rw [show (K (F := F)).Otc d ((0 : Fin 1).val + 1) = 0 from Otc_one d]; iexact Howes
  isplitl [Hlev]; · iexact Hlev
  iexact Hg

/-- What the end says of the memory: every array the program holds is at its final contents. -/
def fq (d : Dev nD) (s' : Phys nD τ sig (Elt F)) : Prop :=
  ∀ b : { b : Ref sig .tc // ¬ b.isScoped }, s'.mem.mem ((SparseCore.T d).loc b.1) = leaves (R4 m) d b.1

/-- An array held whole is what the memory has. -/
theorem agree (d : Dev nD) (b : Ref sig .tc) (hb : ¬ b.isScoped) (s' : Phys nD τ sig (Elt F)) :
    iprop(FIN m d ∗ SI s') ⊢ (⌜s'.mem.mem ((SparseCore.T d).loc b) = leaves (R4 m) d b⌝ : sProp 𝕄) := by
  refine (sep_mono_left (bigSep_elim (Finset.mem_filter.mpr ⟨Finset.mem_univ b, hb⟩))).trans ?_
  iintro ⟨H, HSI⟩
  ihave H := (SI_pointsTo_agree (st := s') (ℓ := (SparseCore.T d).loc b) (I := Finset.univ) (q := fullShare) (f := leaves (R4 m) d b)) $$ [HSI H]
  · isplitl [HSI] <;> iassumption
  icases H with %h1
  ipureintro; exact funext fun i => h1 i (Finset.mem_univ i)

theorem hfin (d : Dev nD) (s' : Phys nD τ sig (Elt F)) : iprop(FIN m d ∗ SI s') ⊢ (⌜fq m d s'⌝ : sProp 𝕄) := by
  exact (forall_intro fun b : { b : Ref sig .tc // ¬ b.isScoped } => agree m d b.1 b.2 s').trans pure_forall.mpr

/-- The final states. -/
def QC : PUnit × MemSt nD τ sig (Elt F) → Prop := fun r =>
  (∀ (c : Dev nD) (b : Ref sig .tc), ¬ b.isScoped → r.2.mem ((SparseCore.T c).loc b) = leaves (R4 m) c b) ∧ r.2.sem = fun _ => 0

/-- The run, from a memory whose segment offsets every tile can address with. -/
theorem run_main [∀ e, Nonempty (Elt F e)] (hK : ∀ d i, KeysOK (F := F) (keyTile i (m (kLoc d)))) (hC : ∀ d i, CntsOK (F := F) i (keyTile i (m (kLoc d)))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ facts hK hC)
    (fun q _ => match q with | 0 => SparseCore.Cfg.VecSplit.of_plain (vecSplit _ _ _ _))
    m ρ main (fun d => ghost d) (FIN m) (u₀ (F := F)) (sep_elim_left.trans (hu₀ _ _ _ _)) (hmain m ρ) (fq m) (hfin m) (QC m) (fun _ h hz => ⟨fun c b hb => h c ⟨b, hb⟩, hz⟩)

end Cert.Proof.Ideal

end
-- ==== Proof.Codes.lean ====
/-
  The precondition, read: every word of the segment offsets is sixty-four times its row's code, a number
  below 1024.
-/
module

public import proofs.«01_k».proof.Pre_codes_in_range
public import proofs.«01_k».proof.Proof.Gen.Pre_codes_in_range
public import Idealize.ShloMosaic.Lib.PointwiseCore
public import Idealize.ShloMosaic.Lib.ReduceAll

@[expose] public section

noncomputable section

namespace Cert.Proof

open Cert.Pre_codes_in_range
open Idealize.ShloMosaic

/-- Where row `n`'s first copy of its segment offset is. -/
def firstIx (n : ℕ) : S1024x128.Idx := ix2 (⟨n / 8 % 1024, Nat.mod_lt _ (by decide)⟩ : Fin 1024) (⟨16 * (n % 8), by omega⟩ : Fin 128)

/-- A row's code. -/
def code (KS : IVec S1024x128 32) (n : ℕ) : ℕ := (KS (firstIx n)).toNat / 64

/-- The row a word is of. -/
abbrev rowOf (y : S1024x128.Idx) : ℕ := 8 * (y 0).val + (y 1).val / 16

/-- Every word is sixty-four times its row's code, below 1024. -/
def CodesOK (KS : IVec S1024x128 32) : Prop := ∀ y, (KS y).toNat = 64 * code KS (rowOf y) ∧ code KS (rowOf y) < 1024

theorem word_ok (v : BitVec 32) (h : IntOp.andi (IntOp.andi (IntOp.cmpi .sge v 0#32) (IntOp.cmpi .slt v 65536#32)) (IntOp.cmpi .eq (IntOp.andi v 63#32) 0#32) = 1#1) :
    v.toNat < 65536 ∧ v.toNat % 64 = 0 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide, beq_iff_eq,
    decide_eq_true_eq, BitVec.toInt_eq_toNat_cond, BitVec.toNat_ofNat, Nat.reducePow, Nat.reduceMod] at h
  obtain ⟨⟨h1, h2⟩, h3⟩ := h
  have e := congrArg BitVec.toNat h3
  have e' : v.toNat % 64 = 0 := by
    have : (v &&& 63#32).toNat = v.toNat % 64 := by
      rw [BitVec.toNat_and]
      exact Nat.and_two_pow_sub_one_eq_mod v.toNat 6
    rw [← this]; exact e
  refine ⟨by omega, e'⟩

variable {F : FTy → Type} [FloatOps F]

theorem codes_ok (XQ : FVec F S2x8192x128 .f32) (KS : IVec S1024x128 32) (X : FVec F S8x256x32x32 .f32) (UN : FVec F S1024x256 .f32)
    (h : fn (F := F) XQ KS X UN = fun _ => 1#1) : CodesOK KS := by
  have h0 := congrFun h (fun a => a.elim0)
  obtain ⟨ha, hb⟩ := IntOp.andi_eq_one.1 h0
  have hA := Host.reduce_andi_all _ _ _ _ _ ha
  have hB := Host.reduce_andi_all _ _ _ _ _ hb
  have hw : ∀ y, (KS y).toNat < 65536 ∧ (KS y).toNat % 64 = 0 := fun y => word_ok _ (hA y)
  have hf : ∀ y, KS y = KS (firstIx (rowOf y)) := by
    intro y
    have h0 : (y 0).val < 1024 := (y 0).isLt
    have h1 : (y 1).val < 128 := (y 1).isLt
    have hr : rowOf y < 8192 := by show 8 * (y 0).val + (y 1).val / 16 < 8192; omega
    have e := IntOp.cmpi_eq.1 (hB (ix2 (⟨rowOf y, hr⟩ : Fin 8192) (⟨(y 1).val % 16, Nat.mod_lt _ (by decide)⟩ : Fin 16)))
    rw [shapeCast_apply KS _ _ y (by
      rw [Shape.rowMajor_val_two, Shape.rowMajor_val_two]
      show (y 0).val * 128 + (y 1).val = (8 * (y 0).val + (y 1).val / 16) * 16 + (y 1).val % 16
      omega)] at e
    refine e.trans ((broadcastInDim_apply _ _ _ _ (ix2 (⟨rowOf y, hr⟩ : Fin 8192) (0 : Fin 1)) (by
      intro a
      match a with
      | 0 => rfl
      | 1 => rfl)).trans (shapeCast_apply KS _ _ (firstIx (rowOf y)) ?_))
    rw [Shape.rowMajor_val_two, Shape.rowMajor_val_two]
    show (rowOf y / 8 % 1024) * 128 + 16 * (rowOf y % 8) = (0 + rowOf y) * 16 + 0
    omega
  intro y
  unfold code
  obtain ⟨h1, h2⟩ := hw y
  rw [← hf y]
  omega

end Cert.Proof

end
-- ==== Proof.Ideal.Words.lean ====
/-
  What a tile reads: the segment offsets and the vectors of its rows, at each row and lane; and that every
  index its scatters use is in range.
-/
module

public import proofs.«01_k».proof.Proof.Ideal.Tile
public import proofs.«01_k».proof.Proof.Codes

@[expose] public section

noncomputable section

namespace Cert.Proof.Ideal

open Cert.KernelIdeal Cert.KernelIdeal.Gen
open Idealize.ShloMosaic

variable {F : FTy → Type} [FloatOps F]

/-! ## Where the tile's copies start -/

theorem off1_eq : ∀ i : grid0.Coords, k0_off1 i = ![128 * (wid i / 4), 0] := by decide +kernel
theorem off2_eq : ∀ (i : grid0.Coords) (r : Fin 8),
    k0_off2 i (BitVec.ofNat 32 (128 * r.val)) = ![wid i % 4 / 2, 1024 * (wid i / 4) + 128 * r.val, 0] := by decide +kernel

/-! ## What is read -/

theorem lanes_at {e : EltTy} (v : Vec F S1x16 e) (x : S16.Idx) : lanes (F := F) v x = v (ix2 (0 : Fin 1) (x 0)) :=
  shapeCast_apply v _ x _ (by rw [Shape.rowMajor_val_two, Shape.rowMajor_val_one]; show 0 * 16 + (x 0).val = (x 0).val; omega)

theorem keyTile_at (i : grid0.Coords) (KS : Vec F S1024x128 .i32) (y : S128x128.Idx) (z : S1024x128.Idx)
    (h0 : (z 0).val = 128 * (wid i / 4) + (y 0).val) (h1 : (z 1).val = (y 1).val) : keyTile i KS y = KS z := by
  refine (View.read_apply _ _).trans ((cast_eq _ _).trans (congrArg KS (funext fun a => Fin.ext ?_)))
  refine (Rect.emb_apply (Rect.unit (s := S1024x128) (k0_off1 i) S128x128.size (k0_off1_inb i)) y a).trans ?_
  show k0_off1 i a + 1 * (y a).val = _
  rw [off1_eq]
  match a with
  | 0 => rw [h0]; show 128 * (wid i / 4) + 1 * (y 0).val = _; omega
  | 1 => rw [h1]; show 0 + 1 * (y 1).val = _; omega

theorem chunkTile_at (i : grid0.Coords) (X : Vec F S2x8192x128 .f32) (r : Fin 8) (y : S128x128.Idx) (z : S2x8192x128.Idx)
    (h0 : (z 0).val = wid i % 4 / 2) (h1 : (z 1).val = 1024 * (wid i / 4) + 128 * r.val + (y 0).val) (h2 : (z 2).val = (y 1).val) :
    chunkTile i X r y = X z := by
  unfold chunkTile
  have e := congrFun (Memref.read_squeeze_slice (Val := Elt F) xV (Rect.unit (s := S2x8192x128) (k0_off2 i (BitVec.ofNat 32 (128 * r.val))) S1x128x128.size (k0_off2_inb i r))
    (fun _ => rfl) squeezes_S1x128x128_S128x128 (show S1x128x128.ShapeCasts S128x128 by decide) X) y
  refine e.trans ((shapeCast_apply _ _ y (ix3 (0 : Fin 1) (y 0) (y 1)) ?_).trans ?_)
  · rw [Shape.rowMajor_val_three, Shape.rowMajor_val_two]; show (0 * 128 + (y 0).val) * 128 + (y 1).val = (y 0).val * 128 + (y 1).val; omega
  refine (View.read_apply _ _).trans ((cast_eq _ _).trans (congrArg X (funext fun a => Fin.ext ?_)))
  show k0_off2 i (BitVec.ofNat 32 (128 * r.val)) a + 1 * (ix3 (0 : Fin 1) (y 0) (y 1) a).val = _
  rw [off2_eq]
  match a with
  | 0 => rw [h0]; rfl
  | 1 => rw [h1]; show 1024 * (wid i / 4) + 128 * r.val + 1 * (y 0).val = _; omega
  | 2 => rw [h2]; show 0 + 1 * (y 1).val = _; omega

theorem keyLanes_at (i : grid0.Coords) (KS : Vec F S1024x128 .i32) (h : Fin 8) (t : Fin k0_t3_loop.trips) (j : Fin 8) (x : S16.Idx) (z : S1024x128.Idx)
    (h0 : (z 0).val = 128 * (wid i / 4) + (16 * h.val + t.val)) (h1 : (z 1).val = 16 * j.val + (x 0).val) :
    keyLanes (F := F) (keyTile i KS) h t j x = KS z := by
  unfold keyLanes
  refine (lanes_at _ x).trans (keyTile_at i KS _ z ?_ ?_)
  · rw [h0]; show _ = 128 * (wid i / 4) + (offK h t j 0 + 1 * 0); rw [offK_eq]; rfl
  · rw [h1]; show _ = offK h t j 1 + 1 * (x 0).val; rw [offK_eq]; show _ = 16 * j.val + 1 * (x 0).val; omega

theorem cntLanes_at (i : grid0.Coords) (KS : Vec F S1024x128 .i32) (t : Fin k0_t11_loop.trips) (j : Fin 8) (x : S16.Idx) (z : S1024x128.Idx)
    (h0 : (z 0).val = 128 * (wid i / 4) + (32 * (wid i % 4) + t.val)) (h1 : (z 1).val = 16 * j.val + (x 0).val) :
    cntLanes (F := F) i (keyTile i KS) t j x = IntOp.shrui .vector (KS z) 6#32 := by
  unfold cntLanes
  refine congrArg (fun v => IntOp.shrui .vector v 6#32) ((lanes_at _ x).trans (keyTile_at i KS _ z ?_ ?_))
  · rw [h0]; show _ = 128 * (wid i / 4) + (offC i t j 0 + 1 * 0); rw [offC_eq]; rfl
  · rw [h1]; show _ = offC i t j 1 + 1 * (x 0).val; rw [offC_eq]; show _ = 16 * j.val + 1 * (x 0).val; omega

theorem rowLanes_at (i : grid0.Coords) (X : Vec F S2x8192x128 .f32) (r : Fin 8) (t : Fin k0_t3_loop.trips) (j : Fin 8) (c : Fin 4) (x : S16.Idx) (z : S2x8192x128.Idx)
    (h0 : (z 0).val = wid i % 4 / 2) (h1 : (z 1).val = 1024 * (wid i / 4) + 128 * r.val + (8 * t.val + j.val))
    (h2 : (z 2).val = 64 * (wid i % 2) + 16 * c.val + (x 0).val) : rowLanes i (chunkTile i X r) t j c x = X z := by
  unfold rowLanes
  refine (lanes_at _ x).trans (chunkTile_at i X r _ z h0 ?_ ?_)
  · rw [h1]; show _ = 1024 * (wid i / 4) + 128 * r.val + (offV i t j c 0 + 1 * 0); rw [offV_eq]; rfl
  · rw [h2]; show _ = offV i t j c 1 + 1 * (x 0).val; rw [offV_eq]; show _ = 64 * (wid i % 2) + 16 * c.val + 1 * (x 0).val; omega

/-! ## The indices -/

theorem laneIx_at : ∀ (c : Fin 4) (x : Fin 16), (laneIx c (ix1 x)).toNat = 16 * c.val + x.val := by decide +kernel

variable (KS : IVec S1024x128 32) (hKS : CodesOK KS)

include hKS in
/-- The index a lane of a row's segment offset gives. -/
theorem keyLanes_code (i : grid0.Coords) (h : Fin 8) (t : Fin k0_t3_loop.trips) (j : Fin 8) (x : S16.Idx) :
    (keyLanes (F := F) (keyTile (F := F) i KS) h t j x).toNat = 64 * code KS (1024 * (wid i / 4) + 128 * h.val + (8 * t.val + j.val))
      ∧ code KS (1024 * (wid i / 4) + 128 * h.val + (8 * t.val + j.val)) < 1024 := by
  have hw := wid_lt i
  have ht : t.val < 16 := t.isLt.trans_eq trips16
  have hx : (x 0).val < 16 := (x 0).isLt
  have hh := h.isLt; have hj := j.isLt
  rw [keyLanes_at i KS h t j x (ix2 (⟨128 * (wid i / 4) + (16 * h.val + t.val), by omega⟩ : Fin 1024) (⟨16 * j.val + (x 0).val, by omega⟩ : Fin 128)) rfl rfl]
  have e := hKS (ix2 (⟨128 * (wid i / 4) + (16 * h.val + t.val), by omega⟩ : Fin 1024) (⟨16 * j.val + (x 0).val, by omega⟩ : Fin 128))
  rw [show rowOf (ix2 (⟨128 * (wid i / 4) + (16 * h.val + t.val), by omega⟩ : Fin 1024) (⟨16 * j.val + (x 0).val, by omega⟩ : Fin 128)) = 1024 * (wid i / 4) + 128 * h.val + (8 * t.val + j.val) by
    show 8 * (128 * (wid i / 4) + (16 * h.val + t.val)) + (16 * j.val + (x 0).val) / 16 = _; omega] at e
  exact e

include hKS in
theorem cntLanes_code (i : grid0.Coords) (t : Fin k0_t11_loop.trips) (j : Fin 8) (x : S16.Idx) :
    (cntLanes (F := F) i (keyTile (F := F) i KS) t j x).toNat = code KS (1024 * (wid i / 4) + 256 * (wid i % 4) + (8 * t.val + j.val))
      ∧ code KS (1024 * (wid i / 4) + 256 * (wid i % 4) + (8 * t.val + j.val)) < 1024 := by
  have hw := wid_lt i
  have ht : t.val < 32 := t.isLt.trans_eq trips32
  have hx : (x 0).val < 16 := (x 0).isLt
  have hj := j.isLt
  rw [cntLanes_at i KS t j x (ix2 (⟨128 * (wid i / 4) + (32 * (wid i % 4) + t.val), by omega⟩ : Fin 1024) (⟨16 * j.val + (x 0).val, by omega⟩ : Fin 128)) rfl rfl]
  have e := hKS (ix2 (⟨128 * (wid i / 4) + (32 * (wid i % 4) + t.val), by omega⟩ : Fin 1024) (⟨16 * j.val + (x 0).val, by omega⟩ : Fin 128))
  rw [show rowOf (ix2 (⟨128 * (wid i / 4) + (32 * (wid i % 4) + t.val), by omega⟩ : Fin 1024) (⟨16 * j.val + (x 0).val, by omega⟩ : Fin 128)) = 1024 * (wid i / 4) + 256 * (wid i % 4) + (8 * t.val + j.val) by
    show 8 * (128 * (wid i / 4) + (32 * (wid i % 4) + t.val)) + (16 * j.val + (x 0).val) / 16 = _; omega] at e
  refine ⟨?_, e.2⟩
  have hs (v : BitVec 32) : (IntOp.shrui .vector v 6#32).toNat = v.toNat / 64 := by
    show (v >>> (6#32)).toNat = _
    rw [BitVec.ushiftRight_eq', BitVec.toNat_ushiftRight, Nat.shiftRight_eq_div_pow]; rfl
  rw [hs, e.1]; omega

include hKS in
/-- The index a lane's scatter uses. -/
theorem addIx (i : grid0.Coords) (h : Fin 8) (t : Fin k0_t3_loop.trips) (j : Fin 8) (c : Fin 4) (x : S16.Idx) :
    (addi (keyLanes (F := F) (keyTile (F := F) i KS) h t j) (laneIx c) x).toNat
      = 64 * code KS (1024 * (wid i / 4) + 128 * h.val + (8 * t.val + j.val)) + (16 * c.val + (x 0).val) := by
  obtain ⟨e1, e2⟩ := keyLanes_code (F := F) KS hKS i h t j x
  have e3 : (laneIx c x).toNat = 16 * c.val + (x 0).val := by
    have e : x = ix1 (x 0) := funext fun a => by obtain rfl : a = 0 := Subsingleton.elim _ _; rfl
    exact (congrArg (fun y => (laneIx c y).toNat) e).trans (laneIx_at c (x 0))
  have hx : (x 0).val < 16 := (x 0).isLt
  have hc := c.isLt
  show (keyLanes (F := F) (keyTile (F := F) i KS) h t j x + laneIx c x).toNat = _
  rw [BitVec.toNat_add, e1, e3]
  omega

include hKS in
theorem keys_ok (i : grid0.Coords) : KeysOK (F := F) (keyTile (F := F) i KS) := by
  intro h t j c a x
  obtain rfl : a = 0 := Subsingleton.elim _ _
  obtain ⟨-, e2⟩ := keyLanes_code (F := F) KS hKS i h t j x
  have hx : (x 0).val < 16 := (x 0).isLt
  have hc := c.isLt
  show (addi (keyLanes (F := F) (keyTile (F := F) i KS) h t j) (laneIx c) x).toNat < 65536
  rw [addIx KS hKS]; omega

include hKS in
theorem cnts_ok (i : grid0.Coords) : CntsOK (F := F) i (keyTile (F := F) i KS) := by
  intro t j a x
  obtain rfl : a = 0 := Subsingleton.elim _ _
  obtain ⟨e1, e2⟩ := cntLanes_code (F := F) KS hKS i t j x
  show (cntLanes (F := F) i (keyTile (F := F) i KS) t j x).toNat < 1024
  rw [e1]; exact e2

end Cert.Proof.Ideal

end
-- ==== Proof.Frames.lean ====
/-
  The kernel's runs under the precondition, at both instances: the frames, and what each run leaves.
-/
module

public import proofs.«01_k».proof.Defs
public import proofs.«01_k».proof.Proof.Gen.Kernel
public import proofs.«01_k».proof.Proof.Ideal.Launch
public import proofs.«01_k».proof.Proof.Ideal.Words

@[expose] public section

noncomputable section

namespace Cert.Proof

open Idealize.ShloMosaic Idealize.SL.Sem

/-- The idealized kernel's run. -/
theorem run_ideal (m : (ℓ : Loc Cert.KernelIdeal.nD Cert.KernelIdeal.τ Cert.KernelIdeal.sig) → Buf (Elt Ideal) ℓ) (ρ : Dev Cert.KernelIdeal.nD → PrngReg)
    (h : Cert.Pre_KernelIdeal m) :
    θ_run (Cert.KernelIdeal.defs (F := Ideal)) (Cert.KernelIdeal.threads (F := Ideal)) ⟨m, fun _ => 0, ρ⟩ (Ideal.QC m) :=
  Ideal.run_main (F := Ideal) m ρ (fun d i => Ideal.keys_ok _ (codes_ok _ _ _ _ (h d)) i) (fun d i => Ideal.cnts_ok _ (codes_ok _ _ _ _ (h d)) i)

section Kept

open Cert.KernelIdeal Cert.KernelIdeal.Gen
open Idealize.ShloMosaic.TcCoe

variable {F : FTy → Type} [FloatOps F] (m : (ℓ : Loc nD τ sig) → Buf (Elt F) ℓ)

/-- An argument, as the run leaves it. -/
theorem leaves_arg (c : Dev nD) (b : Ref sig .tc) (h0 : b ≠ main_v4_0) (h1 : b ≠ main_v4_1) (hb : Proc.devRef .tc b ∈ ({Ideal.x0', Ideal.k', Ideal.x', Ideal.u'} : Finset (DevRef τ sig))) :
    Ideal.leaves (Ideal.R4 m) c b = m ((c.tc : Thread nD τ).loc b) :=
  (Ideal.leaves_ne (Ideal.R4 m) c b h0 h1).trans (Ideal.V4_arg m c _ hb)

/-- Every argument array ends unchanged. -/
theorem args_kept {r : PUnit × MemSt nD τ sig (Elt F)} (h : Ideal.QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1 c main_arg0 (by decide)).trans (leaves_arg m c _ (by decide) (by decide) (by decide)),
    (h.1 c main_arg1 (by decide)).trans (leaves_arg m c _ (by decide) (by decide) (by decide)),
    (h.1 c main_arg2 (by decide)).trans (leaves_arg m c _ (by decide) (by decide) (by decide)),
    (h.1 c main_arg3 (by decide)).trans (leaves_arg m c _ (by decide) (by decide) (by decide))⟩

/-- The two results. -/
theorem results_left {r : PUnit × MemSt nD τ sig (Elt F)} (h : Ideal.QC m r) (c : Dev nD) :
    r.2.mem ((c.tc : Thread nD τ).loc main_v4_1) = Ideal.blendOut (Ideal.R4 m) c
      ∧ r.2.mem ((c.tc : Thread nD τ).loc main_v4_0) = Ideal.scoreOut (Ideal.R4 m) c :=
  ⟨(h.1 c main_v4_1 (by decide)).trans (Ideal.leaves_blend _ c), (h.1 c main_v4_0 (by decide)).trans (Ideal.leaves_score _ c)⟩

/-- The frame, of a memory whose codes are in range, at either instance, with the body table under any name. -/
theorem frame_any [∀ e, Nonempty (Elt F e)] (ρ : Dev nD → PrngReg)
    (h : ∀ c : Dev nD, Cert.Pre_codes_in_range.fn (F := F) (m ((c.tc : Thread nD τ).loc main_arg0)) (m ((c.tc : Thread nD τ).loc main_arg1)) (m ((c.tc : Thread nD τ).loc main_arg2)) (m ((c.tc : Thread nD τ).loc main_arg3)) = fun _ => 1#1) :
    ∀ D, D = defs (F := F) → θ_run D (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  fun _ e => e ▸ (θ_run defs _ _).mono (fun _ r => ⟨fun c => args_kept m r c, r.2⟩)
    (Ideal.run_main m ρ (fun d i => Ideal.keys_ok _ (codes_ok _ _ _ _ (h d)) i) (fun d i => Ideal.cnts_ok _ (codes_ok _ _ _ _ (h d)) i))

/-- The printed kernel's body table is the idealized one's: it is the same text, processor by processor and label by label. -/
theorem table_eq : Cert.Kernel.defs₀ (F := F) = defs₀ (F := F) := by
  funext p ℓ a
  cases p <;> fin_cases ℓ <;> rfl

end Kept

theorem frame_ideal : Cert.quiescent_KernelIdeal := fun m ρ h => frame_any m ρ h _ rfl

theorem frame_kernel : Cert.quiescent_Kernel := fun m ρ h =>
  frame_any (F := Bits) m ρ h (Cert.Kernel.defs (F := Bits)) (congrArg (fun D => Cert.KernelIdeal.sc.defs (Pipeline.defs Cert.KernelIdeal.pcfgs D)) table_eq)

end Cert.Proof

end
-- ==== Proof.Ideal.Sums.lean ====
/-
  What the tiles leave, over the extended reals: each entry of the sums is the sum, over the group's rows with the
  entry's code, of the rows' values at the entry's column; each entry of the counts is the number of such rows of
  the quarter.
-/
module

public import proofs.«01_k».proof.Proof.Ideal.Words
public import Idealize.ShloMosaic.Lib.IdealHost
public import Idealize.ShloMosaic.Lib.Pointwise

@[expose] public section

noncomputable section

namespace Cert.Proof.Ideal

open Cert.KernelIdeal Cert.KernelIdeal.Gen
open Idealize.ShloMosaic

/-! ## Folds of additions -/

/-- A fold of steps that each add a term at an entry adds the terms there. -/
theorem foldl_adds {ι α : Type} (y : ι) (step : (ι → EReal) → α → ι → EReal) (g : α → EReal) (l : List α)
    (hstep : ∀ A a, step A a y = A y + g a) (A : ι → EReal) : l.foldl step A y = A y + (l.map g).sum := by
  induction l generalizing A with
  | nil => simp
  | cons a l ih => rw [List.foldl_cons, ih, hstep, List.map_cons, List.sum_cons, add_assoc]

/-- The masked scatter with addition, at an entry: the lanes that name the entry are added. -/
theorem storeIdx_adds {n N : ℕ} (A : Vec Ideal ⟨1, ![N]⟩ .f32) (w : IVec ⟨1, ![n]⟩ 32) (v : Vec Ideal ⟨1, ![n]⟩ .f32) (mask : IVec ⟨1, ![n]⟩ 1)
    (h : ∀ a x, ((![w] : Fin 1 → IVec ⟨1, ![n]⟩ 32) a x).toNat < (⟨1, ![N]⟩ : Shape).size a) (y : (⟨1, ![N]⟩ : Shape).Idx) :
    storeIdx A ![w] v mask true h y = (A y : EReal) + ∑ k : Fin n, if mask (ix1 k) = 1 ∧ (w (ix1 k)).toNat = (y 0).val then (v (ix1 k) : EReal) else 0 := by
  have e (k : Fin n) : Shape.ofLane (d := ![n]) k = ix1 k := by
    funext a; obtain rfl : a = 0 := Subsingleton.elim _ _; rfl
  unfold storeIdx
  rw [Fin.sum_univ_def]
  refine foldl_adds (ι := (⟨1, ![N]⟩ : Shape).Idx) y _ _ (List.finRange n) (fun B (k : Fin n) => ?_) A
  have hk := e k
  simp only [↓reduceIte, Elt.idxAdd_f32]
  generalize Shape.ofLane (d := ![n]) k = x at hk
  subst hk
  by_cases hm : mask (ix1 k) = 1
  · rw [if_pos hm]
    by_cases hy : (w (ix1 k)).toNat = (y 0).val
    · have hi : idxAt ![w] h (ix1 k) = y := by
        funext a; obtain rfl : a = 0 := Subsingleton.elim _ _; exact Fin.ext hy
      refine (if_pos (fun a => by rw [hi])).trans ?_
      rw [hi]
      exact congrArg (fun z : EReal => (B y : EReal) + z) (if_pos ⟨hm, hy⟩ : (if mask (ix1 k) = 1 ∧ (w (ix1 k)).toNat = (y 0).val then (v (ix1 k) : EReal) else 0) = _).symm
    · refine (if_neg fun c => hy (c 0).symm).trans ?_
      exact ((congrArg (fun z : EReal => (B y : EReal) + z) (if_neg (fun c => hy c.2) : (if mask (ix1 k) = 1 ∧ (w (ix1 k)).toNat = (y 0).val then (v (ix1 k) : EReal) else 0) = _)).trans (add_zero _)).symm
  · rw [if_neg hm, if_neg (fun c => hm c.1), add_zero]

/-! ## The sums -/

/-- Row `n` of the tile's group, column `e` of the tile's quarter. -/
def rowIx (w n e : ℕ) : S2x8192x128.Idx :=
  ix3 (⟨w % 4 / 2, by omega⟩ : Fin 2) (⟨(1024 * (w / 4) + n) % 8192, Nat.mod_lt _ (by decide)⟩ : Fin 8192) (⟨(64 * (w % 2) + e) % 128, Nat.mod_lt _ (by decide)⟩ : Fin 128)

/-- What row `n` of tile `w`'s group adds to entry `y` of its sums. -/
def term (X : Vec Ideal S2x8192x128 .f32) (KS : IVec S1024x128 32) (w y n : ℕ) : EReal :=
  if y / 64 = code KS (1024 * (w / 4) + n) then X (rowIx w n (y % 64)) else 0

variable (X : Vec Ideal S2x8192x128 .f32) (KS : IVec S1024x128 32) (hKS : CodesOK KS)

include hKS in
theorem addQuarter_at (i : grid0.Coords) (h : Fin 8) (t : Fin k0_t3_loop.trips) (j : Fin 8) (c : Fin 4) (A : Vec Ideal S65536 .f32) (y : S65536.Idx) :
    addQuarter i (keyTile i KS) (chunkTile i X h) h t j A c y
      = (A y : EReal) + if (y 0).val % 64 / 16 = c.val then term X KS (wid i) (y 0).val (128 * h.val + (8 * t.val + j.val)) else 0 := by
  have hw := wid_lt i
  have ht : t.val < 16 := t.isLt.trans_eq trips16
  have hh := h.isLt; have hj := j.isLt; have hc := c.isLt
  have hy : (y 0).val < 65536 := (y 0).isLt
  unfold addQuarter addLanes
  rw [dif_pos (keys_ok (F := Ideal) KS hKS i h t j c)]
  refine (storeIdx_adds A _ _ _ _ y).trans (congrArg (fun s : EReal => (A y : EReal) + s) ?_)
  have hx (k : Fin 16) : rowLanes i (chunkTile i X h) t j c (ix1 k) = X (rowIx (wid i) (128 * h.val + (8 * t.val + j.val)) (16 * c.val + k.val)) :=
    rowLanes_at i X h t j c (ix1 k) _ rfl
      (by show (1024 * (wid i / 4) + (128 * h.val + (8 * t.val + j.val))) % 8192 = _; omega)
      (by have := k.isLt; show (64 * (wid i % 2) + (16 * c.val + k.val)) % 128 = 64 * (wid i % 2) + 16 * c.val + k.val; omega)
  have hk (k : Fin 16) : (addi (keyLanes (F := Ideal) (keyTile (F := Ideal) i KS) h t j) (laneIx c) (ix1 k)).toNat
      = 64 * code KS (1024 * (wid i / 4) + (128 * h.val + (8 * t.val + j.val))) + (16 * c.val + k.val) := by
    refine (addIx (F := Ideal) KS hKS i h t j c (ix1 k)).trans ?_
    rw [Nat.add_assoc (1024 * (wid i / 4))]; rfl
  refine (Finset.sum_congr rfl fun k _ => by rw [hk, hx]).trans ?_
  unfold term
  generalize code KS (1024 * (wid i / 4) + (128 * h.val + (8 * t.val + j.val))) = C
  by_cases h1 : (y 0).val % 64 / 16 = c.val
  · rw [if_pos h1]
    by_cases h2 : (y 0).val / 64 = C
    · rw [if_pos h2, Finset.sum_eq_single (⟨(y 0).val % 16, Nat.mod_lt _ (by decide)⟩ : Fin 16)]
      · rw [if_pos ⟨rfl, by show 64 * C + (16 * c.val + (y 0).val % 16) = (y 0).val; omega⟩]
        exact congrArg (fun e => X (rowIx (wid i) _ e)) (by show 16 * c.val + (y 0).val % 16 = (y 0).val % 64; omega)
      · intro k _ hne
        refine if_neg fun a => hne (Fin.ext ?_)
        have := a.2; have := k.isLt
        show k.val = (y 0).val % 16; omega
      · intro h; exact absurd (Finset.mem_univ _) h
    · rw [if_neg h2]
      refine Finset.sum_eq_zero fun k _ => if_neg fun a => h2 ?_
      have := a.2; have := k.isLt; omega
  · rw [if_neg h1]
    refine Finset.sum_eq_zero fun k _ => if_neg fun a => h1 ?_
    have := a.2; have := k.isLt; omega

include hKS in
theorem addRow_at (i : grid0.Coords) (h : Fin 8) (t : Fin k0_t3_loop.trips) (A : Vec Ideal S65536 .f32) (j : Fin 8) (y : S65536.Idx) :
    addRow i (keyTile i KS) (chunkTile i X h) h t A j y = (A y : EReal) + term X KS (wid i) (y 0).val (128 * h.val + (8 * t.val + j.val)) := by
  unfold addRow
  rw [addQuarter_at X KS hKS, addQuarter_at X KS hKS, addQuarter_at X KS hKS, addQuarter_at X KS hKS]
  generalize term X KS (wid i) (y 0).val (128 * h.val + (8 * t.val + j.val)) = T
  have hc : (y 0).val % 64 / 16 < 4 := by omega
  generalize (y 0).val % 64 / 16 = c at hc
  interval_cases c <;> simp

include hKS in
theorem addTrips_at (i : grid0.Coords) (h : Fin 8) (A : Vec Ideal S65536 .f32) (y : S65536.Idx) (n : ℕ) (hn : n ≤ k0_t3_loop.trips) :
    addTrips i (keyTile i KS) (chunkTile i X h) h A n y
      = (A y : EReal) + ∑ r ∈ Finset.range (8 * n), term X KS (wid i) (y 0).val (128 * h.val + r) := by
  induction n with
  | zero => simp [addTrips]
  | succ n ih =>
    have hl : n < k0_t3_loop.trips := hn
    unfold addTrips
    rw [dif_pos hl]
    unfold addTrip
    refine (foldl_adds (ι := S65536.Idx) y _ (fun j : Fin 8 => term X KS (wid i) (y 0).val (128 * h.val + (8 * n + j.val))) _
      (fun B j => addRow_at X KS hKS i h ⟨n, hl⟩ B j y) _).trans ?_
    rw [ih (Nat.le_of_lt hn), add_assoc, Nat.mul_succ, Finset.sum_range_add, ← Fin.sum_univ_def,
      Finset.sum_range (fun r => term X KS (wid i) (y 0).val (128 * h.val + (8 * n + r)))]

include hKS in
theorem sumUpTo_at (i : grid0.Coords) (y : S65536.Idx) (n : ℕ) (hn : n ≤ 8) :
    sumUpTo i X KS n y = (∑ r ∈ Finset.range (128 * n), term X KS (wid i) (y 0).val r : EReal) := by
  induction n with
  | zero => exact (Ideal.ofBits_zero_f32)
  | succ n ih =>
    have hl : n < 8 := hn
    unfold sumUpTo
    rw [dif_pos hl]
    refine (addTrips_at X KS hKS i ⟨n, hl⟩ _ y _ le_rfl).trans ?_
    rw [ih (Nat.le_of_lt hn), trips16, show 128 * (n + 1) = 128 * n + 8 * 16 from Nat.mul_succ .., Finset.sum_range_add]

/-! ## The counts -/

/-- What row `n` of tile `w`'s quarter adds to entry `y` of its counts. -/
def one (KS : IVec S1024x128 32) (w y n : ℕ) : EReal := if y = code KS (1024 * (w / 4) + 256 * (w % 4) + n) then 1 else 0

theorem lane0_at : ∀ k : Fin 16, (k0_pay300 (ix1 k) = 1) ↔ k = 0 := by decide +kernel

include hKS in
theorem addOnes_at (i : grid0.Coords) (t : Fin k0_t11_loop.trips) (j : Fin 8) (A : Vec Ideal S1024 .f32) (y : S1024.Idx) :
    addOnes A (cntLanes (F := Ideal) i (keyTile i KS) t j) y = (A y : EReal) + one KS (wid i) (y 0).val (8 * t.val + j.val) := by
  unfold addOnes
  rw [dif_pos (cnts_ok (F := Ideal) KS hKS i t j)]
  refine (storeIdx_adds A _ _ _ _ y).trans (congrArg (fun s : EReal => (A y : EReal) + s) ?_)
  refine (Finset.sum_congr rfl fun k _ => by simp only [lane0_at, (cntLanes_code (F := Ideal) KS hKS i t j (ix1 k)).1]; rfl).trans ?_
  rw [Finset.sum_eq_single (0 : Fin 16)]
  · unfold one
    by_cases h : (y 0).val = code KS (1024 * (wid i / 4) + 256 * (wid i % 4) + (8 * t.val + j.val))
    · rw [if_pos h, if_pos ⟨rfl, h.symm⟩]
      exact Ideal.ofBits_one_f32
    · rw [if_neg h, if_neg (fun a => h a.2.symm)]
  · intro k _ hne
    exact if_neg fun a => hne a.1
  · intro h; exact absurd (Finset.mem_univ _) h

include hKS in
theorem cntTrips_at (i : grid0.Coords) (A : Vec Ideal S1024 .f32) (y : S1024.Idx) (n : ℕ) (hn : n ≤ k0_t11_loop.trips) :
    cntTrips i (keyTile i KS) A n y = (A y : EReal) + ∑ r ∈ Finset.range (8 * n), one KS (wid i) (y 0).val r := by
  induction n with
  | zero => simp [cntTrips]
  | succ n ih =>
    have hl : n < k0_t11_loop.trips := hn
    unfold cntTrips
    rw [dif_pos hl]
    unfold cntTrip
    refine (foldl_adds (ι := S1024.Idx) y _ (fun j : Fin 8 => one KS (wid i) (y 0).val (8 * n + j.val)) _
      (fun B j => addOnes_at KS hKS i ⟨n, hl⟩ j B y) _).trans ?_
    rw [ih (Nat.le_of_lt hn), add_assoc, Nat.mul_succ, Finset.sum_range_add, ← Fin.sum_univ_def,
      Finset.sum_range (fun r => one KS (wid i) (y 0).val (8 * n + r))]

/-! ## The results -/

theorem wid_tileAt (w : ℕ) (h : w < 32) : wid (tileAt w) = w := by
  show 2 * (w / 2 % 16) + w % 2 = w; omega

include hKS in
/-- The sums, entry by entry. -/
theorem sumsAll_value (y : S2097152.Idx) :
    sumsAll X KS y = (∑ r ∈ Finset.range 1024, term X KS (4 * ((y 0).val / 65536 % 8) + (y 0).val / 65536 / 8) ((y 0).val % 65536) r : EReal) := by
  have hy : (y 0).val < 2097152 := (y 0).isLt
  have e : (sumIx (y 0).val 0).val = (y 0).val % 65536 := rfl
  unfold sumsAll sumTile
  rw [sumUpTo_at X KS hKS _ _ 8 le_rfl, wid_tileAt _ (by omega), e]

include hKS in
/-- The counts, entry by entry. -/
theorem cntsAll_value (y : S32768.Idx) :
    cntsAll (F := Ideal) KS y = (∑ r ∈ Finset.range 256, one KS ((y 0).val / 1024) ((y 0).val % 1024) r : EReal) := by
  have hy : (y 0).val < 32768 := (y 0).isLt
  have e : (cntIx (y 0).val 0).val = (y 0).val % 1024 := rfl
  unfold cntsAll cntTile cntAll
  rw [cntTrips_at KS hKS _ _ _ _ le_rfl, wid_tileAt _ (by omega), trips32, e]
  refine (congrArg (fun z : EReal => z + _) (Ideal.ofBits_zero_f32)).trans (zero_add _)

end Cert.Proof.Ideal

end
-- ==== Proof.Ideal.FinalValue.lean ====
/-
  What the final call computes, entry by entry, over the extended reals.
-/
module

public import proofs.«01_k».proof.Proof.Ideal.Final
public import Idealize.ShloMosaic.Lib.IdealHost
public import Idealize.ShloMosaic.Lib.Pointwise
public import Idealize.ShloMosaic.Lib.Pipeline.ValueKit

@[expose] public section

set_option maxRecDepth 16384

noncomputable section

namespace Cert.Proof.Ideal.Final

open Cert.KernelIdeal Cert.KernelIdeal.Gen
open Idealize.ShloMosaic
open Idealize.ShloMosaic.TcCoe Idealize.ShloMosaic.Tactic

/-! ## The new memory rows -/

/-- Ones at the even rows, each in its column, and at the odd rows. -/
abbrev evens : FVec Ideal S1024x512 .f32 := k1_pay4
abbrev odds : FVec Ideal S1024x512 .f32 := k1_pay5

/-- A comparison's bit as a float. -/
theorem flag_at (a b : BitVec 32) (p : Prop) [Decidable p] (h : a = b ↔ p) :
    FloatOps.sitofp (F := Ideal) .f32 (BitVec.setWidth 32 (IntOp.cmpi CmpIPredicate.eq a b)) = (if p then 1 else 0 : EReal) := by
  by_cases hp : p
  · rw [if_pos hp, h.2 hp, show IntOp.cmpi .eq b b = 1#1 by simp [IntOp.cmpi]]
    exact (show (((BitVec.setWidth 32 1#1).toInt : ℝ) : EReal) = 1 by simp)
  · rw [if_neg hp, show IntOp.cmpi .eq a b = 0#1 from congrArg BitVec.ofBool (beq_eq_false_iff_ne.2 fun e => hp (h.1 e))]
    exact (show (((BitVec.setWidth 32 0#1).toInt : ℝ) : EReal) = 0 by simp)

theorem evens_at (k : Fin 1024) (j : Fin 512) : evens (ix2 k j) = (if k.val = 2 * j.val then 1 else 0 : EReal) := by
  pointwise [evens, k1_pay4]
  refine flag_at _ _ _ ?_
  have hk := k.isLt
  have hj := j.isLt
  have e : (IntOp.muli 2#32 (BitVec.ofNat 32 j.val)).toNat = 2 * j.val := by
    show (2#32 * BitVec.ofNat 32 j.val).toNat = _
    rw [BitVec.toNat_mul, BitVec.toNat_ofNat, BitVec.toNat_ofNat]; omega
  rw [← BitVec.toNat_inj, e, BitVec.toNat_ofNat]; omega

theorem odds_at (k : Fin 1024) (j : Fin 512) : odds (ix2 k j) = (if k.val = 2 * j.val + 1 then 1 else 0 : EReal) := by
  pointwise [odds, k1_pay5]
  refine flag_at _ _ _ ?_
  have hk := k.isLt
  have hj := j.isLt
  have e : (IntOp.addi (IntOp.muli 2#32 (BitVec.ofNat 32 j.val)) 1#32).toNat = 2 * j.val + 1 := by
    show (2#32 * BitVec.ofNat 32 j.val + 1#32).toNat = _
    rw [BitVec.toNat_add, BitVec.toNat_mul, BitVec.toNat_ofNat, BitVec.toNat_ofNat, BitVec.toNat_ofNat]; omega
  rw [← BitVec.toNat_inj, e, BitVec.toNat_ofNat]; omega

/-- The two halves of 512 rows of 128, spread to the even and to the odd rows. -/
def spread (s : FVec Ideal S512x128 .f32) : FVec Ideal S1024x64 .f32 :=
  addf (matmul dot_S1024x512_S512x64_S1024x64_1_0_0_1_n_n none evens (extractStridedSlice S512x64 ![0, 0] s slices_S512x128_o0_0_S512x64) (constant S1024x64 .f32 0x00000000#32))
    (matmul dot_S1024x512_S512x64_S1024x64_1_0_0_1_n_n none odds (extractStridedSlice S512x64 ![0, 64] s slices_S512x128_o0_64_S512x64) (constant S1024x64 .f32 0x00000000#32))

theorem spread_at (s : FVec Ideal S512x128 .f32) (k : Fin 1024) (j : Fin 64) :
    spread s (ix2 k j) = s (ix2 (⟨k.val / 2, by omega⟩ : Fin 512) (⟨64 * (k.val % 2) + j.val, by omega⟩ : Fin 128)) := by
  have hk := k.isLt
  have hj := j.isLt
  pointwise [spread]
  have e1 : ∀ x : Fin 512, evens (ix2 k x) * s (ix2 x (⟨j.val, by omega⟩ : Fin 128)) = (if k.val = 2 * x.val then s (ix2 x (⟨j.val, by omega⟩ : Fin 128)) else 0 : EReal) := fun x => by
    rw [evens_at]; split
    · exact one_mul _
    · exact zero_mul _
  have e2 : ∀ x : Fin 512, odds (ix2 k x) * s (ix2 x (⟨64 + j.val, by omega⟩ : Fin 128)) = (if k.val = 2 * x.val + 1 then s (ix2 x (⟨64 + j.val, by omega⟩ : Fin 128)) else 0 : EReal) := fun x => by
    rw [odds_at]; split
    · exact one_mul _
    · exact zero_mul _
  rw [Finset.sum_congr rfl fun x _ => e1 x, Finset.sum_congr rfl fun x _ => e2 x]
  rcases Nat.mod_two_eq_zero_or_one k.val with h | h
  · rw [Finset.sum_eq_single (⟨k.val / 2, by omega⟩ : Fin 512) (fun x _ hx => if_neg fun e => hx (Fin.ext (show x.val = k.val / 2 by omega))) (fun h => absurd (Finset.mem_univ _) h),
      if_pos (show k.val = 2 * (k.val / 2) by omega), Finset.sum_eq_zero (fun x _ => if_neg (by omega))]
    exact (add_zero _).trans (congrArg (fun z : Fin 128 => s (ix2 _ z)) (Fin.ext (show j.val = 64 * (k.val % 2) + j.val by omega)))
  · rw [Finset.sum_eq_zero (fun x _ => if_neg (by omega)),
      Finset.sum_eq_single (⟨k.val / 2, by omega⟩ : Fin 512) (fun x _ hx => if_neg fun e => hx (Fin.ext (show x.val = k.val / 2 by omega))) (fun h => absurd (Finset.mem_univ _) h),
      if_pos (show k.val = 2 * (k.val / 2) + 1 by omega)]
    exact (zero_add _).trans (congrArg (fun z : Fin 128 => s (ix2 _ z)) (Fin.ext (show 64 + j.val = 64 * (k.val % 2) + j.val by omega)))

/-- The eight blocks of 512 rows of a quarter of the columns, added up. -/
def blockSum (SU : FVec Ideal S16384x128 .f32) (q : Fin 4) : FVec Ideal S512x128 .f32 := fun i =>
  let f : Fin 8 → EReal := fun g => SU (ix2 (⟨4096 * q.val + 512 * g.val + (i 0).val, by have : (i 0).val < 512 := (i 0).isLt; omega⟩ : Fin 16384) (i 1))
  f 0 + f 1 + f 2 + f 3 + f 4 + f 5 + f 6 + f 7

/-- 512 rows of the partial sums. -/
abbrev slI (SU : FVec Ideal S16384x128 .f32) (o : ℕ) (h : ∀ a, (![o, 0] : Fin 2 → ℕ) a + S512x128.size a ≤ S16384x128.size a) : FVec Ideal S512x128 .f32 := sl (F := Ideal) SU o h

theorem sl_at (SU : FVec Ideal S16384x128 .f32) (o : ℕ) (h : ∀ a, (![o, 0] : Fin 2 → ℕ) a + S512x128.size a ≤ S16384x128.size a) (i : S512x128.Idx) (p : Fin 16384) (hp : p.val = o + (i 0).val) :
    slI SU o h i = SU (ix2 p (i 1)) := by
  refine congrArg SU (funext fun a => Fin.ext ((Rect.idx_unit_val (s := S16384x128) ![o, 0] S512x128.size h i a).trans ?_))
  match a with
  | 0 => exact hp.symm
  | 1 => exact Nat.zero_add _

variable (SU : FVec Ideal S16384x128 .f32) (CN : FVec Ideal S32x1024 .f32) (UN : FVec Ideal S1024x256 .f32)

/-- Eight blocks of rows starting at a quarter's, added in order, are the quarter's sum. -/
theorem blocks_eq (q : Fin 4) (o : Fin 8 → ℕ) (h : ∀ g, ∀ a, (![o g, 0] : Fin 2 → ℕ) a + S512x128.size a ≤ S16384x128.size a) (ho : ∀ g, o g = 4096 * q.val + 512 * g.val) :
    addf (addf (addf (addf (addf (addf (addf (slI SU (o 0) (h 0)) (slI SU (o 1) (h 1))) (slI SU (o 2) (h 2))) (slI SU (o 3) (h 3))) (slI SU (o 4) (h 4))) (slI SU (o 5) (h 5))) (slI SU (o 6) (h 6))) (slI SU (o 7) (h 7))
      = blockSum SU q := by
  funext i
  have e : ∀ g, slI SU (o g) (h g) i = (SU (ix2 (⟨4096 * q.val + 512 * g.val + (i 0).val, by have : (i 0).val < 512 := (i 0).isLt; omega⟩ : Fin 16384) (i 1)) : EReal) := fun g =>
    sl_at SU _ _ i _ (by rw [ho g])
  show (slI SU (o 0) (h 0) i + slI SU (o 1) (h 1) i + slI SU (o 2) (h 2) i + slI SU (o 3) (h 3) i + slI SU (o 4) (h 4) i + slI SU (o 5) (h 5) i + slI SU (o 6) (h 6) i + slI SU (o 7) (h 7) i : EReal) = _
  simp only [e]
  rfl

theorem q0_eq : q0 SU = spread (blockSum SU 0) := by
  unfold q0 k1_pay9 k1_pay7 k1_pay8 k1_pay6
  simp only [shapeCast_self]
  exact congrArg spread (blocks_eq SU 0 ![0, 512, 1024, 1536, 2048, 2560, 3072, 3584] (by decide) (by decide))
theorem q1_eq : q1 SU = spread (blockSum SU 1) := by
  unfold q1 k1_pay10
  simp only [shapeCast_self]
  exact congrArg spread (blocks_eq SU 1 ![4096, 4608, 5120, 5632, 6144, 6656, 7168, 7680] (by decide) (by decide))
theorem q2_eq : q2 SU = spread (blockSum SU 2) := by
  unfold q2 k1_pay12 k1_pay11
  simp only [shapeCast_self]
  exact congrArg spread (blocks_eq SU 2 ![8192, 8704, 9216, 9728, 10240, 10752, 11264, 11776] (by decide) (by decide))

/-- The four quarters side by side. -/
def beside (f : Fin 4 → FVec Ideal S1024x64 .f32) : FVec Ideal S1024x256 .f32 :=
  concatenate S1024x256 1 [⟨S1024x64, f 0⟩, ⟨S1024x64, f 1⟩, ⟨S1024x64, f 2⟩, ⟨S1024x64, f 3⟩] concatenates_S1024x64_S1024x64_S1024x64_S1024x64_S1024x256_d1

theorem beside_four (a b c d : FVec Ideal S1024x64 .f32) :
    concatenate S1024x256 1 [⟨S1024x64, a⟩, ⟨S1024x64, b⟩, ⟨S1024x64, c⟩, ⟨S1024x64, d⟩] concatenates_S1024x64_S1024x64_S1024x64_S1024x64_S1024x256_d1 = beside ![a, b, c, d] := rfl

theorem beside_at (f : Fin 4 → FVec Ideal S1024x64 .f32) (k : Fin 1024) (j : Fin 64) (q : Fin 4) (c : Fin 256) (hc : c.val = 64 * q.val + j.val) : beside f (ix2 k c) = f q (ix2 k j) := by
  have hj := j.isLt
  pointwise [beside]
  match q, hc with
  | 0, hc =>
    rw [dif_pos (show c.val < 64 by simp at hc; omega)]
    exact congrArg (fun z : Fin 64 => f 0 (ix2 k z)) (Fin.ext (show c.val = j.val by simp at hc; omega))
  | 1, hc =>
    rw [dif_neg (show ¬ c.val < 64 by simp at hc; omega), dif_pos (show c.val - 64 < 64 by simp at hc; omega)]
    exact congrArg (fun z : Fin 64 => f 1 (ix2 k z)) (Fin.ext (show c.val - 64 = j.val by simp at hc; omega))
  | 2, hc =>
    rw [dif_neg (show ¬ c.val < 64 by simp at hc; omega), dif_neg (show ¬ c.val - 64 < 64 by simp at hc; omega), dif_pos (show c.val - 64 - 64 < 64 by simp at hc; omega)]
    exact congrArg (fun z : Fin 64 => f 2 (ix2 k z)) (Fin.ext (show c.val - 64 - 64 = j.val by simp at hc; omega))
  | 3, hc =>
    rw [dif_neg (show ¬ c.val < 64 by simp at hc; omega), dif_neg (show ¬ c.val - 64 < 64 by simp at hc; omega), dif_neg (show ¬ c.val - 64 - 64 < 64 by simp at hc; omega)]
    exact congrArg (fun z : Fin 64 => f 3 (ix2 k z)) (Fin.ext (show c.val - 64 - 64 - 64 = j.val by simp at hc; omega))

/-- The update from the sums and the counts. -/
def upd (Q : FVec Ideal S1024x256 .f32) : FVec Ideal S1024x256 .f32 :=
  addf (mulf UN (broadcast S1024x256 (Scalar.ofBits .f32 0x3F7FBE77#32)))
    (mulf (divf Q
      (broadcastTo S1024x256 (addf (matmul dot_S32x1024_S32x1_S1024x1_0_0_1_1_n_n none CN (broadcast S32x1 (Scalar.ofBits .f32 0x3F800000#32)) (constant S1024x1 .f32 0x00000000#32))
        (broadcast S1024x1 (Scalar.ofBits .f32 0x358637BD#32))) broadcasts_S1024x1_S1024x256)) (broadcast S1024x256 (Scalar.ofBits .f32 0x3A83126F#32)))

theorem upd_at (Q : FVec Ideal S1024x256 .f32) (k : Fin 1024) (c : Fin 256) :
    upd CN UN Q (ix2 k c) = (UN (ix2 k c) * Ideal.ofBits .f32 0x3F7FBE77#32
      + Ideal.div (Q (ix2 k c)) ((∑ x : Fin 32, CN (ix2 x k)) + Ideal.ofBits .f32 0x358637BD#32) * Ideal.ofBits .f32 0x3A83126F#32 : EReal) := by
  pointwise [upd]

theorem nd_eq : nd SU CN UN = upd CN UN (beside fun q => spread (blockSum SU q)) := by
  have h : nd SU CN UN = upd CN UN (beside ![q0 SU, q1 SU, q2 SU, spread (addf (addf (addf (q3 SU)
      (shapeCast S512x128 (slI SU 14848 inb_S16384x128_S512x128_14848_0) shapeCasts_S512x128_S512x128))
      (shapeCast S512x128 (slI SU 15360 inb_S16384x128_S512x128_15360_0) shapeCasts_S512x128_S512x128))
      (shapeCast S512x128 (slI SU 15872 inb_S16384x128_S512x128_15872_0) shapeCasts_S512x128_S512x128))]) := by
    rw [← beside_four]
    unfold nd k1_pay14 upd spread evens odds
    simp only [shapeCast_self]
  have h3 : addf (addf (addf (q3 SU)
      (shapeCast S512x128 (slI SU 14848 inb_S16384x128_S512x128_14848_0) shapeCasts_S512x128_S512x128))
      (shapeCast S512x128 (slI SU 15360 inb_S16384x128_S512x128_15360_0) shapeCasts_S512x128_S512x128))
      (shapeCast S512x128 (slI SU 15872 inb_S16384x128_S512x128_15872_0) shapeCasts_S512x128_S512x128) = blockSum SU 3 := by
    unfold q3 k1_pay13
    simp only [shapeCast_self]
    exact blocks_eq SU 3 ![12288, 12800, 13312, 13824, 14336, 14848, 15360, 15872] (by decide) (by decide)
  rw [h, h3, q0_eq, q1_eq, q2_eq]
  refine congrArg (fun f => upd CN UN (beside f)) (funext fun q => ?_)
  match q with
  | 0 => rfl
  | 1 => rfl
  | 2 => rfl
  | 3 => rfl

/-- An entry of the new rows. -/
theorem nd_at (k : Fin 1024) (j : Fin 64) (q : Fin 4) (c : Fin 256) (hc : c.val = 64 * q.val + j.val) :
    nd SU CN UN (ix2 k c) = (UN (ix2 k c) * Ideal.ofBits .f32 0x3F7FBE77#32
      + Ideal.div (blockSum SU q (ix2 (⟨k.val / 2, by omega⟩ : Fin 512) (⟨64 * (k.val % 2) + j.val, by omega⟩ : Fin 128)))
          ((∑ x : Fin 32, CN (ix2 x k)) + Ideal.ofBits .f32 0x358637BD#32) * Ideal.ofBits .f32 0x3A83126F#32 : EReal) := by
  rw [nd_eq, upd_at, beside_at _ k j q c hc, spread_at]

/-- Rows normalised. -/
def norm (N : FVec Ideal S1024x256 .f32) : FVec Ideal S1024x256 .f32 :=
  k1_pay1 N (broadcastTo S1024x256 (maximumf (sqrt (shapeCast S1024x1 (multiReduction .add [1] S1024 (mulf N N) 0x00000000#32 reduces_S1024x256_S1024 (.inl rfl) rfl) shapeCasts_S1024_S1024x1))
    (broadcast S1024x1 (Scalar.ofBits .f32 0x2B8CBCCC#32))) broadcasts_S1024x1_S1024x256)

theorem mn_eq : mn SU CN UN = norm (nd SU CN UN) := rfl

theorem norm_at (N : FVec Ideal S1024x256 .f32) (k : Fin 1024) (c : Fin 256) :
    norm N (ix2 k c) = (Ideal.div (N (ix2 k c)) (max (Ideal.sqrt (∑ j : Fin 256, N (ix2 k j) * N (ix2 k j))) (Ideal.ofBits .f32 0x2B8CBCCC#32)) : EReal) := by
  pointwise [norm, k1_pay1]

/-! ## A point's two blocks -/

theorem pay2_at (x : Vec Ideal S1x256x1024 .f32) (M : Vec Ideal S1024x256 .f32) (t k : Fin 1024) :
    k1_pay2 x M (ix2 t k) = (∑ j : Fin 256, Ideal.div (x (ix3 0 j t)) (max (Ideal.sqrt (∑ i : Fin 256, x (ix3 0 i t) * x (ix3 0 i t))) (Ideal.ofBits .f32 0x2B8CBCCC#32)) * M (ix2 k j) : EReal) := by
  pointwise [k1_pay2]

theorem pay3_at (x : Vec Ideal S1x256x1024 .f32) (M N : Vec Ideal S1024x256 .f32) (c : Fin 256) (t : Fin 1024) :
    k1_pay3 x M N (ix3 0 c t) = ((∑ k : Fin 1024, N (ix2 k c) * Ideal.exp (k1_pay2 x M (ix2 t k))) * Ideal.div 1 (∑ k : Fin 1024, Ideal.exp (k1_pay2 x M (ix2 t k))) : EReal) := by
  unfold k1_pay3
  generalize k1_pay2 x M = S
  pointwise

end Cert.Proof.Ideal.Final

end
-- ==== Proof.Ref.lean ====
/-
  The reference, over the extended reals: its run, and each entry of its two results as a sum over rows.
-/
module

public import proofs.«01_k».proof.Defs
public import proofs.«01_k».proof.Proof.Gen.ReferenceIdeal
public import proofs.«01_k».proof.Proof.Codes
public import Idealize.ShloMosaic.Lib.StableHlo.RunHlo
public import Idealize.ShloMosaic.Lib.Claim
public import Idealize.ShloMosaic.Lib.Quiescent
public import Idealize.ShloMosaic.Lib.IdealHost
public import Idealize.ShloMosaic.Lib.Pointwise

@[expose] public section

noncomputable section

namespace Cert.Proof.Ref

open Cert.ReferenceIdeal Cert.ReferenceIdeal.Gen
open Idealize.ShloMosaic Idealize.ShloMosaic.TcCoe Idealize.ShloMosaic.StableHlo Idealize.SL.Sem

/-- The indicator that a row's segment offset is a segment's. -/
def hot (KS : IVec S1024x128 32) : FVec Ideal S8192x1024 .f32 :=
  uitofp .f32 (cmpi .eq
    (broadcastInDim S8192x1024 ![0, 1] bcast_S8192x1_S8192x1024_0_1 (extractStridedSlice S8192x1 ![0, 0] (shapeCast S8192x16 KS shapeCasts_S1024x128_S8192x16) slices_S8192x16_S8192x1_0_0))
    (broadcastInDim S8192x1024 ![0, 1] bcast_S1x1024_S8192x1024_0_1 (broadcastInDim S1x1024 ![1] bcast_S1024_S1x1024_1
      (muli (broadcastInDim S1024 ![] bcast_S_S1024 (constantI S_ 32 64#32)) (iotaInDim S1024 32 0)))))

/-- The rows, the halves side by side. -/
def rows (X : FVec Ideal S2x8192x128 .f32) : FVec Ideal S8192x256 .f32 :=
  concatenate S8192x256 1
    [⟨S8192x128, shapeCast S8192x128 (extractStridedSlice S1x8192x128 ![0, 0, 0] X slices_S2x8192x128_S1x8192x128_0_0_0) shapeCasts_S1x8192x128_S8192x128⟩,
     ⟨S8192x128, shapeCast S8192x128 (extractStridedSlice S1x8192x128 ![1, 0, 0] X slices_S2x8192x128_S1x8192x128_1_0_0) shapeCasts_S1x8192x128_S8192x128⟩]
    concatenates_S8192x128_S8192x128_S8192x256_d1

/-- A matrix's rows normalised. -/
def xflat (X : FVec Ideal S8x256x32x32 .f32) : FVec Ideal S8192x256 .f32 :=
  shapeCast S8192x256 (transpose S8x32x32x256 [0, 2, 3, 1] X transposes_S8x256x32x32_S8x32x32x256_0_2_3_1) shapeCasts_S8x32x32x256_S8192x256
def xnorm (X : FVec Ideal S8x256x32x32 .f32) : FVec Ideal S8192x256 .f32 :=
  Host.divf (xflat X) (broadcastInDim S8192x256 ![0, 1] bcast_S8192x1_S8192x256_0_1
    (maximumf (Host.sqrt (broadcastInDim S8192x1 ![0] bcast_S8192_S8192x1_0
      (Host.reduceAdd (mulf (xflat X) (xflat X)) (constant S_ .f32 0x00000000#32) reducesTo_S8192x256_S8192_d1 h_S_)))
      (broadcastInDim S8192x1 ![] bcast_S_S8192x1 (constant S_ .f32 0x2B8CBCCC#32))))

/-- The new memory rows, -/
def newData (XQ : FVec Ideal S2x8192x128 .f32) (KS : IVec S1024x128 32) (UN : FVec Ideal S1024x256 .f32) : FVec Ideal S1024x256 .f32 :=
  addf (mulf UN (broadcastInDim S1024x256 ![] bcast_S_S1024x256 (constant S_ .f32 0x3F7FBE77#32)))
    (mulf (transpose S1024x256 [1, 0]
      (Host.divf
        (Host.dotGeneral dot_S256x8192_S8192x1024_S256x1024_1_0_0_1_n_n none (transpose S256x8192 [1, 0] (rows XQ) transposes_S8192x256_S256x8192_1_0) (hot KS))
        (broadcastInDim S256x1024 ![0, 1] bcast_S1x1024_S256x1024_0_1 (broadcastInDim S1x1024 ![1] bcast_S1024_S1x1024_1
          (addf (Host.reduceAdd (hot KS) (constant S_ .f32 0x00000000#32) reducesTo_S8192x1024_S1024_d0 h_S_)
            (broadcastInDim S1024 ![] bcast_S_S1024 (constant S_ .f32 0x358637BD#32))))))
      transposes_S256x1024_S1024x256_1_0)
      (broadcastInDim S1024x256 ![] bcast_S_S1024x256 (constant S_ .f32 0x3A83126F#32)))
/-- those rows normalised, -/
def mnorm (ND : FVec Ideal S1024x256 .f32) : FVec Ideal S1024x256 .f32 :=
  Host.divf ND (broadcastInDim S1024x256 ![0, 1] bcast_S1024x1_S1024x256_0_1
    (maximumf (Host.sqrt (broadcastInDim S1024x1 ![0] bcast_S1024_S1024x1_0
      (Host.reduceAdd (mulf ND ND) (constant S_ .f32 0x00000000#32) reducesTo_S1024x256_S1024_d1 h_S_)))
      (broadcastInDim S1024x1 ![] bcast_S_S1024x1 (constant S_ .f32 0x2B8CBCCC#32))))

/-- the scores, -/
def score (X : FVec Ideal S8x256x32x32 .f32) (ND : FVec Ideal S1024x256 .f32) : FVec Ideal S8192x1024 .f32 :=
  Host.dotGeneral dot_S8192x256_S256x1024_S8192x1024_1_0_0_1_n_n none (xnorm X) (transpose S256x1024 [1, 0] (mnorm ND) transposes_S1024x256_S256x1024_1_0)
/-- the greatest score of each row, -/
def rmax (S : FVec Ideal S8192x1024 .f32) : FVec Ideal S8192 .f32 :=
  maximumf (broadcastInDim S8192 ![] bcast_S_S8192 (constant S_ .f32 0xFF800000#32))
    (Host.reduce FloatOps.maximumf S (constant S_ .f32 0xFF800000#32) reducesTo_S8192x1024_S8192_d1 h_S_)
/-- the exponentials, each row shifted by its greatest score, -/
def expo (S : FVec Ideal S8192x1024 .f32) : FVec Ideal S8192x1024 .f32 :=
  Host.exp (subf S (broadcastInDim S8192x1024 ![0, 1] bcast_S8192x1_S8192x1024_0_1 (broadcastInDim S8192x1 ![0] bcast_S8192_S8192x1_0 (rmax S))))
/-- and the weighted sums of the memory rows. -/
def outp (S : FVec Ideal S8192x1024 .f32) (ND : FVec Ideal S1024x256 .f32) : FVec Ideal S8x256x1024 .f32 :=
  transpose S8x256x1024 [0, 2, 1] (shapeCast S8x1024x256
    (Host.dotGeneral dot_S8192x1024_S1024x256_S8192x256_1_0_0_1_n_n none
      (Host.divf (expo S) (broadcastInDim S8192x1024 ![0, 1] bcast_S8192x1_S8192x1024_0_1 (broadcastInDim S8192x1 ![0] bcast_S8192_S8192x1_0
        (Host.reduceAdd (expo S) (constant S_ .f32 0x00000000#32) reducesTo_S8192x1024_S8192_d1 h_S_)))) ND)
    shapeCasts_S8192x256_S8x1024x256) transposes_S8x1024x256_S8x256x1024_0_2_1

/-- The run. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_v56)
            = outp (score (m ((c.tc : Thread nD τ).loc main_arg2)) (newData (m ((c.tc : Thread nD τ).loc main_arg0)) (m ((c.tc : Thread nD τ).loc main_arg1)) (m ((c.tc : Thread nD τ).loc main_arg3))))
                (newData (m ((c.tc : Thread nD τ).loc main_arg0)) (m ((c.tc : Thread nD τ).loc main_arg1)) (m ((c.tc : Thread nD τ).loc main_arg3)))
        ∧ r.2.mem ((c.tc : Thread nD τ).loc main_v42)
            = score (m ((c.tc : Thread nD τ).loc main_arg2)) (newData (m ((c.tc : Thread nD τ).loc main_arg0)) (m ((c.tc : Thread nD τ).loc main_arg1)) (m ((c.tc : Thread nD τ).loc main_arg3)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 := by
  hlo_run
  · exact fun c => ⟨rfl, rfl, trivial, trivial, trivial, trivial⟩
  · exact sem_eq_zero_of_no_sems rfl _

/-! ## The results, entry by entry -/

variable (X : FVec Ideal S2x8192x128 .f32) (KS : IVec S1024x128 32)

theorem rows_at (r : Fin 8192) (k : Fin 256) (z : S2x8192x128.Idx) (h0 : (z 0).val = k.val / 128) (h1 : (z 1).val = r.val) (h2 : (z 2).val = k.val % 128) :
    rows X (ix2 r k) = X z := by
  pointwise [rows]
  have hk := k.isLt
  by_cases h : k.val < 128
  · rw [dif_pos h]
    refine congrArg X (funext fun a => Fin.ext ?_)
    match a with
    | 0 => exact (show 0 = (z 0).val by omega)
    | 1 => exact h1.symm
    | 2 => exact (show k.val = (z 2).val by omega)
  · rw [dif_neg h]
    refine congrArg X (funext fun a => Fin.ext ?_)
    match a with
    | 0 => exact (show 1 = (z 0).val by omega)
    | 1 => exact h1.symm
    | 2 => exact (show k.val - 128 = (z 2).val by omega)

theorem hot_at (hKS : CodesOK KS) (r : Fin 8192) (k : Fin 1024) : hot KS (ix2 r k) = (if k.val = code KS r.val then 1 else 0 : EReal) := by
  pointwise [hot]
  have hr := r.isLt
  have hz : (ix2 (⟨r.val / 8, by omega⟩ : Fin 1024) (⟨r.val % 8 * 16, by omega⟩ : Fin 128) : S1024x128.Idx) = firstIx r.val := by
    funext a
    match a with
    | 0 => exact Fin.ext (show r.val / 8 = r.val / 8 % 1024 by omega)
    | 1 => exact Fin.ext (show r.val % 8 * 16 = 16 * (r.val % 8) by omega)
  rw [hz]
  have hc := hKS (firstIx r.val)
  rw [show rowOf (firstIx r.val) = r.val by show 8 * (r.val / 8 % 1024) + 16 * (r.val % 8) / 16 = _; omega] at hc
  have hk := k.isLt
  have hm : (IntOp.muli 64#32 (BitVec.ofNat 32 k.val)).toNat = 64 * k.val := by
    show (64#32 * BitVec.ofNat 32 k.val).toNat = _
    rw [BitVec.toNat_mul, BitVec.toNat_ofNat, BitVec.toNat_ofNat]; omega
  by_cases h : k.val = code KS r.val
  · have e : KS (firstIx r.val) = IntOp.muli 64#32 (BitVec.ofNat 32 k.val) := BitVec.eq_of_toNat_eq (by rw [hm, hc.1, h])
    rw [if_pos h, e]
    rw [show IntOp.cmpi .eq (IntOp.muli 64#32 (BitVec.ofNat 32 k.val)) (IntOp.muli 64#32 (BitVec.ofNat 32 k.val)) = 1#1 by simp [IntOp.cmpi]]
    exact (show (((1 : ℕ) : ℝ) : EReal) = 1 by simp)
  · have e : ¬ KS (firstIx r.val) = IntOp.muli 64#32 (BitVec.ofNat 32 k.val) := fun e => h (by
      have := congrArg BitVec.toNat e; rw [hm, hc.1] at this; omega)
    rw [if_neg h, show IntOp.cmpi .eq (KS (firstIx r.val)) (IntOp.muli 64#32 (BitVec.ofNat 32 k.val)) = 0#1 from congrArg BitVec.ofBool (beq_eq_false_iff_ne.2 e)]
    exact (show (((0 : ℕ) : ℝ) : EReal) = 0 by simp)

theorem hot_of (hKS : CodesOK KS) (r : Fin 8192) (k : Fin 1024) (n c : ℕ) (hn : r.val = n) (hc : k.val = c) :
    hot KS (ix2 r k) = (if c = code KS n then 1 else 0 : EReal) := by
  subst hn hc; exact hot_at KS hKS r k

/-- Entry `(k, c)` of the new memory rows. -/
theorem newData_value (hKS : CodesOK KS) (UN : FVec Ideal S1024x256 .f32) (k : Fin 1024) (c : Fin 256) (z : ℕ → S2x8192x128.Idx)
    (hz : ∀ n < 8192, (z n 0).val = c.val / 128 ∧ (z n 1).val = n ∧ (z n 2).val = c.val % 128) :
    newData X KS UN (ix2 k c) = (UN (ix2 k c) * Ideal.ofBits .f32 0x3F7FBE77#32
      + Ideal.div (∑ n ∈ Finset.range 8192, if k.val = code KS n then X (z n) else 0)
          ((∑ n ∈ Finset.range 8192, if k.val = code KS n then 1 else 0) + Ideal.ofBits .f32 0x358637BD#32) * Ideal.ofBits .f32 0x3A83126F#32 : EReal) := by
  rw [Finset.sum_range, Finset.sum_range]
  have e1 : ∀ n : Fin 8192, (rows X (ix2 n c) * hot KS (ix2 n k) : EReal) = if k.val = code KS n.val then X (z n.val) else 0 := fun n => by
    obtain ⟨h0, h1, h2⟩ := hz n.val n.isLt
    rw [rows_at X n c (z n.val) h0 h1 h2, hot_at KS hKS n k]
    split
    · exact mul_one _
    · exact mul_zero _
  have e2 : ∀ n : Fin 8192, (hot KS (ix2 n k) : EReal) = if k.val = code KS n.val then 1 else 0 := fun n => hot_at KS hKS n k
  pointwise [newData]
  rw [Finset.sum_congr rfl fun n _ => e1 n, Finset.sum_congr rfl fun n _ => e2 n]
  try rfl

/-- Entry `(k, c)` of the normalised memory rows. -/
theorem mnorm_value (ND : FVec Ideal S1024x256 .f32) (k : Fin 1024) (c : Fin 256) :
    mnorm ND (ix2 k c) = (Ideal.div (ND (ix2 k c)) (max (Ideal.sqrt (∑ j : Fin 256, ND (ix2 k j) * ND (ix2 k j))) (Ideal.ofBits .f32 0x2B8CBCCC#32)) : EReal) := by
  pointwise [mnorm]

/-- Entry `(r, c)` of the normalised rows of `x`. -/
theorem xnorm_value (XX : FVec Ideal S8x256x32x32 .f32) (r : Fin 8192) (c : Fin 256) :
    xnorm XX (ix2 r c) = (Ideal.div (xflat XX (ix2 r c)) (max (Ideal.sqrt (∑ j : Fin 256, xflat XX (ix2 r j) * xflat XX (ix2 r j))) (Ideal.ofBits .f32 0x2B8CBCCC#32)) : EReal) := by
  pointwise [xnorm]

/-- Entry `(r, k)` of the scores. -/
theorem score_value (XX : FVec Ideal S8x256x32x32 .f32) (ND : FVec Ideal S1024x256 .f32) (r : Fin 8192) (k : Fin 1024) :
    score XX ND (ix2 r k) = (∑ j : Fin 256, xnorm XX (ix2 r j) * mnorm ND (ix2 k j) : EReal) := by
  pointwise [score]

/-- Entry `(r, k)` of the exponentials. -/
theorem expo_value (S : FVec Ideal S8192x1024 .f32) (r : Fin 8192) (k : Fin 1024) :
    expo S (ix2 r k) = (Ideal.exp (S (ix2 r k) - rmax S (ix1 r)) : EReal) := by
  pointwise [expo]

/-- The greatest of real numbers is real. -/
theorem reduce_max_real {s t u : Shape} {a : Fin s.rank} (x : s.Idx → EReal) (init : u.Idx → EReal) (h' : s.ReducesTo [a] t) (h : s.Reduces [a] t) (hu : 0 < u.numel)
    (hi : init (Shape.Idx.first hu) = ⊥) (hx : ∀ i, ∃ r : ℝ, x i = r) (hpos : 0 < s.size a) (j : t.Idx) :
    ∃ r : ℝ, Host.reduce (max : EReal → EReal → EReal) x init h' hu j = r := by
  have hf : ∀ (A : Finset (Fin (s.size a))) (f : Fin (s.size a) → EReal), (∀ k, ∃ r : ℝ, f k = r) → (A = ∅ ∧ A.fold max ⊥ f = ⊥) ∨ ∃ r : ℝ, A.fold max ⊥ f = r := fun A f hf => by
    induction A using Finset.induction_on with
    | empty => exact Or.inl ⟨rfl, rfl⟩
    | insert b A hb ih =>
      rw [Finset.fold_insert hb]
      obtain ⟨y, hy⟩ := hf b
      rcases ih with ⟨_, e⟩ | ⟨z, e⟩
      · exact Or.inr ⟨y, by rw [e, hy]; exact max_bot_right _⟩
      · exact Or.inr ⟨max y z, by rw [e, hy]; exact (EReal.coe_strictMono.monotone.map_max).symm⟩
  rw [Host.reduce_eq_fold_single max x init h' h hu j, hi]
  rcases hf Finset.univ (x ∘ h.lift j) (fun k => hx _) with ⟨e, _⟩ | e
  · exact absurd (e ▸ Finset.mem_univ (⟨0, hpos⟩ : Fin (s.size a))) (Finset.notMem_empty _)
  · exact e

/-- The pattern of minus infinity. -/
theorem neg_inf : Ideal.ofBits .f32 0xFF800000#32 = (⊥ : EReal) := by
  simp only [Ideal.ofBits, Ideal.ieee]
  rw [if_pos (by decide), if_pos (by decide), if_pos (by decide)]

/-- A row's greatest score, the reduction `M` left as a word. -/
theorem rmax_at (S : FVec Ideal S8192x1024 .f32) (M : FVec Ideal S8192 .f32) (hM : Host.reduce FloatOps.maximumf S (constant S_ .f32 0xFF800000#32) reducesTo_S8192x1024_S8192_d1 h_S_ = M) (i : S8192.Idx) :
    rmax S i = (max (Ideal.ofBits .f32 0xFF800000#32) (M i) : EReal) := by
  unfold rmax
  rw [hM]
  rfl

/-- The scores' rows as one reduced axis. -/
theorem red1 : S8192x1024.Reduces [1] S8192 := by decide

/-- The same in the reference's word for the maximum. -/
theorem reduce_maximumf_real {s t u : Shape} {a : Fin s.rank} (x : s.Idx → Ideal .f32) (init : u.Idx → Ideal .f32) (h' : s.ReducesTo [a] t) (h : s.Reduces [a] t) (hu : 0 < u.numel)
    (hi : init (Shape.Idx.first hu) = (⊥ : EReal)) (hx : ∀ i, ∃ r : ℝ, x i = (r : EReal)) (hpos : 0 < s.size a) (j : t.Idx) :
    ∃ r : ℝ, Host.reduce FloatOps.maximumf x init h' hu j = (r : EReal) := reduce_max_real x init h' h hu hi hx hpos j

/-- The greatest of a row's real scores is real. -/
theorem rmax_real (S : FVec Ideal S8192x1024 .f32) (hS : ∀ i, ∃ a : ℝ, S i = (a : EReal)) (i : S8192.Idx) : ∃ a : ℝ, rmax S i = (a : EReal) := by
  obtain ⟨a, ha⟩ := reduce_maximumf_real S (constant S_ .f32 0xFF800000#32) reducesTo_S8192x1024_S8192_d1 red1 h_S_ neg_inf hS (by decide) i
  exact ⟨a, by rw [rmax_at S _ rfl i, ha, neg_inf]; exact max_bot_left _⟩

/-- Entry `(b, c, t)` of the output. -/
theorem outp_value (S : FVec Ideal S8192x1024 .f32) (ND : FVec Ideal S1024x256 .f32) (b : Fin 8) (c : Fin 256) (t : Fin 1024) (r : Fin 8192) (hr : r.val = b.val * 1024 + t.val) :
    outp S ND (ix3 b c t) = (∑ k : Fin 1024, Ideal.div (expo S (ix2 r k)) (∑ k' : Fin 1024, expo S (ix2 r k')) * ND (ix2 k c) : EReal) := by
  have hb : b.val * 1024 + t.val < 8192 := hr ▸ r.isLt
  rw [show r = ⟨b.val * 1024 + t.val, hb⟩ from Fin.ext hr]
  clear hr
  pointwise [outp]

/-- Entry `(r, c)` of `x` with its rows laid out. -/
theorem xflat_value (XX : FVec Ideal S8x256x32x32 .f32) (r : Fin 8192) (c : Fin 256) (z : S8x256x32x32.Idx)
    (h0 : (z 0).val = r.val / 1024) (h1 : (z 1).val = c.val) (h2 : (z 2).val = r.val / 32 % 32) (h3 : (z 3).val = r.val % 32) :
    xflat XX (ix2 r c) = XX z := by
  pointwise [xflat]
  refine congrArg XX (funext fun a => Fin.ext ?_)
  match a with
  | 0 => exact h0.symm
  | 1 => exact h1.symm
  | 2 => exact h2.symm
  | 3 => exact h3.symm

end Cert.Proof.Ref

end
-- ==== Proof.Weights.lean ====
/-
  Two facts about extended reals: an entry divided by its row's norm is real whatever the row holds, and weights
  that sum to one may be applied before or after the division.
-/
module

public import Idealize.ShloMosaic.Lib.IdealHost

@[expose] public section

noncomputable section

namespace Cert.Proof

open Idealize.ShloMosaic

/-- The least divisor is a positive real. -/
theorem eps_pos : ∃ r : ℝ, 0 < r ∧ Ideal.ofBits .f32 0x2B8CBCCC#32 = (r : EReal) := by
  simp only [Ideal.ofBits, Ideal.ieee]
  rw [if_neg (by decide), if_neg (by decide), if_neg (by decide)]
  exact ⟨_, by positivity, rfl⟩

theorem mul_self_nonneg (x : EReal) : 0 ≤ x * x := by
  induction x with
  | bot => simp
  | top => simp
  | coe a => rw [← EReal.coe_mul]; exact_mod_cast _root_.mul_self_nonneg a

theorem mul_self_of_not_real (x : EReal) (h : ¬ ∃ r : ℝ, x = r) : x * x = ⊤ := by
  induction x with
  | bot => simp
  | top => simp
  | coe a => exact absurd ⟨a, rfl⟩ h

/-- An entry divided by its row's norm is real. -/
theorem norm_real {n : ℕ} (v : Fin n → EReal) (j : Fin n) :
    ∃ r : ℝ, Ideal.div (v j) (max (Ideal.sqrt (∑ i, v i * v i)) (Ideal.ofBits .f32 0x2B8CBCCC#32)) = r := by
  obtain ⟨ε, hε, he⟩ := eps_pos
  rw [he]
  have hD : (ε : EReal) ≤ max (Ideal.sqrt (∑ i, v i * v i)) (ε : EReal) := le_max_right _ _
  by_cases h : ∃ r : ℝ, v j = r
  · obtain ⟨a, ha⟩ := h
    generalize max (Ideal.sqrt (∑ i, v i * v i)) (ε : EReal) = D at hD ⊢
    rw [ha]
    induction D with
    | bot => exact absurd hD (by simp)
    | top => exact ⟨0, by unfold Ideal.div; simp⟩
    | coe d =>
      have hd : (0 : ℝ) < d := lt_of_lt_of_le hε (by exact_mod_cast hD)
      refine ⟨a * d⁻¹, ?_⟩
      unfold Ideal.div
      rw [if_neg (by exact_mod_cast hd.ne'), EReal.coe_mul, EReal.coe_inv]
  · have hs : ∑ i, v i * v i = (⊤ : EReal) := top_le_iff.mp
      ((mul_self_of_not_real _ h).ge.trans (Finset.single_le_sum (f := fun i => v i * v i) (fun i _ => mul_self_nonneg (v i)) (Finset.mem_univ j)))
    refine ⟨0, ?_⟩
    rw [hs, show Ideal.sqrt (⊤ : EReal) = ⊤ from rfl, max_eq_left le_top]
    unfold Ideal.div
    simp

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- A sum of real products is real. -/
theorem dot_real {n : ℕ} (a b : Fin n → EReal) (ha : ∀ i, ∃ r : ℝ, a i = r) (hb : ∀ i, ∃ r : ℝ, b i = r) : ∃ r : ℝ, ∑ i, a i * b i = r := by
  choose f hf using ha
  choose g hg using hb
  refine ⟨∑ i, f i * g i, ?_⟩
  rw [coe_sum]
  exact Finset.sum_congr rfl fun i _ => by rw [hf, hg, EReal.coe_mul]

theorem sum_mul_pos {n : ℕ} (f : Fin n → EReal) (q : ℝ) (hq : 0 ≤ q) : (∑ i, f i) * (q : EReal) = ∑ i, f i * (q : EReal) := by
  induction (Finset.univ : Finset (Fin n)) using Finset.induction_on with
  | empty => simp
  | insert a A ha ih =>
    rw [Finset.sum_insert ha, Finset.sum_insert ha, ← ih]
    exact EReal.right_distrib_of_nonneg_of_ne_top (by exact_mod_cast hq) (EReal.coe_ne_top q) _ _

/-- The weights of shifted scores, applied one by one, against the products of unshifted ones divided at the end. -/
theorem blend_eq {n : ℕ} (hn : 0 < n) (s u : Fin n → EReal) (m : EReal) (hs : ∀ i, ∃ r : ℝ, s i = r) (hm : ∃ r : ℝ, m = r) :
    ∑ i, Ideal.div (Ideal.exp (s i - m)) (∑ j, Ideal.exp (s j - m)) * u i = (∑ i, u i * Ideal.exp (s i)) * Ideal.div 1 (∑ j, Ideal.exp (s j)) := by
  choose f hf using hs
  obtain ⟨μ, rfl⟩ := hm
  haveI : Nonempty (Fin n) := ⟨⟨0, hn⟩⟩
  have e1 : ∀ i, Ideal.exp (s i) = ((Real.exp (f i) : ℝ) : EReal) := fun i => by rw [hf]; rfl
  have e2 : ∀ i, Ideal.exp (s i - (μ : EReal)) = ((Real.exp (f i - μ) : ℝ) : EReal) := fun i => by rw [hf, ← EReal.coe_sub]; rfl
  have p1 : 0 < ∑ i, Real.exp (f i) := Finset.sum_pos (fun i _ => Real.exp_pos _) Finset.univ_nonempty
  have p2 : 0 < ∑ i, Real.exp (f i - μ) := Finset.sum_pos (fun i _ => Real.exp_pos _) Finset.univ_nonempty
  simp only [e1, e2, ← coe_sum]
  have d1 : Ideal.div 1 ((∑ i, Real.exp (f i) : ℝ) : EReal) = (((∑ i, Real.exp (f i))⁻¹ : ℝ) : EReal) := by
    unfold Ideal.div
    rw [if_neg (by exact_mod_cast p1.ne'), one_mul, EReal.coe_inv]
  rw [d1, sum_mul_pos _ _ (inv_nonneg.mpr p1.le)]
  refine Finset.sum_congr rfl fun i _ => ?_
  unfold Ideal.div
  rw [if_neg (by exact_mod_cast p2.ne'), ← EReal.coe_inv, ← EReal.coe_mul, mul_assoc, ← EReal.coe_mul, mul_comm]
  congr 2
  have : ∑ j, Real.exp (f j - μ) = (∑ j, Real.exp (f j)) / Real.exp μ := by
    rw [Finset.sum_div]; exact Finset.sum_congr rfl fun j _ => Real.exp_sub _ _
  rw [this, Real.exp_sub]
  field_simp

end Cert.Proof

end
-- ==== Proof.Values.lean ====
/-
  The kernel's two results and the reference's are equal, entry by entry, over the extended reals.
-/
module

public import proofs.«01_k».proof.Proof.Ideal.Sums
public import proofs.«01_k».proof.Proof.Ideal.Launch
public import proofs.«01_k».proof.Proof.Ideal.FinalValue
public import proofs.«01_k».proof.Proof.Ref
public import proofs.«01_k».proof.Proof.Weights

@[expose] public section

set_option maxRecDepth 16384

noncomputable section

namespace Cert.Proof

open Idealize.ShloMosaic Idealize.ShloMosaic.TcCoe Idealize.ShloMosaic.Tactic
open Cert.KernelIdeal Cert.KernelIdeal.Gen

/-! ## The new memory rows -/

section Rows

variable (X : FVec Ideal S2x8192x128 .f32) (KS : IVec S1024x128 32) (hKS : CodesOK KS)

/-- The partial sums and the counts as the final call reads them. -/
abbrev sums2 : FVec Ideal S16384x128 .f32 := shapeCast S16384x128 (Ideal.sumsAll (F := Ideal) X KS) shapeCasts_S2097152_S16384x128
abbrev cnts2 : FVec Ideal S32x1024 .f32 := shapeCast S32x1024 (Ideal.cntsAll (F := Ideal) KS) shapeCasts_S32768_S32x1024

/-- The row of the input that feature `c` of row `n` is taken from. -/
def srcIx (c n : ℕ) : S2x8192x128.Idx :=
  ix3 (⟨c / 128 % 2, Nat.mod_lt _ (by decide)⟩ : Fin 2) (⟨n % 8192, Nat.mod_lt _ (by decide)⟩ : Fin 8192) (⟨c % 128, Nat.mod_lt _ (by decide)⟩ : Fin 128)

include hKS in
theorem sums2_at (q : Fin 4) (g : Fin 8) (k : Fin 1024) (j : Fin 64) (a : Fin 16384) (b : Fin 128) (ha : a.val = 4096 * q.val + 512 * g.val + k.val / 2) (hb : b.val = 64 * (k.val % 2) + j.val) :
    sums2 X KS (ix2 a b) = (∑ r ∈ Finset.range 1024, if k.val = code KS (g.val * 1024 + r) then X (srcIx (64 * q.val + j.val) (g.val * 1024 + r)) else 0 : EReal) := by
  have hq := q.isLt
  have hg := g.isLt
  have hk := k.isLt
  have hj := j.isLt
  have ha' := a.isLt
  pointwise [sums2]
  rw [Ideal.sumsAll_value X KS hKS]
  have hy : a.val * 128 + b.val = 65536 * (8 * q.val + g.val) + (64 * k.val + j.val) := by omega
  refine Finset.sum_congr rfl fun r hr => ?_
  have hr' : r < 1024 := Finset.mem_range.mp hr
  show Ideal.term X KS (4 * ((a.val * 128 + b.val) / 65536 % 8) + (a.val * 128 + b.val) / 65536 / 8) ((a.val * 128 + b.val) % 65536) r = _
  rw [hy, show (65536 * (8 * q.val + g.val) + (64 * k.val + j.val)) / 65536 = 8 * q.val + g.val by omega,
    show (65536 * (8 * q.val + g.val) + (64 * k.val + j.val)) % 65536 = 64 * k.val + j.val by omega,
    show 4 * ((8 * q.val + g.val) % 8) + (8 * q.val + g.val) / 8 = 4 * g.val + q.val by omega]
  unfold Ideal.term
  rw [show (64 * k.val + j.val) / 64 = k.val by omega, show 1024 * ((4 * g.val + q.val) / 4) = g.val * 1024 by omega]
  have w1 : (4 * g.val + q.val) / 4 = g.val := by omega
  have w2 : (4 * g.val + q.val) % 4 = q.val := by omega
  have hz : Ideal.rowIx (4 * g.val + q.val) r ((64 * k.val + j.val) % 64) = srcIx (64 * q.val + j.val) (g.val * 1024 + r) := funext fun d => Fin.ext (by
    match d with
    | 0 => exact (show (4 * g.val + q.val) % 4 / 2 = (64 * q.val + j.val) / 128 % 2 by rw [w2, show (64 * q.val + j.val) / 128 = q.val / 2 by omega]; omega)
    | 1 => exact (show (1024 * ((4 * g.val + q.val) / 4) + r) % 8192 = (g.val * 1024 + r) % 8192 by rw [w1, Nat.mul_comm])
    | 2 => exact (show (64 * ((4 * g.val + q.val) % 2) + (64 * k.val + j.val) % 64) % 128 = (64 * q.val + j.val) % 128 by omega))
  rw [hz]

include hKS in
theorem cnts2_at (x : Fin 32) (k : Fin 1024) :
    cnts2 KS (ix2 x k) = (∑ r ∈ Finset.range 256, if k.val = code KS (x.val * 256 + r) then 1 else 0 : EReal) := by
  have hx := x.isLt
  have hk := k.isLt
  pointwise [cnts2]
  rw [Ideal.cntsAll_value KS hKS]
  refine Finset.sum_congr rfl fun r hr => ?_
  show Ideal.one KS ((x.val * 1024 + k.val) / 1024) ((x.val * 1024 + k.val) % 1024) r = _
  rw [show (x.val * 1024 + k.val) / 1024 = x.val by omega, show (x.val * 1024 + k.val) % 1024 = k.val by omega]
  unfold Ideal.one
  rw [show 1024 * (x.val / 4) + 256 * (x.val % 4) = x.val * 256 by omega]

include hKS in
theorem newData_eq (UN : FVec Ideal S1024x256 .f32) : Ideal.Final.nd (sums2 X KS) (cnts2 KS) UN = Ref.newData X KS UN := by
  funext i
  obtain ⟨k, c, rfl⟩ : ∃ (k : Fin 1024) (c : Fin 256), i = ix2 k c := ⟨i 0, i 1, by funext a; match a with | 0 => rfl | 1 => rfl⟩
  have hc := c.isLt
  rw [Ref.newData_value X KS hKS UN k c (srcIx c.val) fun n hn => ⟨show c.val / 128 % 2 = _ by omega, show n % 8192 = _ by omega, rfl⟩,
    Ideal.Final.nd_at (sums2 X KS) (cnts2 KS) UN k ⟨c.val % 64, by omega⟩ ⟨c.val / 64, by omega⟩ c (show c.val = 64 * (c.val / 64) + c.val % 64 by omega)]
  have hs : Ideal.Final.blockSum (sums2 X KS) ⟨c.val / 64, by omega⟩ (ix2 (⟨k.val / 2, by omega⟩ : Fin 512) (⟨64 * (k.val % 2) + c.val % 64, by omega⟩ : Fin 128))
      = (∑ n ∈ Finset.range 8192, if k.val = code KS n then X (srcIx c.val n) else 0 : EReal) := by
    rw [show 8192 = 8 * 1024 from rfl, Finset.sum_range_mul_split, Finset.sum_range, Fin.sum_univ_eight]
    unfold Ideal.Final.blockSum
    have e : ∀ g : Fin 8, _ := fun g => sums2_at X KS hKS ⟨c.val / 64, by omega⟩ g k ⟨c.val % 64, by omega⟩ ⟨4096 * (c.val / 64) + 512 * g.val + k.val / 2, by omega⟩ ⟨64 * (k.val % 2) + c.val % 64, by omega⟩ rfl rfl
    simp only [show 64 * (c.val / 64) + c.val % 64 = c.val by omega] at e
    rw [← e 0, ← e 1, ← e 2, ← e 3, ← e 4, ← e 5, ← e 6, ← e 7]
    rfl
  have hn : (∑ x : Fin 32, cnts2 KS (ix2 x k) : EReal) = ∑ n ∈ Finset.range 8192, if k.val = code KS n then 1 else 0 := by
    rw [show 8192 = 32 * 256 from rfl, Finset.sum_range_mul_split, Finset.sum_range]
    exact Finset.sum_congr rfl fun x _ => cnts2_at KS hKS x k
  rw [hs, hn]

end Rows

/-! ## The final call's blocks -/

section Blocks

variable (R : (c : Dev nD) → (b : Ref sig .tc) → Buf (Elt Ideal) ((c : Thread nD τ).loc b))

theorem index4 : ∀ t : Fin cfg1.N, (cfg1.win 4).index t = ![t.val, 0] := by decide +kernel
theorem index5 : ∀ t : Fin cfg1.N, (cfg1.win 5).index t = ![t.val, 0, 0] := by decide +kernel
theorem index0 : ∀ t : Fin cfg1.N, (cfg1.win 0).index t = ![t.val, 0, 0] := by decide +kernel

theorem xBlk_at (c : Dev nD) (t : Fin 8) (f : Fin 256) (p : Fin 1024) : Ideal.xBlk R c t (ix3 0 f p) = R c main_v0 (ix3 t f p) := by
  unfold Ideal.xBlk
  blk_simp
  refine congrArg (R c main_v0) (funext fun a => Fin.ext ?_)
  have e := index0 t
  match a with
  | 0 => blk_simp; exact congrFun e 0
  | 1 => blk_simp; rw [show win1_0.index t 1 = 0 from congrFun e 1]; exact (by simp)
  | 2 => blk_simp; rw [show win1_0.index t 2 = 0 from congrFun e 2]; exact (by simp)

theorem scoreOut_eq (c : Dev nD) (G : FVec Ideal S8192x1024 .f32)
    (h : ∀ (t : Fin 8) (p k : Fin 1024) (r : Fin 8192), r.val = t.val * 1024 + p.val → k1_pay2 (Ideal.xBlk R c t) (Ideal.mnOf R c) (ix2 p k) = G (ix2 r k)) : Ideal.scoreOut R c = G := by
  refine Pipeline.Dat.arrAt_eq_of_covers (Ideal.dat R 0 c) 4 _ (by decide +kernel) fun t hf y => ?_
  blk_simp
  have e := index4 t
  have ht : t.val < 8 := t.isLt
  obtain ⟨p, k, rfl⟩ : ∃ (p : Fin 1024) (k : Fin 1024), y = (ix2 p k : S1024x1024.Idx) := ⟨y 0, y 1, by funext a; match a with | 0 => rfl | 1 => rfl⟩
  have hp := p.isLt
  refine (h t p k ⟨t.val * 1024 + p.val, by omega⟩ rfl).trans (congrArg G (funext fun a => Fin.ext ?_))
  match a with
  | 0 => blk_simp; rw [show win1_4.index t 0 = t.val from congrFun e 0]
  | 1 => blk_simp; rw [show win1_4.index t 1 = 0 from congrFun e 1]; exact (by simp)

theorem blendOut_eq (c : Dev nD) (G : FVec Ideal S8x256x1024 .f32)
    (h : ∀ (t : Fin 8) (f : Fin 256) (p : Fin 1024), k1_pay3 (Ideal.xBlk R c t) (Ideal.mnOf R c) (Ideal.ndOf R c) (ix3 0 f p) = G (ix3 t f p)) : Ideal.blendOut R c = G := by
  refine Pipeline.Dat.arrAt_eq_of_covers (Ideal.dat R 0 c) 5 _ (by decide +kernel) fun t hf y => ?_
  blk_simp
  have e := index5 t
  obtain ⟨f, p, rfl⟩ : ∃ (f : Fin 256) (p : Fin 1024), y = (ix3 0 f p : S1x256x1024.Idx) :=
    ⟨y 1, y 2, by funext a; match a with | 0 => exact Fin.ext (by have : (y 0).val < 1 := (y 0).isLt; show (y 0).val = 0; omega) | 1 => rfl | 2 => rfl⟩
  refine (h t f p).trans (congrArg G (funext fun a => Fin.ext ?_))
  match a with
  | 0 => blk_simp; rw [show win1_5.index t 0 = t.val from congrFun e 0]; exact (by simp)
  | 1 => blk_simp; rw [show win1_5.index t 1 = 0 from congrFun e 1]; exact (by simp)
  | 2 => blk_simp; rw [show win1_5.index t 2 = 0 from congrFun e 2]; exact (by simp)

end Blocks

/-! ## The two results -/

section Results

variable (m : (ℓ : Loc nD τ sig) → Buf (Elt Ideal) ℓ) (c : Dev nD)

/-- The arguments on a device. -/
abbrev aXQ : FVec Ideal S2x8192x128 .f32 := m ((SparseCore.T c : Thread nD τ).loc main_arg0)
abbrev aKS : IVec S1024x128 32 := m ((SparseCore.T c : Thread nD τ).loc main_arg1)
abbrev aX : FVec Ideal S8x256x32x32 .f32 := m ((SparseCore.T c : Thread nD τ).loc main_arg2)
abbrev aUN : FVec Ideal S1024x256 .f32 := m ((SparseCore.T c : Thread nD τ).loc main_arg3)

variable (hKS : CodesOK (aKS m c))

include hKS in
theorem ndOf_eq : Ideal.ndOf (Ideal.R4 m) c = Ref.newData (aXQ m c) (aKS m c) (aUN m c) := by
  refine Eq.trans ?_ (newData_eq (aXQ m c) (aKS m c) hKS (aUN m c))
  show Ideal.Final.nd (Ideal.V4 m c Ideal.s') (Ideal.V4 m c Ideal.c') (Ideal.V4 m c Ideal.u') = _
  rw [Ideal.V4_s, Ideal.V4_c, Ideal.V4_arg m c Ideal.u' (by decide)]

include hKS in
theorem mnOf_at (k : Fin 1024) (j : Fin 256) : Ideal.mnOf (Ideal.R4 m) c (ix2 k j) = Ref.mnorm (Ref.newData (aXQ m c) (aKS m c) (aUN m c)) (ix2 k j) := by
  have e : Ideal.mnOf (Ideal.R4 m) c = Ideal.Final.norm (Ref.newData (aXQ m c) (aKS m c) (aUN m c)) :=
    (Ideal.Final.mn_eq _ _ _).trans (congrArg Ideal.Final.norm (ndOf_eq m c hKS))
  rw [e, Ideal.Final.norm_at, Ref.mnorm_value]

/-- A point's block of `x` is that image's rows. -/
theorem xBlk_flat (t : Fin 8) (f : Fin 256) (p : Fin 1024) (r : Fin 8192) (hr : r.val = t.val * 1024 + p.val) :
    Ideal.xBlk (Ideal.R4 m) c t (ix3 0 f p) = Ref.xflat (aX m c) (ix2 r f) := by
  have hp := p.isLt
  rw [xBlk_at, Ref.xflat_value (aX m c) r f (ix4 t f (⟨p.val / 32, by omega⟩ : Fin 32) (⟨p.val % 32, by omega⟩ : Fin 32))
    (show t.val = r.val / 1024 by omega) rfl (show p.val / 32 = r.val / 32 % 32 by omega) (show p.val % 32 = r.val % 32 by omega)]
  show Ideal.V4 m c Ideal.y' (ix3 t f p) = _
  rw [Ideal.V4_y]
  pointwise

include hKS in
theorem score_at (t : Fin 8) (p k : Fin 1024) (r : Fin 8192) (hr : r.val = t.val * 1024 + p.val) :
    k1_pay2 (Ideal.xBlk (Ideal.R4 m) c t) (Ideal.mnOf (Ideal.R4 m) c) (ix2 p k) = Ref.score (aX m c) (Ref.newData (aXQ m c) (aKS m c) (aUN m c)) (ix2 r k) := by
  rw [Ideal.Final.pay2_at, Ref.score_value]
  have ex : ∀ f : Fin 256, Ideal.xBlk (Ideal.R4 m) c t (ix3 0 f p) = Ref.xflat (aX m c) (ix2 r f) := fun f => xBlk_flat m c t f p r hr
  refine Finset.sum_congr rfl fun j _ => ?_
  rw [mnOf_at m c hKS k j, Ref.xnorm_value]
  simp only [ex]

include hKS in
theorem scores_eq : Ideal.scoreOut (Ideal.R4 m) c = Ref.score (aX m c) (Ref.newData (aXQ m c) (aKS m c) (aUN m c)) :=
  scoreOut_eq (Ideal.R4 m) c _ fun t p k r hr => score_at m c hKS t p k r hr

theorem score_real (XX : FVec Ideal S8x256x32x32 .f32) (ND : FVec Ideal S1024x256 .f32) (r : Fin 8192) (k : Fin 1024) : ∃ a : ℝ, Ref.score XX ND (ix2 r k) = (a : EReal) := by
  rw [Ref.score_value]
  refine dot_real _ _ (fun j => ?_) fun j => ?_
  · rw [Ref.xnorm_value]; exact norm_real (fun i => Ref.xflat XX (ix2 r i)) j
  · rw [Ref.mnorm_value]; exact norm_real (fun i => ND (ix2 k i)) j

include hKS in
theorem blends_eq : Ideal.blendOut (Ideal.R4 m) c
    = Ref.outp (Ref.score (aX m c) (Ref.newData (aXQ m c) (aKS m c) (aUN m c))) (Ref.newData (aXQ m c) (aKS m c) (aUN m c)) := by
  refine blendOut_eq (Ideal.R4 m) c _ fun t f p => ?_
  have hp := p.isLt
  have ht := t.isLt
  rw [Ideal.Final.pay3_at, ndOf_eq m c hKS]
  have es : ∀ k : Fin 1024, k1_pay2 (Ideal.xBlk (Ideal.R4 m) c t) (Ideal.mnOf (Ideal.R4 m) c) (ix2 p k)
      = Ref.score (aX m c) (Ref.newData (aXQ m c) (aKS m c) (aUN m c)) (ix2 (⟨t.val * 1024 + p.val, by omega⟩ : Fin 8192) k) := fun k => score_at m c hKS t p k _ rfl
  simp only [es]
  have hS : ∀ i, ∃ a : ℝ, Ref.score (aX m c) (Ref.newData (aXQ m c) (aKS m c) (aUN m c)) i = (a : EReal) := fun i => by
    obtain ⟨r, k, rfl⟩ : ∃ (r : Fin 8192) (k : Fin 1024), i = ix2 r k := ⟨i 0, i 1, by funext a; match a with | 0 => rfl | 1 => rfl⟩
    exact score_real _ _ r k
  rw [Ref.outp_value _ _ t f p ⟨t.val * 1024 + p.val, by omega⟩ rfl]
  generalize Ref.score (aX m c) (Ref.newData (aXQ m c) (aKS m c) (aUN m c)) = S at hS ⊢
  generalize Ref.newData (aXQ m c) (aKS m c) (aUN m c) = N
  simp only [Ref.expo_value]
  exact (blend_eq (by norm_num) (fun k : Fin 1024 => S (ix2 (⟨t.val * 1024 + p.val, by omega⟩ : Fin 8192) k)) (fun k => N (ix2 k f)) _ (fun k => hS _) (Ref.rmax_real S hS _)).symm

end Results

end Cert.Proof

end
-- ==== Proof.lean ====
/-
  The proof of `Cert.Claim` (Defs.lean): the frames of the segment sums and the final call, at both instances and of
  the reference, and the value of both results over the extended reals.

  The first call runs on every vector subcore. Each tile starts three kinds of copies, zeroes its two accumulators, and
  adds its rows into them with indexed stores; the run of one tile is in Proof/Ideal/Tile.lean, over the pieces of
  Trip, Step and Fill. The final call's body is run in Final and its eight points in Region; Deal and Launch put the
  two calls and the reshapes between them together. What a tile leaves is a fold of indexed additions, which
  Proof/Ideal/Sums.lean reads as sums over rows; FinalValue reads the final call entry by entry, Proof/Ref.lean does
  the same for the reference, and Values joins them with the facts about extended reals in Weights.
-/
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.Pre_codes_in_range

@[expose] public section

noncomputable section

namespace Cert.Proof

open Idealize.ShloMosaic Idealize.SL.Sem

theorem frame_reference : Cert.quiescent_ReferenceIdeal := fun m ρ _ =>
  (θ_run Cert.ReferenceIdeal.defs _ _).mono (fun _ r => ⟨fun c => (r.1 c).2.2, r.2⟩) (Ref.run_main m ρ)

theorem values : Cert.algebraic_KernelIdeal_ReferenceIdeal := by
  intro m g m' g' hpre hagree
  refine ⟨fun c => Ideal.blendOut (Ideal.R4 m) c, fun c => Ideal.scoreOut (Ideal.R4 m) c, ?_, ?_⟩
  · exact (θ_run Cert.KernelIdeal.defs _ _).mono (fun _ r c => ⟨(results_left m r c).1, (results_left m r c).2, args_kept m r c⟩) (run_ideal m g hpre)
  · refine (θ_run Cert.ReferenceIdeal.defs _ _).mono (fun _ r c => ?_) (Ref.run_main m' g')
    obtain ⟨h1, h2, h3⟩ := r.1 c
    obtain ⟨a0, a1, a2, a3⟩ := hagree c
    rw [a0, a1, a2, a3] at h1 h2
    have hc := codes_ok _ _ _ _ (hpre c)
    exact ⟨h1.trans (blends_eq m c hc).symm, h2.trans (scores_eq m c hc).symm, h3⟩

theorem claim : Cert.Claim :=
  ⟨Cert.Kernel.Gen.facts, Cert.KernelIdeal.Gen.facts, Cert.ReferenceIdeal.Gen.facts, Cert.Pre_codes_in_range.Gen.facts,
    frame_kernel, frame_ideal, frame_reference, fun m ρ _ => frame_reference m ρ trivial, trivial, values⟩

end Cert.Proof

end
